-- ==== Defs.lean ====
def Pre_Kernel [hPre_plan_ok : Cert.Pre_plan_ok.Facts] (m : (ℓ : Loc Cert.Kernel.nD Cert.Kernel.τ Cert.Kernel.sig) → Buf (Elt Bits) ℓ) : Prop :=
  ∀ c : Dev Cert.Kernel.nD,
    (Cert.Pre_plan_ok.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_plan_ok : Cert.Pre_plan_ok.Facts] (m : (ℓ : Loc Cert.KernelIdeal.nD Cert.KernelIdeal.τ Cert.KernelIdeal.sig) → Buf (Elt Ideal) ℓ) : Prop :=
  ∀ c : Dev Cert.KernelIdeal.nD,
    (Cert.Pre_plan_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_plan_ok [hPre_plan_ok : Cert.Pre_plan_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_plan_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def Pre_Kernel2 [hPre_counts_ok : Cert.Pre_counts_ok.Facts] (m : (ℓ : Loc Cert.Kernel2.nD Cert.Kernel2.τ Cert.Kernel2.sig) → Buf (Elt Bits) ℓ) : Prop :=
  ∀ c : Dev Cert.Kernel2.nD,
    (Cert.Pre_counts_ok.fn (F := Bits) (m ((c.tc : Thread Cert.Kernel2.nD Cert.Kernel2.τ).loc Cert.Kernel2.main_arg0))) = (fun _ => 1#1)

def Pre_Reference2 (m : (ℓ : Loc Cert.Reference2.nD Cert.Reference2.τ Cert.Reference2.sig) → Buf (Elt Bits) ℓ) : Prop :=
  True

def Pre_Reference2_counts_ok [hPre_counts_ok : Cert.Pre_counts_ok.Facts] (m : (ℓ : Loc Cert.Reference2.nD Cert.Reference2.τ Cert.Reference2.sig) → Buf (Elt Bits) ℓ) : Prop :=
  ∀ c : Dev Cert.Reference2.nD,
    (Cert.Pre_counts_ok.fn (F := Bits) (m ((c.tc : Thread Cert.Reference2.nD Cert.Reference2.τ).loc Cert.Reference2.main_arg0))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_rank_ok [hPre_rank_ok : Cert.Pre_rank_ok.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_rank_ok.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_rank_ok [hPre_rank_ok : Cert.Pre_rank_ok.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_rank_ok.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1))) = (fun _ => 1#1)

def Pre_Kernel4 [hPre_routed_ok : Cert.Pre_routed_ok.Facts] (m : (ℓ : Loc Cert.Kernel4.nD Cert.Kernel4.τ Cert.Kernel4.sig) → Buf (Elt Bits) ℓ) : Prop :=
  ∀ c : Dev Cert.Kernel4.nD,
    (Cert.Pre_routed_ok.fn (F := Bits) (m ((c.tc : Thread Cert.Kernel4.nD Cert.Kernel4.τ).loc Cert.Kernel4.main_arg0)) (m ((c.tc : Thread Cert.Kernel4.nD Cert.Kernel4.τ).loc Cert.Kernel4.main_arg1)) (m ((c.tc : Thread Cert.Kernel4.nD Cert.Kernel4.τ).loc Cert.Kernel4.main_arg2)) (m ((c.tc : Thread Cert.Kernel4.nD Cert.Kernel4.τ).loc Cert.Kernel4.main_arg3)) (m ((c.tc : Thread Cert.Kernel4.nD Cert.Kernel4.τ).loc Cert.Kernel4.main_arg4)) (m ((c.tc : Thread Cert.Kernel4.nD Cert.Kernel4.τ).loc Cert.Kernel4.main_arg5))) = (fun _ => 1#1)

def Pre_Kernel4Ideal [hPre_routed_ok : Cert.Pre_routed_ok.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_routed_ok.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_routed_ok [hPre_routed_ok : Cert.Pre_routed_ok.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_routed_ok.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))) = (fun _ => 1#1)

def quiescent_Kernel [hKernel : Cert.Kernel.Facts] [hPre_plan_ok : Cert.Pre_plan_ok.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] [hPre_plan_ok : Cert.Pre_plan_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_plan_ok [hReferenceIdeal : Cert.ReferenceIdeal.Facts] [hPre_plan_ok : Cert.Pre_plan_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_plan_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] [hPre_counts_ok : Cert.Pre_counts_ok.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0))
      ∧ r.2.sem = fun _ => 0)

def quiescent_Reference2 [hReference2 : Cert.Reference2.Facts] : Prop :=
  ∀ (m : (ℓ : Loc Cert.Reference2.nD Cert.Reference2.τ Cert.Reference2.sig) → Buf (Elt Bits) ℓ) (g : Dev Cert.Reference2.nD → PrngReg), Pre_Reference2 m →
    θ_run (Cert.Reference2.defs (F := Bits)) (onTc (τ := Cert.Reference2.τ) (Cert.Reference2.main (F := Bits))) ⟨m, fun _ => 0, g⟩ (fun r => (∀ c : Dev Cert.Reference2.nD,
      r.2.mem ((c.tc : Thread Cert.Reference2.nD Cert.Reference2.τ).loc Cert.Reference2.main_arg0) = m ((c.tc : Thread Cert.Reference2.nD Cert.Reference2.τ).loc Cert.Reference2.main_arg0))
      ∧ r.2.sem = fun _ => 0)

def quiescent_Reference2_pre_counts_ok [hReference2 : Cert.Reference2.Facts] [hPre_counts_ok : Cert.Pre_counts_ok.Facts] : Prop :=
  ∀ (m : (ℓ : Loc Cert.Reference2.nD Cert.Reference2.τ Cert.Reference2.sig) → Buf (Elt Bits) ℓ) (g : Dev Cert.Reference2.nD → PrngReg), Pre_Reference2_counts_ok m →
    θ_run (Cert.Reference2.defs (F := Bits)) (onTc (τ := Cert.Reference2.τ) (Cert.Reference2.main (F := Bits))) ⟨m, fun _ => 0, g⟩ (fun r => (∀ c : Dev Cert.Reference2.nD,
      r.2.mem ((c.tc : Thread Cert.Reference2.nD Cert.Reference2.τ).loc Cert.Reference2.main_arg0) = m ((c.tc : Thread Cert.Reference2.nD Cert.Reference2.τ).loc Cert.Reference2.main_arg0))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Kernel3Ideal_pre_rank_ok [hKernel3Ideal : Cert.Kernel3Ideal.Facts] [hPre_rank_ok : Cert.Pre_rank_ok.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_rank_ok m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Reference3Ideal_pre_rank_ok [hReference3Ideal : Cert.Reference3Ideal.Facts] [hPre_rank_ok : Cert.Pre_rank_ok.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_rank_ok m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] [hPre_routed_ok : Cert.Pre_routed_ok.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] [hPre_routed_ok : Cert.Pre_routed_ok.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Reference4Ideal_pre_routed_ok [hReference4Ideal : Cert.Reference4Ideal.Facts] [hPre_routed_ok : Cert.Pre_routed_ok.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_routed_ok m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def preserves_Kernel_KernelIdeal : Prop :=
  True

def algebraic_KernelIdeal_ReferenceIdeal_on_used_tiles [hKernelIdeal : Cert.KernelIdeal.Facts] [hReferenceIdeal : Cert.ReferenceIdeal.Facts] [hPre_plan_ok : Cert.Pre_plan_ok.Facts] [hOn_used_tiles : Cert.On_used_tiles.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![147456, 1024]⟩ : Shape).Idx, (Cert.On_used_tiles.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) i = 1#1 → r.2.mem ((c.tc : Thread Cert.KernelIdeal.nD Cert.KernelIdeal.τ).loc Cert.KernelIdeal.main_v2) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![147456, 1024]⟩ : Shape).Idx, (Cert.On_used_tiles.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) i = 1#1 → r.2.mem ((c.tc : Thread Cert.ReferenceIdeal.nD Cert.ReferenceIdeal.τ).loc Cert.ReferenceIdeal.main_v61) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def bitexact_Kernel2_Reference2 [hKernel2 : Cert.Kernel2.Facts] [hReference2 : Cert.Reference2.Facts] [hPre_counts_ok : Cert.Pre_counts_ok.Facts] : Prop :=
  ∀ (m : (ℓ : Loc Cert.Kernel2.nD Cert.Kernel2.τ Cert.Kernel2.sig) → Buf (Elt Bits) ℓ) (g : Dev Cert.Kernel2.nD → PrngReg)
    (m' : (ℓ : Loc Cert.Reference2.nD Cert.Reference2.τ Cert.Reference2.sig) → Buf (Elt Bits) ℓ) (g' : Dev Cert.Reference2.nD → PrngReg), Pre_Kernel2 m →
    (∀ c : Dev Cert.Kernel2.nD,
      m' ((c.tc : Thread Cert.Reference2.nD Cert.Reference2.τ).loc Cert.Reference2.main_arg0) = m ((c.tc : Thread Cert.Kernel2.nD Cert.Kernel2.τ).loc Cert.Kernel2.main_arg0)) →
    ∃ (v0 : (c : Dev Cert.Kernel2.nD) → Buf (Elt Bits) ((c.tc : Thread Cert.Kernel2.nD Cert.Kernel2.τ).loc Cert.Kernel2.main_v0_0)) (v1 : (c : Dev Cert.Kernel2.nD) → Buf (Elt Bits) ((c.tc : Thread Cert.Kernel2.nD Cert.Kernel2.τ).loc Cert.Kernel2.main_v0_1)) (v2 : (c : Dev Cert.Kernel2.nD) → Buf (Elt Bits) ((c.tc : Thread Cert.Kernel2.nD Cert.Kernel2.τ).loc Cert.Kernel2.main_v0_2)) (v3 : (c : Dev Cert.Kernel2.nD) → Buf (Elt Bits) ((c.tc : Thread Cert.Kernel2.nD Cert.Kernel2.τ).loc Cert.Kernel2.main_v0_3)),
      θ_run (Cert.Kernel2.defs (F := Bits)) (onTc (τ := Cert.Kernel2.τ) (Cert.Kernel2.main (F := Bits))) ⟨m, fun _ => 0, g⟩ (fun r => ∀ c : Dev Cert.Kernel2.nD,
          r.2.mem ((c.tc : Thread Cert.Kernel2.nD Cert.Kernel2.τ).loc Cert.Kernel2.main_v0_0) = v0 c
          ∧ r.2.mem ((c.tc : Thread Cert.Kernel2.nD Cert.Kernel2.τ).loc Cert.Kernel2.main_v0_1) = v1 c
          ∧ r.2.mem ((c.tc : Thread Cert.Kernel2.nD Cert.Kernel2.τ).loc Cert.Kernel2.main_v0_2) = v2 c
          ∧ r.2.mem ((c.tc : Thread Cert.Kernel2.nD Cert.Kernel2.τ).loc Cert.Kernel2.main_v0_3) = v3 c
          ∧ r.2.mem ((c.tc : Thread Cert.Kernel2.nD Cert.Kernel2.τ).loc Cert.Kernel2.main_arg0) = m ((c.tc : Thread Cert.Kernel2.nD Cert.Kernel2.τ).loc Cert.Kernel2.main_arg0))
      ∧ θ_run (Cert.Reference2.defs (F := Bits)) (onTc (τ := Cert.Reference2.τ) (Cert.Reference2.main (F := Bits))) ⟨m', fun _ => 0, g'⟩ (fun r => ∀ c : Dev Cert.Reference2.nD,
          r.2.mem ((c.tc : Thread Cert.Reference2.nD Cert.Reference2.τ).loc Cert.Reference2.main_v12) = v0 c
          ∧ r.2.mem ((c.tc : Thread Cert.Reference2.nD Cert.Reference2.τ).loc Cert.Reference2.main_v19) = v1 c
          ∧ r.2.mem ((c.tc : Thread Cert.Reference2.nD Cert.Reference2.τ).loc Cert.Reference2.main_v42) = v2 c
          ∧ r.2.mem ((c.tc : Thread Cert.Reference2.nD Cert.Reference2.τ).loc Cert.Reference2.main_v54) = v3 c
          ∧ r.2.mem ((c.tc : Thread Cert.Reference2.nD Cert.Reference2.τ).loc Cert.Reference2.main_arg0) = m' ((c.tc : Thread Cert.Reference2.nD Cert.Reference2.τ).loc Cert.Reference2.main_arg0))

def preserves_Kernel3_Kernel3Ideal : Prop :=
  True

def algebraic_Kernel3Ideal_Reference3Ideal_pre_rank_ok [hKernel3Ideal : Cert.Kernel3Ideal.Facts] [hReference3Ideal : Cert.Reference3Ideal.Facts] [hPre_rank_ok : Cert.Pre_rank_ok.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_rank_ok m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v25) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal_on_routed_tiles [hKernel4Ideal : Cert.Kernel4Ideal.Facts] [hReference4Ideal : Cert.Reference4Ideal.Facts] [hPre_routed_ok : Cert.Pre_routed_ok.Facts] [hOn_routed_tiles : Cert.On_routed_tiles.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v7)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          (∀ i : (⟨2, ![147456, 1024]⟩ : Shape).Idx, (Cert.On_routed_tiles.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))) i = 1#1 → r.2.mem ((c.tc : Thread Cert.Kernel4Ideal.nD Cert.Kernel4Ideal.τ).loc Cert.Kernel4Ideal.main_v7) i = v0 c i)
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          (∀ i : (⟨2, ![147456, 1024]⟩ : Shape).Idx, (Cert.On_routed_tiles.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))) i = 1#1 → r.2.mem ((c.tc : Thread Cert.Reference4Ideal.nD Cert.Reference4Ideal.τ).loc Cert.Reference4Ideal.main_v116) i = v0 c i)
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hReference2 : Cert.Reference2.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_plan_ok : Cert.Pre_plan_ok.Facts) (hPre_counts_ok : Cert.Pre_counts_ok.Facts) (hPre_rank_ok : Cert.Pre_rank_ok.Facts) (hPre_routed_ok : Cert.Pre_routed_ok.Facts) (hOn_used_tiles : Cert.On_used_tiles.Facts) (hOn_routed_tiles : Cert.On_routed_tiles.Facts),
    quiescent_Kernel (hKernel := hKernel) (hPre_plan_ok := hPre_plan_ok)
    ∧ quiescent_KernelIdeal (hKernelIdeal := hKernelIdeal) (hPre_plan_ok := hPre_plan_ok)
    ∧ quiescent_ReferenceIdeal (hReferenceIdeal := hReferenceIdeal)
    ∧ quiescent_ReferenceIdeal_pre_plan_ok (hReferenceIdeal := hReferenceIdeal) (hPre_plan_ok := hPre_plan_ok)
    ∧ quiescent_Kernel2 (hKernel2 := hKernel2) (hPre_counts_ok := hPre_counts_ok)
    ∧ quiescent_Reference2 (hReference2 := hReference2)
    ∧ quiescent_Reference2_pre_counts_ok (hReference2 := hReference2) (hPre_counts_ok := hPre_counts_ok)
    ∧ quiescent_Kernel3 (hKernel3 := hKernel3)
    ∧ quiescent_Kernel3Ideal (hKernel3Ideal := hKernel3Ideal)
    ∧ quiescent_Kernel3Ideal_pre_rank_ok (hKernel3Ideal := hKernel3Ideal) (hPre_rank_ok := hPre_rank_ok)
    ∧ quiescent_Reference3Ideal (hReference3Ideal := hReference3Ideal)
    ∧ quiescent_Reference3Ideal_pre_rank_ok (hReference3Ideal := hReference3Ideal) (hPre_rank_ok := hPre_rank_ok)
    ∧ quiescent_Kernel4 (hKernel4 := hKernel4) (hPre_routed_ok := hPre_routed_ok)
    ∧ quiescent_Kernel4Ideal (hKernel4Ideal := hKernel4Ideal) (hPre_routed_ok := hPre_routed_ok)
    ∧ quiescent_Reference4Ideal (hReference4Ideal := hReference4Ideal)
    ∧ quiescent_Reference4Ideal_pre_routed_ok (hReference4Ideal := hReference4Ideal) (hPre_routed_ok := hPre_routed_ok)
    ∧ preserves_Kernel_KernelIdeal
    ∧ algebraic_KernelIdeal_ReferenceIdeal_on_used_tiles (hKernelIdeal := hKernelIdeal) (hReferenceIdeal := hReferenceIdeal) (hPre_plan_ok := hPre_plan_ok) (hOn_used_tiles := hOn_used_tiles)
    ∧ bitexact_Kernel2_Reference2 (hKernel2 := hKernel2) (hReference2 := hReference2) (hPre_counts_ok := hPre_counts_ok)
    ∧ preserves_Kernel3_Kernel3Ideal
    ∧ algebraic_Kernel3Ideal_Reference3Ideal_pre_rank_ok (hKernel3Ideal := hKernel3Ideal) (hReference3Ideal := hReference3Ideal) (hPre_rank_ok := hPre_rank_ok)
    ∧ preserves_Kernel4_Kernel4Ideal
    ∧ algebraic_Kernel4Ideal_Reference4Ideal_on_routed_tiles (hKernel4Ideal := hKernel4Ideal) (hReference4Ideal := hReference4Ideal) (hPre_routed_ok := hPre_routed_ok) (hOn_routed_tiles := hOn_routed_tiles)
-- ==== On_routed_tiles.lean ====
abbrev S147456x1024 : Shape := ⟨2, ![147456, 1024]⟩
abbrev S32 : Shape := ⟨1, ![32]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S_ : Shape := ⟨0, ![]⟩
abbrev S288 : Shape := ⟨1, ![288]⟩
abbrev S288x512 : Shape := ⟨2, ![288, 512]⟩
abbrev S147456 : Shape := ⟨1, ![147456]⟩
abbrev S147456x1 : Shape := ⟨2, ![147456, 1]⟩

class Facts : Prop where
  bcast_S_S32 : S_.BroadcastsInDim S32 (![] : Fin 0 → Fin S32.rank)
  reducesTo_S32_S_d0 : S32.ReducesTo [0] S_
  h_S_ : 0 < S_.numel
  bcast_S_S288 : S_.BroadcastsInDim S288 (![] : Fin 0 → Fin S288.rank)
  bcast_S288_S288x512_0 : S288.BroadcastsInDim S288x512 (![0] : Fin 1 → Fin S288x512.rank)
  shapeCasts_S288x512_S147456 : S288x512.ShapeCasts S147456
  bcast_S147456_S147456x1_0 : S147456.BroadcastsInDim S147456x1 (![0] : Fin 1 → Fin S147456x1.rank)
  bcast_S147456x1_S147456x1024_0_1 : S147456x1.BroadcastsInDim S147456x1024 (![0, 1] : Fin 2 → Fin S147456x1024.rank)

variable [Facts]

def fn_where {F : FTy → Type} [FloatOps F] (arg0 : IVec S32 1) (arg1 : IVec S32 32) (arg2 : IVec S32 32) : IVec S32 32 :=
  let v0 : IVec S32 32 := select arg0 arg1 arg2
  v0

def fn_floor_divide {F : FTy → Type} [FloatOps F] (arg0 : IVec S32 32) (arg1 : IVec S_ 32) : IVec S32 32 :=
  let v0 : IVec S_ 32 := id arg1
  let v1 : IVec S32 32 := broadcastInDim S32 ![] bcast_S_S32 v0
  let v2 : IVec S32 32 := Host.divsi arg0 v1
  let v3 : IVec S32 32 := signi arg0
  let v4 : IVec S_ 32 := signi v0
  let v5 : IVec S32 32 := broadcastInDim S32 ![] bcast_S_S32 v4
  let v6 : IVec S32 1 := cmpi .ne v3 v5
  let v7 : IVec S32 32 := broadcastInDim S32 ![] bcast_S_S32 v0
  let v8 : IVec S32 32 := Host.remsi arg0 v7
  let c : IVec S_ 32 := constantI S_ 32 0#32
  let v9 : IVec S32 32 := broadcastInDim S32 ![] bcast_S_S32 c
  let v10 : IVec S32 1 := cmpi .ne v8 v9
  let v11 : IVec S32 1 := andi v6 v10
  let c_0 : IVec S_ 32 := constantI S_ 32 1#32
  let v12 : IVec S32 32 := broadcastInDim S32 ![] bcast_S_S32 c_0
  let v13 : IVec S32 32 := subi v2 v12
  let v14 : IVec S32 32 := fn_where (F := F) v11 v13 v2
  v14

def fn {F : FTy → Type} [FloatOps F] (main_arg0 : FVec F S147456x1024 .bf16) (main_arg1 : IVec S32 32) (main_arg2 : FVec F S32x1024x2048 .f32) (main_arg3 : FVec F S32x2048 .f32) (main_arg4 : FVec F S32x1024x1024 .f32) (main_arg5 : FVec F S32x1024 .f32) : IVec S147456x1024 1 :=
  let main_c : IVec S_ 32 := constantI S_ 32 512#32
  let main_v0 : IVec S32 32 := broadcastInDim S32 ![] bcast_S_S32 main_c
  let main_v1 : IVec S32 32 := addi main_arg1 main_v0
  let main_c_0 : IVec S_ 32 := constantI S_ 32 1#32
  let main_v2 : IVec S32 32 := broadcastInDim S32 ![] bcast_S_S32 main_c_0
  let main_v3 : IVec S32 32 := subi main_v1 main_v2
  let main_c_1 : IVec S_ 32 := constantI S_ 32 512#32
  let main_v4 : IVec S32 32 := fn_floor_divide (F := F) main_v3 main_c_1
  let main_c_2 : IVec S_ 32 := constantI S_ 32 0#32
  let main_v5 : IVec S_ 32 := (fun x v => Host.reduce IntOp.addi x v reducesTo_S32_S_d0 h_S_) main_v4 main_c_2
  let main_v6 : IVec S288 32 := iotaInDim S288 32 0
  let main_v7 : IVec S288 32 := broadcastInDim S288 ![] bcast_S_S288 main_v5
  let main_v8 : IVec S288 1 := cmpi .slt main_v6 main_v7
  let main_v9 : IVec S288x512 1 := broadcastInDim S288x512 ![0] bcast_S288_S288x512_0 main_v8
  let main_v10 : IVec S147456 1 := shapeCast S147456 main_v9 shapeCasts_S288x512_S147456
  let main_v11 : IVec S147456x1 1 := broadcastInDim S147456x1 ![0] bcast_S147456_S147456x1_0 main_v10
  let main_v12 : IVec S147456x1024 1 := broadcastInDim S147456x1024 ![0, 1] bcast_S147456x1_S147456x1024_0_1 main_v11
  main_v12
-- ==== On_used_tiles.lean ====
abbrev S147456x1024 : Shape := ⟨2, ![147456, 1024]⟩
abbrev S288 : Shape := ⟨1, ![288]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S_ : Shape := ⟨0, ![]⟩
abbrev S288x512 : Shape := ⟨2, ![288, 512]⟩
abbrev S147456 : Shape := ⟨1, ![147456]⟩
abbrev S147456x1 : Shape := ⟨2, ![147456, 1]⟩

class Facts : Prop where
  bcast_S_S288 : S_.BroadcastsInDim S288 (![] : Fin 0 → Fin S288.rank)
  bcast_S288_S288x512_0 : S288.BroadcastsInDim S288x512 (![0] : Fin 1 → Fin S288x512.rank)
  shapeCasts_S288x512_S147456 : S288x512.ShapeCasts S147456
  bcast_S147456_S147456x1_0 : S147456.BroadcastsInDim S147456x1 (![0] : Fin 1 → Fin S147456x1.rank)
  bcast_S147456x1_S147456x1024_0_1 : S147456x1.BroadcastsInDim S147456x1024 (![0, 1] : Fin 2 → Fin S147456x1024.rank)

variable [Facts]

def fn {F : FTy → Type} [FloatOps F] (main_arg0 : FVec F S147456x1024 .bf16) (main_arg1 : IVec S288 32) (main_arg2 : IVec S288 32) (main_arg3 : IVec S288 32) (main_arg4 : IVec S288 32) (main_arg5 : FVec F S32x1024x2048 .f32) (main_arg6 : FVec F S32x2048 .f32) (main_arg7 : FVec F S32x1024x1024 .f32) (main_arg8 : FVec F S32x1024 .f32) : IVec S147456x1024 1 :=
  let main_c : IVec S_ 32 := constantI S_ 32 0#32
  let main_v0 : IVec S288 32 := broadcastInDim S288 ![] bcast_S_S288 main_c
  let main_v1 : IVec S288 1 := cmpi .sgt main_arg3 main_v0
  let main_v2 : IVec S288x512 1 := broadcastInDim S288x512 ![0] bcast_S288_S288x512_0 main_v1
  let main_v3 : IVec S147456 1 := shapeCast S147456 main_v2 shapeCasts_S288x512_S147456
  let main_v4 : IVec S147456x1 1 := broadcastInDim S147456x1 ![0] bcast_S147456_S147456x1_0 main_v3
  let main_v5 : IVec S147456x1024 1 := broadcastInDim S147456x1024 ![0, 1] bcast_S147456x1_S147456x1024_0_1 main_v4
  main_v5
-- ==== Pre_counts_ok.lean ====
abbrev S32 : Shape := ⟨1, ![32]⟩
abbrev S_ : Shape := ⟨0, ![]⟩
abbrev S1 : Shape := ⟨1, ![1]⟩
abbrev S2 : Shape := ⟨1, ![2]⟩

class Facts : Prop where
  bcast_S_S32 : S_.BroadcastsInDim S32 (![] : Fin 0 → Fin S32.rank)
  reducesTo_S32_S_d0 : S32.ReducesTo [0] S_
  h_S_ : 0 < S_.numel
  bcast_S_S1 : S_.BroadcastsInDim S1 (![] : Fin 0 → Fin S1.rank)
  concatenates_S1_S1_S2_d0 : Shape.Concatenates [S1, S1] S2 0

variable [Facts]

def fn_where {F : FTy → Type} [FloatOps F] (arg0 : IVec S32 1) (arg1 : IVec S32 32) (arg2 : IVec S32 32) : IVec S32 32 :=
  let v0 : IVec S32 32 := select arg0 arg1 arg2
  v0

def fn_floor_divide {F : FTy → Type} [FloatOps F] (arg0 : IVec S32 32) (arg1 : IVec S_ 32) : IVec S32 32 :=
  let v0 : IVec S_ 32 := id arg1
  let v1 : IVec S32 32 := broadcastInDim S32 ![] bcast_S_S32 v0
  let v2 : IVec S32 32 := Host.divsi arg0 v1
  let v3 : IVec S32 32 := signi arg0
  let v4 : IVec S_ 32 := signi v0
  let v5 : IVec S32 32 := broadcastInDim S32 ![] bcast_S_S32 v4
  let v6 : IVec S32 1 := cmpi .ne v3 v5
  let v7 : IVec S32 32 := broadcastInDim S32 ![] bcast_S_S32 v0
  let v8 : IVec S32 32 := Host.remsi arg0 v7
  let c : IVec S_ 32 := constantI S_ 32 0#32
  let v9 : IVec S32 32 := broadcastInDim S32 ![] bcast_S_S32 c
  let v10 : IVec S32 1 := cmpi .ne v8 v9
  let v11 : IVec S32 1 := andi v6 v10
  let c_0 : IVec S_ 32 := constantI S_ 32 1#32
  let v12 : IVec S32 32 := broadcastInDim S32 ![] bcast_S_S32 c_0
  let v13 : IVec S32 32 := subi v2 v12
  let v14 : IVec S32 32 := fn_where (F := F) v11 v13 v2
  v14

def fn_part1 {F : FTy → Type} [FloatOps F] (main_v11 : IVec S_ 1) (main_v14 : IVec S_ 1) : IVec S2 1 :=
  let main_v15 : IVec S1 1 := broadcastInDim S1 ![] bcast_S_S1 main_v11
  let main_v16 : IVec S1 1 := broadcastInDim S1 ![] bcast_S_S1 main_v14
  let main_v17 : IVec S2 1 := (fun a b => concatenate S2 0 [⟨S1, a⟩, ⟨S1, b⟩] concatenates_S1_S1_S2_d0) main_v15 main_v16
  main_v17

def fn {F : FTy → Type} [FloatOps F] (main_arg0 : IVec S32 32) : IVec S2 1 :=
  let main_c : IVec S_ 32 := constantI S_ 32 512#32
  let main_v0 : IVec S32 32 := broadcastInDim S32 ![] bcast_S_S32 main_c
  let main_v1 : IVec S32 32 := addi main_arg0 main_v0
  let main_c_0 : IVec S_ 32 := constantI S_ 32 1#32
  let main_v2 : IVec S32 32 := broadcastInDim S32 ![] bcast_S_S32 main_c_0
  let main_v3 : IVec S32 32 := subi main_v1 main_v2
  let main_c_1 : IVec S_ 32 := constantI S_ 32 512#32
  let main_v4 : IVec S32 32 := fn_floor_divide (F := F) main_v3 main_c_1
  let main_c_2 : IVec S_ 32 := constantI S_ 32 0#32
  let main_v5 : IVec S_ 32 := (fun x v => Host.reduce IntOp.addi x v reducesTo_S32_S_d0 h_S_) main_v4 main_c_2
  let main_c_3 : IVec S_ 32 := constantI S_ 32 0#32
  let main_v6 : IVec S32 32 := broadcastInDim S32 ![] bcast_S_S32 main_c_3
  let main_v7 : IVec S32 1 := cmpi .sge main_arg0 main_v6
  let main_c_4 : IVec S_ 32 := constantI S_ 32 147456#32
  let main_v8 : IVec S32 32 := broadcastInDim S32 ![] bcast_S_S32 main_c_4
  let main_v9 : IVec S32 1 := cmpi .sle main_arg0 main_v8
  let main_v10 : IVec S32 1 := andi main_v7 main_v9
  let main_c_5 : IVec S_ 1 := constantI S_ 1 1#1
  let main_v11 : IVec S_ 1 := (fun x v => Host.reduce IntOp.andi x v reducesTo_S32_S_d0 h_S_) main_v10 main_c_5
  let main_c_6 : IVec S_ 32 := constantI S_ 32 0#32
  let main_v12 : IVec S_ 1 := cmpi .sgt main_v5 main_c_6
  let main_c_7 : IVec S_ 32 := constantI S_ 32 288#32
  let main_v13 : IVec S_ 1 := cmpi .sle main_v5 main_c_7
  let main_v14 : IVec S_ 1 := andi main_v12 main_v13
  fn_part1 (F := F) main_v11 main_v14
-- ==== Pre_plan_ok.lean ====
abbrev S147456x1024 : Shape := ⟨2, ![147456, 1024]⟩
abbrev S288 : Shape := ⟨1, ![288]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S_ : Shape := ⟨0, ![]⟩
abbrev S1 : Shape := ⟨1, ![1]⟩
abbrev S287 : Shape := ⟨1, ![287]⟩
abbrev S6 : Shape := ⟨1, ![6]⟩

class Facts : Prop where
  bcast_S_S288 : S_.BroadcastsInDim S288 (![] : Fin 0 → Fin S288.rank)
  reducesTo_S288_S_d0 : S288.ReducesTo [0] S_
  h_S_ : 0 < S_.numel
  slices_S288_S1_0 : S288.Slices ![0] S1
  slices_S288_S287_0 : S288.Slices ![0] S287
  concatenates_S1_S287_S288_d0 : Shape.Concatenates [S1, S287] S288 0
  bcast_S_S1 : S_.BroadcastsInDim S1 (![] : Fin 0 → Fin S1.rank)
  concatenates_S1_S1_S1_S1_S1_S1_S6_d0 : Shape.Concatenates [S1, S1, S1, S1, S1, S1] S6 0

variable [Facts]

def fn_where {F : FTy → Type} [FloatOps F] (arg0 : IVec S288 1) (arg1 : IVec S288 1) (arg2 : IVec S_ 1) : IVec S288 1 :=
  let v0 : IVec S288 1 := broadcastInDim S288 ![] bcast_S_S288 arg2
  let v1 : IVec S288 1 := select arg0 arg1 v0
  v1

def fn_where_0 {F : FTy → Type} [FloatOps F] (arg0 : IVec S288 1) (arg1 : IVec S288 1) (arg2 : IVec S288 1) : IVec S288 1 :=
  let v0 : IVec S288 1 := select arg0 arg1 arg2
  v0

def fn_part2 {F : FTy → Type} [FloatOps F] (main_arg2 : IVec S288 32) (main_arg4 : IVec S288 32) (main_v2 : IVec S288 1) (main_v8 : IVec S_ 1) (main_v14 : IVec S_ 1) (main_v21 : IVec S_ 1) (main_v28 : IVec S_ 1) (main_v33 : IVec S288 1) (main_c_12 : IVec S_ 1) : IVec S6 1 :=
  let main_v34 : IVec S288 1 := fn_where (F := F) main_v2 main_v33 main_c_12
  let main_c_13 : IVec S_ 1 := constantI S_ 1 1#1
  let main_v35 : IVec S_ 1 := (fun x v => Host.reduce IntOp.andi x v reducesTo_S288_S_d0 h_S_) main_v34 main_c_13
  let main_v36 : IVec S1 32 := (extractStridedSlice S1 ![0] · slices_S288_S1_0) main_arg2
  let main_v37 : IVec S287 32 := (extractStridedSlice S287 ![0] · slices_S288_S287_0) main_arg2
  let main_v38 : IVec S288 32 := (fun a b => concatenate S288 0 [⟨S1, a⟩, ⟨S287, b⟩] concatenates_S1_S287_S288_d0) main_v36 main_v37
  let main_v39 : IVec S288 1 := cmpi .ne main_arg2 main_v38
  let main_v40 : IVec S288 1 := andi main_v2 main_v39
  let main_c_14 : IVec S_ 32 := constantI S_ 32 1#32
  let main_v41 : IVec S288 32 := broadcastInDim S288 ![] bcast_S_S288 main_c_14
  let main_v42 : IVec S288 1 := cmpi .eq main_arg4 main_v41
  let main_c_15 : IVec S_ 1 := constantI S_ 1 1#1
  let main_v43 : IVec S288 1 := fn_where (F := F) main_v40 main_v42 main_c_15
  let main_c_16 : IVec S_ 1 := constantI S_ 1 1#1
  let main_v44 : IVec S_ 1 := (fun x v => Host.reduce IntOp.andi x v reducesTo_S288_S_d0 h_S_) main_v43 main_c_16
  let main_v45 : IVec S1 1 := broadcastInDim S1 ![] bcast_S_S1 main_v8
  let main_v46 : IVec S1 1 := broadcastInDim S1 ![] bcast_S_S1 main_v14
  let main_v47 : IVec S1 1 := broadcastInDim S1 ![] bcast_S_S1 main_v21
  let main_v48 : IVec S1 1 := broadcastInDim S1 ![] bcast_S_S1 main_v28
  let main_v49 : IVec S1 1 := broadcastInDim S1 ![] bcast_S_S1 main_v35
  let main_v50 : IVec S1 1 := broadcastInDim S1 ![] bcast_S_S1 main_v44
  let main_v51 : IVec S6 1 := concatenate S6 0 [⟨S1, main_v45⟩, ⟨S1, main_v46⟩, ⟨S1, main_v47⟩, ⟨S1, main_v48⟩, ⟨S1, main_v49⟩, ⟨S1, main_v50⟩] concatenates_S1_S1_S1_S1_S1_S1_S6_d0
  main_v51

def fn_part1 {F : FTy → Type} [FloatOps F] (main_arg1 : IVec S288 32) (main_arg2 : IVec S288 32) (main_arg3 : IVec S288 32) (main_arg4 : IVec S288 32) (main_v0 : IVec S288 32) (main_v2 : IVec S288 1) (main_v8 : IVec S_ 1) (main_v14 : IVec S_ 1) (main_v15 : IVec S288 32) : IVec S6 1 :=
  let main_v16 : IVec S288 1 := cmpi .eq main_v0 main_v15
  let main_c_7 : IVec S_ 32 := constantI S_ 32 1#32
  let main_v17 : IVec S288 32 := broadcastInDim S288 ![] bcast_S_S288 main_c_7
  let main_v18 : IVec S288 1 := cmpi .eq main_arg4 main_v17
  let main_v19 : IVec S288 1 := andi main_v2 main_v18
  let main_c_8 : IVec S_ 1 := constantI S_ 1 1#1
  let main_v20 : IVec S288 1 := fn_where (F := F) main_v16 main_v19 main_c_8
  let main_c_9 : IVec S_ 1 := constantI S_ 1 1#1
  let main_v21 : IVec S_ 1 := (fun x v => Host.reduce IntOp.andi x v reducesTo_S288_S_d0 h_S_) main_v20 main_c_9
  let main_v22 : IVec S288 1 := cmpi .eq main_arg1 main_v0
  let main_v23 : IVec S1 32 := (extractStridedSlice S1 ![0] · slices_S288_S1_0) main_arg1
  let main_v24 : IVec S287 32 := (extractStridedSlice S287 ![0] · slices_S288_S287_0) main_arg1
  let main_v25 : IVec S288 32 := (fun a b => concatenate S288 0 [⟨S1, a⟩, ⟨S287, b⟩] concatenates_S1_S287_S288_d0) main_v23 main_v24
  let main_v26 : IVec S288 1 := cmpi .eq main_arg1 main_v25
  let main_v27 : IVec S288 1 := fn_where_0 (F := F) main_v2 main_v22 main_v26
  let main_c_10 : IVec S_ 1 := constantI S_ 1 1#1
  let main_v28 : IVec S_ 1 := (fun x v => Host.reduce IntOp.andi x v reducesTo_S288_S_d0 h_S_) main_v27 main_c_10
  let main_v29 : IVec S1 32 := (extractStridedSlice S1 ![0] · slices_S288_S1_0) main_arg3
  let main_v30 : IVec S287 32 := (extractStridedSlice S287 ![0] · slices_S288_S287_0) main_arg3
  let main_v31 : IVec S288 32 := (fun a b => concatenate S288 0 [⟨S1, a⟩, ⟨S287, b⟩] concatenates_S1_S287_S288_d0) main_v29 main_v30
  let main_c_11 : IVec S_ 32 := constantI S_ 32 0#32
  let main_v32 : IVec S288 32 := broadcastInDim S288 ![] bcast_S_S288 main_c_11
  let main_v33 : IVec S288 1 := cmpi .sgt main_v31 main_v32
  let main_c_12 : IVec S_ 1 := constantI S_ 1 1#1
  fn_part2 (F := F) main_arg2 main_arg4 main_v2 main_v8 main_v14 main_v21 main_v28 main_v33 main_c_12

def fn {F : FTy → Type} [FloatOps F] (main_arg0 : FVec F S147456x1024 .bf16) (main_arg1 : IVec S288 32) (main_arg2 : IVec S288 32) (main_arg3 : IVec S288 32) (main_arg4 : IVec S288 32) (main_arg5 : FVec F S32x1024x2048 .f32) (main_arg6 : FVec F S32x2048 .f32) (main_arg7 : FVec F S32x1024x1024 .f32) (main_arg8 : FVec F S32x1024 .f32) : IVec S6 1 :=
  let main_v0 : IVec S288 32 := iotaInDim S288 32 0
  let main_c : IVec S_ 32 := constantI S_ 32 0#32
  let main_v1 : IVec S288 32 := broadcastInDim S288 ![] bcast_S_S288 main_c
  let main_v2 : IVec S288 1 := cmpi .sgt main_arg3 main_v1
  let main_c_0 : IVec S_ 32 := constantI S_ 32 0#32
  let main_v3 : IVec S288 32 := broadcastInDim S288 ![] bcast_S_S288 main_c_0
  let main_v4 : IVec S288 1 := cmpi .sge main_arg1 main_v3
  let main_c_1 : IVec S_ 32 := constantI S_ 32 288#32
  let main_v5 : IVec S288 32 := broadcastInDim S288 ![] bcast_S_S288 main_c_1
  let main_v6 : IVec S288 1 := cmpi .slt main_arg1 main_v5
  let main_v7 : IVec S288 1 := andi main_v4 main_v6
  let main_c_2 : IVec S_ 1 := constantI S_ 1 1#1
  let main_v8 : IVec S_ 1 := (fun x v => Host.reduce IntOp.andi x v reducesTo_S288_S_d0 h_S_) main_v7 main_c_2
  let main_c_3 : IVec S_ 32 := constantI S_ 32 0#32
  let main_v9 : IVec S288 32 := broadcastInDim S288 ![] bcast_S_S288 main_c_3
  let main_v10 : IVec S288 1 := cmpi .sge main_arg2 main_v9
  let main_c_4 : IVec S_ 32 := constantI S_ 32 32#32
  let main_v11 : IVec S288 32 := broadcastInDim S288 ![] bcast_S_S288 main_c_4
  let main_v12 : IVec S288 1 := cmpi .slt main_arg2 main_v11
  let main_v13 : IVec S288 1 := andi main_v10 main_v12
  let main_c_5 : IVec S_ 1 := constantI S_ 1 1#1
  let main_v14 : IVec S_ 1 := (fun x v => Host.reduce IntOp.andi x v reducesTo_S288_S_d0 h_S_) main_v13 main_c_5
  let main_c_6 : IVec S_ 32 := constantI S_ 32 0#32
  let main_v15 : IVec S288 32 := broadcastInDim S288 ![] bcast_S_S288 main_c_6
  fn_part1 (F := F) main_arg1 main_arg2 main_arg3 main_arg4 main_v0 main_v2 main_v8 main_v14 main_v15
-- ==== Pre_rank_ok.lean ====
abbrev S4x32768 : Shape := ⟨2, ![4, 32768]⟩
abbrev S32x128 : Shape := ⟨2, ![32, 128]⟩
abbrev S_ : Shape := ⟨0, ![]⟩
abbrev S32x1 : Shape := ⟨2, ![32, 1]⟩
abbrev S32 : Shape := ⟨1, ![32]⟩
abbrev S1 : Shape := ⟨1, ![1]⟩
abbrev S2 : Shape := ⟨1, ![2]⟩

class Facts : Prop where
  bcast_S_S4x32768 : S_.BroadcastsInDim S4x32768 (![] : Fin 0 → Fin S4x32768.rank)
  reducesTo_S4x32768_S_d0_1 : S4x32768.ReducesTo [0, 1] S_
  h_S_ : 0 < S_.numel
  slices_S32x128_S32x1_0_0 : S32x128.Slices ![0, 0] S32x1
  shapeCasts_S32x1_S32 : S32x1.ShapeCasts S32
  bcast_S_S32 : S_.BroadcastsInDim S32 (![] : Fin 0 → Fin S32.rank)
  reducesTo_S32_S_d0 : S32.ReducesTo [0] S_
  bcast_S_S1 : S_.BroadcastsInDim S1 (![] : Fin 0 → Fin S1.rank)
  concatenates_S1_S1_S2_d0 : Shape.Concatenates [S1, S1] S2 0

variable [Facts]

def fn_part1 {F : FTy → Type} [FloatOps F] (main_v16 : IVec S1 1) (main_v17 : IVec S1 1) : IVec S2 1 :=
  let main_v18 : IVec S2 1 := (fun a b => concatenate S2 0 [⟨S1, a⟩, ⟨S1, b⟩] concatenates_S1_S1_S2_d0) main_v16 main_v17
  main_v18

def fn {F : FTy → Type} [FloatOps F] (main_arg0 : IVec S4x32768 32) (main_arg1 : IVec S32x128 32) : IVec S2 1 :=
  let main_c : IVec S_ 32 := constantI S_ 32 0#32
  let main_v0 : IVec S4x32768 32 := broadcastInDim S4x32768 ![] bcast_S_S4x32768 main_c
  let main_v1 : IVec S4x32768 1 := cmpi .sge main_arg0 main_v0
  let main_c_0 : IVec S_ 32 := constantI S_ 32 32#32
  let main_v2 : IVec S4x32768 32 := broadcastInDim S4x32768 ![] bcast_S_S4x32768 main_c_0
  let main_v3 : IVec S4x32768 1 := cmpi .slt main_arg0 main_v2
  let main_v4 : IVec S4x32768 1 := andi main_v1 main_v3
  let main_c_1 : IVec S_ 1 := constantI S_ 1 1#1
  let main_v5 : IVec S_ 1 := (fun x v => Host.reduce IntOp.andi x v reducesTo_S4x32768_S_d0_1 h_S_) main_v4 main_c_1
  let main_v6 : IVec S32x1 32 := (extractStridedSlice S32x1 ![0, 0] · slices_S32x128_S32x1_0_0) main_arg1
  let main_v7 : IVec S32 32 := shapeCast S32 main_v6 shapeCasts_S32x1_S32
  let main_c_2 : IVec S_ 32 := constantI S_ 32 0#32
  let main_v8 : IVec S32 32 := broadcastInDim S32 ![] bcast_S_S32 main_c_2
  let main_v9 : IVec S32 1 := cmpi .sge main_v7 main_v8
  let main_v10 : IVec S32x1 32 := (extractStridedSlice S32x1 ![0, 0] · slices_S32x128_S32x1_0_0) main_arg1
  let main_v11 : IVec S32 32 := shapeCast S32 main_v10 shapeCasts_S32x1_S32
  let main_c_3 : IVec S_ 32 := constantI S_ 32 131072#32
  let main_v12 : IVec S32 32 := broadcastInDim S32 ![] bcast_S_S32 main_c_3
  let main_v13 : IVec S32 1 := cmpi .sle main_v11 main_v12
  let main_v14 : IVec S32 1 := andi main_v9 main_v13
  let main_c_4 : IVec S_ 1 := constantI S_ 1 1#1
  let main_v15 : IVec S_ 1 := (fun x v => Host.reduce IntOp.andi x v reducesTo_S32_S_d0 h_S_) main_v14 main_c_4
  let main_v16 : IVec S1 1 := broadcastInDim S1 ![] bcast_S_S1 main_v5
  let main_v17 : IVec S1 1 := broadcastInDim S1 ![] bcast_S_S1 main_v15
  fn_part1 (F := F) main_v16 main_v17
-- ==== Pre_routed_ok.lean ====
abbrev S147456x1024 : Shape := ⟨2, ![147456, 1024]⟩
abbrev S32 : Shape := ⟨1, ![32]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S_ : Shape := ⟨0, ![]⟩
abbrev S1 : Shape := ⟨1, ![1]⟩
abbrev S2 : Shape := ⟨1, ![2]⟩

class Facts : Prop where
  bcast_S_S32 : S_.BroadcastsInDim S32 (![] : Fin 0 → Fin S32.rank)
  reducesTo_S32_S_d0 : S32.ReducesTo [0] S_
  h_S_ : 0 < S_.numel
  bcast_S_S1 : S_.BroadcastsInDim S1 (![] : Fin 0 → Fin S1.rank)
  concatenates_S1_S1_S2_d0 : Shape.Concatenates [S1, S1] S2 0

variable [Facts]

def fn_where {F : FTy → Type} [FloatOps F] (arg0 : IVec S32 1) (arg1 : IVec S32 32) (arg2 : IVec S32 32) : IVec S32 32 :=
  let v0 : IVec S32 32 := select arg0 arg1 arg2
  v0

def fn_floor_divide {F : FTy → Type} [FloatOps F] (arg0 : IVec S32 32) (arg1 : IVec S_ 32) : IVec S32 32 :=
  let v0 : IVec S_ 32 := id arg1
  let v1 : IVec S32 32 := broadcastInDim S32 ![] bcast_S_S32 v0
  let v2 : IVec S32 32 := Host.divsi arg0 v1
  let v3 : IVec S32 32 := signi arg0
  let v4 : IVec S_ 32 := signi v0
  let v5 : IVec S32 32 := broadcastInDim S32 ![] bcast_S_S32 v4
  let v6 : IVec S32 1 := cmpi .ne v3 v5
  let v7 : IVec S32 32 := broadcastInDim S32 ![] bcast_S_S32 v0
  let v8 : IVec S32 32 := Host.remsi arg0 v7
  let c : IVec S_ 32 := constantI S_ 32 0#32
  let v9 : IVec S32 32 := broadcastInDim S32 ![] bcast_S_S32 c
  let v10 : IVec S32 1 := cmpi .ne v8 v9
  let v11 : IVec S32 1 := andi v6 v10
  let c_0 : IVec S_ 32 := constantI S_ 32 1#32
  let v12 : IVec S32 32 := broadcastInDim S32 ![] bcast_S_S32 c_0
  let v13 : IVec S32 32 := subi v2 v12
  let v14 : IVec S32 32 := fn_where (F := F) v11 v13 v2
  v14

def fn_part1 {F : FTy → Type} [FloatOps F] (main_v11 : IVec S_ 1) (main_v14 : IVec S_ 1) : IVec S2 1 :=
  let main_v15 : IVec S1 1 := broadcastInDim S1 ![] bcast_S_S1 main_v11
  let main_v16 : IVec S1 1 := broadcastInDim S1 ![] bcast_S_S1 main_v14
  let main_v17 : IVec S2 1 := (fun a b => concatenate S2 0 [⟨S1, a⟩, ⟨S1, b⟩] concatenates_S1_S1_S2_d0) main_v15 main_v16
  main_v17

def fn {F : FTy → Type} [FloatOps F] (main_arg0 : FVec F S147456x1024 .bf16) (main_arg1 : IVec S32 32) (main_arg2 : FVec F S32x1024x2048 .f32) (main_arg3 : FVec F S32x2048 .f32) (main_arg4 : FVec F S32x1024x1024 .f32) (main_arg5 : FVec F S32x1024 .f32) : IVec S2 1 :=
  let main_c : IVec S_ 32 := constantI S_ 32 512#32
  let main_v0 : IVec S32 32 := broadcastInDim S32 ![] bcast_S_S32 main_c
  let main_v1 : IVec S32 32 := addi main_arg1 main_v0
  let main_c_0 : IVec S_ 32 := constantI S_ 32 1#32
  let main_v2 : IVec S32 32 := broadcastInDim S32 ![] bcast_S_S32 main_c_0
  let main_v3 : IVec S32 32 := subi main_v1 main_v2
  let main_c_1 : IVec S_ 32 := constantI S_ 32 512#32
  let main_v4 : IVec S32 32 := fn_floor_divide (F := F) main_v3 main_c_1
  let main_c_2 : IVec S_ 32 := constantI S_ 32 0#32
  let main_v5 : IVec S_ 32 := (fun x v => Host.reduce IntOp.addi x v reducesTo_S32_S_d0 h_S_) main_v4 main_c_2
  let main_c_3 : IVec S_ 32 := constantI S_ 32 0#32
  let main_v6 : IVec S32 32 := broadcastInDim S32 ![] bcast_S_S32 main_c_3
  let main_v7 : IVec S32 1 := cmpi .sge main_arg1 main_v6
  let main_c_4 : IVec S_ 32 := constantI S_ 32 147456#32
  let main_v8 : IVec S32 32 := broadcastInDim S32 ![] bcast_S_S32 main_c_4
  let main_v9 : IVec S32 1 := cmpi .sle main_arg1 main_v8
  let main_v10 : IVec S32 1 := andi main_v7 main_v9
  let main_c_5 : IVec S_ 1 := constantI S_ 1 1#1
  let main_v11 : IVec S_ 1 := (fun x v => Host.reduce IntOp.andi x v reducesTo_S32_S_d0 h_S_) main_v10 main_c_5
  let main_c_6 : IVec S_ 32 := constantI S_ 32 0#32
  let main_v12 : IVec S_ 1 := cmpi .sgt main_v5 main_c_6
  let main_c_7 : IVec S_ 32 := constantI S_ 32 288#32
  let main_v13 : IVec S_ 1 := cmpi .sle main_v5 main_c_7
  let main_v14 : IVec S_ 1 := andi main_v12 main_v13
  fn_part1 (F := F) main_v11 main_v14
-- ==== Kernel.lean ====
abbrev S147456x1024 : Shape := ⟨2, ![147456, 1024]⟩
abbrev S288 : Shape := ⟨1, ![288]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S32x1x2048 : Shape := ⟨3, ![32, 1, 2048]⟩
abbrev S32x1x1024 : Shape := ⟨3, ![32, 1, 1024]⟩
abbrev S512x1024 : Shape := ⟨2, ![512, 1024]⟩
abbrev S1 : Shape := ⟨1, ![1]⟩
abbrev S1x1024x2048 : Shape := ⟨3, ![1, 1024, 2048]⟩
abbrev S1x1x2048 : Shape := ⟨3, ![1, 1, 2048]⟩
abbrev S1x1024x1024 : Shape := ⟨3, ![1, 1024, 1024]⟩
abbrev S1x1x1024 : Shape := ⟨3, ![1, 1, 1024]⟩
abbrev S1024x2048 : Shape := ⟨2, ![1024, 2048]⟩
abbrev S1024x1024 : Shape := ⟨2, ![1024, 1024]⟩
abbrev S512x2048 : Shape := ⟨2, ![512, 2048]⟩
abbrev S1x2048 : Shape := ⟨2, ![1, 2048]⟩
abbrev S1x1024 : Shape := ⟨2, ![1, 1024]⟩

abbrev nBuf : Space → Nat
  | .hbm => 8
  | .vmem => 14
  | .smem => 4
  | _ => 0

abbrev bufTy : (tb : Table) → Fin (tcTables nBuf tb) → BufTy
  | .hbm, ⟨0, _⟩ => ⟨S147456x1024, .bf16⟩
  | .hbm, ⟨1, _⟩ => ⟨S32x1024x2048, .f32⟩
  | .hbm, ⟨2, _⟩ => ⟨S32x2048, .f32⟩
  | .hbm, ⟨3, _⟩ => ⟨S32x1024x1024, .f32⟩
  | .hbm, ⟨4, _⟩ => ⟨S32x1024, .f32⟩
  | .hbm, ⟨5, _⟩ => ⟨S32x1x2048, .f32⟩
  | .hbm, ⟨6, _⟩ => ⟨S32x1x1024, .f32⟩
  | .hbm, ⟨7, _⟩ => ⟨S147456x1024, .bf16⟩
  | .local _ .vmem, ⟨0, _⟩ => ⟨S512x1024, .bf16⟩
  | .local _ .vmem, ⟨1, _⟩ => ⟨S512x1024, .bf16⟩
  | .local _ .vmem, ⟨2, _⟩ => ⟨S1x1024x2048, .f32⟩
  | .local _ .vmem, ⟨3, _⟩ => ⟨S1x1024x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1024x1024, .f32⟩
  | .local _ .vmem, ⟨7, _⟩ => ⟨S1x1024x1024, .f32⟩
  | .local _ .vmem, ⟨8, _⟩ => ⟨S1x1x1024, .f32⟩
  | .local _ .vmem, ⟨9, _⟩ => ⟨S1x1x1024, .f32⟩
  | .local _ .vmem, ⟨10, _⟩ => ⟨S512x1024, .bf16⟩
  | .local _ .vmem, ⟨11, _⟩ => ⟨S512x1024, .bf16⟩
  | .local _ .vmem, ⟨12, _⟩ => ⟨S1024x2048, .bf16⟩
  | .local _ .vmem, ⟨13, _⟩ => ⟨S1024x1024, .bf16⟩
  | .local _ .smem, ⟨0, _⟩ => ⟨S288, .i32⟩
  | .local _ .smem, ⟨1, _⟩ => ⟨S288, .i32⟩
  | .local _ .smem, ⟨2, _⟩ => ⟨S288, .i32⟩
  | .local _ .smem, ⟨3, _⟩ => ⟨S288, .i32⟩
  | _, _ => ⟨S147456x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg5 : Ref sig .tc := ⟨.hbm, 1, rfl⟩
abbrev main_arg6 : Ref sig .tc := ⟨.hbm, 2, rfl⟩
abbrev main_arg7 : Ref sig .tc := ⟨.hbm, 3, rfl⟩
abbrev main_arg8 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_arg1 : Ref sig .tc := ⟨.smem, 0, rfl⟩
abbrev main_arg2 : Ref sig .tc := ⟨.smem, 1, rfl⟩
abbrev main_arg3 : Ref sig .tc := ⟨.smem, 2, rfl⟩
abbrev main_arg4 : Ref sig .tc := ⟨.smem, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![288], ![false]⟩

abbrev pre0 : Pipeline.Prefetch sig := ⟨4, ![main_arg1.idx, main_arg2.idx, main_arg3.idx, main_arg4.idx], fun | 0 => main_arg1.names | 1 => main_arg2.names | 2 => main_arg3.names | 3 => main_arg4.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v5 : Index := Scalar.indexCast arg0
  ![v5.toNat]
def k0_cond2 (v6 : BitVec 32) : BitVec 1 :=
  let c0_i32_0 : BitVec 32 := 0#32
  let v7 : BitVec 1 := Scalar.cmpi .sgt v6 c0_i32_0
  let v8 : BitVec 32 := Scalar.extui v7
  let c0_i32_1 : BitVec 32 := 0#32
  let v9 : BitVec 1 := Scalar.cmpi .ne v8 c0_i32_1
  v9

def cc0_transform_0 (k0_off1_inb : ∀ i : grid0.Coords, ∀ a, (k0_off1 i) a + S1.size a ≤ S288.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S288.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  ![v1.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S147456x1024 : Shape := ⟨2, ![147456, 1024]⟩
abbrev S288 : Shape := ⟨1, ![288]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S288x512x1024 : Shape := ⟨3, ![288, 512, 1024]⟩
abbrev S288x1x1 : Shape := ⟨3, ![288, 1, 1]⟩
abbrev S_ : Shape := ⟨0, ![]⟩
abbrev S288x1 : Shape := ⟨2, ![288, 1]⟩
abbrev S288x1024x2048 : Shape := ⟨3, ![288, 1024, 2048]⟩
abbrev S288x512x2048 : Shape := ⟨3, ![288, 512, 2048]⟩
abbrev S288x2048 : Shape := ⟨2, ![288, 2048]⟩
abbrev S288x1x2048 : Shape := ⟨3, ![288, 1, 2048]⟩
abbrev S288x1024x1024 : Shape := ⟨3, ![288, 1024, 1024]⟩
abbrev S288x1024 : Shape := ⟨2, ![288, 1024]⟩
abbrev S288x1x1024 : Shape := ⟨3, ![288, 1, 1024]⟩

abbrev nBuf : Space → Nat
  | .hbm => 94
  | .vmem => 0
  | .smem => 0
  | _ => 0

abbrev bufTy : (tb : Table) → Fin (tcTables nBuf tb) → BufTy
  | .hbm, ⟨0, _⟩ => ⟨S147456x1024, .bf16⟩
  | .hbm, ⟨1, _⟩ => ⟨S288, .i32⟩
  | .hbm, ⟨2, _⟩ => ⟨S288, .i32⟩
  | .hbm, ⟨3, _⟩ => ⟨S288, .i32⟩
  | .hbm, ⟨4, _⟩ => ⟨S288, .i32⟩
  | .hbm, ⟨5, _⟩ => ⟨S32x1024x2048, .f32⟩
  | .hbm, ⟨6, _⟩ => ⟨S32x2048, .f32⟩
  | .hbm, ⟨7, _⟩ => ⟨S32x1024x1024, .f32⟩
  | .hbm, ⟨8, _⟩ => ⟨S32x1024, .f32⟩
  | .hbm, ⟨9, _⟩ => ⟨S147456x1024, .f32⟩
  | .hbm, ⟨10, _⟩ => ⟨S288x512x1024, .f32⟩
  | .hbm, ⟨11, _⟩ => ⟨S288x512x1024, .i32⟩
  | .hbm, ⟨12, _⟩ => ⟨S288x1x1, .i32⟩
  | .hbm, ⟨13, _⟩ => ⟨S288x512x1024, .i32⟩
  | .hbm, ⟨14, _⟩ => ⟨S288x512x1024, .i1⟩
  | .hbm, ⟨15, _⟩ => ⟨S_, .f32⟩
  | .hbm, ⟨16, _⟩ => ⟨S_, .f32⟩
  | .hbm, ⟨17, _⟩ => ⟨S288x512x1024, .f32⟩
  | .hbm, ⟨18, _⟩ => ⟨S288x512x1024, .f32⟩
  | .hbm, ⟨19, _⟩ => ⟨S_, .i32⟩
  | .hbm, ⟨20, _⟩ => ⟨S288, .i32⟩
  | .hbm, ⟨21, _⟩ => ⟨S288, .i1⟩
  | .hbm, ⟨22, _⟩ => ⟨S_, .i32⟩
  | .hbm, ⟨23, _⟩ => ⟨S288, .i32⟩
  | .hbm, ⟨24, _⟩ => ⟨S288, .i32⟩
  | .hbm, ⟨25, _⟩ => ⟨S288, .i32⟩
  | .hbm, ⟨26, _⟩ => ⟨S288x1, .i32⟩
  | .hbm, ⟨27, _⟩ => ⟨S288x1024x2048, .f32⟩
  | .hbm, ⟨28, _⟩ => ⟨S288x512x2048, .f32⟩
  | .hbm, ⟨29, _⟩ => ⟨S_, .i32⟩
  | .hbm, ⟨30, _⟩ => ⟨S288, .i32⟩
  | .hbm, ⟨31, _⟩ => ⟨S288, .i1⟩
  | .hbm, ⟨32, _⟩ => ⟨S_, .i32⟩
  | .hbm, ⟨33, _⟩ => ⟨S288, .i32⟩
  | .hbm, ⟨34, _⟩ => ⟨S288, .i32⟩
  | .hbm, ⟨35, _⟩ => ⟨S288, .i32⟩
  | .hbm, ⟨36, _⟩ => ⟨S288x1, .i32⟩
  | .hbm, ⟨37, _⟩ => ⟨S288x2048, .f32⟩
  | .hbm, ⟨38, _⟩ => ⟨S288x1x2048, .f32⟩
  | .hbm, ⟨39, _⟩ => ⟨S288x512x2048, .f32⟩
  | .hbm, ⟨40, _⟩ => ⟨S288x512x2048, .f32⟩
  | .hbm, ⟨41, _⟩ => ⟨S288x512x1024, .f32⟩
  | .hbm, ⟨42, _⟩ => ⟨S288x512x1024, .f32⟩
  | .hbm, ⟨43, _⟩ => ⟨S_, .f32⟩
  | .hbm, ⟨44, _⟩ => ⟨S288x512x1024, .f32⟩
  | .hbm, ⟨45, _⟩ => ⟨S288x512x1024, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S288x512x1024, .f32⟩
  | .hbm, ⟨50, _⟩ => ⟨S288x512x1024, .f32⟩
  | .hbm, ⟨51, _⟩ => ⟨S_, .f32⟩
  | .hbm, ⟨52, _⟩ => ⟨S288x512x1024, .f32⟩
  | .hbm, ⟨53, _⟩ => ⟨S288x512x1024, .f32⟩
  | .hbm, ⟨54, _⟩ => ⟨S_, .f32⟩
  | .hbm, ⟨55, _⟩ => ⟨S288x512x1024, .f32⟩
  | .hbm, ⟨56, _⟩ => ⟨S288x512x1024, .f32⟩
  | .hbm, ⟨57, _⟩ => ⟨S_, .f32⟩
  | .hbm, ⟨58, _⟩ => ⟨S288x512x1024, .f32⟩
  | .hbm, ⟨59, _⟩ => ⟨S288x512x1024, .f32⟩
  | .hbm, ⟨60, _⟩ => ⟨S288x512x1024, .f32⟩
  | .hbm, ⟨61, _⟩ => ⟨S288x512x1024, .f32⟩
  | .hbm, ⟨62, _⟩ => ⟨S_, .f32⟩
  | .hbm, ⟨63, _⟩ => ⟨S288x512x1024, .f32⟩
  | .hbm, ⟨64, _⟩ => ⟨S288x512x1024, .f32⟩
  | .hbm, ⟨65, _⟩ => ⟨S_, .f32⟩
  | .hbm, ⟨66, _⟩ => ⟨S288x512x1024, .f32⟩
  | .hbm, ⟨67, _⟩ => ⟨S288x512x1024, .f32⟩
  | .hbm, ⟨68, _⟩ => ⟨S288x512x1024, .f32⟩
  | .hbm, ⟨69, _⟩ => ⟨S288x512x1024, .f32⟩
  | .hbm, ⟨70, _⟩ => ⟨S_, .i32⟩
  | .hbm, ⟨71, _⟩ => ⟨S288, .i32⟩
  | .hbm, ⟨72, _⟩ => ⟨S288, .i1⟩
  | .hbm, ⟨73, _⟩ => ⟨S_, .i32⟩
  | .hbm, ⟨74, _⟩ => ⟨S288, .i32⟩
  | .hbm, ⟨75, _⟩ => ⟨S288, .i32⟩
  | .hbm, ⟨76, _⟩ => ⟨S288, .i32⟩
  | .hbm, ⟨77, _⟩ => ⟨S288x1, .i32⟩
  | .hbm, ⟨78, _⟩ => ⟨S288x1024x1024, .f32⟩
  | .hbm, ⟨79, _⟩ => ⟨S288x512x1024, .f32⟩
  | .hbm, ⟨80, _⟩ => ⟨S_, .i32⟩
  | .hbm, ⟨81, _⟩ => ⟨S288, .i32⟩
  | .hbm, ⟨82, _⟩ => ⟨S288, .i1⟩
  | .hbm, ⟨83, _⟩ => ⟨S_, .i32⟩
  | .hbm, ⟨84, _⟩ => ⟨S288, .i32⟩
  | .hbm, ⟨85, _⟩ => ⟨S288, .i32⟩
  | .hbm, ⟨86, _⟩ => ⟨S288, .i32⟩
  | .hbm, ⟨87, _⟩ => ⟨S288x1, .i32⟩
  | .hbm, ⟨88, _⟩ => ⟨S288x1024, .f32⟩
  | .hbm, ⟨89, _⟩ => ⟨S288x1x1024, .f32⟩
  | .hbm, ⟨90, _⟩ => ⟨S288x512x1024, .f32⟩
  | .hbm, ⟨91, _⟩ => ⟨S288x512x1024, .f32⟩
  | .hbm, ⟨92, _⟩ => ⟨S147456x1024, .f32⟩
  | .hbm, ⟨93, _⟩ => ⟨S147456x1024, .bf16⟩
  | _, _ => ⟨S147456x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_call0_v0 : Ref sig .tc := ⟨.hbm, 16, rfl⟩
abbrev main_call0_v1 : Ref sig .tc := ⟨.hbm, 17, rfl⟩
abbrev main_v6 : Ref sig .tc := ⟨.hbm, 18, rfl⟩
abbrev main_c : Ref sig .tc := ⟨.hbm, 19, rfl⟩
abbrev main_v7 : Ref sig .tc := ⟨.hbm, 20, rfl⟩
abbrev main_v8 : Ref sig .tc := ⟨.hbm, 21, rfl⟩
abbrev main_c_0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_c_1 : Ref sig .tc := ⟨.hbm, 29, rfl⟩
abbrev main_v15 : Ref sig .tc := ⟨.hbm, 30, rfl⟩
abbrev main_v16 : Ref sig .tc := ⟨.hbm, 31, rfl⟩
abbrev main_c_2 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_3 : Ref sig .tc := ⟨.hbm, 43, rfl⟩
abbrev main_v27 : Ref sig .tc := ⟨.hbm, 44, rfl⟩
abbrev main_v28 : Ref sig .tc := ⟨.hbm, 45, rfl⟩
abbrev main_cst_4 : Ref sig .tc := ⟨.hbm, 46, rfl⟩
abbrev main_cst_5 : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_v29 : Ref sig .tc := ⟨.hbm, 53, rfl⟩
abbrev main_cst_6 : Ref sig .tc := ⟨.hbm, 54, rfl⟩
abbrev main_v30 : Ref sig .tc := ⟨.hbm, 55, rfl⟩
abbrev main_v31 : Ref sig .tc := ⟨.hbm, 56, rfl⟩
abbrev main_cst_7 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_cst_8 : Ref sig .tc := ⟨.hbm, 62, rfl⟩
abbrev main_v36 : Ref sig .tc := ⟨.hbm, 63, rfl⟩
abbrev main_v37 : Ref sig .tc := ⟨.hbm, 64, rfl⟩
abbrev main_cst_9 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_c_10 : Ref sig .tc := ⟨.hbm, 70, rfl⟩
abbrev main_v42 : Ref sig .tc := ⟨.hbm, 71, rfl⟩
abbrev main_v43 : Ref sig .tc := ⟨.hbm, 72, rfl⟩
abbrev main_c_11 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_c_12 : Ref sig .tc := ⟨.hbm, 80, rfl⟩
abbrev main_v50 : Ref sig .tc := ⟨.hbm, 81, rfl⟩
abbrev main_v51 : Ref sig .tc := ⟨.hbm, 82, rfl⟩
abbrev main_c_13 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩

abbrev nD : Nat := 1
abbrev τ : Topo := Topo.v7x

variable {F : FTy → Type} [FloatOps F]
-- ==== Kernel2.lean ====
abbrev S32 : Shape := ⟨1, ![32]⟩
abbrev S288 : Shape := ⟨1, ![288]⟩
abbrev S1 : Shape := ⟨1, ![1]⟩

abbrev nBuf : Space → Nat
  | .hbm => 5
  | .vmem => 0
  | .smem => 5
  | _ => 0

abbrev bufTy : (tb : Table) → Fin (tcTables nBuf tb) → BufTy
  | .hbm, ⟨0, _⟩ => ⟨S32, .i32⟩
  | .hbm, ⟨1, _⟩ => ⟨S288, .i32⟩
  | .hbm, ⟨2, _⟩ => ⟨S288, .i32⟩
  | .hbm, ⟨3, _⟩ => ⟨S288, .i32⟩
  | .hbm, ⟨4, _⟩ => ⟨S288, .i32⟩
  | .local _ .smem, ⟨0, _⟩ => ⟨S32, .i32⟩
  | .local _ .smem, ⟨1, _⟩ => ⟨S288, .i32⟩
  | .local _ .smem, ⟨2, _⟩ => ⟨S288, .i32⟩
  | .local _ .smem, ⟨3, _⟩ => ⟨S288, .i32⟩
  | .local _ .smem, ⟨4, _⟩ => ⟨S288, .i32⟩
  | _, _ => ⟨S32, .i32⟩

abbrev bufScoped : (cs : CoreSpace) → Fin (nBuf (.core cs)) → Bool
  | .smem, ⟨0, _⟩ => true
  | .smem, ⟨1, _⟩ => true
  | .smem, ⟨2, _⟩ => true
  | .smem, ⟨3, _⟩ => true
  | .smem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev main_v0_3 : Ref sig .tc := ⟨.hbm, 4, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_stg3_0 : Ref sig .tc := ⟨.smem, 3, rfl⟩
abbrev cc0_stg4_0 : Ref sig .tc := ⟨.smem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

@[reducible] def k0_t1_loop : Scf.Loop 32 :=
  let c0_i32_0 : BitVec 32 := 0#32
  let c32_i32 : BitVec 32 := 32#32
  let v0 : BitVec 32 := Scalar.addi c0_i32_0 c32_i32
  let c1_i32 : BitVec 32 := 1#32
  ⟨c0_i32_0, v0, c1_i32⟩
def k0_off1 (k0_t1 : Fin k0_t1_loop.trips) : Fin 1 → Nat :=
  let c0_i32_0 : BitVec 32 := 0#32
  let c1_i32 : BitVec 32 := 1#32
  let arg5 : BitVec 32 := Scf.iv c0_i32_0 c1_i32 k0_t1
  let v9 : Index := Scalar.indexCast arg5
  ![v9.toNat]
@[reducible] def k0_t2_loop (v10 : BitVec 32) : Scf.Loop 32 :=
  let c0_i32_14 : BitVec 32 := 0#32
  let c512_i32 : BitVec 32 := 512#32
  let v11 : BitVec 32 := Scalar.addi v10 c512_i32
  let c1_i32_6 : BitVec 32 := 1#32
  let v12 : BitVec 32 := Scalar.subi v11 c1_i32_6
  let c0_i32_8 : BitVec 32 := 0#32
  let v14 : BitVec 1 := Scalar.cmpi .sgt v12 c0_i32_8
  let v15 : BitVec 32 := Scalar.extui v14
  let c0_i32_9 : BitVec 32 := 0#32
  let v16 : BitVec 1 := Scalar.cmpi .slt v12 c0_i32_9
  let v17 : BitVec 32 := Scalar.extui v16
  let v18 : BitVec 32 := Scalar.subi v15 v17
  let c512_i32_7 : BitVec 32 := 512#32
  let c0_i32_10 : BitVec 32 := 0#32
  let v19 : BitVec 1 := Scalar.cmpi .sgt c512_i32_7 c0_i32_10
  let v20 : BitVec 32 := Scalar.extui v19
  let c0_i32_11 : BitVec 32 := 0#32
  let v21 : BitVec 1 := Scalar.cmpi .slt c512_i32_7 c0_i32_11
  let v22 : BitVec 32 := Scalar.extui v21
  let v23 : BitVec 32 := Scalar.subi v20 v22
  let v24 : BitVec 1 := Scalar.cmpi .ne v18 v23
  let v25 : BitVec 32 := Scalar.remsi v12 c512_i32_7
  let c0_i32_12 : BitVec 32 := 0#32
  let v26 : BitVec 1 := Scalar.cmpi .ne v25 c0_i32_12
  let v27 : BitVec 1 := Scalar.andi v24 v26
  let v13 : BitVec 32 := Scalar.divsi v12 c512_i32_7
  let c1_i32_13 : BitVec 32 := 1#32
  let v28 : BitVec 32 := Scalar.subi v13 c1_i32_13
  let v29 : BitVec 32 := Scalar.select v27 v28 v13
  let v30 : BitVec 32 := Scalar.subi v29 c0_i32_14
  let c1_i32_16 : BitVec 32 := 1#32
  let v32 : BitVec 32 := Scalar.divsi v30 c1_i32_16
  let v33 : BitVec 32 := Scalar.muli v32 c1_i32_16
  let v34 : BitVec 32 := Scalar.addi c0_i32_14 v33
  let c1_i32_17 : BitVec 32 := 1#32
  ⟨c0_i32_14, v34, c1_i32_17⟩

def k0_off2 (arg6 : BitVec 32) (v10 : BitVec 32) (k0_t2 : Fin (k0_t2_loop v10).trips) : Fin 1 → Nat :=
  let c0_i32_14 : BitVec 32 := 0#32
  let c1_i32_17 : BitVec 32 := 1#32
  let arg7 : BitVec 32 := Scf.iv c0_i32_14 c1_i32_17 k0_t2
  let v39 : BitVec 32 := Scalar.addi arg6 arg7
  let v40 : Index := Scalar.indexCast v39
  ![v40.toNat]
@[reducible] def k0_t3_loop (v10 : BitVec 32) : Scf.Loop 32 :=
  let c0_i32_14 : BitVec 32 := 0#32
  let c512_i32 : BitVec 32 := 512#32
  let v11 : BitVec 32 := Scalar.addi v10 c512_i32
  let c1_i32_6 : BitVec 32 := 1#32
  let v12 : BitVec 32 := Scalar.subi v11 c1_i32_6
  let c0_i32_8 : BitVec 32 := 0#32
  let v14 : BitVec 1 := Scalar.cmpi .sgt v12 c0_i32_8
  let v15 : BitVec 32 := Scalar.extui v14
  let c0_i32_9 : BitVec 32 := 0#32
  let v16 : BitVec 1 := Scalar.cmpi .slt v12 c0_i32_9
  let v17 : BitVec 32 := Scalar.extui v16
  let v18 : BitVec 32 := Scalar.subi v15 v17
  let c512_i32_7 : BitVec 32 := 512#32
  let c0_i32_10 : BitVec 32 := 0#32
  let v19 : BitVec 1 := Scalar.cmpi .sgt c512_i32_7 c0_i32_10
  let v20 : BitVec 32 := Scalar.extui v19
  let c0_i32_11 : BitVec 32 := 0#32
  let v21 : BitVec 1 := Scalar.cmpi .slt c512_i32_7 c0_i32_11
  let v22 : BitVec 32 := Scalar.extui v21
  let v23 : BitVec 32 := Scalar.subi v20 v22
  let v24 : BitVec 1 := Scalar.cmpi .ne v18 v23
  let v25 : BitVec 32 := Scalar.remsi v12 c512_i32_7
  let c0_i32_12 : BitVec 32 := 0#32
  let v26 : BitVec 1 := Scalar.cmpi .ne v25 c0_i32_12
  let v27 : BitVec 1 := Scalar.andi v24 v26
  let v13 : BitVec 32 := Scalar.divsi v12 c512_i32_7
  let c1_i32_13 : BitVec 32 := 1#32
  let v28 : BitVec 32 := Scalar.subi v13 c1_i32_13
  let v29 : BitVec 32 := Scalar.select v27 v28 v13
  let v30 : BitVec 32 := Scalar.subi v29 c0_i32_14
  let c1_i32_16 : BitVec 32 := 1#32
  let v32 : BitVec 32 := Scalar.divsi v30 c1_i32_16
  let v33 : BitVec 32 := Scalar.muli v32 c1_i32_16
  let v34 : BitVec 32 := Scalar.addi c0_i32_14 v33
  let v31 : BitVec 32 := Scalar.addi c0_i32_14 v30
  let c1_i32_18 : BitVec 32 := 1#32
  ⟨v34, v31, c1_i32_18⟩
def k0_off3 (arg6 : BitVec 32) (v10 : BitVec 32) (k0_t3 : Fin (k0_t3_loop v10).trips) : Fin 1 → Nat :=
  let c0_i32_14 : BitVec 32 := 0#32
  let c512_i32 : BitVec 32 := 512#32
  let v11 : BitVec 32 := Scalar.addi v10 c512_i32
  let c1_i32_6 : BitVec 32 := 1#32
  let v12 : BitVec 32 := Scalar.subi v11 c1_i32_6
  let c0_i32_8 : BitVec 32 := 0#32
  let v14 : BitVec 1 := Scalar.cmpi .sgt v12 c0_i32_8
  let v15 : BitVec 32 := Scalar.extui v14
  let c0_i32_9 : BitVec 32 := 0#32
  let v16 : BitVec 1 := Scalar.cmpi .slt v12 c0_i32_9
  let v17 : BitVec 32 := Scalar.extui v16
  let v18 : BitVec 32 := Scalar.subi v15 v17
  let c512_i32_7 : BitVec 32 := 512#32
  let c0_i32_10 : BitVec 32 := 0#32
  let v19 : BitVec 1 := Scalar.cmpi .sgt c512_i32_7 c0_i32_10
  let v20 : BitVec 32 := Scalar.extui v19
  let c0_i32_11 : BitVec 32 := 0#32
  let v21 : BitVec 1 := Scalar.cmpi .slt c512_i32_7 c0_i32_11
  let v22 : BitVec 32 := Scalar.extui v21
  let v23 : BitVec 32 := Scalar.subi v20 v22
  let v24 : BitVec 1 := Scalar.cmpi .ne v18 v23
  let v25 : BitVec 32 := Scalar.remsi v12 c512_i32_7
  let c0_i32_12 : BitVec 32 := 0#32
  let v26 : BitVec 1 := Scalar.cmpi .ne v25 c0_i32_12
  let v27 : BitVec 1 := Scalar.andi v24 v26
  let v13 : BitVec 32 := Scalar.divsi v12 c512_i32_7
  let c1_i32_13 : BitVec 32 := 1#32
  let v28 : BitVec 32 := Scalar.subi v13 c1_i32_13
  let v29 : BitVec 32 := Scalar.select v27 v28 v13
  let v30 : BitVec 32 := Scalar.subi v29 c0_i32_14
  let c1_i32_16 : BitVec 32 := 1#32
  let v32 : BitVec 32 := Scalar.divsi v30 c1_i32_16
  let v33 : BitVec 32 := Scalar.muli v32 c1_i32_16
  let v34 : BitVec 32 := Scalar.addi c0_i32_14 v33
  let c1_i32_18 : BitVec 32 := 1#32
  let arg7 : BitVec 32 := Scf.iv v34 c1_i32_18 k0_t3
  let v39 : BitVec 32 := Scalar.addi arg6 arg7
  let v40 : Index := Scalar.indexCast v39
  ![v40.toNat]

def k0_chk1 (arg6 : BitVec 32) (v10 : BitVec 32) : Prop :=
  ((k0_t2_loop v10).OK) ∧
  (∀ k0_t2 : Fin (k0_t2_loop v10).trips, ∀ a, (k0_off2 arg6 v10 k0_t2) a + S1.size a ≤ S288.size a) ∧
  ((k0_t3_loop v10).OK) ∧
  (∀ k0_t3 : Fin (k0_t3_loop v10).trips, ∀ a, (k0_off3 arg6 v10 k0_t3) a + S1.size a ≤ S288.size a)
theorem k0_t2_ok : ∀ (arg6 : BitVec 32) (v10 : BitVec 32) (k0_hw1 : k0_chk1 arg6 v10), (k0_t2_loop v10).OK := fun arg6 v10 k0_hw1 => k0_hw1.1
theorem k0_off2_inb : ∀ (arg6 : BitVec 32) (v10 : BitVec 32) (k0_hw1 : k0_chk1 arg6 v10) (k0_t2 : Fin (k0_t2_loop v10).trips), ∀ a, (k0_off2 arg6 v10 k0_t2) a + S1.size a ≤ S288.size a := fun arg6 v10 k0_hw1 k0_t2 => k0_hw1.2.1 k0_t2
theorem k0_t3_ok : ∀ (arg6 : BitVec 32) (v10 : BitVec 32) (k0_hw1 : k0_chk1 arg6 v10), (k0_t3_loop v10).OK := fun arg6 v10 k0_hw1 => k0_hw1.2.2.1
theorem k0_off3_inb : ∀ (arg6 : BitVec 32) (v10 : BitVec 32) (k0_hw1 : k0_chk1 arg6 v10) (k0_t3 : Fin (k0_t3_loop v10).trips), ∀ a, (k0_off3 arg6 v10 k0_t3) a + S1.size a ≤ S288.size a := fun arg6 v10 k0_hw1 k0_t3 => k0_hw1.2.2.2 k0_t3

@[reducible] def k0_t4_loop (v1 : BitVec 32) : Scf.Loop 32 :=
  let c288_i32 : BitVec 32 := 288#32
  let v2 : BitVec 32 := Scalar.subi c288_i32 v1
  let c1_i32_3 : BitVec 32 := 1#32
  let v4 : BitVec 32 := Scalar.divsi v2 c1_i32_3
  let v5 : BitVec 32 := Scalar.muli v4 c1_i32_3
  let v6 : BitVec 32 := Scalar.addi v1 v5
  let c1_i32_4 : BitVec 32 := 1#32
  ⟨v1, v6, c1_i32_4⟩

def k0_off4 (v1 : BitVec 32) (k0_t4 : Fin (k0_t4_loop v1).trips) : Fin 1 → Nat :=
  let c1_i32_4 : BitVec 32 := 1#32
  let arg5 : BitVec 32 := Scf.iv v1 c1_i32_4 k0_t4
  let v10 : Index := Scalar.indexCast arg5
  ![v10.toNat]
def k0_off5 (v1 : BitVec 32) : Fin 1 → Nat :=
  let c1_i32_7 : BitVec 32 := 1#32
  let v12 : BitVec 32 := Scalar.subi v1 c1_i32_7
  let v13 : Index := Scalar.indexCast v12
  ![v13.toNat]
@[reducible] def k0_t5_loop (v1 : BitVec 32) : Scf.Loop 32 :=
  let c288_i32 : BitVec 32 := 288#32
  let v2 : BitVec 32 := Scalar.subi c288_i32 v1
  let c1_i32_3 : BitVec 32 := 1#32
  let v4 : BitVec 32 := Scalar.divsi v2 c1_i32_3
  let v5 : BitVec 32 := Scalar.muli v4 c1_i32_3
  let v6 : BitVec 32 := Scalar.addi v1 v5
  let v3 : BitVec 32 := Scalar.addi v1 v2
  let c1_i32_5 : BitVec 32 := 1#32
  ⟨v6, v3, c1_i32_5⟩
def k0_off6 (v1 : BitVec 32) (k0_t5 : Fin (k0_t5_loop v1).trips) : Fin 1 → Nat :=
  let c288_i32 : BitVec 32 := 288#32
  let v2 : BitVec 32 := Scalar.subi c288_i32 v1
  let c1_i32_3 : BitVec 32 := 1#32
  let v4 : BitVec 32 := Scalar.divsi v2 c1_i32_3
  let v5 : BitVec 32 := Scalar.muli v4 c1_i32_3
  let v6 : BitVec 32 := Scalar.addi v1 v5
  let c1_i32_5 : BitVec 32 := 1#32
  let arg5 : BitVec 32 := Scf.iv v6 c1_i32_5 k0_t5
  let v10 : Index := Scalar.indexCast arg5
  ![v10.toNat]
def k0_off7 (v1 : BitVec 32) : Fin 1 → Nat :=
  let c1_i32_7 : BitVec 32 := 1#32
  let v12 : BitVec 32 := Scalar.subi v1 c1_i32_7
  let v13 : Index := Scalar.indexCast v12
  ![v13.toNat]

def k0_chk2 (v1 : BitVec 32) : Prop :=
  ((k0_t4_loop v1).OK) ∧
  (∀ k0_t4 : Fin (k0_t4_loop v1).trips, ∀ a, (k0_off4 v1 k0_t4) a + S1.size a ≤ S288.size a) ∧
  (∀ k0_t4 : Fin (k0_t4_loop v1).trips, ∀ a, (k0_off5 v1) a + S1.size a ≤ S288.size a) ∧
  ((k0_t5_loop v1).OK) ∧
  (∀ k0_t5 : Fin (k0_t5_loop v1).trips, ∀ a, (k0_off6 v1 k0_t5) a + S1.size a ≤ S288.size a) ∧
  (∀ k0_t5 : Fin (k0_t5_loop v1).trips, ∀ a, (k0_off7 v1) a + S1.size a ≤ S288.size a)
theorem k0_t4_ok : ∀ (v1 : BitVec 32) (k0_hw2 : k0_chk2 v1), (k0_t4_loop v1).OK := fun v1 k0_hw2 => k0_hw2.1
theorem k0_off4_inb : ∀ (v1 : BitVec 32) (k0_hw2 : k0_chk2 v1) (k0_t4 : Fin (k0_t4_loop v1).trips), ∀ a, (k0_off4 v1 k0_t4) a + S1.size a ≤ S288.size a := fun v1 k0_hw2 k0_t4 => k0_hw2.2.1 k0_t4
theorem k0_off5_inb : ∀ (v1 : BitVec 32) (k0_hw2 : k0_chk2 v1) (k0_t4 : Fin (k0_t4_loop v1).trips), ∀ a, (k0_off5 v1) a + S1.size a ≤ S288.size a := fun v1 k0_hw2 k0_t4 => k0_hw2.2.2.1 k0_t4
theorem k0_t5_ok : ∀ (v1 : BitVec 32) (k0_hw2 : k0_chk2 v1), (k0_t5_loop v1).OK := fun v1 k0_hw2 => k0_hw2.2.2.2.1
theorem k0_off6_inb : ∀ (v1 : BitVec 32) (k0_hw2 : k0_chk2 v1) (k0_t5 : Fin (k0_t5_loop v1).trips), ∀ a, (k0_off6 v1 k0_t5) a + S1.size a ≤ S288.size a := fun v1 k0_hw2 k0_t5 => k0_hw2.2.2.2.2.1 k0_t5
theorem k0_off7_inb : ∀ (v1 : BitVec 32) (k0_hw2 : k0_chk2 v1) (k0_t5 : Fin (k0_t5_loop v1).trips), ∀ a, (k0_off7 v1) a + S1.size a ≤ S288.size a := fun v1 k0_hw2 k0_t5 => k0_hw2.2.2.2.2.2 k0_t5

abbrev stage0_0 : Fin 1 → Memref sig .tc .smem S32 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S288 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S288 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S288 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .smem S288 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Reference2.lean ====
abbrev S32 : Shape := ⟨1, ![32]⟩
abbrev S_ : Shape := ⟨0, ![]⟩
abbrev S1 : Shape := ⟨1, ![1]⟩
abbrev S288 : Shape := ⟨1, ![288]⟩
abbrev S1x32 : Shape := ⟨2, ![1, 32]⟩
abbrev S288x1 : Shape := ⟨2, ![288, 1]⟩
abbrev S288x32 : Shape := ⟨2, ![288, 32]⟩

abbrev nBuf : Space → Nat
  | .hbm => 90
  | .vmem => 0
  | .smem => 0
  | _ => 0

abbrev bufTy : (tb : Table) → Fin (tcTables nBuf tb) → BufTy
  | .hbm, ⟨0, _⟩ => ⟨S32, .i32⟩
  | .hbm, ⟨1, _⟩ => ⟨S_, .i32⟩
  | .hbm, ⟨2, _⟩ => ⟨S32, .i32⟩
  | .hbm, ⟨3, _⟩ => ⟨S32, .i32⟩
  | .hbm, ⟨4, _⟩ => ⟨S_, .i32⟩
  | .hbm, ⟨5, _⟩ => ⟨S32, .i32⟩
  | .hbm, ⟨6, _⟩ => ⟨S32, .i32⟩
  | .hbm, ⟨7, _⟩ => ⟨S_, .i32⟩
  | .hbm, ⟨8, _⟩ => ⟨S_, .i32⟩
  | .hbm, ⟨9, _⟩ => ⟨S32, .i32⟩
  | .hbm, ⟨10, _⟩ => ⟨S32, .i32⟩
  | .hbm, ⟨11, _⟩ => ⟨S32, .i32⟩
  | .hbm, ⟨12, _⟩ => ⟨S_, .i32⟩
  | .hbm, ⟨13, _⟩ => ⟨S32, .i32⟩
  | .hbm, ⟨14, _⟩ => ⟨S32, .i1⟩
  | .hbm, ⟨15, _⟩ => ⟨S32, .i32⟩
  | .hbm, ⟨16, _⟩ => ⟨S32, .i32⟩
  | .hbm, ⟨17, _⟩ => ⟨S_, .i32⟩
  | .hbm, ⟨18, _⟩ => ⟨S32, .i32⟩
  | .hbm, ⟨19, _⟩ => ⟨S32, .i1⟩
  | .hbm, ⟨20, _⟩ => ⟨S32, .i1⟩
  | .hbm, ⟨21, _⟩ => ⟨S_, .i32⟩
  | .hbm, ⟨22, _⟩ => ⟨S32, .i32⟩
  | .hbm, ⟨23, _⟩ => ⟨S32, .i32⟩
  | .hbm, ⟨24, _⟩ => ⟨S32, .i32⟩
  | .hbm, ⟨25, _⟩ => ⟨S_, .i32⟩
  | .hbm, ⟨26, _⟩ => ⟨S_, .i32⟩
  | .hbm, ⟨27, _⟩ => ⟨S32, .i32⟩
  | .hbm, ⟨28, _⟩ => ⟨S32, .i32⟩
  | .hbm, ⟨29, _⟩ => ⟨S1, .i32⟩
  | .hbm, ⟨30, _⟩ => ⟨S_, .i32⟩
  | .hbm, ⟨31, _⟩ => ⟨S288, .i32⟩
  | .hbm, ⟨32, _⟩ => ⟨S_, .i32⟩
  | .hbm, ⟨33, _⟩ => ⟨S_, .i32⟩
  | .hbm, ⟨34, _⟩ => ⟨S288, .i32⟩
  | .hbm, ⟨35, _⟩ => ⟨S288, .i32⟩
  | .hbm, ⟨36, _⟩ => ⟨S1x32, .i32⟩
  | .hbm, ⟨37, _⟩ => ⟨S288x1, .i32⟩
  | .hbm, ⟨38, _⟩ => ⟨S288x32, .i32⟩
  | .hbm, ⟨39, _⟩ => ⟨S288x32, .i32⟩
  | .hbm, ⟨40, _⟩ => ⟨S288x32, .i1⟩
  | .hbm, ⟨41, _⟩ => ⟨S288x32, .i32⟩
  | .hbm, ⟨42, _⟩ => ⟨S_, .i32⟩
  | .hbm, ⟨43, _⟩ => ⟨S288, .i32⟩
  | .hbm, ⟨44, _⟩ => ⟨S288, .i32⟩
  | .hbm, ⟨45, _⟩ => ⟨S288, .i1⟩
  | .hbm, ⟨46, _⟩ => ⟨S_, .i32⟩
  | .hbm, ⟨47, _⟩ => ⟨S288, .i32⟩
  | .hbm, ⟨48, _⟩ => ⟨S288, .i1⟩
  | .hbm, ⟨49, _⟩ => ⟨S_, .i32⟩
  | .hbm, ⟨50, _⟩ => ⟨S288, .i32⟩
  | .hbm, ⟨51, _⟩ => ⟨S288, .i32⟩
  | .hbm, ⟨52, _⟩ => ⟨S288, .i32⟩
  | .hbm, ⟨53, _⟩ => ⟨S288x1, .i32⟩
  | .hbm, ⟨54, _⟩ => ⟨S288, .i32⟩
  | .hbm, ⟨55, _⟩ => ⟨S_, .i32⟩
  | .hbm, ⟨56, _⟩ => ⟨S288, .i32⟩
  | .hbm, ⟨57, _⟩ => ⟨S288, .i1⟩
  | .hbm, ⟨58, _⟩ => ⟨S_, .i32⟩
  | .hbm, ⟨59, _⟩ => ⟨S288, .i32⟩
  | .hbm, ⟨60, _⟩ => ⟨S288, .i32⟩
  | .hbm, ⟨61, _⟩ => ⟨S288, .i32⟩
  | .hbm, ⟨62, _⟩ => ⟨S288x1, .i32⟩
  | .hbm, ⟨63, _⟩ => ⟨S288, .i32⟩
  | .hbm, ⟨64, _⟩ => ⟨S288, .i32⟩
  | .hbm, ⟨65, _⟩ => ⟨S_, .i32⟩
  | .hbm, ⟨66, _⟩ => ⟨S288, .i32⟩
  | .hbm, ⟨67, _⟩ => ⟨S288, .i32⟩
  | .hbm, ⟨68, _⟩ => ⟨S288, .i32⟩
  | .hbm, ⟨69, _⟩ => ⟨S_, .i32⟩
  | .hbm, ⟨70, _⟩ => ⟨S288, .i32⟩
  | .hbm, ⟨71, _⟩ => ⟨S288, .i32⟩
  | .hbm, ⟨72, _⟩ => ⟨S_, .i32⟩
  | .hbm, ⟨73, _⟩ => ⟨S_, .i32⟩
  | .hbm, ⟨74, _⟩ => ⟨S288, .i32⟩
  | .hbm, ⟨75, _⟩ => ⟨S288, .i32⟩
  | .hbm, ⟨76, _⟩ => ⟨S288, .i32⟩
  | .hbm, ⟨77, _⟩ => ⟨S288, .i1⟩
  | .hbm, ⟨78, _⟩ => ⟨S_, .i32⟩
  | .hbm, ⟨79, _⟩ => ⟨S288, .i32⟩
  | .hbm, ⟨80, _⟩ => ⟨S288, .i1⟩
  | .hbm, ⟨81, _⟩ => ⟨S_, .i32⟩
  | .hbm, ⟨82, _⟩ => ⟨S288, .i32⟩
  | .hbm, ⟨83, _⟩ => ⟨S288, .i32⟩
  | .hbm, ⟨84, _⟩ => ⟨S288, .i32⟩
  | .hbm, ⟨85, _⟩ => ⟨S288x1, .i32⟩
  | .hbm, ⟨86, _⟩ => ⟨S288, .i32⟩
  | .hbm, ⟨87, _⟩ => ⟨S288, .i1⟩
  | .hbm, ⟨88, _⟩ => ⟨S288, .i1⟩
  | .hbm, ⟨89, _⟩ => ⟨S288, .i32⟩
  | _, _ => ⟨S32, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_v0 : Ref sig .tc := ⟨.hbm, 2, rfl⟩
abbrev main_v1 : Ref sig .tc := ⟨.hbm, 3, rfl⟩
abbrev main_c_0 : Ref sig .tc := ⟨.hbm, 4, rfl⟩
abbrev main_v2 : Ref sig .tc := ⟨.hbm, 5, rfl⟩
abbrev main_v3 : Ref sig .tc := ⟨.hbm, 6, rfl⟩
abbrev main_c_1 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_c : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_0 : Ref sig .tc := ⟨.hbm, 21, rfl⟩
abbrev main_call0_v12 : Ref sig .tc := ⟨.hbm, 22, rfl⟩
abbrev main_call0_v13 : Ref sig .tc := ⟨.hbm, 23, rfl⟩
abbrev main_v4 : Ref sig .tc := ⟨.hbm, 24, rfl⟩
abbrev main_call1_call0_c : Ref sig .tc := ⟨.hbm, 25, rfl⟩
abbrev main_call1_call0_v0 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_c_2 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_c_3 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_c_4 : Ref sig .tc := ⟨.hbm, 46, rfl⟩
abbrev main_v22 : Ref sig .tc := ⟨.hbm, 47, rfl⟩
abbrev main_v23 : Ref sig .tc := ⟨.hbm, 48, rfl⟩
abbrev main_c_5 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_c_6 : Ref sig .tc := ⟨.hbm, 55, rfl⟩
abbrev main_v29 : Ref sig .tc := ⟨.hbm, 56, rfl⟩
abbrev main_v30 : Ref sig .tc := ⟨.hbm, 57, rfl⟩
abbrev main_c_7 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_c_8 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_c_9 : Ref sig .tc := ⟨.hbm, 69, rfl⟩
abbrev main_v40 : Ref sig .tc := ⟨.hbm, 70, rfl⟩
abbrev main_v41 : Ref sig .tc := ⟨.hbm, 71, rfl⟩
abbrev main_c_10 : Ref sig .tc := ⟨.hbm, 72, rfl⟩
abbrev main_call2_v0 : Ref sig .tc := ⟨.hbm, 73, rfl⟩
abbrev main_call2_v1 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_c_11 : Ref sig .tc := ⟨.hbm, 78, rfl⟩
abbrev main_v45 : Ref sig .tc := ⟨.hbm, 79, rfl⟩
abbrev main_v46 : Ref sig .tc := ⟨.hbm, 80, rfl⟩
abbrev main_c_12 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩

abbrev nD : Nat := 1
abbrev τ : Topo := Topo.v7x

variable {F : FTy → Type} [FloatOps F]
-- ==== Kernel3.lean ====
abbrev S4x32768 : Shape := ⟨2, ![4, 32768]⟩
abbrev S32x128 : Shape := ⟨2, ![32, 128]⟩
abbrev S1024x1024 : Shape := ⟨2, ![1024, 1024]⟩
abbrev S4x1024 : Shape := ⟨2, ![4, 1024]⟩
abbrev S1x128 : Shape := ⟨2, ![1, 128]⟩
abbrev S32x1024 : Shape := ⟨2, ![32, 1024]⟩
abbrev S1x1024 : Shape := ⟨2, ![1, 1024]⟩
abbrev S32x1 : Shape := ⟨2, ![32, 1]⟩
abbrev S1024 : Shape := ⟨1, ![1024]⟩
abbrev S32 : Shape := ⟨1, ![32]⟩

abbrev nBuf : Space → Nat
  | .hbm => 8
  | .vmem => 7
  | .smem => 0
  | _ => 0

abbrev bufTy : (tb : Table) → Fin (tcTables nBuf tb) → BufTy
  | .hbm, ⟨0, _⟩ => ⟨S4x32768, .i32⟩
  | .hbm, ⟨1, _⟩ => ⟨S32x128, .i32⟩
  | .hbm, ⟨2, _⟩ => ⟨S1024x1024, .i32⟩
  | .hbm, ⟨3, _⟩ => ⟨S1024x1024, .i32⟩
  | .hbm, ⟨4, _⟩ => ⟨S1024x1024, .i1⟩
  | .hbm, ⟨5, _⟩ => ⟨S1024x1024, .f32⟩
  | .hbm, ⟨6, _⟩ => ⟨S1024x1024, .bf16⟩
  | .hbm, ⟨7, _⟩ => ⟨S4x32768, .i32⟩
  | .local _ .vmem, ⟨0, _⟩ => ⟨S4x1024, .i32⟩
  | .local _ .vmem, ⟨1, _⟩ => ⟨S4x1024, .i32⟩
  | .local _ .vmem, ⟨2, _⟩ => ⟨S1024x1024, .bf16⟩
  | .local _ .vmem, ⟨3, _⟩ => ⟨S32x128, .i32⟩
  | .local _ .vmem, ⟨4, _⟩ => ⟨S4x1024, .i32⟩
  | .local _ .vmem, ⟨5, _⟩ => ⟨S4x1024, .i32⟩
  | .local _ .vmem, ⟨6, _⟩ => ⟨S32x128, .f32⟩
  | _, _ => ⟨S4x32768, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x128 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference3Ideal.lean ====
abbrev S4x32768 : Shape := ⟨2, ![4, 32768]⟩
abbrev S32x128 : Shape := ⟨2, ![32, 128]⟩
abbrev S32x1 : Shape := ⟨2, ![32, 1]⟩
abbrev S32 : Shape := ⟨1, ![32]⟩
abbrev S_ : Shape := ⟨0, ![]⟩
abbrev S4x32768x1 : Shape := ⟨3, ![4, 32768, 1]⟩
abbrev S1x1x32 : Shape := ⟨3, ![1, 1, 32]⟩
abbrev S4x32768x32 : Shape := ⟨3, ![4, 32768, 32]⟩
abbrev S32768x32 : Shape := ⟨2, ![32768, 32]⟩
abbrev S1x32 : Shape := ⟨2, ![1, 32]⟩
abbrev S32x32768 : Shape := ⟨2, ![32, 32768]⟩

abbrev nBuf : Space → Nat
  | .hbm => 61
  | .vmem => 0
  | .smem => 0
  | _ => 0

abbrev bufTy : (tb : Table) → Fin (tcTables nBuf tb) → BufTy
  | .hbm, ⟨0, _⟩ => ⟨S4x32768, .i32⟩
  | .hbm, ⟨1, _⟩ => ⟨S32x128, .i32⟩
  | .hbm, ⟨2, _⟩ => ⟨S32x1, .i32⟩
  | .hbm, ⟨3, _⟩ => ⟨S32, .i32⟩
  | .hbm, ⟨4, _⟩ => ⟨S_, .i32⟩
  | .hbm, ⟨5, _⟩ => ⟨S32, .i32⟩
  | .hbm, ⟨6, _⟩ => ⟨S32, .i32⟩
  | .hbm, ⟨7, _⟩ => ⟨S_, .i32⟩
  | .hbm, ⟨8, _⟩ => ⟨S32, .i32⟩
  | .hbm, ⟨9, _⟩ => ⟨S32, .i32⟩
  | .hbm, ⟨10, _⟩ => ⟨S_, .i32⟩
  | .hbm, ⟨11, _⟩ => ⟨S_, .i32⟩
  | .hbm, ⟨12, _⟩ => ⟨S32, .i32⟩
  | .hbm, ⟨13, _⟩ => ⟨S32, .i32⟩
  | .hbm, ⟨14, _⟩ => ⟨S32, .i32⟩
  | .hbm, ⟨15, _⟩ => ⟨S_, .i32⟩
  | .hbm, ⟨16, _⟩ => ⟨S32, .i32⟩
  | .hbm, ⟨17, _⟩ => ⟨S32, .i1⟩
  | .hbm, ⟨18, _⟩ => ⟨S32, .i32⟩
  | .hbm, ⟨19, _⟩ => ⟨S32, .i32⟩
  | .hbm, ⟨20, _⟩ => ⟨S_, .i32⟩
  | .hbm, ⟨21, _⟩ => ⟨S32, .i32⟩
  | .hbm, ⟨22, _⟩ => ⟨S32, .i1⟩
  | .hbm, ⟨23, _⟩ => ⟨S32, .i1⟩
  | .hbm, ⟨24, _⟩ => ⟨S_, .i32⟩
  | .hbm, ⟨25, _⟩ => ⟨S32, .i32⟩
  | .hbm, ⟨26, _⟩ => ⟨S32, .i32⟩
  | .hbm, ⟨27, _⟩ => ⟨S32, .i32⟩
  | .hbm, ⟨28, _⟩ => ⟨S_, .i32⟩
  | .hbm, ⟨29, _⟩ => ⟨S32, .i32⟩
  | .hbm, ⟨30, _⟩ => ⟨S32, .i32⟩
  | .hbm, ⟨31, _⟩ => ⟨S_, .i32⟩
  | .hbm, ⟨32, _⟩ => ⟨S_, .i32⟩
  | .hbm, ⟨33, _⟩ => ⟨S32, .i32⟩
  | .hbm, ⟨34, _⟩ => ⟨S32, .i32⟩
  | .hbm, ⟨35, _⟩ => ⟨S4x32768x1, .i32⟩
  | .hbm, ⟨36, _⟩ => ⟨S32, .i32⟩
  | .hbm, ⟨37, _⟩ => ⟨S1x1x32, .i32⟩
  | .hbm, ⟨38, _⟩ => ⟨S4x32768x32, .i32⟩
  | .hbm, ⟨39, _⟩ => ⟨S4x32768x32, .i32⟩
  | .hbm, ⟨40, _⟩ => ⟨S4x32768x32, .i1⟩
  | .hbm, ⟨41, _⟩ => ⟨S4x32768x32, .i32⟩
  | .hbm, ⟨42, _⟩ => ⟨S_, .i32⟩
  | .hbm, ⟨43, _⟩ => ⟨S32768x32, .i32⟩
  | .hbm, ⟨44, _⟩ => ⟨S_, .i32⟩
  | .hbm, ⟨45, _⟩ => ⟨S_, .i32⟩
  | .hbm, ⟨46, _⟩ => ⟨S32768x32, .i32⟩
  | .hbm, ⟨47, _⟩ => ⟨S32768x32, .i32⟩
  | .hbm, ⟨48, _⟩ => ⟨S1x32, .i32⟩
  | .hbm, ⟨49, _⟩ => ⟨S32768x32, .i32⟩
  | .hbm, ⟨50, _⟩ => ⟨S32768x32, .i32⟩
  | .hbm, ⟨51, _⟩ => ⟨S32x32768, .i32⟩
  | .hbm, ⟨52, _⟩ => ⟨S_, .i32⟩
  | .hbm, ⟨53, _⟩ => ⟨S4x32768, .i32⟩
  | .hbm, ⟨54, _⟩ => ⟨S4x32768, .i1⟩
  | .hbm, ⟨55, _⟩ => ⟨S_, .i32⟩
  | .hbm, ⟨56, _⟩ => ⟨S4x32768, .i32⟩
  | .hbm, ⟨57, _⟩ => ⟨S4x32768, .i32⟩
  | .hbm, ⟨58, _⟩ => ⟨S4x32768, .i32⟩
  | .hbm, ⟨59, _⟩ => ⟨S4x32768x1, .i32⟩
  | .hbm, ⟨60, _⟩ => ⟨S4x32768, .i32⟩
  | _, _ => ⟨S4x32768, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_c_0 : Ref sig .tc := ⟨.hbm, 7, rfl⟩
abbrev main_v4 : Ref sig .tc := ⟨.hbm, 8, rfl⟩
abbrev main_v5 : Ref sig .tc := ⟨.hbm, 9, rfl⟩
abbrev main_c_1 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v6 : Ref sig .tc := ⟨.hbm, 27, rfl⟩
abbrev main_c_2 : Ref sig .tc := ⟨.hbm, 28, rfl⟩
abbrev main_v7 : Ref sig .tc := ⟨.hbm, 29, rfl⟩
abbrev main_v8 : Ref sig .tc := ⟨.hbm, 30, rfl⟩
abbrev main_call1_call0_c : Ref sig .tc := ⟨.hbm, 31, rfl⟩
abbrev main_call1_call0_v0 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_c_3 : Ref sig .tc := ⟨.hbm, 42, rfl⟩
abbrev main_v18 : Ref sig .tc := ⟨.hbm, 43, rfl⟩
abbrev main_call2_call0_c : Ref sig .tc := ⟨.hbm, 44, rfl⟩
abbrev main_call2_call0_v0 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_call3_c : Ref sig .tc := ⟨.hbm, 52, rfl⟩
abbrev main_call3_v0 : Ref sig .tc := ⟨.hbm, 53, rfl⟩
abbrev main_call3_v1 : Ref sig .tc := ⟨.hbm, 54, rfl⟩
abbrev main_call3_c_0 : Ref sig .tc := ⟨.hbm, 55, rfl⟩
abbrev main_call3_v2 : Ref sig .tc := ⟨.hbm, 56, rfl⟩
abbrev main_call3_v3 : Ref sig .tc := ⟨.hbm, 57, rfl⟩
abbrev main_call3_v4 : Ref sig .tc := ⟨.hbm, 58, rfl⟩
abbrev main_call3_v5 : Ref sig .tc := ⟨.hbm, 59, rfl⟩
abbrev main_v25 : Ref sig .tc := ⟨.hbm, 60, rfl⟩

abbrev nD : Nat := 1
abbrev τ : Topo := Topo.v7x

variable {F : FTy → Type} [FloatOps F]
-- ==== Kernel4.lean ====
abbrev S147456x1024 : Shape := ⟨2, ![147456, 1024]⟩
abbrev S32 : Shape := ⟨1, ![32]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S288 : Shape := ⟨1, ![288]⟩
abbrev S1 : Shape := ⟨1, ![1]⟩
abbrev S32x1x2048 : Shape := ⟨3, ![32, 1, 2048]⟩
abbrev S32x1x1024 : Shape := ⟨3, ![32, 1, 1024]⟩
abbrev S512x1024 : Shape := ⟨2, ![512, 1024]⟩
abbrev S1x1024x2048 : Shape := ⟨3, ![1, 1024, 2048]⟩
abbrev S1x1x2048 : Shape := ⟨3, ![1, 1, 2048]⟩
abbrev S1x1024x1024 : Shape := ⟨3, ![1, 1024, 1024]⟩
abbrev S1x1x1024 : Shape := ⟨3, ![1, 1, 1024]⟩
abbrev S1024x2048 : Shape := ⟨2, ![1024, 2048]⟩
abbrev S1024x1024 : Shape := ⟨2, ![1024, 1024]⟩
abbrev S512x2048 : Shape := ⟨2, ![512, 2048]⟩
abbrev S1x2048 : Shape := ⟨2, ![1, 2048]⟩
abbrev S1x1024 : Shape := ⟨2, ![1, 1024]⟩

abbrev nBuf : Space → Nat
  | .hbm => 13
  | .vmem => 14
  | .smem => 9
  | _ => 0

abbrev bufTy : (tb : Table) → Fin (tcTables nBuf tb) → BufTy
  | .hbm, ⟨0, _⟩ => ⟨S147456x1024, .bf16⟩
  | .hbm, ⟨1, _⟩ => ⟨S32, .i32⟩
  | .hbm, ⟨2, _⟩ => ⟨S32x1024x2048, .f32⟩
  | .hbm, ⟨3, _⟩ => ⟨S32x2048, .f32⟩
  | .hbm, ⟨4, _⟩ => ⟨S32x1024x1024, .f32⟩
  | .hbm, ⟨5, _⟩ => ⟨S32x1024, .f32⟩
  | .hbm, ⟨6, _⟩ => ⟨S288, .i32⟩
  | .hbm, ⟨7, _⟩ => ⟨S288, .i32⟩
  | .hbm, ⟨8, _⟩ => ⟨S288, .i32⟩
  | .hbm, ⟨9, _⟩ => ⟨S288, .i32⟩
  | .hbm, ⟨10, _⟩ => ⟨S32x1x2048, .f32⟩
  | .hbm, ⟨11, _⟩ => ⟨S32x1x1024, .f32⟩
  | .hbm, ⟨12, _⟩ => ⟨S147456x1024, .bf16⟩
  | .local _ .vmem, ⟨0, _⟩ => ⟨S512x1024, .bf16⟩
  | .local _ .vmem, ⟨1, _⟩ => ⟨S512x1024, .bf16⟩
  | .local _ .vmem, ⟨2, _⟩ => ⟨S1x1024x2048, .f32⟩
  | .local _ .vmem, ⟨3, _⟩ => ⟨S1x1024x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1024x1024, .f32⟩
  | .local _ .vmem, ⟨7, _⟩ => ⟨S1x1024x1024, .f32⟩
  | .local _ .vmem, ⟨8, _⟩ => ⟨S1x1x1024, .f32⟩
  | .local _ .vmem, ⟨9, _⟩ => ⟨S1x1x1024, .f32⟩
  | .local _ .vmem, ⟨10, _⟩ => ⟨S512x1024, .bf16⟩
  | .local _ .vmem, ⟨11, _⟩ => ⟨S512x1024, .bf16⟩
  | .local _ .vmem, ⟨12, _⟩ => ⟨S1024x2048, .bf16⟩
  | .local _ .vmem, ⟨13, _⟩ => ⟨S1024x1024, .bf16⟩
  | .local _ .smem, ⟨0, _⟩ => ⟨S32, .i32⟩
  | .local _ .smem, ⟨1, _⟩ => ⟨S288, .i32⟩
  | .local _ .smem, ⟨2, _⟩ => ⟨S288, .i32⟩
  | .local _ .smem, ⟨3, _⟩ => ⟨S288, .i32⟩
  | .local _ .smem, ⟨4, _⟩ => ⟨S288, .i32⟩
  | .local _ .smem, ⟨5, _⟩ => ⟨S288, .i32⟩
  | .local _ .smem, ⟨6, _⟩ => ⟨S288, .i32⟩
  | .local _ .smem, ⟨7, _⟩ => ⟨S288, .i32⟩
  | .local _ .smem, ⟨8, _⟩ => ⟨S288, .i32⟩
  | _, _ => ⟨S147456x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | .smem, ⟨1, _⟩ => true
  | .smem, ⟨2, _⟩ => true
  | .smem, ⟨3, _⟩ => true
  | .smem, ⟨4, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v1 : Ref sig .tc := ⟨.smem, 5, rfl⟩
abbrev main_v2 : Ref sig .tc := ⟨.smem, 6, rfl⟩
abbrev main_v3 : Ref sig .tc := ⟨.smem, 7, rfl⟩
abbrev main_v4 : Ref sig .tc := ⟨.smem, 8, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg3_1 : Ref sig .tc := ⟨.vmem, 7, rfl⟩
abbrev cc1_stg4_0 : Ref sig .tc := ⟨.vmem, 8, rfl⟩
abbrev cc1_stg4_1 : Ref sig .tc := ⟨.vmem, 9, rfl⟩
abbrev cc1_stg5_0 : Ref sig .tc := ⟨.vmem, 10, rfl⟩
abbrev cc1_stg5_1 : Ref sig .tc := ⟨.vmem, 11, rfl⟩
abbrev cc1_scratch0 : Ref sig .tc := ⟨.vmem, 12, rfl⟩
abbrev cc1_scratch1 : Ref sig .tc := ⟨.vmem, 13, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_stg3_0 : Ref sig .tc := ⟨.smem, 3, rfl⟩
abbrev cc0_stg4_0 : Ref sig .tc := ⟨.smem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14
abbrev cc1_sem5_0 : DmaSem sig := 15
abbrev cc1_sem5_1 : DmaSem sig := 16

abbrev nD : Nat := 1
abbrev τ : Topo := Topo.v7x

variable {F : FTy → Type} [FloatOps F]

abbrev grid0 : Pipeline.Grid := .none

@[reducible] def k0_t1_loop : Scf.Loop 32 :=
  let c0_i32_0 : BitVec 32 := 0#32
  let c32_i32 : BitVec 32 := 32#32
  let v0 : BitVec 32 := Scalar.addi c0_i32_0 c32_i32
  let c1_i32 : BitVec 32 := 1#32
  ⟨c0_i32_0, v0, c1_i32⟩
def k0_off1 (k0_t1 : Fin k0_t1_loop.trips) : Fin 1 → Nat :=
  let c0_i32_0 : BitVec 32 := 0#32
  let c1_i32 : BitVec 32 := 1#32
  let arg5 : BitVec 32 := Scf.iv c0_i32_0 c1_i32 k0_t1
  let v9 : Index := Scalar.indexCast arg5
  ![v9.toNat]
@[reducible] def k0_t2_loop (v10 : BitVec 32) : Scf.Loop 32 :=
  let c0_i32_14 : BitVec 32 := 0#32
  let c512_i32 : BitVec 32 := 512#32
  let v11 : BitVec 32 := Scalar.addi v10 c512_i32
  let c1_i32_6 : BitVec 32 := 1#32
  let v12 : BitVec 32 := Scalar.subi v11 c1_i32_6
  let c0_i32_8 : BitVec 32 := 0#32
  let v14 : BitVec 1 := Scalar.cmpi .sgt v12 c0_i32_8
  let v15 : BitVec 32 := Scalar.extui v14
  let c0_i32_9 : BitVec 32 := 0#32
  let v16 : BitVec 1 := Scalar.cmpi .slt v12 c0_i32_9
  let v17 : BitVec 32 := Scalar.extui v16
  let v18 : BitVec 32 := Scalar.subi v15 v17
  let c512_i32_7 : BitVec 32 := 512#32
  let c0_i32_10 : BitVec 32 := 0#32
  let v19 : BitVec 1 := Scalar.cmpi .sgt c512_i32_7 c0_i32_10
  let v20 : BitVec 32 := Scalar.extui v19
  let c0_i32_11 : BitVec 32 := 0#32
  let v21 : BitVec 1 := Scalar.cmpi .slt c512_i32_7 c0_i32_11
  let v22 : BitVec 32 := Scalar.extui v21
  let v23 : BitVec 32 := Scalar.subi v20 v22
  let v24 : BitVec 1 := Scalar.cmpi .ne v18 v23
  let v25 : BitVec 32 := Scalar.remsi v12 c512_i32_7
  let c0_i32_12 : BitVec 32 := 0#32
  let v26 : BitVec 1 := Scalar.cmpi .ne v25 c0_i32_12
  let v27 : BitVec 1 := Scalar.andi v24 v26
  let v13 : BitVec 32 := Scalar.divsi v12 c512_i32_7
  let c1_i32_13 : BitVec 32 := 1#32
  let v28 : BitVec 32 := Scalar.subi v13 c1_i32_13
  let v29 : BitVec 32 := Scalar.select v27 v28 v13
  let v30 : BitVec 32 := Scalar.subi v29 c0_i32_14
  let c1_i32_16 : BitVec 32 := 1#32
  let v32 : BitVec 32 := Scalar.divsi v30 c1_i32_16
  let v33 : BitVec 32 := Scalar.muli v32 c1_i32_16
  let v34 : BitVec 32 := Scalar.addi c0_i32_14 v33
  let c1_i32_17 : BitVec 32 := 1#32
  ⟨c0_i32_14, v34, c1_i32_17⟩

def k0_off2 (arg6 : BitVec 32) (v10 : BitVec 32) (k0_t2 : Fin (k0_t2_loop v10).trips) : Fin 1 → Nat :=
  let c0_i32_14 : BitVec 32 := 0#32
  let c1_i32_17 : BitVec 32 := 1#32
  let arg7 : BitVec 32 := Scf.iv c0_i32_14 c1_i32_17 k0_t2
  let v39 : BitVec 32 := Scalar.addi arg6 arg7
  let v40 : Index := Scalar.indexCast v39
  ![v40.toNat]
@[reducible] def k0_t3_loop (v10 : BitVec 32) : Scf.Loop 32 :=
  let c0_i32_14 : BitVec 32 := 0#32
  let c512_i32 : BitVec 32 := 512#32
  let v11 : BitVec 32 := Scalar.addi v10 c512_i32
  let c1_i32_6 : BitVec 32 := 1#32
  let v12 : BitVec 32 := Scalar.subi v11 c1_i32_6
  let c0_i32_8 : BitVec 32 := 0#32
  let v14 : BitVec 1 := Scalar.cmpi .sgt v12 c0_i32_8
  let v15 : BitVec 32 := Scalar.extui v14
  let c0_i32_9 : BitVec 32 := 0#32
  let v16 : BitVec 1 := Scalar.cmpi .slt v12 c0_i32_9
  let v17 : BitVec 32 := Scalar.extui v16
  let v18 : BitVec 32 := Scalar.subi v15 v17
  let c512_i32_7 : BitVec 32 := 512#32
  let c0_i32_10 : BitVec 32 := 0#32
  let v19 : BitVec 1 := Scalar.cmpi .sgt c512_i32_7 c0_i32_10
  let v20 : BitVec 32 := Scalar.extui v19
  let c0_i32_11 : BitVec 32 := 0#32
  let v21 : BitVec 1 := Scalar.cmpi .slt c512_i32_7 c0_i32_11
  let v22 : BitVec 32 := Scalar.extui v21
  let v23 : BitVec 32 := Scalar.subi v20 v22
  let v24 : BitVec 1 := Scalar.cmpi .ne v18 v23
  let v25 : BitVec 32 := Scalar.remsi v12 c512_i32_7
  let c0_i32_12 : BitVec 32 := 0#32
  let v26 : BitVec 1 := Scalar.cmpi .ne v25 c0_i32_12
  let v27 : BitVec 1 := Scalar.andi v24 v26
  let v13 : BitVec 32 := Scalar.divsi v12 c512_i32_7
  let c1_i32_13 : BitVec 32 := 1#32
  let v28 : BitVec 32 := Scalar.subi v13 c1_i32_13
  let v29 : BitVec 32 := Scalar.select v27 v28 v13
  let v30 : BitVec 32 := Scalar.subi v29 c0_i32_14
  let c1_i32_16 : BitVec 32 := 1#32
  let v32 : BitVec 32 := Scalar.divsi v30 c1_i32_16
  let v33 : BitVec 32 := Scalar.muli v32 c1_i32_16
  let v34 : BitVec 32 := Scalar.addi c0_i32_14 v33
  let v31 : BitVec 32 := Scalar.addi c0_i32_14 v30
  let c1_i32_18 : BitVec 32 := 1#32
  ⟨v34, v31, c1_i32_18⟩
def k0_off3 (arg6 : BitVec 32) (v10 : BitVec 32) (k0_t3 : Fin (k0_t3_loop v10).trips) : Fin 1 → Nat :=
  let c0_i32_14 : BitVec 32 := 0#32
  let c512_i32 : BitVec 32 := 512#32
  let v11 : BitVec 32 := Scalar.addi v10 c512_i32
  let c1_i32_6 : BitVec 32 := 1#32
  let v12 : BitVec 32 := Scalar.subi v11 c1_i32_6
  let c0_i32_8 : BitVec 32 := 0#32
  let v14 : BitVec 1 := Scalar.cmpi .sgt v12 c0_i32_8
  let v15 : BitVec 32 := Scalar.extui v14
  let c0_i32_9 : BitVec 32 := 0#32
  let v16 : BitVec 1 := Scalar.cmpi .slt v12 c0_i32_9
  let v17 : BitVec 32 := Scalar.extui v16
  let v18 : BitVec 32 := Scalar.subi v15 v17
  let c512_i32_7 : BitVec 32 := 512#32
  let c0_i32_10 : BitVec 32 := 0#32
  let v19 : BitVec 1 := Scalar.cmpi .sgt c512_i32_7 c0_i32_10
  let v20 : BitVec 32 := Scalar.extui v19
  let c0_i32_11 : BitVec 32 := 0#32
  let v21 : BitVec 1 := Scalar.cmpi .slt c512_i32_7 c0_i32_11
  let v22 : BitVec 32 := Scalar.extui v21
  let v23 : BitVec 32 := Scalar.subi v20 v22
  let v24 : BitVec 1 := Scalar.cmpi .ne v18 v23
  let v25 : BitVec 32 := Scalar.remsi v12 c512_i32_7
  let c0_i32_12 : BitVec 32 := 0#32
  let v26 : BitVec 1 := Scalar.cmpi .ne v25 c0_i32_12
  let v27 : BitVec 1 := Scalar.andi v24 v26
  let v13 : BitVec 32 := Scalar.divsi v12 c512_i32_7
  let c1_i32_13 : BitVec 32 := 1#32
  let v28 : BitVec 32 := Scalar.subi v13 c1_i32_13
  let v29 : BitVec 32 := Scalar.select v27 v28 v13
  let v30 : BitVec 32 := Scalar.subi v29 c0_i32_14
  let c1_i32_16 : BitVec 32 := 1#32
  let v32 : BitVec 32 := Scalar.divsi v30 c1_i32_16
  let v33 : BitVec 32 := Scalar.muli v32 c1_i32_16
  let v34 : BitVec 32 := Scalar.addi c0_i32_14 v33
  let c1_i32_18 : BitVec 32 := 1#32
  let arg7 : BitVec 32 := Scf.iv v34 c1_i32_18 k0_t3
  let v39 : BitVec 32 := Scalar.addi arg6 arg7
  let v40 : Index := Scalar.indexCast v39
  ![v40.toNat]

def k0_chk1 (arg6 : BitVec 32) (v10 : BitVec 32) : Prop :=
  ((k0_t2_loop v10).OK) ∧
  (∀ k0_t2 : Fin (k0_t2_loop v10).trips, ∀ a, (k0_off2 arg6 v10 k0_t2) a + S1.size a ≤ S288.size a) ∧
  ((k0_t3_loop v10).OK) ∧
  (∀ k0_t3 : Fin (k0_t3_loop v10).trips, ∀ a, (k0_off3 arg6 v10 k0_t3) a + S1.size a ≤ S288.size a)
theorem k0_t2_ok : ∀ (arg6 : BitVec 32) (v10 : BitVec 32) (k0_hw1 : k0_chk1 arg6 v10), (k0_t2_loop v10).OK := fun arg6 v10 k0_hw1 => k0_hw1.1
theorem k0_off2_inb : ∀ (arg6 : BitVec 32) (v10 : BitVec 32) (k0_hw1 : k0_chk1 arg6 v10) (k0_t2 : Fin (k0_t2_loop v10).trips), ∀ a, (k0_off2 arg6 v10 k0_t2) a + S1.size a ≤ S288.size a := fun arg6 v10 k0_hw1 k0_t2 => k0_hw1.2.1 k0_t2
theorem k0_t3_ok : ∀ (arg6 : BitVec 32) (v10 : BitVec 32) (k0_hw1 : k0_chk1 arg6 v10), (k0_t3_loop v10).OK := fun arg6 v10 k0_hw1 => k0_hw1.2.2.1
theorem k0_off3_inb : ∀ (arg6 : BitVec 32) (v10 : BitVec 32) (k0_hw1 : k0_chk1 arg6 v10) (k0_t3 : Fin (k0_t3_loop v10).trips), ∀ a, (k0_off3 arg6 v10 k0_t3) a + S1.size a ≤ S288.size a := fun arg6 v10 k0_hw1 k0_t3 => k0_hw1.2.2.2 k0_t3

@[reducible] def k0_t4_loop (v1 : BitVec 32) : Scf.Loop 32 :=
  let c288_i32 : BitVec 32 := 288#32
  let v2 : BitVec 32 := Scalar.subi c288_i32 v1
  let c1_i32_3 : BitVec 32 := 1#32
  let v4 : BitVec 32 := Scalar.divsi v2 c1_i32_3
  let v5 : BitVec 32 := Scalar.muli v4 c1_i32_3
  let v6 : BitVec 32 := Scalar.addi v1 v5
  let c1_i32_4 : BitVec 32 := 1#32
  ⟨v1, v6, c1_i32_4⟩

def k0_off4 (v1 : BitVec 32) (k0_t4 : Fin (k0_t4_loop v1).trips) : Fin 1 → Nat :=
  let c1_i32_4 : BitVec 32 := 1#32
  let arg5 : BitVec 32 := Scf.iv v1 c1_i32_4 k0_t4
  let v10 : Index := Scalar.indexCast arg5
  ![v10.toNat]
def k0_off5 (v1 : BitVec 32) : Fin 1 → Nat :=
  let c1_i32_7 : BitVec 32 := 1#32
  let v12 : BitVec 32 := Scalar.subi v1 c1_i32_7
  let v13 : Index := Scalar.indexCast v12
  ![v13.toNat]
@[reducible] def k0_t5_loop (v1 : BitVec 32) : Scf.Loop 32 :=
  let c288_i32 : BitVec 32 := 288#32
  let v2 : BitVec 32 := Scalar.subi c288_i32 v1
  let c1_i32_3 : BitVec 32 := 1#32
  let v4 : BitVec 32 := Scalar.divsi v2 c1_i32_3
  let v5 : BitVec 32 := Scalar.muli v4 c1_i32_3
  let v6 : BitVec 32 := Scalar.addi v1 v5
  let v3 : BitVec 32 := Scalar.addi v1 v2
  let c1_i32_5 : BitVec 32 := 1#32
  ⟨v6, v3, c1_i32_5⟩
def k0_off6 (v1 : BitVec 32) (k0_t5 : Fin (k0_t5_loop v1).trips) : Fin 1 → Nat :=
  let c288_i32 : BitVec 32 := 288#32
  let v2 : BitVec 32 := Scalar.subi c288_i32 v1
  let c1_i32_3 : BitVec 32 := 1#32
  let v4 : BitVec 32 := Scalar.divsi v2 c1_i32_3
  let v5 : BitVec 32 := Scalar.muli v4 c1_i32_3
  let v6 : BitVec 32 := Scalar.addi v1 v5
  let c1_i32_5 : BitVec 32 := 1#32
  let arg5 : BitVec 32 := Scf.iv v6 c1_i32_5 k0_t5
  let v10 : Index := Scalar.indexCast arg5
  ![v10.toNat]
def k0_off7 (v1 : BitVec 32) : Fin 1 → Nat :=
  let c1_i32_7 : BitVec 32 := 1#32
  let v12 : BitVec 32 := Scalar.subi v1 c1_i32_7
  let v13 : Index := Scalar.indexCast v12
  ![v13.toNat]

def k0_chk2 (v1 : BitVec 32) : Prop :=
  ((k0_t4_loop v1).OK) ∧
  (∀ k0_t4 : Fin (k0_t4_loop v1).trips, ∀ a, (k0_off4 v1 k0_t4) a + S1.size a ≤ S288.size a) ∧
  (∀ k0_t4 : Fin (k0_t4_loop v1).trips, ∀ a, (k0_off5 v1) a + S1.size a ≤ S288.size a) ∧
  ((k0_t5_loop v1).OK) ∧
  (∀ k0_t5 : Fin (k0_t5_loop v1).trips, ∀ a, (k0_off6 v1 k0_t5) a + S1.size a ≤ S288.size a) ∧
  (∀ k0_t5 : Fin (k0_t5_loop v1).trips, ∀ a, (k0_off7 v1) a + S1.size a ≤ S288.size a)
theorem k0_t4_ok : ∀ (v1 : BitVec 32) (k0_hw2 : k0_chk2 v1), (k0_t4_loop v1).OK := fun v1 k0_hw2 => k0_hw2.1
theorem k0_off4_inb : ∀ (v1 : BitVec 32) (k0_hw2 : k0_chk2 v1) (k0_t4 : Fin (k0_t4_loop v1).trips), ∀ a, (k0_off4 v1 k0_t4) a + S1.size a ≤ S288.size a := fun v1 k0_hw2 k0_t4 => k0_hw2.2.1 k0_t4
theorem k0_off5_inb : ∀ (v1 : BitVec 32) (k0_hw2 : k0_chk2 v1) (k0_t4 : Fin (k0_t4_loop v1).trips), ∀ a, (k0_off5 v1) a + S1.size a ≤ S288.size a := fun v1 k0_hw2 k0_t4 => k0_hw2.2.2.1 k0_t4
theorem k0_t5_ok : ∀ (v1 : BitVec 32) (k0_hw2 : k0_chk2 v1), (k0_t5_loop v1).OK := fun v1 k0_hw2 => k0_hw2.2.2.2.1
theorem k0_off6_inb : ∀ (v1 : BitVec 32) (k0_hw2 : k0_chk2 v1) (k0_t5 : Fin (k0_t5_loop v1).trips), ∀ a, (k0_off6 v1 k0_t5) a + S1.size a ≤ S288.size a := fun v1 k0_hw2 k0_t5 => k0_hw2.2.2.2.2.1 k0_t5
theorem k0_off7_inb : ∀ (v1 : BitVec 32) (k0_hw2 : k0_chk2 v1) (k0_t5 : Fin (k0_t5_loop v1).trips), ∀ a, (k0_off7 v1) a + S1.size a ≤ S288.size a := fun v1 k0_hw2 k0_t5 => k0_hw2.2.2.2.2.2 k0_t5

abbrev stage0_0 : Fin 1 → Memref sig .tc .smem S32 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S288 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S288 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S288 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .smem S288 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev grid1 : Pipeline.Grid := ⟨1, ![288], ![false]⟩

abbrev pre1 : Pipeline.Prefetch sig := ⟨4, ![main_v1.idx, main_v2.idx, main_v3.idx, main_v4.idx], fun | 0 => main_v1.names | 1 => main_v2.names | 2 => main_v3.names | 3 => main_v4.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k1_off1 (i : grid1.Coords) : Fin 1 → Nat :=
  let arg0 : BitVec 32 := BitVec.ofNat 32 (i 0).val
  let v0 : Index := Scalar.indexCast arg0
  ![v0.toNat]
def k1_off2 (i : grid1.Coords) : Fin 1 → Nat :=
  let arg0 : BitVec 32 := BitVec.ofNat 32 (i 0).val
  let v5 : Index := Scalar.indexCast arg0
  ![v5.toNat]
def k1_cond2 (v6 : BitVec 32) : BitVec 1 :=
  let c0_i32_0 : BitVec 32 := 0#32
  let v7 : BitVec 1 := Scalar.cmpi .sgt v6 c0_i32_0
  let v8 : BitVec 32 := Scalar.extui v7
  let c0_i32_1 : BitVec 32 := 0#32
  let v9 : BitVec 1 := Scalar.cmpi .ne v8 c0_i32_1
  v9

def cc1_transform_0 (k1_off1_inb : ∀ i : grid1.Coords, ∀ a, (k1_off1 i) a + S1.size a ≤ S288.size a) (numel1_S1 : S1.numel = 1) (pf : pre1.Contents (Elt F)) (i : grid1.Coords) : Fin 2 → Nat :=
  let arg0 : BitVec 32 := BitVec.ofNat 32 (i 0).val
  let v0 : Index := Scalar.indexCast arg0
  let v1 : BitVec 32 := pf.at 0 (Rect.unit (s := S288) ![v0.toNat] S1.size (k1_off1_inb i)) numel1_S1
  let c0_i32 : BitVec 32 := 0#32
  let c0_i32_0 : BitVec 32 := 0#32
  ![v1.toNat, c0_i32.toNat]

def cc1_transform_1 (k1_off1_inb : ∀ i : grid1.Coords, ∀ a, (k1_off1 i) a + S1.size a ≤ S288.size a) (numel1_S1 : S1.numel = 1) (pf : pre1.Contents (Elt F)) (i : grid1.Coords) : Fin 3 → Nat :=
  let arg0 : BitVec 32 := BitVec.ofNat 32 (i 0).val
  let v0 : Index := Scalar.indexCast arg0
  let v1 : BitVec 32 := pf.at 1 (Rect.unit (s := S288) ![v0.toNat] S1.size (k1_off1_inb i)) numel1_S1
  let c0_i32 : BitVec 32 := 0#32
  let c0_i32_0 : BitVec 32 := 0#32
  let c0_i32_1 : BitVec 32 := 0#32
  ![v1.toNat, c0_i32.toNat, c0_i32_0.toNat]

def cc1_transform_2 (k1_off1_inb : ∀ i : grid1.Coords, ∀ a, (k1_off1 i) a + S1.size a ≤ S288.size a) (numel1_S1 : S1.numel = 1) (pf : pre1.Contents (Elt F)) (i : grid1.Coords) : Fin 3 → Nat :=
  let arg0 : BitVec 32 := BitVec.ofNat 32 (i 0).val
  let v0 : Index := Scalar.indexCast arg0
  let v1 : BitVec 32 := pf.at 1 (Rect.unit (s := S288) ![v0.toNat] S1.size (k1_off1_inb i)) numel1_S1
  let c0_i32 : BitVec 32 := 0#32
  let c0_i32_0 : BitVec 32 := 0#32
  let c0_i32_1 : BitVec 32 := 0#32
  ![v1.toNat, c0_i32.toNat, c0_i32_0.toNat]

def cc1_transform_3 (k1_off1_inb : ∀ i : grid1.Coords, ∀ a, (k1_off1 i) a + S1.size a ≤ S288.size a) (numel1_S1 : S1.numel = 1) (pf : pre1.Contents (Elt F)) (i : grid1.Coords) : Fin 3 → Nat :=
  let arg0 : BitVec 32 := BitVec.ofNat 32 (i 0).val
  let v0 : Index := Scalar.indexCast arg0
  let v1 : BitVec 32 := pf.at 1 (Rect.unit (s := S288) ![v0.toNat] S1.size (k1_off1_inb i)) numel1_S1
  let c0_i32 : BitVec 32 := 0#32
  let c0_i32_0 : BitVec 32 := 0#32
  let c0_i32_1 : BitVec 32 := 0#32
  ![v1.toNat, c0_i32.toNat, c0_i32_0.toNat]

def cc1_transform_4 (k1_off1_inb : ∀ i : grid1.Coords, ∀ a, (k1_off1 i) a + S1.size a ≤ S288.size a) (numel1_S1 : S1.numel = 1) (pf : pre1.Contents (Elt F)) (i : grid1.Coords) : Fin 3 → Nat :=
  let arg0 : BitVec 32 := BitVec.ofNat 32 (i 0).val
  let v0 : Index := Scalar.indexCast arg0
  let v1 : BitVec 32 := pf.at 1 (Rect.unit (s := S288) ![v0.toNat] S1.size (k1_off1_inb i)) numel1_S1
  let c0_i32 : BitVec 32 := 0#32
  let c0_i32_0 : BitVec 32 := 0#32
  let c0_i32_1 : BitVec 32 := 0#32
  ![v1.toNat, c0_i32.toNat, c0_i32_0.toNat]

def cc1_transform_5 (k1_off1_inb : ∀ i : grid1.Coords, ∀ a, (k1_off1 i) a + S1.size a ≤ S288.size a) (numel1_S1 : S1.numel = 1) (pf : pre1.Contents (Elt F)) (i : grid1.Coords) : Fin 2 → Nat :=
  let arg0 : BitVec 32 := BitVec.ofNat 32 (i 0).val
  let v0 : Index := Scalar.indexCast arg0
  let v1 : BitVec 32 := pf.at 0 (Rect.unit (s := S288) ![v0.toNat] S1.size (k1_off1_inb i)) numel1_S1
  let c0_i32 : BitVec 32 := 0#32
  let c0_i32_0 : BitVec 32 := 0#32
  ![v1.toNat, c0_i32.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1024x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x1x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S512x1024 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]
-- ==== Reference4Ideal.lean ====
abbrev S147456x1024 : Shape := ⟨2, ![147456, 1024]⟩
abbrev S32 : Shape := ⟨1, ![32]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S_ : Shape := ⟨0, ![]⟩
abbrev S1 : Shape := ⟨1, ![1]⟩
abbrev S288 : Shape := ⟨1, ![288]⟩
abbrev S1x32 : Shape := ⟨2, ![1, 32]⟩
abbrev S288x1 : Shape := ⟨2, ![288, 1]⟩
abbrev S288x32 : Shape := ⟨2, ![288, 32]⟩
abbrev S288x512x1024 : Shape := ⟨3, ![288, 512, 1024]⟩
abbrev S288x1x1 : Shape := ⟨3, ![288, 1, 1]⟩
abbrev S288x1024x2048 : Shape := ⟨3, ![288, 1024, 2048]⟩
abbrev S288x512x2048 : Shape := ⟨3, ![288, 512, 2048]⟩
abbrev S288x2048 : Shape := ⟨2, ![288, 2048]⟩
abbrev S288x1x2048 : Shape := ⟨3, ![288, 1, 2048]⟩
abbrev S288x1024x1024 : Shape := ⟨3, ![288, 1024, 1024]⟩
abbrev S288x1024 : Shape := ⟨2, ![288, 1024]⟩
abbrev S288x1x1024 : Shape := ⟨3, ![288, 1, 1024]⟩

abbrev nBuf : Space → Nat
  | .hbm => 180
  | .vmem => 0
  | .smem => 0
  | _ => 0

abbrev hbmTy0_0 (i : Nat) : BufTy := match i % 128 with
  | 0 => ⟨S147456x1024, .bf16⟩
  | 1 => ⟨S32, .i32⟩
  | 2 => ⟨S32x1024x2048, .f32⟩
  | 3 => ⟨S32x2048, .f32⟩
  | 4 => ⟨S32x1024x1024, .f32⟩
  | 5 => ⟨S32x1024, .f32⟩
  | 6 => ⟨S_, .i32⟩
  | 7 => ⟨S32, .i32⟩
  | 8 => ⟨S32, .i32⟩
  | 9 => ⟨S_, .i32⟩
  | 10 => ⟨S32, .i32⟩
  | 11 => ⟨S32, .i32⟩
  | 12 => ⟨S_, .i32⟩
  | 13 => ⟨S_, .i32⟩
  | 14 => ⟨S32, .i32⟩
  | 15 => ⟨S32, .i32⟩
  | 16 => ⟨S32, .i32⟩
  | 17 => ⟨S_, .i32⟩
  | 18 => ⟨S32, .i32⟩
  | 19 => ⟨S32, .i1⟩
  | 20 => ⟨S32, .i32⟩
  | 21 => ⟨S32, .i32⟩
  | 22 => ⟨S_, .i32⟩
  | 23 => ⟨S32, .i32⟩
  | 24 => ⟨S32, .i1⟩
  | 25 => ⟨S32, .i1⟩
  | 26 => ⟨S_, .i32⟩
  | 27 => ⟨S32, .i32⟩
  | 28 => ⟨S32, .i32⟩
  | 29 => ⟨S32, .i32⟩
  | 30 => ⟨S_, .i32⟩
  | 31 => ⟨S_, .i32⟩
  | 32 => ⟨S32, .i32⟩
  | 33 => ⟨S32, .i32⟩
  | 34 => ⟨S1, .i32⟩
  | 35 => ⟨S_, .i32⟩
  | 36 => ⟨S288, .i32⟩
  | 37 => ⟨S_, .i32⟩
  | 38 => ⟨S_, .i32⟩
  | 39 => ⟨S288, .i32⟩
  | 40 => ⟨S288, .i32⟩
  | 41 => ⟨S1x32, .i32⟩
  | 42 => ⟨S288x1, .i32⟩
  | 43 => ⟨S288x32, .i32⟩
  | 44 => ⟨S288x32, .i32⟩
  | 45 => ⟨S288x32, .i1⟩
  | 46 => ⟨S288x32, .i32⟩
  | 47 => ⟨S_, .i32⟩
  | 48 => ⟨S288, .i32⟩
  | 49 => ⟨S288, .i32⟩
  | 50 => ⟨S288, .i1⟩
  | 51 => ⟨S_, .i32⟩
  | 52 => ⟨S288, .i32⟩
  | 53 => ⟨S288, .i1⟩
  | 54 => ⟨S_, .i32⟩
  | 55 => ⟨S288, .i32⟩
  | 56 => ⟨S288, .i32⟩
  | 57 => ⟨S288, .i32⟩
  | 58 => ⟨S288x1, .i32⟩
  | 59 => ⟨S288, .i32⟩
  | 60 => ⟨S_, .i32⟩
  | 61 => ⟨S288, .i32⟩
  | 62 => ⟨S288, .i1⟩
  | 63 => ⟨S_, .i32⟩
  | 64 => ⟨S288, .i32⟩
  | 65 => ⟨S288, .i32⟩
  | 66 => ⟨S288, .i32⟩
  | 67 => ⟨S288x1, .i32⟩
  | 68 => ⟨S288, .i32⟩
  | 69 => ⟨S288, .i32⟩
  | 70 => ⟨S_, .i32⟩
  | 71 => ⟨S288, .i32⟩
  | 72 => ⟨S288, .i32⟩
  | 73 => ⟨S288, .i32⟩
  | 74 => ⟨S_, .i32⟩
  | 75 => ⟨S288, .i32⟩
  | 76 => ⟨S288, .i32⟩
  | 77 => ⟨S_, .i32⟩
  | 78 => ⟨S_, .i32⟩
  | 79 => ⟨S288, .i32⟩
  | 80 => ⟨S288, .i32⟩
  | 81 => ⟨S288, .i32⟩
  | 82 => ⟨S288, .i1⟩
  | 83 => ⟨S_, .i32⟩
  | 84 => ⟨S288, .i32⟩
  | 85 => ⟨S288, .i1⟩
  | 86 => ⟨S_, .i32⟩
  | 87 => ⟨S288, .i32⟩
  | 88 => ⟨S288, .i32⟩
  | 89 => ⟨S288, .i32⟩
  | 90 => ⟨S288x1, .i32⟩
  | 91 => ⟨S288, .i32⟩
  | 92 => ⟨S288, .i1⟩
  | 93 => ⟨S288, .i1⟩
  | 94 => ⟨S288, .i32⟩
  | 95 => ⟨S147456x1024, .f32⟩
  | 96 => ⟨S288x512x1024, .f32⟩
  | 97 => ⟨S288x512x1024, .i32⟩
  | 98 => ⟨S288x1x1, .i32⟩
  | 99 => ⟨S288x512x1024, .i32⟩
  | 100 => ⟨S288x512x1024, .i1⟩
  | 101 => ⟨S_, .f32⟩
  | 102 => ⟨S_, .f32⟩
  | 103 => ⟨S288x512x1024, .f32⟩
  | 104 => ⟨S288x512x1024, .f32⟩
  | 105 => ⟨S_, .i32⟩
  | 106 => ⟨S288, .i32⟩
  | 107 => ⟨S288, .i1⟩
  | 108 => ⟨S_, .i32⟩
  | 109 => ⟨S288, .i32⟩
  | 110 => ⟨S288, .i32⟩
  | 111 => ⟨S288, .i32⟩
  | 112 => ⟨S288x1, .i32⟩
  | 113 => ⟨S288x1024x2048, .f32⟩
  | 114 => ⟨S288x512x2048, .f32⟩
  | 115 => ⟨S_, .i32⟩
  | 116 => ⟨S288, .i32⟩
  | 117 => ⟨S288, .i1⟩
  | 118 => ⟨S_, .i32⟩
  | 119 => ⟨S288, .i32⟩
  | 120 => ⟨S288, .i32⟩
  | 121 => ⟨S288, .i32⟩
  | 122 => ⟨S288x1, .i32⟩
  | 123 => ⟨S288x2048, .f32⟩
  | 124 => ⟨S288x1x2048, .f32⟩
  | 125 => ⟨S288x512x2048, .f32⟩
  | 126 => ⟨S288x512x2048, .f32⟩
  | 127 => ⟨S288x512x1024, .f32⟩
  | _ => ⟨S147456x1024, .bf16⟩

abbrev hbmTy0_1 (i : Nat) : BufTy := match i % 128 with
  | 0 => ⟨S288x512x1024, .f32⟩
  | 1 => ⟨S_, .f32⟩
  | 2 => ⟨S288x512x1024, .f32⟩
  | 3 => ⟨S288x512x1024, .f32⟩
  | 4 => ⟨S_, .f32⟩
  | 5 => ⟨S_, .f32⟩
  | 6 => ⟨S_, .f32⟩
  | 7 => ⟨S288x512x1024, .f32⟩
  | 8 => ⟨S288x512x1024, .f32⟩
  | 9 => ⟨S_, .f32⟩
  | 10 => ⟨S288x512x1024, .f32⟩
  | 11 => ⟨S288x512x1024, .f32⟩
  | 12 => ⟨S_, .f32⟩
  | 13 => ⟨S288x512x1024, .f32⟩
  | 14 => ⟨S288x512x1024, .f32⟩
  | 15 => ⟨S_, .f32⟩
  | 16 => ⟨S288x512x1024, .f32⟩
  | 17 => ⟨S288x512x1024, .f32⟩
  | 18 => ⟨S288x512x1024, .f32⟩
  | 19 => ⟨S288x512x1024, .f32⟩
  | 20 => ⟨S_, .f32⟩
  | 21 => ⟨S288x512x1024, .f32⟩
  | 22 => ⟨S288x512x1024, .f32⟩
  | 23 => ⟨S_, .f32⟩
  | 24 => ⟨S288x512x1024, .f32⟩
  | 25 => ⟨S288x512x1024, .f32⟩
  | 26 => ⟨S288x512x1024, .f32⟩
  | 27 => ⟨S288x512x1024, .f32⟩
  | 28 => ⟨S_, .i32⟩
  | 29 => ⟨S288, .i32⟩
  | 30 => ⟨S288, .i1⟩
  | 31 => ⟨S_, .i32⟩
  | 32 => ⟨S288, .i32⟩
  | 33 => ⟨S288, .i32⟩
  | 34 => ⟨S288, .i32⟩
  | 35 => ⟨S288x1, .i32⟩
  | 36 => ⟨S288x1024x1024, .f32⟩
  | 37 => ⟨S288x512x1024, .f32⟩
  | 38 => ⟨S_, .i32⟩
  | 39 => ⟨S288, .i32⟩
  | 40 => ⟨S288, .i1⟩
  | 41 => ⟨S_, .i32⟩
  | 42 => ⟨S288, .i32⟩
  | 43 => ⟨S288, .i32⟩
  | 44 => ⟨S288, .i32⟩
  | 45 => ⟨S288x1, .i32⟩
  | 46 => ⟨S288x1024, .f32⟩
  | 47 => ⟨S288x1x1024, .f32⟩
  | 48 => ⟨S288x512x1024, .f32⟩
  | 49 => ⟨S288x512x1024, .f32⟩
  | 50 => ⟨S147456x1024, .f32⟩
  | 51 => ⟨S147456x1024, .bf16⟩
  | _ => ⟨S147456x1024, .bf16⟩

abbrev hbmTy (i : Nat) : BufTy := match i / 128 with
  | 0 => hbmTy0_0 i
  | 1 => hbmTy0_1 i
  | _ => ⟨S147456x1024, .bf16⟩

abbrev bufTy : (tb : Table) → Fin (tcTables nBuf tb) → BufTy
  | .hbm, ⟨i, _⟩ => hbmTy i
  | _, _ => ⟨S147456x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_c_1 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v4 : Ref sig .tc := ⟨.hbm, 29, rfl⟩
abbrev main_call1_call0_c : Ref sig .tc := ⟨.hbm, 30, rfl⟩
abbrev main_call1_call0_v0 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_c_2 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_c_3 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_c_4 : Ref sig .tc := ⟨.hbm, 51, rfl⟩
abbrev main_v22 : Ref sig .tc := ⟨.hbm, 52, rfl⟩
abbrev main_v23 : Ref sig .tc := ⟨.hbm, 53, rfl⟩
abbrev main_c_5 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_c_6 : Ref sig .tc := ⟨.hbm, 60, rfl⟩
abbrev main_v29 : Ref sig .tc := ⟨.hbm, 61, rfl⟩
abbrev main_v30 : Ref sig .tc := ⟨.hbm, 62, rfl⟩
abbrev main_c_7 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_c_8 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_c_9 : Ref sig .tc := ⟨.hbm, 74, rfl⟩
abbrev main_v40 : Ref sig .tc := ⟨.hbm, 75, rfl⟩
abbrev main_v41 : Ref sig .tc := ⟨.hbm, 76, rfl⟩
abbrev main_c_10 : Ref sig .tc := ⟨.hbm, 77, rfl⟩
abbrev main_call2_v0 : Ref sig .tc := ⟨.hbm, 78, rfl⟩
abbrev main_call2_v1 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_c_11 : Ref sig .tc := ⟨.hbm, 83, rfl⟩
abbrev main_v45 : Ref sig .tc := ⟨.hbm, 84, rfl⟩
abbrev main_v46 : Ref sig .tc := ⟨.hbm, 85, rfl⟩
abbrev main_c_12 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_cst : Ref sig .tc := ⟨.hbm, 101, rfl⟩
abbrev main_call3_v0 : Ref sig .tc := ⟨.hbm, 102, rfl⟩
abbrev main_call3_v1 : Ref sig .tc := ⟨.hbm, 103, rfl⟩
abbrev main_v61 : Ref sig .tc := ⟨.hbm, 104, rfl⟩
abbrev main_c_13 : Ref sig .tc := ⟨.hbm, 105, rfl⟩
abbrev main_v62 : Ref sig .tc := ⟨.hbm, 106, rfl⟩
abbrev main_v63 : Ref sig .tc := ⟨.hbm, 107, rfl⟩
abbrev main_c_14 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_c_15 : Ref sig .tc := ⟨.hbm, 115, rfl⟩
abbrev main_v70 : Ref sig .tc := ⟨.hbm, 116, rfl⟩
abbrev main_v71 : Ref sig .tc := ⟨.hbm, 117, rfl⟩
abbrev main_c_16 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_cst_17 : Ref sig .tc := ⟨.hbm, 129, rfl⟩
abbrev main_v82 : Ref sig .tc := ⟨.hbm, 130, rfl⟩
abbrev main_v83 : Ref sig .tc := ⟨.hbm, 131, rfl⟩
abbrev main_cst_18 : Ref sig .tc := ⟨.hbm, 132, rfl⟩
abbrev main_cst_19 : Ref sig .tc := ⟨.hbm, 133, rfl⟩
abbrev main_call4_v0 : Ref sig .tc := ⟨.hbm, 134, rfl⟩
abbrev main_call4_v1 : Ref sig .tc := ⟨.hbm, 135, rfl⟩
abbrev main_call4_v2 : Ref sig .tc := ⟨.hbm, 136, rfl⟩
abbrev main_call4_v3 : Ref sig .tc := ⟨.hbm, 137, rfl⟩
abbrev main_call4_v4 : Ref sig .tc := ⟨.hbm, 138, rfl⟩
abbrev main_v84 : Ref sig .tc := ⟨.hbm, 139, rfl⟩
abbrev main_cst_20 : Ref sig .tc := ⟨.hbm, 140, rfl⟩
abbrev main_v85 : Ref sig .tc := ⟨.hbm, 141, rfl⟩
abbrev main_v86 : Ref sig .tc := ⟨.hbm, 142, rfl⟩
abbrev main_cst_21 : Ref sig .tc := ⟨.hbm, 143, rfl⟩
abbrev main_v87 : Ref sig .tc := ⟨.hbm, 144, rfl⟩
abbrev main_v88 : Ref sig .tc := ⟨.hbm, 145, rfl⟩
abbrev main_v89 : Ref sig .tc := ⟨.hbm, 146, rfl⟩
abbrev main_v90 : Ref sig .tc := ⟨.hbm, 147, rfl⟩
abbrev main_cst_22 : Ref sig .tc := ⟨.hbm, 148, rfl⟩
abbrev main_v91 : Ref sig .tc := ⟨.hbm, 149, rfl⟩
abbrev main_v92 : Ref sig .tc := ⟨.hbm, 150, rfl⟩
abbrev main_cst_23 : Ref sig .tc := ⟨.hbm, 151, rfl⟩
abbrev main_v93 : Ref sig .tc := ⟨.hbm, 152, rfl⟩
abbrev main_v94 : Ref sig .tc := ⟨.hbm, 153, rfl⟩
abbrev main_v95 : Ref sig .tc := ⟨.hbm, 154, rfl⟩
abbrev main_v96 : Ref sig .tc := ⟨.hbm, 155, rfl⟩
abbrev main_c_24 : Ref sig .tc := ⟨.hbm, 156, rfl⟩
abbrev main_v97 : Ref sig .tc := ⟨.hbm, 157, rfl⟩
abbrev main_v98 : Ref sig .tc := ⟨.hbm, 158, rfl⟩
abbrev main_c_25 : Ref sig .tc := ⟨.hbm, 159, rfl⟩
abbrev main_v99 : Ref sig .tc := ⟨.hbm, 160, rfl⟩
abbrev main_v100 : Ref sig .tc := ⟨.hbm, 161, rfl⟩
abbrev main_v101 : Ref sig .tc := ⟨.hbm, 162, rfl⟩
abbrev main_v102 : Ref sig .tc := ⟨.hbm, 163, rfl⟩
abbrev main_v103 : Ref sig .tc := ⟨.hbm, 164, rfl⟩
abbrev main_v104 : Ref sig .tc := ⟨.hbm, 165, rfl⟩
abbrev main_c_26 : Ref sig .tc := ⟨.hbm, 166, rfl⟩
abbrev main_v105 : Ref sig .tc := ⟨.hbm, 167, rfl⟩
abbrev main_v106 : Ref sig .tc := ⟨.hbm, 168, rfl⟩
abbrev main_c_27 : Ref sig .tc := ⟨.hbm, 169, rfl⟩
abbrev main_v107 : Ref sig .tc := ⟨.hbm, 170, rfl⟩
abbrev main_v108 : Ref sig .tc := ⟨.hbm, 171, rfl⟩
abbrev main_v109 : Ref sig .tc := ⟨.hbm, 172, rfl⟩
abbrev main_v110 : Ref sig .tc := ⟨.hbm, 173, rfl⟩
abbrev main_v111 : Ref sig .tc := ⟨.hbm, 174, rfl⟩
abbrev main_v112 : Ref sig .tc := ⟨.hbm, 175, rfl⟩
abbrev main_v113 : Ref sig .tc := ⟨.hbm, 176, rfl⟩
abbrev main_v114 : Ref sig .tc := ⟨.hbm, 177, rfl⟩
abbrev main_v115 : Ref sig .tc := ⟨.hbm, 178, rfl⟩
abbrev main_v116 : Ref sig .tc := ⟨.hbm, 179, rfl⟩

abbrev nD : Nat := 1
abbrev τ : Topo := Topo.v7x

variable {F : FTy → Type} [FloatOps F]
-- ==== Proof.Plan.lean ====
/-
  The plan of the grid: four tables of one word per step, and what the steps of an admissible plan have in common.
-/
module

public import Idealize.ShloMosaic.PureOps

@[expose] public section

namespace Cert.Plan

open Idealize.ShloMosaic

/-- The word of step `n` of a table, zero past its end. -/
def wordAt (T : (⟨1, ![288]⟩ : Shape).Idx → BitVec 32) (n : ℕ) : BitVec 32 :=
  if h : n < 288 then T (fun a => ⟨n, by have : a = 0 := Subsingleton.elim _ _; subst this; exact h⟩) else 0

/-- A step has rows when its word of the row counts is positive. -/
def Used (v : BitVec 32) : Prop := 0 < v.toInt

/-- An admissible plan: blocks and experts in range, the steps with rows a prefix that starts at step zero, a step with rows
    on its own block, a step without on the block before, and an expert's first step flagged. -/
structure Ok (tile ex rows first : ℕ → BitVec 32) : Prop where
  tile_lt : ∀ n, n < 288 → (tile n).toNat < 288
  ex_lt : ∀ n, n < 288 → (ex n).toNat < 32
  used_zero : Used (rows 0)
  first_zero : first 0 = 1#32
  tile_used : ∀ n, n < 288 → Used (rows n) → (tile n).toNat = n
  tile_idle : ∀ n, n + 1 < 288 → ¬ Used (rows (n + 1)) → tile (n + 1) = tile n
  used_before : ∀ n, n + 1 < 288 → Used (rows (n + 1)) → Used (rows n)
  first_change : ∀ n, n + 1 < 288 → Used (rows (n + 1)) → ex (n + 1) ≠ ex n → first (n + 1) = 1#32

end Cert.Plan

end
-- ==== Proof.KI.Body.lean ====
/-
  What one grid point of the experts kernel does: the body, run once over any staging buffers.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Tactic
public import Idealize.ShloMosaic.Lib.Pipeline.Frame
public import Idealize.ShloMosaic.Lib.Pipeline.TableIdle
public import Idealize.ShloMosaic.Lib.Pipeline.Value
public import Idealize.ShloMosaic.Lib.VecWindow

@[expose] public section

set_option maxRecDepth 16384

noncomputable section

namespace Cert.KernelIdeal.Experts

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- A memref's buffer on core `c`, whole at contents `f`. -/
abbrev pt (c : Dev nD) {sp : Space} {S : Shape} {e : EltTy} (M : Memref sig .tc sp S e) (q : PosShare TreeShare)
    (f : Buf (Elt F) (M.view.loc (c : Thread nD τ))) : sProp 𝕄 :=
  M.view.loc (c : Thread nD τ) ↦{q} f

/-- Owning a whole memref at `X` is holding its buffer at the contents that read `X`. -/
theorem owns_pt (c : Dev nD) {sp : Space} {S : Shape} {e : EltTy} (M : Memref sig .tc sp S e) (hM : M.IsWhole) (q : PosShare TreeShare)
    (X : S.Idx → Elt F e) : (owns (c : Thread nD τ) M q X : sProp 𝕄) = pt c M q (M.view.rep X) := by
  rw [owns_eq_rep, hM.set_eq_univ]

/-- A whole memref's buffer at contents that read `X` is the memref owned at `X`. -/
theorem pt_owns (c : Dev nD) {sp : Space} {S : Shape} {e : EltTy} (M : Memref sig .tc sp S e) (hM : M.IsWhole) (q : PosShare TreeShare)
    (f : Buf (Elt F) (M.view.loc (c : Thread nD τ))) (X : S.Idx → Elt F e) (h : M.view.read (Elt F) f = X) :
    pt c M q f ⊢ (owns (c : Thread nD τ) M q X : sProp 𝕄) := by
  subst h
  unfold owns pt
  rw [hM.set_eq_univ]
  iintro H
  iexists f
  isplitr
  · ipureintro; rfl
  · iexact H

/-- The condition on which the body casts the expert's weights: its word of `w_first` is one. -/
def cond1 (v1 : BitVec 32) : BitVec 1 :=
  Scalar.cmpi .ne (Scalar.extui (Scalar.cmpi .eq v1 1#32) : BitVec 32) 0#32

/-- What the scratch of the up-projection holds after a step: the cast weights where the step is an expert's first, else what it held. -/
def next0 (v1 : BitVec 32) (X6 : Vec F S1x1024x2048 .f32) (X11 : Vec F S1024x2048 .bf16) : Vec F S1024x2048 .bf16 :=
  if cond1 v1 = 1#1 then k0_pay1 X6 else X11

/-- The same for the scratch of the down-projection. -/
def next1 (v1 : BitVec 32) (X8 : Vec F S1x1024x1024 .f32) (X12 : Vec F S1024x1024 .bf16) : Vec F S1024x1024 .bf16 :=
  if cond1 v1 = 1#1 then k0_pay2 X8 else X12

/-- What the output block holds after a step: the expert's rows where the step has any, else what it held. -/
def nextY (v6 : BitVec 32) (X5 : Vec F S512x1024 .bf16) (S0 : Vec F S1024x2048 .bf16) (X7 : Vec F S1x1x2048 .f32) (S1 : Vec F S1024x1024 .bf16)
    (X9 : Vec F S1x1x1024 .f32) (X10 : Vec F S512x1024 .bf16) : Vec F S512x1024 .bf16 :=
  if k0_cond2 v6 = 1#1 then k0_pay3 v6 X5 S0 X7 S1 X9 else X10

/-- The body run once over any staging buffers: it leaves the inputs as they were, the two scratch arrays at `next0`, `next1`, and the output block at `nextY`. -/
theorem body_run (c : Dev nD) (i : grid0.Coords) (q : PosShare TreeShare)
    (M1 : Memref sig .tc .smem S288 .i32) (h1 : M1.IsWhole) (M2 : Memref sig .tc .smem S288 .i32) (h2 : M2.IsWhole)
    (M3 : Memref sig .tc .smem S288 .i32) (h3 : M3.IsWhole) (M4 : Memref sig .tc .smem S288 .i32) (h4 : M4.IsWhole)
    (M5 : Memref sig .tc .vmem S512x1024 .bf16) (h5 : M5.IsWhole) (M6 : Memref sig .tc .vmem S1x1024x2048 .f32) (h6 : M6.IsWhole)
    (M7 : Memref sig .tc .vmem S1x1x2048 .f32) (h7 : M7.IsWhole) (M8 : Memref sig .tc .vmem S1x1024x1024 .f32) (h8 : M8.IsWhole)
    (M9 : Memref sig .tc .vmem S1x1x1024 .f32) (h9 : M9.IsWhole) (M10 : Memref sig .tc .vmem S512x1024 .bf16) (h10 : M10.IsWhole)
    (M11 : Memref sig .tc .vmem S1024x2048 .bf16) (h11 : M11.IsWhole) (M12 : Memref sig .tc .vmem S1024x1024 .bf16) (h12 : M12.IsWhole)
    (f3 : Buf (Elt F) (M3.view.loc (c : Thread nD τ))) (f4 : Buf (Elt F) (M4.view.loc (c : Thread nD τ)))
    (X5 : Vec F S512x1024 .bf16) (X6 : Vec F S1x1024x2048 .f32) (X7 : Vec F S1x1x2048 .f32) (X8 : Vec F S1x1024x1024 .f32)
    (X9 : Vec F S1x1x1024 .f32) (X10 : Vec F S512x1024 .bf16) (X11 : Vec F S1024x2048 .bf16) (X12 : Vec F S1024x1024 .bf16)
    (v1 v6 : BitVec 32)
    (hv1 : View.readAt (Elt F) M4.view (Rect.unit (s := S288) (k0_off1 i) S1.size (k0_off1_inb i)).toLoadRect f4 (Shape.Idx.first (numel1_S1.symm ▸ Nat.one_pos)) = v1)
    (hv6 : View.readAt (Elt F) M3.view (Rect.unit (s := S288) (k0_off2 i) S1.size (k0_off2_inb i)).toLoadRect f3 (Shape.Idx.first (numel1_S1.symm ▸ Nat.one_pos)) = v6)
    (Q : PUnit → sProp 𝕄) :
    iprop(pt c M3 q f3 ∗ pt c M4 q f4 ∗ owns (c : Thread nD τ) M5 fullShare X5 ∗ owns (c : Thread nD τ) M6 fullShare X6 ∗ owns (c : Thread nD τ) M7 fullShare X7
       ∗ owns (c : Thread nD τ) M8 fullShare X8 ∗ owns (c : Thread nD τ) M9 fullShare X9 ∗ owns (c : Thread nD τ) M10 fullShare X10
       ∗ owns (c : Thread nD τ) M11 fullShare X11 ∗ owns (c : Thread nD τ) M12 fullShare X12
       ∗ (pt c M3 q f3 -∗ pt c M4 q f4 -∗ owns (c : Thread nD τ) M5 fullShare X5 -∗ owns (c : Thread nD τ) M6 fullShare X6 -∗ owns (c : Thread nD τ) M7 fullShare X7
          -∗ owns (c : Thread nD τ) M8 fullShare X8 -∗ owns (c : Thread nD τ) M9 fullShare X9
          -∗ owns (c : Thread nD τ) M10 fullShare (nextY v6 X5 (next0 v1 X6 X11) X7 (next1 v1 X8 X12) X9 X10)
          -∗ owns (c : Thread nD τ) M11 fullShare (next0 v1 X6 X11) -∗ owns (c : Thread nD τ) M12 fullShare (next1 v1 X8 X12) -∗ Q ⟨⟩))
    ⊢ wp frame (wpE (defs₀ (F := F)) Variants.none c none) Set.univ
        (cc0_experts i M1 h1 M2 h2 M3 h3 M4 h4 M5 h5 M6 h6 M7 h7 M8 h8 M9 h9 M10 h10 M11 h11 M12 h12) Q := by
  rw [owns_pt c M5 h5, owns_pt c M6 h6, owns_pt c M7 h7, owns_pt c M8 h8, owns_pt c M9 h9, owns_pt c M10 h10 _ X10, owns_pt c M11 h11 _ X11, owns_pt c M12 h12 _ X12]
  iintro ⟨H3, H4, H5, H6, H7, H8, H9, H10, H11, H12, K⟩
  rw [cc0_experts_eq_skeleton]
  unfold cc0_experts_skel
  sl_exec!
  have e1 : body_run.sl.v4 c i M4 f4 = cond1 v1 := by rw [← hv1]; rfl
  have e6 : body_run.sl.r_1 c i M3 f3 = v6 := hv6
  have r11 : M11.view.read (Elt F) (if hc : body_run.sl.v4 c i M4 f4 = 1#1 then
        M11.view.writes (Elt F) (M11.view.rep X11) [⟨Rect.unit ![0, 0] S1024x2048.size inb_S1024x2048_S1024x2048_0_0,
              k0_pay1 (View.readAt (Elt F) M6.view (Rect.unit ![0, 0, 0] S1x1024x2048.size inb_S1x1024x2048_S1x1024x2048_0_0_0).toLoadRect (M6.view.rep X6))⟩]
      else M11.view.rep X11) = next0 v1 X6 X11 := by
    unfold next0
    rw [e1]
    split
    · rw [View.read_writes_full, View.readAt_rep_full]
    · rw [View.read_rep]
  have r12 : M12.view.read (Elt F) (if hc : body_run.sl.v4 c i M4 f4 = 1#1 then
        M12.view.writes (Elt F) (M12.view.rep X12) [⟨Rect.unit ![0, 0] S1024x1024.size inb_S1024x1024_S1024x1024_0_0,
              k0_pay2 (View.readAt (Elt F) M8.view (Rect.unit ![0, 0, 0] S1x1024x1024.size inb_S1x1024x1024_S1x1024x1024_0_0_0).toLoadRect (M8.view.rep X8))⟩]
      else M12.view.rep X12) = next1 v1 X8 X12 := by
    unfold next1
    rw [e1]
    split
    · rw [View.read_writes_full, View.readAt_rep_full]
    · rw [View.read_rep]
  have e17 : body_run.sl.v17 c i M4 M6 M11 f4 X6 X11 = next0 v1 X6 X11 := by
    rw [← r11]; unfold body_run.sl.v17; rw [View.readAt_full]
  have e39 : body_run.sl.v39 c i M4 M8 M12 f4 X8 X12 = next1 v1 X8 X12 := by
    rw [← r12]; unfold body_run.sl.v39; rw [View.readAt_full]
  sl_step
  ispecialize K $$ H3 H4
  iapply K $$ [H5] [H6] [H7] [H8] [H9] [H10] [H11] [H12]
  · iexact H5
  · iexact H6
  · iexact H7
  · iexact H8
  · iexact H9
  · iapply pt_owns c M10 h10 $$ H10
    unfold nextY
    rw [e6, e17, e39]
    split
    · rw [View.read_writes_full]
      rw [View.readAt_rep_full, View.readAt_rep_full, View.readAt_rep_full]
    · rw [View.read_rep]
  · iapply pt_owns c M11 h11 _ _ _ r11
    iexact H11
  · iapply pt_owns c M12 h12 _ _ _ r12
    iexact H12

end Cert.KernelIdeal.Experts

end
-- ==== Proof.KI.Data.lean ====
/-
  The proof data of the experts' pipeline: what each window's buffer holds after each step.
-/
module

public import proofs.«01_k».proof.Proof.KI.Body
public import proofs.«01_k».proof.Proof.Plan
public import Idealize.ShloMosaic.Lib.Pipeline.FrameBody

@[expose] public section

set_option maxRecDepth 16384

noncomputable section

namespace Cert.KernelIdeal.Experts

open Cert.KernelIdeal Cert.KernelIdeal.Gen Cert.Plan
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## The words of the tables -/

/-- Step `n`'s block of rows. -/
def tileW (pf : pre0.Contents (Elt F)) (n : ℕ) : BitVec 32 := wordAt (pf 0) n
/-- Step `n`'s expert. -/
def exW (pf : pre0.Contents (Elt F)) (n : ℕ) : BitVec 32 := wordAt (pf 1) n
/-- Step `n`'s count of rows. -/
def rowsW (pf : pre0.Contents (Elt F)) (n : ℕ) : BitVec 32 := wordAt (pf 2) n
/-- Step `n`'s flag of an expert's first step. -/
def firstW (pf : pre0.Contents (Elt F)) (n : ℕ) : BitVec 32 := wordAt (pf 3) n

/-- The tables' contents are an admissible plan. -/
abbrev PlanOk (pf : pre0.Contents (Elt F)) : Prop := Plan.Ok (tileW pf) (exW pf) (rowsW pf) (firstW pf)

/-- The grid has one axis, and a step's coordinate on it is its number. -/
theorem coords_zero (t : Fin grid0.N) : ((grid0.coords t) 0 : ℕ) = t.val := by
  have h : t.val < 288 := lt_of_lt_of_eq t.isLt N_0
  show t.val / grid0.stride 0 % grid0.bound 0 = t.val
  have h1 : grid0.stride 0 = 1 := by decide
  have h2 : grid0.bound 0 = 288 := rfl
  rw [h1, h2, Nat.div_one, Nat.mod_eq_of_lt h]

/-- The offset at which the index maps read the tables is the step's number. -/
theorem off1_apply (i : grid0.Coords) (a : Fin 1) : k0_off1 i a = (i 0).val := by
  have h : (i 0).val < 288 := (i 0).isLt
  have : a = 0 := Subsingleton.elim _ _
  subst this
  show (BitVec.ofNat 32 (i 0).val).toNat = _
  rw [BitVec.toNat_ofNat]
  omega

/-- The offset at which the body reads the tables is the step's number. -/
theorem off2_apply (i : grid0.Coords) (a : Fin 1) : k0_off2 i a = (i 0).val := by
  have h : (i 0).val < 288 := (i 0).isLt
  have : a = 0 := Subsingleton.elim _ _
  subst this
  show (BitVec.ofNat 32 (i 0).val).toNat = _
  rw [BitVec.toNat_ofNat]
  omega

/-- The one word a load of a table at step `i` reads. -/
theorem word_emb (T : S288.Idx → BitVec 32) (off : Fin 1 → ℕ) (i : grid0.Coords) (hoff : ∀ a, off a = (i 0).val)
    (inb : ∀ a, off a + S1.size a ≤ S288.size a) (h : 0 < S1.numel) :
    T ((Rect.unit (s := S288) off S1.size inb).emb (Shape.Idx.first h)) = wordAt T (i 0).val := by
  have hi : (i 0).val < 288 := (i 0).isLt
  unfold wordAt
  rw [dif_pos hi]
  congr 1
  funext a
  apply Fin.ext
  rw [Rect.emb_apply]
  show off a + 1 * _ = (i 0).val
  rw [hoff a]
  have := (Shape.Idx.first h a).isLt
  have h1 : S1.size a = 1 := by have : a = 0 := Subsingleton.elim _ _; subst this; rfl
  omega

/-- The same of an element taken where the offset is in range, and a default elsewhere. -/
theorem word_at (T : S288.Idx → BitVec 32) (d : BitVec 32) (off : Fin 1 → ℕ) (i : grid0.Coords) (hoff : ∀ a, off a = (i 0).val) :
    (if h : ∀ a : Fin 1, off a + 1 ≤ S288.size a then T (fun a => ⟨off a, h a⟩) else d) = wordAt T (i 0).val := by
  have hi : (i 0).val < 288 := (i 0).isLt
  have hh : ∀ a : Fin 1, off a + 1 ≤ S288.size a := fun a => by
    have : a = 0 := Subsingleton.elim _ _
    subst this
    rw [hoff]; exact hi
  unfold wordAt
  rw [dif_pos hi, dif_pos hh]
  congr 1
  funext a
  exact Fin.ext (hoff a)

/-- The rows' window takes the block that the step's word of `w_tile` names. -/
theorem index0 (pf : pre0.Contents (Elt F)) (i : grid0.Coords) :
    cc0_transform_0 k0_off1_inb numel1_S1 pf i = ![(tileW pf (i 0).val).toNat, 0] := by
  rw [← show _ = tileW pf (i 0).val from word_emb (pf 0) (k0_off1 i) i (off1_apply i) (k0_off1_inb i) (numel1_S1.symm ▸ Nat.one_pos)]; rfl

/-- The up-projection's window takes the block that the step's word of `w_exp` names. -/
theorem index1 (pf : pre0.Contents (Elt F)) (i : grid0.Coords) :
    cc0_transform_1 k0_off1_inb numel1_S1 pf i = ![(exW pf (i 0).val).toNat, 0, 0] := by
  rw [← show _ = exW pf (i 0).val from word_emb (pf 1) (k0_off1 i) i (off1_apply i) (k0_off1_inb i) (numel1_S1.symm ▸ Nat.one_pos)]; rfl

/-- So does the window of its bias. -/
theorem index2 (pf : pre0.Contents (Elt F)) (i : grid0.Coords) :
    cc0_transform_2 k0_off1_inb numel1_S1 pf i = ![(exW pf (i 0).val).toNat, 0, 0] := index1 pf i

/-- So does the down-projection's window. -/
theorem index3 (pf : pre0.Contents (Elt F)) (i : grid0.Coords) :
    cc0_transform_3 k0_off1_inb numel1_S1 pf i = ![(exW pf (i 0).val).toNat, 0, 0] := index1 pf i

/-- So does the window of its bias. -/
theorem index4 (pf : pre0.Contents (Elt F)) (i : grid0.Coords) :
    cc0_transform_4 k0_off1_inb numel1_S1 pf i = ![(exW pf (i 0).val).toNat, 0, 0] := index1 pf i

/-- The output's window takes the same block as the rows' window. -/
theorem index5 (pf : pre0.Contents (Elt F)) (i : grid0.Coords) :
    cc0_transform_5 k0_off1_inb numel1_S1 pf i = ![(tileW pf (i 0).val).toNat, 0] := index0 pf i

/-- The weights are cast at a step exactly when its flag is one. -/
theorem cond1_iff (v : BitVec 32) : cond1 v = 1#1 ↔ v = 1#32 := by
  unfold cond1
  by_cases h : v = 1#32
  · subst h; exact ⟨fun _ => rfl, fun _ => by decide⟩
  · refine ⟨fun h' => ?_, fun h' => absurd h' h⟩
    exfalso
    have : Scalar.cmpi .eq v 1#32 = 0#1 := by
      show BitVec.ofBool (v == 1#32) = 0#1
      rw [beq_eq_false_iff_ne.mpr h]; rfl
    rw [this] at h'
    exact absurd h' (by decide)

/-- The body computes at a step exactly when the step has rows. -/
theorem cond2_iff (v : BitVec 32) : k0_cond2 v = 1#1 ↔ Used v := by
  unfold k0_cond2 Used
  have e : Scalar.cmpi .sgt v 0#32 = BitVec.ofBool (BitVec.slt 0#32 v) := rfl
  show Scalar.cmpi .ne (Scalar.extui (Scalar.cmpi .sgt v 0#32) : BitVec 32) 0#32 = 1#1 ↔ _
  rw [e]
  have hs : BitVec.slt 0#32 v = decide (0 < v.toInt) := rfl
  rw [hs]
  by_cases h : 0 < v.toInt
  · simp only [h, decide_true, iff_true]; decide
  · simp only [h, decide_false, iff_false]; decide

/-- The output window is idle exactly at the steps without rows. -/
theorem idle5 (pf : pre0.Contents (Elt F)) (i : grid0.Coords) :
    idle0 pf 5 i = true ↔ ¬ Used (rowsW pf (i 0).val) := by
  have e : pf.atD 2 (k0_off2 i) = rowsW pf (i 0).val := word_at (pf 2) _ (k0_off2 i) i (off2_apply i)
  show (!(k0_cond2 (pf.atD 2 (k0_off2 i)) == 1#1)) = true ↔ _
  rw [e, ← cond2_iff]
  simp

/-! ## The tables are admissible -/

/-- A block of 512 rows with a number below 288 lies within the array of rows, and its edges fall between whole words. -/
theorem xs_block (ix : Fin 2 → ℕ) (n : ℕ) (e : ix = ![n, 0]) (hn : n < 288) :
    ∃ h : (∀ a, (ix a + 1) * S512x1024.size a ≤ S147456x1024.size a),
      EltTy.bits .bf16 = 32 ∨ (Rect.block (s := S147456x1024) S512x1024.size ix h).WholeWords (EltTy.packing .bf16) := by
  subst e
  have h : ∀ a : Fin 2, ((![n, 0] : Fin 2 → ℕ) a + 1) * S512x1024.size a ≤ S147456x1024.size a := by
    intro a
    match a with
    | ⟨0, _⟩ => show (n + 1) * 512 ≤ 147456; omega
    | ⟨1, _⟩ => show (0 + 1) * 1024 ≤ 1024; omega
  refine ⟨h, .inr (.inl (.inr ⟨Nat.le_refl 2, rfl, .inl ⟨?_, ?_⟩⟩))⟩
  · show 2 ∣ n * 512
    omega
  · show 2 ∣ 512
    decide

/-- The block of an expert with a number below 32 lies within an array that has one block per expert. -/
theorem ex_block (S A : Fin 3 → ℕ) (hS0 : S 0 = 1) (hA0 : A 0 = 32) (h1 : S 1 = A 1) (h2 : S 2 = A 2) (ix : Fin 3 → ℕ) (n : ℕ)
    (e : ix = ![n, 0, 0]) (hn : n < 32) : ∀ a, (ix a + 1) * S a ≤ A a := by
  subst e
  intro a
  match a with
  | ⟨0, _⟩ => show (n + 1) * S 0 ≤ A 0; rw [hS0, hA0]; omega
  | ⟨1, _⟩ => show (0 + 1) * S 1 ≤ A 1; rw [h1]; omega
  | ⟨2, _⟩ => show (0 + 1) * S 2 ≤ A 2; rw [h2]; omega

/-- Under an admissible plan every block the index maps name is in range. -/
theorem ok_of_plan (pf : pre0.Contents (Elt F)) (h : PlanOk pf) : ok0 pf := by
  have hi : ∀ i : grid0.Coords, (i 0).val < 288 := fun i => (i 0).isLt
  exact ⟨fun i => xs_block _ _ (index0 pf i) (h.tile_lt _ (hi i)),
    fun i => ⟨ex_block S1x1024x2048.size S32x1024x2048.size rfl rfl rfl rfl _ _ (index1 pf i) (h.ex_lt _ (hi i)), .inl rfl⟩,
    fun i => ⟨ex_block S1x1x2048.size S32x1x2048.size rfl rfl rfl rfl _ _ (index2 pf i) (h.ex_lt _ (hi i)), .inl rfl⟩,
    fun i => ⟨ex_block S1x1024x1024.size S32x1024x1024.size rfl rfl rfl rfl _ _ (index3 pf i) (h.ex_lt _ (hi i)), .inl rfl⟩,
    fun i => ⟨ex_block S1x1x1024.size S32x1x1024.size rfl rfl rfl rfl _ _ (index4 pf i) (h.ex_lt _ (hi i)), .inl rfl⟩,
    fun i => xs_block _ _ (index5 pf i) (h.tile_lt _ (hi i))⟩

/-! ## The blocks, and what a step computes -/

section Blocks

variable (V : (c : Dev nD) → (b : Ref sig .tc) → Buf (Elt F) ((c : Thread nD τ).loc b)) (pf : pre0.Contents (Elt F)) (hok : ok0 pf)

/-- The tables as the pipeline takes them. -/
abbrev adm : (p : Fin 1) → (pcfgs (F := F) p).Adm := fun _ => ⟨pf, hok⟩

/-- Step `t`'s rows. -/
def xB (c : Dev nD) (t : Fin grid0.N) : Vec F S512x1024 .bf16 := ((win0 ⟨pf, hok⟩ 0).blk t).view.read (Elt F) (V c main_arg0)
/-- Step `t`'s expert's up-projection. -/
def wuB (c : Dev nD) (t : Fin grid0.N) : Vec F S1x1024x2048 .f32 := ((win0 ⟨pf, hok⟩ 1).blk t).view.read (Elt F) (V c main_arg5)
/-- Its bias. -/
def buB (c : Dev nD) (t : Fin grid0.N) : Vec F S1x1x2048 .f32 := ((win0 ⟨pf, hok⟩ 2).blk t).view.read (Elt F) (V c main_v0)
/-- Step `t`'s expert's down-projection. -/
def wdB (c : Dev nD) (t : Fin grid0.N) : Vec F S1x1024x1024 .f32 := ((win0 ⟨pf, hok⟩ 3).blk t).view.read (Elt F) (V c main_arg7)
/-- Its bias. -/
def bdB (c : Dev nD) (t : Fin grid0.N) : Vec F S1x1x1024 .f32 := ((win0 ⟨pf, hok⟩ 4).blk t).view.read (Elt F) (V c main_v1)

/-- What step `t`'s expert makes of step `t`'s rows. -/
def yB (c : Dev nD) (t : Fin grid0.N) : Vec F S512x1024 .bf16 :=
  k0_pay3 (rowsW pf t.val) (xB V pf hok c t) (k0_pay1 (wuB V pf hok c t)) (buB V pf hok c t) (k0_pay2 (wdB V pf hok c t)) (bdB V pf hok c t)

/-- What the output's buffer holds after step `t`: what the step of that block computed. -/
def outB (c : Dev nD) (t : Fin grid0.N) : Vec F S512x1024 .bf16 :=
  if h : (tileW pf t.val).toNat < grid0.N then yB V pf hok c ⟨(tileW pf t.val).toNat, h⟩ else yB V pf hok c t

/-- What the body carries from step to step: the two scratch arrays — after a step with rows, its expert's weights cast —, the
    generator's register and the tables. -/
def Phi (c : Dev nD) (n : ℕ) : sProp 𝕄 :=
  iprop(∃ s0 : Vec F S1024x2048 .bf16, ∃ s1 : Vec F S1024x1024 .bf16,
    ⌜∀ t : Fin grid0.N, t.val + 1 = n → Used (rowsW pf t.val) → s0 = k0_pay1 (wuB V pf hok c t) ∧ s1 = k0_pay2 (wdB V pf hok c t)⌝
    ∗ owns (c : Thread nD τ) (Memref.whole cc0_scratch0) fullShare s0 ∗ owns (c : Thread nD τ) (Memref.whole cc0_scratch1) fullShare s1
    ∗ (∃ r, prngReg c r) ∗ Pipeline.ΦT pre0 pf c)

/-- The pipeline's proof data on core `c`. -/
def dats (p : Fin 1) (c : Dev nD) : Pipeline.Dat τ (Elt F) Unit ℕ (UR sig nD τ) ℕ (Pipeline.pin (pcfgs (F := F)) (adm pf hok) p) c where
  A := fun w => V c (Pipeline.arrRef spec0 w)
  after := fun
    | 0 => fun t => xB V pf hok c t
    | 1 => fun t => wuB V pf hok c t
    | 2 => fun t => buB V pf hok c t
    | 3 => fun t => wdB V pf hok c t
    | 4 => fun t => bdB V pf hok c t
    | 5 => fun t => outB V pf hok c t
    | ⟨_ + 6, h⟩ => absurd h (Nat.not_lt.2 (Nat.le_add_left _ _))
  Φ := fun n => Phi V pf hok c n.val
  q := fun _ => fullShare
  owed := fun _ => 0

/-- After a step the output's buffer holds `outB`. -/
theorem after5 (p : Fin 1) (c : Dev nD) (t : Fin grid0.N) : (dats V pf hok p c).after (5 : Fin 6) t = outB V pf hok c t := by
  dsimp only [dats]

/-- Before a step the rows' buffer holds the step's rows. -/
theorem before0 (p : Fin 1) (c : Dev nD) (t : Fin grid0.N) (d) : (dats V pf hok p c).before (0 : Fin 6) t d = xB V pf hok c t :=
  (dats V pf hok p c).before_in_eq_fetched (0 : Fin 6) rfl (fun _ => rfl) (fun _ _ _ => rfl) (fun t => by dsimp only [dats]; rfl) t d

/-- Before a step the up-projection's buffer holds the step's expert's up-projection. -/
theorem before1 (p : Fin 1) (c : Dev nD) (t : Fin grid0.N) (d) : (dats V pf hok p c).before (1 : Fin 6) t d = wuB V pf hok c t :=
  (dats V pf hok p c).before_in_eq_fetched (1 : Fin 6) rfl (fun _ => rfl) (fun _ _ _ => rfl) (fun t => by dsimp only [dats]; rfl) t d

/-- Before a step the buffer of its bias holds that expert's bias. -/
theorem before2 (p : Fin 1) (c : Dev nD) (t : Fin grid0.N) (d) : (dats V pf hok p c).before (2 : Fin 6) t d = buB V pf hok c t :=
  (dats V pf hok p c).before_in_eq_fetched (2 : Fin 6) rfl (fun _ => rfl) (fun _ _ _ => rfl) (fun t => by dsimp only [dats]; rfl) t d

/-- Before a step the down-projection's buffer holds the step's expert's down-projection. -/
theorem before3 (p : Fin 1) (c : Dev nD) (t : Fin grid0.N) (d) : (dats V pf hok p c).before (3 : Fin 6) t d = wdB V pf hok c t :=
  (dats V pf hok p c).before_in_eq_fetched (3 : Fin 6) rfl (fun _ => rfl) (fun _ _ _ => rfl) (fun t => by dsimp only [dats]; rfl) t d

/-- Before a step the buffer of its bias holds that expert's bias. -/
theorem before4 (p : Fin 1) (c : Dev nD) (t : Fin grid0.N) (d) : (dats V pf hok p c).before (4 : Fin 6) t d = bdB V pf hok c t :=
  (dats V pf hok p c).before_in_eq_fetched (4 : Fin 6) rfl (fun _ => rfl) (fun _ _ _ => rfl) (fun t => by dsimp only [dats]; rfl) t d

/-! ## The schedule -/

/-- The output's window is idle at a step exactly when the step has no rows. -/
theorem idle_iff (t : Fin grid0.N) : (cfg0 ⟨pf, hok⟩).idle (5 : Fin 6) (grid0.coords t) = true ↔ ¬ Used (rowsW pf t.val) := by
  rw [← coords_zero t]; exact idle5 pf _

/-- The output's block at a step is the one its word of `w_tile` names. -/
theorem index_out (t : Fin grid0.N) : (win0 ⟨pf, hok⟩ 5).index t = ![(tileW pf t.val).toNat, 0] := by
  rw [← coords_zero t]; exact index5 pf _

/-- A step followed by one without rows does not write its block back. -/
theorem flush_before_idle (h : PlanOk pf) (n : ℕ) (hn : n + 1 < grid0.N) (hi : ¬ Used (rowsW pf (n + 1))) :
    (win0 ⟨pf, hok⟩ 5).flush ⟨n, Nat.lt_of_succ_lt hn⟩ = false := by
  rw [Bool.eq_false_iff]
  intro hf
  rw [Pipeline.Window.flush_eq_flushF] at hf
  unfold Pipeline.Window.flushF at hf
  rw [Bool.and_eq_true, Bool.or_eq_true] at hf
  rcases hf.2 with h1 | h1
  · have h1 : n + 1 = grid0.N := of_decide_eq_true h1
    omega
  · obtain ⟨h2, a, ha⟩ := of_decide_eq_true h1
    apply ha
    have e1 := index_out pf hok ⟨n + 1, h2⟩
    have e2 := index_out pf hok ⟨n, Nat.lt_of_succ_lt hn⟩
    have e3 : tileW pf (n + 1) = tileW pf n := h.tile_idle n (lt_of_lt_of_eq hn N_0) hi
    exact congrFun (e1.trans ((congrArg (fun v : BitVec 32 => (![v.toNat, 0] : Fin 2 → ℕ)) e3).trans e2.symm)) a

/-- A step without rows finds in the output's buffer what was computed last, not leavings. -/
theorem fresh_idle (h : PlanOk pf) : ∀ (n : ℕ) (hn : n < grid0.N), ¬ Used (rowsW pf n) → (cfg0 ⟨pf, hok⟩).fresh (5 : Fin 6) n = false
  | 0, _, hi => absurd h.used_zero hi
  | n + 1, hn, hi => by
    have hn' : n < grid0.N := Nat.lt_of_succ_lt hn
    rw [Pipeline.Cfg.fresh_succ _ _ n hn']
    have hf : ((cfg0 (⟨pf, hok⟩ : (pcfg0 (F := F)).Adm)).win (5 : Fin 6)).flush ⟨n, hn'⟩ = false := flush_before_idle pf hok h n hn hi
    rw [hf, Bool.false_or, Bool.and_eq_false_iff]
    by_cases hu : Used (rowsW pf n)
    · left
      rw [Bool.eq_false_iff]
      exact fun h' => (idle_iff pf hok ⟨n, hn'⟩).mp h' hu
    · exact .inr (fresh_idle h n hn' hu)

end Blocks

end Cert.KernelIdeal.Experts

end
-- ==== Proof.KI.Step.lean ====
/-
  One step of the experts' pipeline keeps the proof data: the body's obligation.
-/
module

public import proofs.«01_k».proof.Proof.KI.Data

@[expose] public section

set_option maxRecDepth 16384

noncomputable section

namespace Cert.KernelIdeal.Experts

open Cert.KernelIdeal Cert.KernelIdeal.Gen Cert.Plan
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (V : (c : Dev nD) → (b : Ref sig .tc) → Buf (Elt F) ((c : Thread nD τ).loc b)) (pf : pre0.Contents (Elt F)) (hok : ok0 pf)

/-- Two steps of one expert fetch one up-projection. -/
theorem wuB_congr (c : Dev nD) (t t' : Fin grid0.N) (h : exW pf t.val = exW pf t'.val) : wuB V pf hok c t = wuB V pf hok c t' := by
  have e : (win0 ⟨pf, hok⟩ 1).index t = (win0 ⟨pf, hok⟩ 1).index t' := by
    have e1 : (win0 ⟨pf, hok⟩ 1).index t = ![(exW pf t.val).toNat, 0, 0] := by rw [← coords_zero t]; exact index1 pf _
    have e2 : (win0 ⟨pf, hok⟩ 1).index t' = ![(exW pf t'.val).toNat, 0, 0] := by rw [← coords_zero t']; exact index1 pf _
    rw [e1, e2, h]
  exact (dats V pf hok 0 c).fetched_congr (1 : Fin 6) e rfl (fun _ => Classical.arbitrary _)

/-- Two steps of one expert fetch one down-projection. -/
theorem wdB_congr (c : Dev nD) (t t' : Fin grid0.N) (h : exW pf t.val = exW pf t'.val) : wdB V pf hok c t = wdB V pf hok c t' := by
  have e : (win0 ⟨pf, hok⟩ 3).index t = (win0 ⟨pf, hok⟩ 3).index t' := by
    have e1 : (win0 ⟨pf, hok⟩ 3).index t = ![(exW pf t.val).toNat, 0, 0] := by rw [← coords_zero t]; exact index3 pf _
    have e2 : (win0 ⟨pf, hok⟩ 3).index t' = ![(exW pf t'.val).toNat, 0, 0] := by rw [← coords_zero t']; exact index3 pf _
    rw [e1, e2, h]
  exact (dats V pf hok 0 c).fetched_congr (3 : Fin 6) e rfl (fun _ => Classical.arbitrary _)

/-- After a step with rows the scratch arrays hold the step's expert's weights, cast there or held since its first step. -/
theorem scratch_used (h : PlanOk pf) (c : Dev nD) (t : Fin grid0.N) (s0 : Vec F S1024x2048 .bf16) (s1 : Vec F S1024x1024 .bf16)
    (hs : ∀ t' : Fin grid0.N, t'.val + 1 = t.val → Used (rowsW pf t'.val) → s0 = k0_pay1 (wuB V pf hok c t') ∧ s1 = k0_pay2 (wdB V pf hok c t'))
    (hu : Used (rowsW pf t.val)) :
    next0 (firstW pf t.val) (wuB V pf hok c t) s0 = k0_pay1 (wuB V pf hok c t)
      ∧ next1 (firstW pf t.val) (wdB V pf hok c t) s1 = k0_pay2 (wdB V pf hok c t) := by
  by_cases hf : firstW pf t.val = 1#32
  · have : cond1 (firstW pf t.val) = 1#1 := (cond1_iff _).mpr hf
    unfold next0 next1
    rw [if_pos this, if_pos this]
    exact ⟨rfl, rfl⟩
  · have hc : ¬ cond1 (firstW pf t.val) = 1#1 := fun e => hf ((cond1_iff _).mp e)
    unfold next0 next1
    rw [if_neg hc, if_neg hc]
    obtain ⟨n, hn⟩ := t
    cases n with
    | zero => exact absurd h.first_zero hf
    | succ n =>
      have hn' : n + 1 < 288 := lt_of_lt_of_eq hn N_0
      have hup : Used (rowsW pf n) := h.used_before n hn' hu
      have he : exW pf (n + 1) = exW pf n := Classical.byContradiction fun hne => hf (h.first_change n hn' hu hne)
      obtain ⟨a, b⟩ := hs ⟨n, Nat.lt_of_succ_lt hn⟩ rfl hup
      exact ⟨a.trans (congrArg k0_pay1 (wuB_congr V pf hok c _ _ he.symm)), b.trans (congrArg k0_pay2 (wdB_congr V pf hok c _ _ he.symm))⟩

/-- When a step names the block of a given step, the output's buffer holds what that step computed. -/
theorem outB_of_tile (c : Dev nD) (t t' : Fin grid0.N) (h : (tileW pf t.val).toNat = t'.val) : outB V pf hok c t = yB V pf hok c t' := by
  unfold outB
  have hl : (tileW pf t.val).toNat < grid0.N := h ▸ t'.isLt
  rw [dif_pos hl]
  congr 1
  exact Fin.ext h

/-- The output's buffer after a step, as the pipeline asks for it. -/
theorem out_leaves (h : PlanOk pf) (p : Fin 1) (c : Dev nD) (t : Fin grid0.N) (s0 : Vec F S1024x2048 .bf16) (s1 : Vec F S1024x1024 .bf16)
    (d : Vec F S512x1024 .bf16)
    (hs : Used (rowsW pf t.val) → s0 = k0_pay1 (wuB V pf hok c t) ∧ s1 = k0_pay2 (wdB V pf hok c t))
    (M : Memref sig .tc .vmem S512x1024 .bf16) :
    (owns (c : Thread nD τ) M fullShare (nextY (rowsW pf t.val) (xB V pf hok c t) s0 (buB V pf hok c t) s1 (bdB V pf hok c t)
        ((dats V pf hok p c).before (5 : Fin 6) t d)) : sProp 𝕄)
    ⊢ (match (cfg0 ⟨pf, hok⟩).idle (5 : Fin 6) (grid0.coords t) with
        | true =>
          match (win0 ⟨pf, hok⟩ 5).flush t with
          | false => iprop(∃ d, owns (c : Thread nD τ) M fullShare ((dats V pf hok p c).before (5 : Fin 6) t d))
          | true => owns (c : Thread nD τ) M fullShare ((dats V pf hok p c).after (5 : Fin 6) t)
        | false => owns (c : Thread nD τ) M fullShare ((dats V pf hok p c).after (5 : Fin 6) t)) := by
  have hN : t.val < 288 := lt_of_lt_of_eq t.isLt N_0
  by_cases hu : Used (rowsW pf t.val)
  · have hi : (cfg0 ⟨pf, hok⟩).idle (5 : Fin 6) (grid0.coords t) = false := by
      rw [Bool.eq_false_iff]; exact fun e => (idle_iff pf hok t).mp e hu
    have e : nextY (rowsW pf t.val) (xB V pf hok c t) s0 (buB V pf hok c t) s1 (bdB V pf hok c t) ((dats V pf hok p c).before (5 : Fin 6) t d)
        = (dats V pf hok p c).after (5 : Fin 6) t := by
      rw [after5, outB_of_tile V pf hok c t t (h.tile_used _ hN hu)]
      unfold nextY yB
      rw [if_pos ((cond2_iff _).mpr hu), (hs hu).1, (hs hu).2]
    rw [hi, e]
  · have hi : (cfg0 ⟨pf, hok⟩).idle (5 : Fin 6) (grid0.coords t) = true := (idle_iff pf hok t).mpr hu
    have e : nextY (rowsW pf t.val) (xB V pf hok c t) s0 (buB V pf hok c t) s1 (bdB V pf hok c t) ((dats V pf hok p c).before (5 : Fin 6) t d)
        = (dats V pf hok p c).before (5 : Fin 6) t d := by
      unfold nextY
      rw [if_neg (fun e => hu ((cond2_iff _).mp e))]
    have hcarry : ∀ (t : Fin grid0.N) (ht : t.val ≠ 0), ¬ Used (rowsW pf t.val) →
        (dats V pf hok p c).after (5 : Fin 6) t = (dats V pf hok p c).after (5 : Fin 6) ⟨t.val - 1, Nat.lt_of_le_of_lt (Nat.sub_le _ _) t.isLt⟩ := by
      intro t ht hu
      obtain ⟨n, hn⟩ := t
      cases n with
      | zero => exact absurd rfl ht
      | succ n =>
        have hn' : n + 1 < 288 := lt_of_lt_of_eq hn N_0
        have ht : (tileW pf (n + 1)).toNat < grid0.N := by rw [N_0]; exact h.tile_lt _ hn'
        rw [after5, after5, outB_of_tile V pf hok c ⟨n + 1, hn⟩ ⟨_, ht⟩ rfl,
          outB_of_tile V pf hok c _ ⟨_, ht⟩ (congrArg BitVec.toNat (h.tile_idle n hn' hu).symm)]
    rw [hi, e]
    cases hf : (win0 ⟨pf, hok⟩ 5).flush t
    · show _ ⊢ iprop(∃ d, owns (c : Thread nD τ) M fullShare ((dats V pf hok p c).before (5 : Fin 6) t d))
      iintro H
      iexists d
      iexact H
    · have ht : t.val ≠ 0 := fun e => hu (by rw [e]; exact h.used_zero)
      have hb := (dats V pf hok p c).before_out_traj (5 : Fin 6) rfl (fun _ _ => rfl)
        (fun t ht hi _ => hcarry t ht ((idle_iff pf hok t).mp hi)) t.val t rfl d
      have hfr : (Pipeline.pin (pcfgs (F := F)) (adm pf hok) p).fresh (5 : Fin 6) t.val = false := fresh_idle pf hok h t.val t.isLt hu
      rw [hfr, if_neg Bool.false_ne_true] at hb
      rw [hb, ← hcarry t ht hu]

/-- The tables held, one by one. -/
theorem tables_eq (c : Dev nD) : (Pipeline.ΦT pre0 pf c : sProp 𝕄)
    = iprop(pt c (Memref.whole main_arg1) fullShare.right (pf 0) ∗ pt c (Memref.whole main_arg2) fullShare.right (pf 1)
        ∗ pt c (Memref.whole main_arg3) fullShare.right (pf 2) ∗ pt c (Memref.whole main_arg4) fullShare.right (pf 3)) :=
  bigSep_univ_eq_bigSepL [(0 : Fin 4), (1 : Fin 4), (2 : Fin 4), (3 : Fin 4)] (by decide) (by decide) _

/-- The invariant before step `t` and after it. -/
theorem phi_before (p : Fin 1) (c : Dev nD) (t : Fin grid0.N) : (dats V pf hok p c).Φ t.castSucc = Phi V pf hok c t.val := rfl

/-- After a step the body carries what the next step is given. -/
theorem phi_after (p : Fin 1) (c : Dev nD) (t : Fin grid0.N) : (dats V pf hok p c).Φ t.succ = Phi V pf hok c (t.val + 1) := rfl

/-- Every step keeps the proof data. -/
theorem body_ok (h : PlanOk pf) (p : Fin 1) (c : Dev nD) :
    Pipeline.BodyObligation (dats V pf hok p c) (defs₀ (F := F)) Variants.none () Set.univ := by
  intro t
  rw [Gen.bigSep_W0, Gen.bigSep_W0, phi_before, phi_after]
  unfold Phi
  rw [tables_eq]
  simp only [before0, before1, before2, before3, before4]
  iintro ⟨⟨%s0, %s1, %hs, Hs0, Hs1, Hp, T0, T1, T2, T3⟩, Ho, ⟨%d0, W0⟩, ⟨%d1, W1⟩, ⟨%d2, W2⟩, ⟨%d3, W3⟩, ⟨%d4, W4⟩, ⟨%d5, W5⟩⟩
  have hsc := scratch_used V pf hok h c t s0 s1 hs
  iapply body_run c (grid0.coords t) fullShare.right (Memref.whole main_arg1) _ (Memref.whole main_arg2) _ (Memref.whole main_arg3) _
    (Memref.whole main_arg4) _ _ _ _ _ _ _ _ _ _ _ _ _ (Memref.whole cc0_scratch0) _ (Memref.whole cc0_scratch1) _ (pf 2) (pf 3)
    (xB V pf hok c t) (wuB V pf hok c t) (buB V pf hok c t) (wdB V pf hok c t) (bdB V pf hok c t) ((dats V pf hok p c).before (5 : Fin 6) t d5)
    s0 s1 (firstW pf t.val) (rowsW pf t.val) (by rw [← coords_zero t]; exact word_emb (pf 3) _ (grid0.coords t) (off1_apply _) _ _)
    (by rw [← coords_zero t]; exact word_emb (pf 2) _ (grid0.coords t) (off2_apply _) _ _)
  isplitl [T2]; iexact T2
  isplitl [T3]; iexact T3
  isplitl [W0]; iexact W0
  isplitl [W1]; iexact W1
  isplitl [W2]; iexact W2
  isplitl [W3]; iexact W3
  isplitl [W4]; iexact W4
  isplitl [W5]; iexact W5
  isplitl [Hs0]; iexact Hs0
  isplitl [Hs1]; iexact Hs1
  iintro T2 T3 W0 W1 W2 W3 W4 W5 Hs0 Hs1
  isplitl [Hs0 Hs1 Hp T0 T1 T2 T3]
  · iexists (next0 (firstW pf t.val) (wuB V pf hok c t) s0)
    iexists (next1 (firstW pf t.val) (wdB V pf hok c t) s1)
    isplitr
    · ipureintro
      intro t' ht' hu'
      have e : t' = t := Fin.ext (Nat.succ.inj ht')
      subst e
      exact hsc hu'
    isplitl [Hs0]; iexact Hs0
    isplitl [Hs1]; iexact Hs1
    isplitl [Hp]; iexact Hp
    isplitl [T0]; iexact T0
    isplitl [T1]; iexact T1
    isplitl [T2]; iexact T2
    iexact T3
  isplitl [Ho]; iexact Ho
  isplitl [W0]; iexact W0
  isplitl [W1]; iexact W1
  isplitl [W2]; iexact W2
  isplitl [W3]; iexact W3
  isplitl [W4]; iexact W4
  iapply out_leaves V pf hok h p c t _ _ d5 hsc
  iexact W5

end Cert.KernelIdeal.Experts

end
-- ==== Proof.KI.Run.lean ====
/-
  The experts' program run whole: it terminates, its arguments end unchanged, every counter is zero, and its result is
  the array the pipeline's write-backs leave.
-/
module

public import proofs.«01_k».proof.Proof.KI.Step
public import Idealize.ShloMosaic.Lib.StableHlo.RunRead

@[expose] public section

set_option maxRecDepth 16384

noncomputable section

namespace Cert.KernelIdeal.Experts

open Cert.KernelIdeal Cert.KernelIdeal.Gen Cert.Plan
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ)

/-- The buffers' contents when the pipeline starts: the biases reshaped, all else as launched. -/
abbrev atEntry : (c : Dev nD) → (b : Ref sig .tc) → Buf (Elt F) ((c : Thread nD τ).loc b) :=
  fun c b => StableHlo.after (hostOps0 (F := F)) (fun b => m ((c : Dev nD), b)) b

/-- The plan's tables, read off the memory at launch. -/
abbrev tables : pre0.Contents (Elt F) := fun k => m (((0 : Dev nD) : Thread nD τ).loc (pre0.ref k))

/-- A buffer other than the two reshaped biases is as launched. -/
theorem entry_of_ne (c : Dev nD) (b : Ref sig .tc) (h : b ∉ [main_v0, main_v1]) : atEntry m c b = m ((c : Thread nD τ).loc b) :=
  StableHlo.after_unwritten [main_v0, main_v1] rfl h _

/-- The up-projection's bias as the pipeline reads it. -/
theorem entry_v0 (c : Dev nD) : atEntry m c main_v0 = shapeCast S32x1x2048 (m ((c : Thread nD τ).loc main_arg6)) shapeCasts_S32x2048_S32x1x2048 := by
  show StableHlo.after (hostOps0 (F := F)) (fun b => m ((c : Dev nD), b)) (Proc.devRef .tc main_v0) = _
  rw [StableHlo.after_cons, StableHlo.after_cons, StableHlo.after_nil, StableHlo.reshape_result_ne _ _ _ _ _ _ _ (by decide), StableHlo.reshape_result]
  rfl

/-- The down-projection's bias as the pipeline reads it. -/
theorem entry_v1 (c : Dev nD) : atEntry m c main_v1 = shapeCast S32x1x1024 (m ((c : Thread nD τ).loc main_arg8)) shapeCasts_S32x1024_S32x1x1024 := by
  show StableHlo.after (hostOps0 (F := F)) (fun b => m ((c : Dev nD), b)) (Proc.devRef .tc main_v1) = _
  rw [StableHlo.after_cons, StableHlo.after_cons, StableHlo.after_nil, StableHlo.reshape_result, StableHlo.reshape_result_ne _ _ _ _ _ _ _ (by decide)]
  rfl

/-- The tables at the pipeline's start are those at launch, on the one device. -/
theorem entry_tables (c : Dev nD) (k : Fin 4) : atEntry m c (pre0.ref k) = tables m k := by
  have hc : c = 0 := Subsingleton.elim _ _
  subst hc
  exact entry_of_ne m 0 (pre0.ref k) (by revert k; decide)

/-- The run, its post in the pipeline's own terms. -/
theorem run_frame (g : Dev nD → PrngReg) (h : PlanOk (tables m)) :
    θ_run (defs (F := F)) (onTc (τ := τ) (main (F := F))) ⟨m, fun _ => 0, g⟩
      (fun r => Pipeline.FramePost (Pipeline.pin (pcfgs (F := F)) (adm (tables m) (ok_of_plan _ h))) (dats (atEntry m) (tables m) (ok_of_plan _ h)) 0 (atEntry m) r
        ∧ r.2.sem = fun _ => 0) :=
  Pipeline.θ_run_frameP_track (pcfgs (F := F)) (adm (tables m) (ok_of_plan _ h)) (dats (atEntry m) (tables m) (ok_of_plan _ h)) 0 launch0
    defs₀ Variants.none m g main
    (hbody := fun c => (body_ok (atEntry m) (tables m) (ok_of_plan _ h) h 0 c).loose)
    (hshare := fun c => (dats (atEntry m) (tables m) (ok_of_plan _ h) 0 c).share_full fun _ => rfl) (howed := fun _ _ => rfl)
    (V := atEntry m)
    (hmain := Pipeline.hmainP_prefix (pcfgs (F := F)) 0 defs₀ Variants.none m main hostOps0 hostOps0_sub (by exact ⟨rfl, rfl⟩) main_chain)
    (hA := fun _ _ => rfl) (hpf := entry_tables m)
    (hin := fun c => by
      show iprop(Pipeline.ΦA spec0 c ∗ Pipeline.ΦT pre0 (tables m) c) ⊢ Phi (atEntry m) (tables m) (ok_of_plan _ h) c 0
      unfold Pipeline.ΦA Phi
      rw [scopedRest0_eq]
      iintro ⟨⟨⟨⟨%f0, H0⟩, ⟨%f1, H1⟩⟩, Hp⟩, HT⟩
      iexists (Memref.whole cc0_scratch0).view.read (Elt F) f0
      iexists (Memref.whole cc0_scratch1).view.read (Elt F) f1
      isplitr
      · ipureintro
        intro t ht
        exact absurd ht (Nat.succ_ne_zero _)
      isplitl [H0]
      · iapply pt_owns c (Memref.whole cc0_scratch0) (Memref.isWhole_whole _) fullShare f0 _ rfl $$ H0
      isplitl [H1]
      · iapply pt_owns c (Memref.whole cc0_scratch1) (Memref.isWhole_whole _) fullShare f1 _ rfl $$ H1
      isplitl [Hp]; iexact Hp
      iexact HT)
    (hout := fun c => by
      show Phi (atEntry m) (tables m) (ok_of_plan _ h) c _ ⊢ Pipeline.ΦA spec0 c
      unfold Pipeline.ΦA Phi
      rw [scopedRest0_eq]
      simp only [owns_pt c (Memref.whole cc0_scratch0) (Memref.isWhole_whole _), owns_pt c (Memref.whole cc0_scratch1) (Memref.isWhole_whole _)]
      iintro ⟨%s0, %s1, -, H0, H1, Hp, -⟩
      isplitl [H0 H1]
      · isplitl [H0]
        · iexists _
          iexact H0
        · iexists _
          iexact H1
      iexact Hp)
    (Q' := _) (hQ' := fun _ h => h)

/-- The result the run leaves on core `c`. -/
def result (h : PlanOk (tables m)) (c : Dev nD) : Buf (Elt F) ((c : Thread nD τ).loc main_v2) :=
  (dats (atEntry m) (tables m) (ok_of_plan _ h) 0 c).arrAt (5 : Fin 6) grid0.N

/-- The run: the arguments end as they started, the result is `result`, every counter is zero. -/
theorem run (g : Dev nD → PrngReg) (h : PlanOk (tables m)) :
    θ_run (defs (F := F)) (onTc (τ := τ) (main (F := F))) ⟨m, fun _ => 0, g⟩ (fun r =>
      (∀ c : Dev nD, r.2.mem ((c : Thread nD τ).loc main_v2) = result m h c
        ∧ ∀ b ∈ [main_arg0, main_arg1, main_arg2, main_arg3, main_arg4, main_arg5, main_arg6, main_arg7, main_arg8],
          r.2.mem ((c : Thread nD τ).loc b) = m ((c : Thread nD τ).loc b))
      ∧ r.2.sem = fun _ => 0) := by
  refine (θ_run _ _ _).mono ?_ (run_frame m g h)
  rintro r ⟨hr, hs⟩
  refine ⟨fun c => ⟨(hr c).1 (5 : Fin 6), ?_⟩, hs⟩
  have hw : ∀ w : Fin 6, (spec0 w).isOut = false → Pipeline.arrRef spec0 w ∉ [main_v0, main_v1] →
      r.2.mem ((c : Thread nD τ).loc (Pipeline.arrRef spec0 w)) = m ((c : Thread nD τ).loc (Pipeline.arrRef spec0 w)) := fun w hi hb =>
    ((hr c).1 w).trans (((dats (atEntry m) (tables m) (ok_of_plan _ h) 0 c).arrAt_in w hi _).trans (entry_of_ne m c _ hb))
  have hn : ∀ b ∈ Pipeline.restRefs sig spec0, b ∉ [main_v0, main_v1] → r.2.mem ((c : Thread nD τ).loc b) = m ((c : Thread nD τ).loc b) :=
    fun b hb h0 => ((hr c).2 b hb).trans (entry_of_ne m c _ h0)
  intro b hb
  simp only [List.mem_cons, List.not_mem_nil, or_false] at hb
  rcases hb with rfl | rfl | rfl | rfl | rfl | rfl | rfl | rfl | rfl
  · exact hw 0 rfl (by decide)
  · exact hn _ (by decide) (by decide)
  · exact hn _ (by decide) (by decide)
  · exact hn _ (by decide) (by decide)
  · exact hn _ (by decide) (by decide)
  · exact hw 1 rfl (by decide)
  · exact hn _ (by decide) (by decide)
  · exact hw 3 rfl (by decide)
  · exact hn _ (by decide) (by decide)

end Cert.KernelIdeal.Experts

end
-- ==== Proof.KI.Value.lean ====
/-
  What the experts' program leaves in its result: on a tile that has rows, what that tile's step computes.
-/
module

public import proofs.«01_k».proof.Proof.KI.Run
public import Idealize.ShloMosaic.Lib.Pipeline.ValueKit.Geometry
public import Idealize.ShloMosaic.Lib.Pointwise.Index

@[expose] public section

set_option maxRecDepth 16384

noncomputable section

namespace Cert.KernelIdeal.Experts

open Cert.KernelIdeal Cert.KernelIdeal.Gen Cert.Plan
open Idealize.ShloMosaic Idealize.ShloMosaic.TcCoe Idealize.SL Idealize.SL.Sem Idealize.ShloMosaic.Rounds

variable {F : FTy → Type} [FloatOps F]

section Blocks

variable (V : (c : Dev nD) → (b : Ref sig .tc) → Buf (Elt F) ((c : Thread nD τ).loc b)) (pf : pre0.Contents (Elt F)) (hok : ok0 pf)

/-- Where an element of the output's block lies in the result. -/
theorem out_emb (t : Fin grid0.N) (y : S512x1024.Idx) :
    ((((win0 ⟨pf, hok⟩ 5).blk t).view.emb y : S147456x1024.Idx) 0).val = (tileW pf t.val).toNat * 512 + (y 0).val
    ∧ ((((win0 ⟨pf, hok⟩ 5).blk t).view.emb y : S147456x1024.Idx) 1).val = (y 1).val := by
  have e := index_out pf hok t
  have h0 := Pipeline.Window.rect_emb_val (win0 ⟨pf, hok⟩ 5) t y (0 : Fin 2)
  have h1 := Pipeline.Window.rect_emb_val (win0 ⟨pf, hok⟩ 5) t y (1 : Fin 2)
  rw [e] at h0 h1
  exact ⟨h0, h1.trans (by show 0 * 1024 + _ = _; omega)⟩

/-- Of the steps on a used block the last writes it back. -/
theorem flush_last (h : PlanOk pf) (w : Fin grid0.N) (hu : Used (rowsW pf w.val)) :
    ∃ t : Fin grid0.N, (win0 ⟨pf, hok⟩ 5).flush t = true ∧ (tileW pf t.val).toNat = w.val := by
  classical
  have hw : w.val < 288 := lt_of_lt_of_eq w.isLt N_0
  let S : Finset (Fin grid0.N) := Finset.univ.filter fun t => (tileW pf t.val).toNat = w.val
  have hS : S.Nonempty := ⟨w, Finset.mem_filter.mpr ⟨Finset.mem_univ _, h.tile_used _ hw hu⟩⟩
  let t := S.max' hS
  have ht : (tileW pf t.val).toNat = w.val := (Finset.mem_filter.mp (S.max'_mem hS)).2
  refine ⟨t, ?_, ht⟩
  rw [Pipeline.Window.flush_eq_flushF]
  unfold Pipeline.Window.flushF
  rw [Bool.and_eq_true, Bool.or_eq_true]
  refine ⟨rfl, ?_⟩
  by_cases hl : t.val + 1 = grid0.N
  · exact .inl (decide_eq_true hl)
  · right
    have hn : t.val + 1 < grid0.N := by have := t.isLt; omega
    refine decide_eq_true ⟨hn, (0 : Fin 2), fun e => ?_⟩
    have e1 := index_out pf hok ⟨t.val + 1, hn⟩
    have e2 := index_out pf hok t
    have e3 : (tileW pf (t.val + 1)).toNat = (tileW pf t.val).toNat :=
      (congrFun e1 (0 : Fin 2)).symm.trans (e.trans (congrFun e2 (0 : Fin 2)))
    have : (⟨t.val + 1, hn⟩ : Fin grid0.N) ≤ t := S.le_max' _ (Finset.mem_filter.mpr ⟨Finset.mem_univ _, e3.trans ht⟩)
    have : t.val + 1 ≤ t.val := this
    omega

/-- The element of a block that an element of the result is. -/
def inBlock (i : S147456x1024.Idx) : S512x1024.Idx := ix2 (⟨(i 0).val % 512, Nat.mod_lt _ (by decide)⟩ : Fin 512) (⟨(i 1).val, (i 1).isLt⟩ : Fin 1024)

/-- On a used block, the array after the run is what the block's step computes. -/
theorem arr_used (h : PlanOk pf) (c : Dev nD) (w : Fin grid0.N) (hu : Used (rowsW pf w.val)) (i : S147456x1024.Idx) (hi : (i 0).val / 512 = w.val) :
    ((dats V pf hok 0 c).arrAt (5 : Fin 6) grid0.N : S147456x1024.Idx → Elt F .bf16) i = yB V pf hok c w (inBlock i) := by
  obtain ⟨t, hf, ht⟩ := flush_last pf hok h w hu
  let y := inBlock i
  have hmem : i ∈ ((win0 ⟨pf, hok⟩ 5).blk t).view.set := by
    refine Finset.mem_map.mpr ⟨y, Finset.mem_univ y, ?_⟩
    obtain ⟨a0, a1⟩ := out_emb pf hok t y
    funext a
    apply Fin.ext
    match a with
    | ⟨0, _⟩ =>
      refine a0.trans ?_
      rw [ht, ← hi]
      show (i 0).val / 512 * 512 + (i 0).val % 512 = (i 0).val
      omega
    | ⟨1, _⟩ => exact a1
  have key := (dats V pf hok 0 c).arrAt_forall_of_flushed (5 : Fin 6)
    (fun (i : S147456x1024.Idx) (v : Elt F .bf16) => ∀ w : Fin grid0.N, (i 0).val / 512 = w.val → v = yB V pf hok c w (inBlock i))
    (fun t _ y w hw => by
      obtain ⟨a0, a1⟩ := out_emb pf hok t y
      have y0 : ((y : S512x1024.Idx) 0).val < 512 := ((y : S512x1024.Idx) 0).isLt
      have ew : (tileW pf t.val).toNat = w.val := by
        rw [← hw]
        refine Eq.symm ?_
        refine (congrArg (· / 512) a0).trans ?_
        show ((tileW pf t.val).toNat * 512 + ((y : S512x1024.Idx) 0).val) / 512 = _
        omega
      have e1 : ((dats V pf hok 0 c).flushed (5 : Fin 6) t y : Elt F .bf16) = outB V pf hok c t (y : S512x1024.Idx) := by
        rw [Pipeline.Dat.flushed_apply, after5]
      have e2 : inBlock ((((win0 ⟨pf, hok⟩ 5).blk t).view.emb y : S147456x1024.Idx)) = (y : S512x1024.Idx) := by
        funext a
        apply Fin.ext
        match a with
        | ⟨0, _⟩ =>
          refine (congrArg (· % 512) a0).trans ?_
          show ((tileW pf t.val).toNat * 512 + ((y : S512x1024.Idx) 0).val) % 512 = ((y : S512x1024.Idx) 0).val
          omega
        | ⟨1, _⟩ => exact a1
      refine Eq.trans (b := outB V pf hok c t (y : S512x1024.Idx)) e1 ?_
      rw [outB_of_tile V pf hok c t w ew]
      exact congrArg _ e2.symm)
    grid0.N t i t.isLt hf hmem
  exact key w hi

end Blocks

/-- On a tile with rows, the result of the run is what that tile's step computes. -/
theorem result_used (m : (ℓ : Loc nD τ sig) → Buf (Elt F) ℓ) (h : PlanOk (tables m)) (c : Dev nD) (w : Fin grid0.N)
    (hu : Used (rowsW (tables m) w.val)) (i : S147456x1024.Idx) (hi : (i 0).val / 512 = w.val) :
    (result m h c : S147456x1024.Idx → Elt F .bf16) i = yB (atEntry m) (tables m) (ok_of_plan _ h) c w (inBlock i) :=
  arr_used (atEntry m) (tables m) (ok_of_plan _ h) h c w hu i hi

end Cert.KernelIdeal.Experts

end
-- ==== Proof.Expert.lean ====
/-
  One expert applied to one row of numbers, over the extended reals.
-/
module

public import Idealize.ShloMosaic.Lib.Pointwise

@[expose] public section

noncomputable section

namespace Cert.Expert

open Idealize.ShloMosaic

/-- Column `f` of the up-projection of a row, with its bias. -/
def hidden (x : Fin 1024 → EReal) (wu : Fin 1024 → Fin 2048 → EReal) (bu : Fin 2048 → EReal) (f : Fin 2048) : EReal :=
  (∑ k : Fin 1024, x k * wu k f) + bu f

/-- The gated unit of a gate and a linear part: both clamped at seven, the gate times its logistic, the linear part plus one. -/
def glu (g u : EReal) : EReal :=
  (min (Ideal.ofBits .f32 0x40E00000#32) (max (Ideal.ofBits .f32 0xC0E00000#32) u) + 1)
    * (min g (Ideal.ofBits .f32 0x40E00000#32)
      * Ideal.logistic (min g (Ideal.ofBits .f32 0x40E00000#32) * Ideal.ofBits .f32 0x3FD9DB23#32))

/-- What the expert makes of a row, at column `d`. -/
def out (x : Fin 1024 → EReal) (wu : Fin 1024 → Fin 2048 → EReal) (bu : Fin 2048 → EReal) (wd : Fin 1024 → Fin 1024 → EReal)
    (bd : Fin 1024 → EReal) (d : Fin 1024) : EReal :=
  (∑ f : Fin 1024, glu (hidden x wu bu ⟨f.val, by omega⟩) (hidden x wu bu ⟨1024 + f.val, by omega⟩) * wd f d) + bd d

end Cert.Expert

end
-- ==== Proof.KI.Payload.lean ====
/-
  What a step of the kernel computes, at one element of its block: the expert applied to the row.
-/
module

public import proofs.«01_k».proof.Proof.Expert
public import proofs.«01_k».proof.Proof.Gen.KernelIdeal.Skeleton

@[expose] public section

set_option maxRecDepth 16384

noncomputable section

namespace Cert.KernelIdeal.Experts

open Cert.KernelIdeal Cert.KernelIdeal.Gen Idealize.ShloMosaic

/-- The row `s` of a block of which the first `n` rows count: zero past them. -/
def rowOf (n : BitVec 32) (x : S512x1024.Idx → EReal) (s : Fin 512) (k : Fin 1024) : EReal :=
  Scalar.select (IntOp.cmpi .slt (BitVec.ofNat 32 s.val) n) (x (ix2 s k)) 0

/-- The block a step computes, at row `s` and column `d`. -/
theorem payload_apply (n : BitVec 32) (x : Vec Ideal S512x1024 .bf16) (wu : Vec Ideal S1x1024x2048 .f32) (bu : Vec Ideal S1x1x2048 .f32)
    (wd : Vec Ideal S1x1024x1024 .f32) (bd : Vec Ideal S1x1x1024 .f32) (s : Fin 512) (d : Fin 1024) :
    (k0_pay3 n x (k0_pay1 wu) bu (k0_pay2 wd) bd : S512x1024.Idx → EReal) (ix2 s d)
      = Expert.out (rowOf n x s) (fun k f => wu (ix3 0 k f)) (fun f => bu (ix3 0 0 f)) (fun f d => wd (ix3 0 f d)) (fun d => bd (ix3 0 0 d)) d := by
  pointwise [k0_pay1, k0_pay2, k0_pay3]
  have z : (((0#32 : BitVec 32).toInt : ℝ) : EReal) = 0 := by simp
  simp only [z]
  unfold Expert.out Expert.hidden Expert.glu rowOf
  rfl

end Cert.KernelIdeal.Experts

end
-- ==== Proof.KI.Element.lean ====
/-
  What the kernel's program leaves in its result, at one element of a tile with rows: the tile's expert applied to the row.
-/
module

public import proofs.«01_k».proof.Proof.KI.Value
public import proofs.«01_k».proof.Proof.KI.Payload

@[expose] public section

set_option maxRecDepth 16384

noncomputable section

namespace Cert.KernelIdeal.Experts

open Cert.KernelIdeal Cert.KernelIdeal.Gen Cert.Plan
open Idealize.ShloMosaic Idealize.ShloMosaic.TcCoe Idealize.SL Idealize.SL.Sem

section Reads

variable {F : FTy → Type} [FloatOps F]
variable (V : (c : Dev nD) → (b : Ref sig .tc) → Buf (Elt F) ((c : Thread nD τ).loc b)) (pf : pre0.Contents (Elt F)) (hok : ok0 pf)
  (c : Dev nD) (t : Fin grid0.N)

/-- Row `s` of step `t`'s block is row `s` of the tile the step names. -/
theorem xB_apply (w : Fin 288) (hw : (tileW pf t.val).toNat = w.val) (s : Fin 512) (k : Fin 1024) :
    (xB V pf hok c t : S512x1024.Idx → Elt F .bf16) (ix2 s k)
      = (V c main_arg0 : S147456x1024.Idx → Elt F .bf16) (ix2 ⟨w.val * 512 + s.val, by omega⟩ k) := by
  have ei : (win0 ⟨pf, hok⟩ 0).index t = ![(tileW pf t.val).toNat, 0] := by rw [← coords_zero t]; exact index0 pf _
  have h0 := Pipeline.Window.rect_emb_val (win0 ⟨pf, hok⟩ 0) t (ix2 s k : S512x1024.Idx) (0 : Fin 2)
  have h1 := Pipeline.Window.rect_emb_val (win0 ⟨pf, hok⟩ 0) t (ix2 s k : S512x1024.Idx) (1 : Fin 2)
  rw [ei] at h0 h1
  refine congrArg (V c main_arg0 : S147456x1024.Idx → Elt F .bf16) (funext fun a => Fin.ext ?_)
  match a with
  | ⟨0, _⟩ => exact h0.trans (by show (tileW pf t.val).toNat * 512 + s.val = w.val * 512 + s.val; rw [hw])
  | ⟨1, _⟩ => exact h1.trans (by show 0 * 1024 + k.val = k.val; omega)

variable (e : Fin 32) (he : (exW pf t.val).toNat = e.val)

include he

/-- The up-projection of step `t` is its expert's. -/
theorem wuB_apply (k : Fin 1024) (f : Fin 2048) :
    (wuB V pf hok c t : S1x1024x2048.Idx → Elt F .f32) (ix3 0 k f) = (V c main_arg5 : S32x1024x2048.Idx → Elt F .f32) (ix3 e k f) := by
  have ei : (win0 ⟨pf, hok⟩ 1).index t = ![(exW pf t.val).toNat, 0, 0] := by rw [← coords_zero t]; exact index1 pf _
  have h0 := Pipeline.Window.rect_emb_val (win0 ⟨pf, hok⟩ 1) t (ix3 0 k f : S1x1024x2048.Idx) (0 : Fin 3)
  have h1 := Pipeline.Window.rect_emb_val (win0 ⟨pf, hok⟩ 1) t (ix3 0 k f : S1x1024x2048.Idx) (1 : Fin 3)
  have h2 := Pipeline.Window.rect_emb_val (win0 ⟨pf, hok⟩ 1) t (ix3 0 k f : S1x1024x2048.Idx) (2 : Fin 3)
  rw [ei] at h0 h1 h2
  refine congrArg (V c main_arg5 : S32x1024x2048.Idx → Elt F .f32) (funext fun a => Fin.ext ?_)
  match a with
  | ⟨0, _⟩ => exact h0.trans (by show (exW pf t.val).toNat * 1 + 0 = e.val; omega)
  | ⟨1, _⟩ => exact h1.trans (by show 0 * 1024 + k.val = k.val; omega)
  | ⟨2, _⟩ => exact h2.trans (by show 0 * 2048 + f.val = f.val; omega)

/-- Its bias is its expert's. -/
theorem buB_apply (f : Fin 2048) :
    (buB V pf hok c t : S1x1x2048.Idx → Elt F .f32) (ix3 0 0 f) = (V c main_v0 : S32x1x2048.Idx → Elt F .f32) (ix3 e 0 f) := by
  have ei : (win0 ⟨pf, hok⟩ 2).index t = ![(exW pf t.val).toNat, 0, 0] := by rw [← coords_zero t]; exact index2 pf _
  have h0 := Pipeline.Window.rect_emb_val (win0 ⟨pf, hok⟩ 2) t (ix3 0 0 f : S1x1x2048.Idx) (0 : Fin 3)
  have h1 := Pipeline.Window.rect_emb_val (win0 ⟨pf, hok⟩ 2) t (ix3 0 0 f : S1x1x2048.Idx) (1 : Fin 3)
  have h2 := Pipeline.Window.rect_emb_val (win0 ⟨pf, hok⟩ 2) t (ix3 0 0 f : S1x1x2048.Idx) (2 : Fin 3)
  rw [ei] at h0 h1 h2
  refine congrArg (V c main_v0 : S32x1x2048.Idx → Elt F .f32) (funext fun a => Fin.ext ?_)
  match a with
  | ⟨0, _⟩ => exact h0.trans (by show (exW pf t.val).toNat * 1 + 0 = e.val; omega)
  | ⟨1, _⟩ => exact h1
  | ⟨2, _⟩ => exact h2.trans (by show 0 * 2048 + f.val = f.val; omega)

/-- The down-projection of step `t` is its expert's. -/
theorem wdB_apply (f d : Fin 1024) :
    (wdB V pf hok c t : S1x1024x1024.Idx → Elt F .f32) (ix3 0 f d) = (V c main_arg7 : S32x1024x1024.Idx → Elt F .f32) (ix3 e f d) := by
  have ei : (win0 ⟨pf, hok⟩ 3).index t = ![(exW pf t.val).toNat, 0, 0] := by rw [← coords_zero t]; exact index3 pf _
  have h0 := Pipeline.Window.rect_emb_val (win0 ⟨pf, hok⟩ 3) t (ix3 0 f d : S1x1024x1024.Idx) (0 : Fin 3)
  have h1 := Pipeline.Window.rect_emb_val (win0 ⟨pf, hok⟩ 3) t (ix3 0 f d : S1x1024x1024.Idx) (1 : Fin 3)
  have h2 := Pipeline.Window.rect_emb_val (win0 ⟨pf, hok⟩ 3) t (ix3 0 f d : S1x1024x1024.Idx) (2 : Fin 3)
  rw [ei] at h0 h1 h2
  refine congrArg (V c main_arg7 : S32x1024x1024.Idx → Elt F .f32) (funext fun a => Fin.ext ?_)
  match a with
  | ⟨0, _⟩ => exact h0.trans (by show (exW pf t.val).toNat * 1 + 0 = e.val; omega)
  | ⟨1, _⟩ => exact h1.trans (by show 0 * 1024 + f.val = f.val; omega)
  | ⟨2, _⟩ => exact h2.trans (by show 0 * 1024 + d.val = d.val; omega)

/-- Its bias is its expert's. -/
theorem bdB_apply (d : Fin 1024) :
    (bdB V pf hok c t : S1x1x1024.Idx → Elt F .f32) (ix3 0 0 d) = (V c main_v1 : S32x1x1024.Idx → Elt F .f32) (ix3 e 0 d) := by
  have ei : (win0 ⟨pf, hok⟩ 4).index t = ![(exW pf t.val).toNat, 0, 0] := by rw [← coords_zero t]; exact index4 pf _
  have h0 := Pipeline.Window.rect_emb_val (win0 ⟨pf, hok⟩ 4) t (ix3 0 0 d : S1x1x1024.Idx) (0 : Fin 3)
  have h1 := Pipeline.Window.rect_emb_val (win0 ⟨pf, hok⟩ 4) t (ix3 0 0 d : S1x1x1024.Idx) (1 : Fin 3)
  have h2 := Pipeline.Window.rect_emb_val (win0 ⟨pf, hok⟩ 4) t (ix3 0 0 d : S1x1x1024.Idx) (2 : Fin 3)
  rw [ei] at h0 h1 h2
  refine congrArg (V c main_v1 : S32x1x1024.Idx → Elt F .f32) (funext fun a => Fin.ext ?_)
  match a with
  | ⟨0, _⟩ => exact h0.trans (by show (exW pf t.val).toNat * 1 + 0 = e.val; omega)
  | ⟨1, _⟩ => exact h1
  | ⟨2, _⟩ => exact h2.trans (by show 0 * 1024 + d.val = d.val; omega)

end Reads

/-- On a tile `w` with rows, row `s` of the result is tile `w`'s expert applied to row `s` of tile `w`. -/
theorem result_apply (m : (ℓ : Loc nD τ sig) → Buf (Elt Ideal) ℓ) (h : PlanOk (tables m)) (c : Dev nD) (w : Fin 288)
    (hu : Used (rowsW (tables m) w.val)) (e : Fin 32) (he : (exW (tables m) w.val).toNat = e.val) (s : Fin 512) (d : Fin 1024) :
    (result m h c : S147456x1024.Idx → EReal) (ix2 ⟨w.val * 512 + s.val, by omega⟩ d)
      = Expert.out
          (fun k => Scalar.select (IntOp.cmpi .slt (BitVec.ofNat 32 s.val) (rowsW (tables m) w.val))
            ((m (c.tc.loc main_arg0) : S147456x1024.Idx → EReal) (ix2 ⟨w.val * 512 + s.val, by omega⟩ k)) 0)
          (fun k f => (m (c.tc.loc main_arg5) : S32x1024x2048.Idx → EReal) (ix3 e k f))
          (fun f => (m (c.tc.loc main_arg6) : S32x2048.Idx → EReal) (ix2 e f))
          (fun f d => (m (c.tc.loc main_arg7) : S32x1024x1024.Idx → EReal) (ix3 e f d))
          (fun d => (m (c.tc.loc main_arg8) : S32x1024.Idx → EReal) (ix2 e d)) d := by
  have hw : w.val < grid0.N := lt_of_lt_of_eq w.isLt N_0.symm
  let t : Fin grid0.N := ⟨w.val, hw⟩
  have hs : s.val < 512 := s.isLt
  have hi : (((ix2 (⟨w.val * 512 + s.val, by omega⟩ : Fin 147456) d : S147456x1024.Idx) 0).val) / 512 = t.val := by
    show (w.val * 512 + s.val) / 512 = w.val
    omega
  have hb : inBlock (ix2 (⟨w.val * 512 + s.val, by omega⟩ : Fin 147456) d) = ix2 s d := by
    refine (ix2_inj _ _ _ _).mpr ⟨Fin.ext ?_, rfl⟩
    show (w.val * 512 + s.val) % 512 = s.val
    omega
  have ht : (tileW (tables m) t.val).toNat = w.val := h.tile_used _ w.isLt hu
  have he' : (exW (tables m) t.val).toNat = e.val := he
  have e0 : atEntry m c main_arg0 = m (c.tc.loc main_arg0) := entry_of_ne m c _ (by decide)
  have e5 : atEntry m c main_arg5 = m (c.tc.loc main_arg5) := entry_of_ne m c _ (by decide)
  have e7 : atEntry m c main_arg7 = m (c.tc.loc main_arg7) := entry_of_ne m c _ (by decide)
  have e6 : ∀ f : Fin 2048, (atEntry m c main_v0 : S32x1x2048.Idx → EReal) (ix3 e 0 f) = (m (c.tc.loc main_arg6) : S32x2048.Idx → EReal) (ix2 e f) := by
    intro f
    rw [entry_v0]
    pointwise
  have e8 : ∀ d : Fin 1024, (atEntry m c main_v1 : S32x1x1024.Idx → EReal) (ix3 e 0 d) = (m (c.tc.loc main_arg8) : S32x1024.Idx → EReal) (ix2 e d) := by
    intro d
    rw [entry_v1]
    pointwise
  refine (result_used m h c t hu _ hi).trans ?_
  rw [hb]
  unfold yB
  refine (payload_apply _ _ _ _ _ _ s d).trans ?_
  unfold rowOf
  have hx : ∀ k : Fin 1024, (xB (atEntry m) (tables m) (ok_of_plan _ h) c t : S512x1024.Idx → EReal) (ix2 s k)
      = (m (c.tc.loc main_arg0) : S147456x1024.Idx → EReal) (ix2 ⟨w.val * 512 + s.val, by omega⟩ k) := by
    intro k
    refine (xB_apply _ _ _ c t w ht s k).trans ?_
    rw [e0]
  refine (congrArg (fun X => Expert.out X _ _ _ _ d) (funext fun k =>
    congrArg (fun v => Scalar.select (IntOp.cmpi .slt (BitVec.ofNat 32 s.val) (rowsW (tables m) w.val)) v (0 : EReal)) (hx k))).trans ?_
  simp only [wuB_apply (t := t) (e := e) (he := he'), buB_apply (t := t) (e := e) (he := he'), wdB_apply (t := t) (e := e) (he := he'), bdB_apply (t := t) (e := e) (he := he'), e6, e8]
  rw [e5, e7]

end Cert.KernelIdeal.Experts

end
-- ==== Proof.Take.lean ====
/-
  Taking one matrix, or one row, of a stack at each of a list of indices, read at an element.
-/
module

public import Idealize.ShloMosaic.Lib.PointwiseCore

@[expose] public section

noncomputable section

namespace Cert.Take

open Idealize.ShloMosaic

variable {α : Type} {N n A B : ℕ}

/-- A gather whose indices pick along the first axis of a stack of matrices, the matrices taken whole: element `(t, p, q)` is
    the stack at the `t`-th index, when that is in range, and `(p, q)`. -/
theorem matrix_apply (d : GatherDims ⟨3, ![N, A, B]⟩ ⟨2, ![n, 1]⟩ ⟨3, ![n, A, B]⟩)
    (ho : d.offsetDims = [1, 2]) (hc : d.collapsedSliceDims = [0]) (hb : d.operandBatchingDims = []) (hg : d.startIndicesBatchingDims = []) (hs : d.startIndexMap = [0])
    (hv : d.indexVectorDim = 1) (hz : d.sliceSizes = ![1, A, B])
    (x : (⟨3, ![N, A, B]⟩ : Shape).Idx → α) (idx : IVec ⟨2, ![n, 1]⟩ 32) (t : Fin n) (p : Fin A) (q : Fin B)
    (e : Fin N) (he : (idx (ix2 t 0)).toInt = (e.val : ℤ)) :
    Host.gather d x idx (ix3 t p q) = x (ix3 e p q) := by
  obtain ⟨od, cd, ob, sb, sm, iv, sz, wf⟩ := d
  subst ho hc hb hg hs hv hz
  unfold Host.gather
  congr 1
  funext a
  apply Fin.ext
  match a with
  | ⟨0, _⟩ =>
    show GatherDims.start _ _ idx 0 + GatherDims.batchCoord _ _ 0 + GatherDims.offCoord _ _ 0 = e.val
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (List.mem_singleton.mpr rfl)]
    have hsi : ∀ h, GatherDims.siIdx (⟨[1, 2], [0], [], [], [0], 1, ![1, A, B], wf⟩ : GatherDims ⟨3, ![N, A, B]⟩ ⟨2, ![n, 1]⟩ ⟨3, ![n, A, B]⟩)
        (ix3 t p q) ⟨List.idxOf (0 : Fin 3) [0], h⟩ = ix2 t 0 := by
      intro h
      funext b
      apply Fin.ext
      match b with
      | ⟨0, _⟩ => rfl
      | ⟨1, _⟩ => rfl
    rw [hsi, he]
    have : e.val < N := e.isLt
    show min (e.val : ℤ).toNat (N - 1) + 0 + 0 = e.val
    omega
  | ⟨1, _⟩ =>
    show GatherDims.start _ _ idx 1 + GatherDims.batchCoord _ _ 1 + GatherDims.offCoord _ _ 1 = p.val
    rw [GatherDims.batchCoord_eq_zero _ _ _ List.not_mem_nil]
    unfold GatherDims.start GatherDims.offCoord
    rw [dif_neg (by simp), dif_pos ((GatherDims.mem_sKept _ _).mpr ⟨by simp, by simp⟩)]
    show 0 + 0 + p.val = p.val
    omega
  | ⟨2, _⟩ =>
    show GatherDims.start _ _ idx 2 + GatherDims.batchCoord _ _ 2 + GatherDims.offCoord _ _ 2 = q.val
    rw [GatherDims.batchCoord_eq_zero _ _ _ List.not_mem_nil]
    unfold GatherDims.start GatherDims.offCoord
    rw [dif_neg (by simp), dif_pos ((GatherDims.mem_sKept _ _).mpr ⟨by simp, by simp⟩)]
    show 0 + 0 + q.val = q.val
    omega

/-- The same of a stack of rows: element `(t, p)` is the stack at the `t`-th index and `p`. -/
theorem row_apply (d : GatherDims ⟨2, ![N, A]⟩ ⟨2, ![n, 1]⟩ ⟨2, ![n, A]⟩)
    (ho : d.offsetDims = [1]) (hc : d.collapsedSliceDims = [0]) (hb : d.operandBatchingDims = []) (hg : d.startIndicesBatchingDims = []) (hs : d.startIndexMap = [0])
    (hv : d.indexVectorDim = 1) (hz : d.sliceSizes = ![1, A])
    (x : (⟨2, ![N, A]⟩ : Shape).Idx → α) (idx : IVec ⟨2, ![n, 1]⟩ 32) (t : Fin n) (p : Fin A)
    (e : Fin N) (he : (idx (ix2 t 0)).toInt = (e.val : ℤ)) :
    Host.gather d x idx (ix2 t p) = x (ix2 e p) := by
  obtain ⟨od, cd, ob, sb, sm, iv, sz, wf⟩ := d
  subst ho hc hb hg hs hv hz
  unfold Host.gather
  congr 1
  funext a
  apply Fin.ext
  match a with
  | ⟨0, _⟩ =>
    show GatherDims.start _ _ idx 0 + GatherDims.batchCoord _ _ 0 + GatherDims.offCoord _ _ 0 = e.val
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (List.mem_singleton.mpr rfl)]
    have hsi : ∀ h, GatherDims.siIdx (⟨[1], [0], [], [], [0], 1, ![1, A], wf⟩ : GatherDims ⟨2, ![N, A]⟩ ⟨2, ![n, 1]⟩ ⟨2, ![n, A]⟩)
        (ix2 t p) ⟨List.idxOf (0 : Fin 2) [0], h⟩ = ix2 t 0 := by
      intro h
      funext b
      apply Fin.ext
      match b with
      | ⟨0, _⟩ => rfl
      | ⟨1, _⟩ => rfl
    rw [hsi, he]
    have : e.val < N := e.isLt
    show min (e.val : ℤ).toNat (N - 1) + 0 + 0 = e.val
    omega
  | ⟨1, _⟩ =>
    show GatherDims.start _ _ idx 1 + GatherDims.batchCoord _ _ 1 + GatherDims.offCoord _ _ 1 = p.val
    rw [GatherDims.batchCoord_eq_zero _ _ _ List.not_mem_nil]
    unfold GatherDims.start GatherDims.offCoord
    rw [dif_neg (by simp), dif_pos ((GatherDims.mem_sKept _ _).mpr ⟨by simp, by simp⟩)]
    show 0 + 0 + p.val = p.val
    omega

end Cert.Take

end
-- ==== Proof.RI.Element.lean ====
/-
  What the reference computes, at one element: the tile's expert applied to the row.
-/
module

public import proofs.«01_k».proof.Proof.Expert
public import proofs.«01_k».proof.Proof.Take
public import proofs.«01_k».proof.Proof.Gen.ReferenceIdeal.Read
public import Idealize.ShloMosaic.Lib.Affine

@[expose] public section

set_option maxRecDepth 16384

noncomputable section

namespace Cert.ReferenceIdeal.Element

open Cert.ReferenceIdeal Cert.ReferenceIdeal.Gen Cert.ReferenceIdeal.Read Idealize.ShloMosaic

/-- Row `s` of tile `w`, zero where the tile has no such row. -/
def rowAt (x : S147456x1024.Idx → EReal) (rows : S288.Idx → BitVec 32) (w : Fin 288) (s : Fin 512) (k : Fin 1024) : EReal :=
  Scalar.select (IntOp.cmpi .slt (BitVec.ofNat 32 s.val) (rows (ix1 w))) (x (ix2 ⟨w.val * 512 + s.val, by omega⟩ k)) 0

section Stages

variable (x : (⟨S147456x1024, .bf16⟩ : BufTy).Contents (Elt Ideal)) (ex rows : (⟨S288, .i32⟩ : BufTy).Contents (Elt Ideal))
  (wu : (⟨S32x1024x2048, .f32⟩ : BufTy).Contents (Elt Ideal)) (bu : (⟨S32x2048, .f32⟩ : BufTy).Contents (Elt Ideal))
  (wd : (⟨S32x1024x1024, .f32⟩ : BufTy).Contents (Elt Ideal)) (bd : (⟨S32x1024, .f32⟩ : BufTy).Contents (Elt Ideal))
  (w : Fin 288) (e : Fin 32) (he : (ex (ix1 w)).toInt = (e.val : ℤ))

include he

/-- The index the gathers use is the table's word, which is not negative. -/
theorem index_apply : (val_main_v12 (F := Ideal) ex (ix2 w 0)).toInt = (e.val : ℤ) := by
  have h : val_main_v12 (F := Ideal) ex (ix2 w 0) = ex (ix1 w) := by
    pointwise [val_main_v12, val_main_v11, val_main_v10, val_main_v9, val_main_v8, val_main_v7, val_main_c, val_main_c_0]
    have hn : ¬ IntOp.cmpi .slt (ex (ix1 w)) 0#32 = 1#1 := by
      rw [IntOp.cmpi_slt, he]
      show ¬ (e.val : ℤ) < 0
      omega
    exact if_neg hn
  rw [h, he]

/-- The up-projection of tile `w`, with its bias. -/
theorem hidden_apply (s : Fin 512) (f : Fin 2048) :
    val_main_v24 (F := Ideal) x ex rows wu bu (ix3 w s f)
      = Expert.hidden (rowAt x rows w s) (fun k f => wu (ix3 e k f)) (fun f => bu (ix2 e f)) f := by
  have g1 : ∀ k, val_main_v13 (F := Ideal) ex wu (ix3 w k f) = wu (ix3 e k f) := fun k =>
    Take.matrix_apply _ rfl rfl rfl rfl rfl rfl rfl wu _ w k f e (index_apply ex w e he)
  have g2 : val_main_v21 (F := Ideal) ex bu (ix2 w f) = bu (ix2 e f) :=
    Take.row_apply _ rfl rfl rfl rfl rfl rfl rfl bu _ w f e (index_apply ex w e he)
  pointwise [val_main_v24, val_main_v23, val_main_v22, val_main_v14]
  simp only [g1, g2]
  pointwise [val_main_v6, val_main_v5, val_main_v4, val_main_v3, val_main_v2, val_main_v1, val_main_v0, val_main_call0_v1, val_main_call0_v0, val_main_cst]
  have z : (id (constant (F := Ideal) S_ .f32 0x00000000#32) ix0 : EReal) = 0 := Ideal.ofBits_zero_f32
  simp only [z]
  unfold Expert.hidden rowAt
  rfl

/-- The gated unit of tile `w`. -/
theorem glu_apply (s : Fin 512) (f : Fin 1024) :
    val_main_v41 (F := Ideal) x ex rows wu bu (ix3 w s f)
      = Expert.glu (Expert.hidden (rowAt x rows w s) (fun k f => wu (ix3 e k f)) (fun f => bu (ix2 e f)) ⟨f.val, by omega⟩)
          (Expert.hidden (rowAt x rows w s) (fun k f => wu (ix3 e k f)) (fun f => bu (ix2 e f)) ⟨1024 + f.val, by omega⟩) := by
  rw [← hidden_apply x ex rows wu bu w e he, ← hidden_apply x ex rows wu bu w e he]
  pointwise [val_main_v41, val_main_v40, val_main_v39, val_main_v38, val_main_v37, val_main_v36, val_main_v35, val_main_v34, val_main_v33, val_main_v32,
    val_main_v31, val_main_v30, val_main_v29, val_main_v28, val_main_v27, val_main_v26, val_main_v25, val_main_call1_v4, val_main_call1_v3,
    val_main_call1_v2, val_main_call1_v1, val_main_call1_v0, val_main_cst_3, val_main_cst_4, val_main_cst_5, val_main_cst_6, val_main_cst_7,
    val_main_cst_8, val_main_cst_9]
  unfold Expert.glu
  rfl

/-- The result on row `s` of tile `w`. -/
theorem out_apply (s : Fin 512) (d : Fin 1024) :
    val_main_v61 (F := Ideal) x ex rows wu bu wd bd (ix2 ⟨w.val * 512 + s.val, by omega⟩ d)
      = Expert.out (rowAt x rows w s) (fun k f => wu (ix3 e k f)) (fun f => bu (ix2 e f)) (fun f d => wd (ix3 e f d)) (fun d => bd (ix2 e d)) d := by
  have g1 : ∀ f, val_main_v48 (F := Ideal) ex wd (ix3 w f d) = wd (ix3 e f d) := fun f =>
    Take.matrix_apply _ rfl rfl rfl rfl rfl rfl rfl wd _ w f d e (index_apply ex w e he)
  have g2 : val_main_v56 (F := Ideal) ex bd (ix2 w d) = bd (ix2 e d) :=
    Take.row_apply _ rfl rfl rfl rfl rfl rfl rfl bd _ w d e (index_apply ex w e he)
  have g3 : val_main_v61 (F := Ideal) x ex rows wu bu wd bd (ix2 ⟨w.val * 512 + s.val, by omega⟩ d)
      = val_main_v59 (F := Ideal) x ex rows wu bu wd bd (ix3 w s d) := by
    rw [val_main_v61_apply, val_main_v60_apply]
    refine congrArg (val_main_v59 (F := Ideal) x ex rows wu bu wd bd) (a₂ := ix3 w s d) (funext fun a => Fin.ext ?_)
    match a with
    | ⟨0, _⟩ => show ((w.val * 512 + s.val) * 1024 + d.val) / 524288 = w.val; omega
    | ⟨1, _⟩ => show ((w.val * 512 + s.val) * 1024 + d.val) / 1024 % 512 = s.val; omega
    | ⟨2, _⟩ => show ((w.val * 512 + s.val) * 1024 + d.val) % 1024 = d.val; omega
  rw [g3]
  pointwise [val_main_v59, val_main_v58, val_main_v57, val_main_v49]
  simp only [g1, g2, glu_apply x ex rows wu bu w e he]
  rfl

end Stages

end Cert.ReferenceIdeal.Element

end
-- ==== Proof.Admit.lean ====
/-
  The printed precondition on the plan's tables, decoded: tables of which it holds are an admissible plan.
-/
module

public import proofs.«01_k».proof.Proof.Plan
public import proofs.«01_k».proof.Pre_plan_ok
public import Idealize.ShloMosaic.Lib.ReduceAll
public import Idealize.ShloMosaic.Lib.PointwiseCore
public import Idealize.ShloMosaic.Lib.Affine

@[expose] public section

set_option maxRecDepth 16384

noncomputable section

namespace Cert.Plan

open Cert.Pre_plan_ok Cert.Pre_plan_ok.Facts Idealize.ShloMosaic

/-- A bit chosen by a bit is one. -/
theorem select_one (c x y : BitVec 1) : Scalar.select c x y = 1#1 ↔ (c = 1#1 → x = 1#1) ∧ (¬ c = 1#1 → y = 1#1) := by
  revert c x y; decide

/-- A table's word within its length, by coordinates. -/
theorem wordAt_eq (T : (⟨1, ![288]⟩ : Shape).Idx → BitVec 32) (n : ℕ) (h : n < 288) : wordAt T n = T (ix1 ⟨n, h⟩) := by
  unfold wordAt
  rw [dif_pos h]
  congr 1
  funext a
  match a with
  | ⟨0, _⟩ => rfl

variable [Cert.Pre_plan_ok.Facts] {F : FTy → Type} [FloatOps F]

/-- Tables of which the printed precondition holds are an admissible plan. -/
theorem ok_of_pre (x : FVec F S147456x1024 .bf16) (t e r f : IVec S288 32) (a : FVec F S32x1024x2048 .f32) (b : FVec F S32x2048 .f32)
    (c : FVec F S32x1024x1024 .f32) (d : FVec F S32x1024 .f32) (h : Cert.Pre_plan_ok.fn x t e r f a b c d = fun _ => 1#1) :
    Ok (wordAt t) (wordAt e) (wordAt r) (wordAt f) := by
  dsimp only [fn, fn_part1, fn_part2, fn_where, fn_where_0] at h
  have h0 := congrFun h (ix1 (0 : Fin 6))
  have h1 := congrFun h (ix1 (1 : Fin 6))
  have h2 := congrFun h (ix1 (2 : Fin 6))
  have h3 := congrFun h (ix1 (3 : Fin 6))
  have h4 := congrFun h (ix1 (4 : Fin 6))
  have h5 := congrFun h (ix1 (5 : Fin 6))
  clear h
  pointwise at h0
  pointwise at h1
  pointwise at h2
  pointwise at h3
  pointwise at h4
  pointwise at h5
  have g0 := fun (n : Fin 288) => Host.reduce_andi_all _ _ _ _ _ h0 (ix1 n)
  have g1 := fun (n : Fin 288) => Host.reduce_andi_all _ _ _ _ _ h1 (ix1 n)
  have g2 := fun (n : Fin 288) => Host.reduce_andi_all _ _ _ _ _ h2 (ix1 n)
  have g3 := fun (n : Fin 288) => Host.reduce_andi_all _ _ _ _ _ h3 (ix1 n)
  have g4 := fun (n : Fin 288) => Host.reduce_andi_all _ _ _ _ _ h4 (ix1 n)
  have g5 := fun (n : Fin 288) => Host.reduce_andi_all _ _ _ _ _ h5 (ix1 n)
  clear h0 h1 h2 h3 h4 h5
  pointwise at g0
  pointwise at g1
  pointwise at g2
  pointwise at g3
  pointwise at g4
  pointwise at g5
  simp only [select_one, IntOp.andi_eq_one, IntOp.cmpi_sge, IntOp.cmpi_sgt, IntOp.cmpi_slt, IntOp.cmpi_sle, IntOp.cmpi_eq, IntOp.cmpi_ne] at g0 g1 g2 g3 g4 g5
  have z0 : (0#32 : BitVec 32).toInt = 0 := by decide
  have small : ∀ (v : BitVec 32) (k : ℕ), 0 ≤ v.toInt → v.toInt < k → v.toNat < k := by
    intro v k h1 h2
    have := BitVec.toInt_eq_toNat_cond v
    split at this <;> omega
  have e0 := g2 0
  have hstep : ∀ (T : IVec S288 32) (n : ℕ) (hn : n + 1 < 288) (h1 : n + 1 - 1 < 288),
      (if _h : n + 1 < 1 then T (ix1 ⟨n + 1, hn⟩) else T (ix1 ⟨n + 1 - 1, h1⟩)) = wordAt T n := by
    intro T n hn h1
    rw [dif_neg (by omega), wordAt_eq T n (by omega)]
    rfl
  constructor
  · intro n hn
    rw [wordAt_eq t n hn]
    exact small _ 288 (by rw [← z0]; exact (g0 ⟨n, hn⟩).1) (g0 ⟨n, hn⟩).2
  · intro n hn
    rw [wordAt_eq e n hn]
    exact small _ 32 (by rw [← z0]; exact (g1 ⟨n, hn⟩).1) (g1 ⟨n, hn⟩).2
  · unfold Used
    rw [wordAt_eq r 0 (by decide), ← z0]
    exact (e0.1 rfl).1
  · rw [wordAt_eq f 0 (by decide)]
    exact (e0.1 rfl).2
  · intro n hn hu
    unfold Used at hu
    rw [wordAt_eq r n hn, ← z0] at hu
    rw [wordAt_eq t n hn, (g3 ⟨n, hn⟩).1 hu, BitVec.toNat_ofNat]
    exact Nat.mod_eq_of_lt (lt_trans hn (by decide))
  · intro n hn hu
    unfold Used at hu
    rw [wordAt_eq r _ hn, ← z0] at hu
    rw [wordAt_eq t _ hn, (g3 ⟨n + 1, hn⟩).2 hu]
    exact hstep t n hn _
  · intro n hn hu
    unfold Used at hu ⊢
    rw [wordAt_eq r _ hn, ← z0] at hu
    have := (g4 ⟨n + 1, hn⟩).1 hu
    rw [z0] at this
    rw [← hstep r n hn (by omega)]
    exact this
  · intro n hn hu hne
    unfold Used at hu
    rw [wordAt_eq r _ hn, ← z0] at hu
    rw [wordAt_eq f _ hn]
    refine (g5 ⟨n + 1, hn⟩).1 ⟨hu, ?_⟩
    rw [wordAt_eq e _ hn, ← hstep e n hn (by omega)] at hne
    exact hne

end Cert.Plan

end
-- ==== Proof.Mask.lean ====
/-
  The printed mask of the elements the value claim is about, decoded: the elements on tiles that have rows.
-/
module

public import proofs.«01_k».proof.Proof.Admit
public import proofs.«01_k».proof.On_used_tiles

@[expose] public section

set_option maxRecDepth 16384

noncomputable section

namespace Cert.Plan

open Cert.On_used_tiles Cert.On_used_tiles.Facts Idealize.ShloMosaic

variable [Cert.On_used_tiles.Facts] {F : FTy → Type} [FloatOps F]

/-- An element the mask holds is on a tile that has rows. -/
theorem used_of_mask (x : FVec F S147456x1024 .bf16) (t e r f : IVec S288 32) (a : FVec F S32x1024x2048 .f32) (b : FVec F S32x2048 .f32)
    (c : FVec F S32x1024x1024 .f32) (d : FVec F S32x1024 .f32) (i : S147456x1024.Idx) (h : Cert.On_used_tiles.fn x t e r f a b c d i = 1#1) :
    Used (wordAt r ((i 0).val / 512)) := by
  have hi : (i 0).val < 147456 := (i 0).isLt
  pointwise [Cert.On_used_tiles.fn] at h
  rw [IntOp.cmpi_sgt] at h
  unfold Used
  rw [wordAt_eq r ((i 0).val / 512) (by omega)]
  exact h

end Cert.Plan

end
-- ==== Proof.Equal.lean ====
/-
  On a tile that has rows, the kernel's program and the reference leave the same in their results.
-/
module

public import proofs.«01_k».proof.Proof.KI.Element
public import proofs.«01_k».proof.Proof.RI.Element
public import proofs.«01_k».proof.Proof.Admit
public import proofs.«01_k».proof.Proof.Mask
public import proofs.«01_k».proof.Defs
public import proofs.«01_k».proof.Proof.Gen.Pre_plan_ok
public import proofs.«01_k».proof.Proof.Gen.On_used_tiles

@[expose] public section

set_option maxRecDepth 16384

noncomputable section

namespace Cert.Equal

open Idealize.ShloMosaic Idealize.ShloMosaic.TcCoe Idealize.SL.Sem Cert.Plan

/-- The kernel's memory. -/
abbrev MemK := (ℓ : Loc KernelIdeal.nD KernelIdeal.τ KernelIdeal.sig) → Buf (Elt Ideal) ℓ
/-- The reference's memory. -/
abbrev MemR := (ℓ : Loc ReferenceIdeal.nD ReferenceIdeal.τ ReferenceIdeal.sig) → Buf (Elt Ideal) ℓ

/-- Tables of which the printed precondition holds are an admissible plan. -/
theorem planOk (m : MemK) (h : Pre_KernelIdeal m) : KernelIdeal.Experts.PlanOk (KernelIdeal.Experts.tables m) :=
  Plan.ok_of_pre _ _ _ _ _ _ _ _ _ (h 0)

/-- Element by element on the tiles with rows, the two results are equal. -/
theorem result_eq (m : MemK) (m' : MemR) (h : KernelIdeal.Experts.PlanOk (KernelIdeal.Experts.tables m)) (c : Dev KernelIdeal.nD)
    (e0 : m' (c.tc.loc ReferenceIdeal.main_arg0) = m (c.tc.loc KernelIdeal.main_arg0))
    (e2 : m' (c.tc.loc ReferenceIdeal.main_arg2) = m (c.tc.loc KernelIdeal.main_arg2))
    (e3 : m' (c.tc.loc ReferenceIdeal.main_arg3) = m (c.tc.loc KernelIdeal.main_arg3))
    (e5 : m' (c.tc.loc ReferenceIdeal.main_arg5) = m (c.tc.loc KernelIdeal.main_arg5))
    (e6 : m' (c.tc.loc ReferenceIdeal.main_arg6) = m (c.tc.loc KernelIdeal.main_arg6))
    (e7 : m' (c.tc.loc ReferenceIdeal.main_arg7) = m (c.tc.loc KernelIdeal.main_arg7))
    (e8 : m' (c.tc.loc ReferenceIdeal.main_arg8) = m (c.tc.loc KernelIdeal.main_arg8))
    (i : KernelIdeal.S147456x1024.Idx) (hu : Used (wordAt (m (c.tc.loc KernelIdeal.main_arg3)) ((i 0).val / 512))) :
    (ReferenceIdeal.Value.res_main_v61 m' c : KernelIdeal.S147456x1024.Idx → EReal) i
      = (KernelIdeal.Experts.result m h c : KernelIdeal.S147456x1024.Idx → EReal) i := by
  have hc : c = 0 := Subsingleton.elim _ _
  subst hc
  obtain ⟨r, d, rfl⟩ : ∃ (r : Fin 147456) (d : Fin 1024), i = ix2 r d := ⟨i 0, i 1, eq_ix2 i⟩
  obtain ⟨w, s, rfl⟩ : ∃ (w : Fin 288) (s : Fin 512), r = ⟨w.val * 512 + s.val, by omega⟩ :=
    ⟨⟨r.val / 512, by omega⟩, ⟨r.val % 512, by omega⟩, Fin.ext (by show r.val = r.val / 512 * 512 + r.val % 512; omega)⟩
  have hs : s.val < 512 := s.isLt
  have hq : (w.val * 512 + s.val) / 512 = w.val := by omega
  have hu' : Used (KernelIdeal.Experts.rowsW (KernelIdeal.Experts.tables m) w.val) := by
    have := hu
    rw [show ((ix2 (⟨w.val * 512 + s.val, by omega⟩ : Fin 147456) d : KernelIdeal.S147456x1024.Idx) 0).val / 512 = w.val from hq] at this
    exact this
  have hx : (KernelIdeal.Experts.exW (KernelIdeal.Experts.tables m) w.val).toNat < 32 := h.ex_lt _ w.isLt
  have we : KernelIdeal.Experts.exW (KernelIdeal.Experts.tables m) w.val = (m ((0 : Dev KernelIdeal.nD).tc.loc KernelIdeal.main_arg2) : KernelIdeal.S288.Idx → BitVec 32) (ix1 w) :=
    wordAt_eq (m ((0 : Dev KernelIdeal.nD).tc.loc KernelIdeal.main_arg2)) w.val w.isLt
  have wr : KernelIdeal.Experts.rowsW (KernelIdeal.Experts.tables m) w.val = (m ((0 : Dev KernelIdeal.nD).tc.loc KernelIdeal.main_arg3) : KernelIdeal.S288.Idx → BitVec 32) (ix1 w) :=
    wordAt_eq (m ((0 : Dev KernelIdeal.nD).tc.loc KernelIdeal.main_arg3)) w.val w.isLt
  refine Eq.trans ?_ (KernelIdeal.Experts.result_apply m h 0 w hu' ⟨_, hx⟩ rfl s d).symm
  rw [ReferenceIdeal.Read.val_main_v61_eq, e0, e2, e3, e5, e6, e7, e8, wr]
  refine ReferenceIdeal.Element.out_apply _ _ _ _ _ _ _ w ⟨_, hx⟩ ?_ s d
  show ((m ((0 : Dev KernelIdeal.nD).tc.loc KernelIdeal.main_arg2) : KernelIdeal.S288.Idx → BitVec 32) (ix1 w)).toInt = _
  rw [← we]
  show _ = (((KernelIdeal.Experts.exW (KernelIdeal.Experts.tables m) w.val).toNat : ℕ) : ℤ)
  have := BitVec.toInt_eq_toNat_cond (KernelIdeal.Experts.exW (KernelIdeal.Experts.tables m) w.val)
  split at this <;> omega

end Cert.Equal

end
-- ==== Proof.P2.Spec.lean ====
/-
  The plan of a set of counts, as numbers: how many tiles each expert has, where its tiles begin, and which expert,
  which tile and how many rows a step of the plan names.
-/
module

public import Idealize.ShloMosaic.Lib.Routing.Ops

@[expose] public section

namespace Cert.Tiles

/-- The tiles of 512 rows that `v` rows take. -/
def tilesOf (v : ℕ) : ℕ := (v + 511) / 512

/-- The tiles of the experts before expert `k`: the step at which expert `k`'s tiles begin. -/
def start (c : ℕ → ℕ) : ℕ → ℕ
  | 0 => 0
  | k + 1 => start c k + tilesOf (c k)

/-- The tiles of all 32 experts. -/
def total (c : ℕ → ℕ) : ℕ := start c 32

/-- The expert of tile `t`: as many as have all their tiles at or before it. -/
def expertOf (c : ℕ → ℕ) (t : ℕ) : ℕ := ((Finset.range 32).filter fun e => start c (e + 1) ≤ t).card

/-- Step `w`'s tile: its own number, the last tile's after it. -/
def tileN (c : ℕ → ℕ) (w : ℕ) : ℕ := min w (total c - 1)

/-- Step `w`'s expert. -/
def expN (c : ℕ → ℕ) (w : ℕ) : ℕ := expertOf c (tileN c w)

/-- Step `w`'s count of rows: what is left of its expert's rows, at most a tile; none after the last tile. -/
def rowsN (c : ℕ → ℕ) (w : ℕ) : ℕ :=
  if w < total c then min (c (expN c w) - (w - start c (expN c w)) * 512) 512 else 0

/-- Step `w`'s flag of an expert's first tile. -/
def firstN (c : ℕ → ℕ) (w : ℕ) : ℕ := if w < total c ∧ w = start c (expN c w) then 1 else 0

variable (c : ℕ → ℕ)

/-- The starts grow. -/
theorem start_mono {a b : ℕ} (h : a ≤ b) : start c a ≤ start c b := by
  induction h with
  | refl => exact Nat.le_refl _
  | step _ ih => exact ih.trans (Nat.le_add_right _ _)

/-- Every expert's tiles begin at or before the total. -/
theorem start_le_total {e : ℕ} (h : e ≤ 32) : start c e ≤ total c := start_mono c h

/-- The expert whose tiles hold `t` is the expert of `t`. -/
theorem expertOf_eq {e t : ℕ} (he : e < 32) (h1 : start c e ≤ t) (h2 : t < start c (e + 1)) : expertOf c t = e := by
  have : ((Finset.range 32).filter fun i => start c (i + 1) ≤ t) = Finset.range e := by
    ext i
    simp only [Finset.mem_filter, Finset.mem_range]
    constructor
    · rintro ⟨_, h⟩
      by_contra hi
      have := start_mono c (show e + 1 ≤ i + 1 by omega)
      omega
    · intro hi
      have := start_mono c (show i + 1 ≤ e by omega)
      exact ⟨by omega, by omega⟩
  rw [expertOf, this, Finset.card_range]

/-- A tile below the total is some expert's. -/
theorem exists_expert {t : ℕ} (h : t < total c) : ∃ e, e < 32 ∧ start c e ≤ t ∧ t < start c (e + 1) := by
  have key : ∀ k, t < start c k → ∃ e, e < k ∧ start c e ≤ t ∧ t < start c (e + 1) := by
    intro k
    induction k with
    | zero => intro h; exact absurd h (Nat.not_lt_zero _)
    | succ k ih =>
      intro h
      by_cases hk : t < start c k
      · obtain ⟨e, he, h'⟩ := ih hk
        exact ⟨e, by omega, h'⟩
      · exact ⟨k, by omega, by omega, h⟩
  exact key 32 h

/-- The tile of a step below the total is the step. -/
theorem tileN_of_lt {w : ℕ} (h : w < total c) : tileN c w = w := by unfold tileN; omega

/-- The tile of a step past the total is the last. -/
theorem tileN_of_ge {w : ℕ} (h : total c ≤ w) : tileN c w = total c - 1 := by unfold tileN; omega

/-- A step's tile is below the total. -/
theorem tileN_lt (h : 0 < total c) (w : ℕ) : tileN c w < total c := by unfold tileN; omega

/-- A step's expert is one of the 32, and its tile is one of that expert's. -/
theorem expN_spec (h : 0 < total c) (w : ℕ) :
    expN c w < 32 ∧ start c (expN c w) ≤ tileN c w ∧ tileN c w < start c (expN c w + 1) := by
  obtain ⟨e, he, h1, h2⟩ := exists_expert c (tileN_lt c h w)
  have : expN c w = e := expertOf_eq c he h1 h2
  rw [this]
  exact ⟨he, h1, h2⟩

/-- The expert of the `j`-th tile of expert `e`. -/
theorem expN_tile {e j : ℕ} (he : e < 32) (hj : j < tilesOf (c e)) : expN c (start c e + j) = e := by
  have h2 : start c e + j < start c (e + 1) := by show _ < start c e + tilesOf (c e); omega
  have ht := start_le_total c (show e + 1 ≤ 32 by omega)
  rw [expN, tileN_of_lt c (by omega)]
  exact expertOf_eq c he (by omega) h2

/-- The `j`-th tile of an expert is below the total. -/
theorem tile_lt_total {e j : ℕ} (he : e < 32) (hj : j < tilesOf (c e)) : start c e + j < total c := by
  have h2 : start c e + j < start c (e + 1) := by show _ < start c e + tilesOf (c e); omega
  have ht := start_le_total c (show e + 1 ≤ 32 by omega)
  omega

/-- An expert's tile starts within its rows. -/
theorem tile_within {v j : ℕ} (hj : j < tilesOf v) : j * 512 < v := by unfold tilesOf at hj; omega

end Cert.Tiles
-- ==== Proof.P2.Words.lean ====
/-
  The kernel's loop bounds, offsets and side conditions as numbers, for counts whose tiles fit the tables.
-/
module

public import proofs.«01_k».proof.Proof.Gen.Kernel2
public import proofs.«01_k».proof.Proof.P2.Spec
public import Idealize.ShloMosaic.Lib.Routing.Words
public import Idealize.ShloMosaic.Lib.LoopRemainder

@[expose] public section

set_option maxRecDepth 16384

noncomputable section

namespace Cert.Kernel2.Words

open Cert.Kernel2 Cert.Tiles
open Idealize.ShloMosaic Idealize.ShloMosaic.Routing

/-- The number of tiles as the kernel computes it of a word: `floor((v + 512 - 1) / 512)`. -/
def tilesW (v : BitVec 32) : BitVec 32 :=
  let v12 : BitVec 32 := Scalar.subi (Scalar.addi v 512#32) 1#32
  let v18 : BitVec 32 := Scalar.subi (Scalar.extui (Scalar.cmpi .sgt v12 0#32)) (Scalar.extui (Scalar.cmpi .slt v12 0#32))
  let v23 : BitVec 32 := Scalar.subi (Scalar.extui (Scalar.cmpi .sgt 512#32 0#32)) (Scalar.extui (Scalar.cmpi .slt 512#32 0#32))
  let v13 : BitVec 32 := Scalar.divsi v12 512#32
  Scalar.select (Scalar.andi (Scalar.cmpi .ne v18 v23) (Scalar.cmpi .ne (Scalar.remsi v12 512#32) 0#32)) (Scalar.subi v13 1#32) v13

/-- The word it computes is the number of tiles. -/
theorem tilesW_ofNat {a : ℕ} (h : a ≤ 147456) : tilesW (BitVec.ofNat 32 a) = BitVec.ofNat 32 (tilesOf a) := by
  have e12 : Scalar.subi (Scalar.addi (BitVec.ofNat 32 a) 512#32) 1#32 = BitVec.ofNat 32 (a + 511) := by
    show BitVec.ofNat 32 a + BitVec.ofNat 32 512 - BitVec.ofNat 32 1 = _
    rw [BitVec.ofNat_add_ofNat, ofNat32_sub (by omega)]; rfl
  have e13 : Scalar.divsi (BitVec.ofNat 32 (a + 511)) 512#32 = BitVec.ofNat 32 (tilesOf a) :=
    divsi_word .scalar (by omega) (by decide) (by decide)
  have g1 : Scalar.cmpi .sgt (BitVec.ofNat 32 (a + 511)) 0#32 = 1#1 := by
    show BitVec.ofBool (BitVec.slt (BitVec.ofNat 32 0) (BitVec.ofNat 32 (a + 511))) = 1#1
    rw [slt_ofNat32 (by decide) (by omega), decide_eq_true (by omega)]; rfl
  have g2 : Scalar.cmpi .slt (BitVec.ofNat 32 (a + 511)) 0#32 = 0#1 := by
    show BitVec.ofBool (BitVec.slt (BitVec.ofNat 32 (a + 511)) (BitVec.ofNat 32 0)) = 0#1
    rw [slt_ofNat32 (by omega) (by decide), decide_eq_false (by omega)]; rfl
  have g3 : Scalar.cmpi .ne (Scalar.subi (Scalar.extui 1#1) (Scalar.extui 0#1))
      (Scalar.subi (Scalar.extui (Scalar.cmpi .sgt 512#32 0#32)) (Scalar.extui (Scalar.cmpi .slt 512#32 0#32))) = 0#1 := by decide
  unfold tilesW
  simp only [e12, e13, g1, g2, g3]
  show Scalar.select (0#1 &&& _) _ _ = _
  rw [BitVec.zero_and]
  rfl

/-- Normalised by its step of one, the loop's upper bound is the word itself. -/
theorem addi_zero (x : BitVec 32) : Scalar.addi 0#32 (Scalar.muli (Scalar.divsi (Scalar.subi x 0#32) 1#32) 1#32) = x := by
  rw [Scalar.muli_divsi_one]
  show 0#32 + (x - 0#32) = x
  rw [BitVec.sub_zero, BitVec.zero_add]

/-- A loop by steps of one between words of numbers has their difference as its trip count. -/
theorem trips_ofNat {a b : ℕ} (ha : a < 2 ^ 31) (hb : b < 2 ^ 31) : Scf.trips (BitVec.ofNat 32 a) (BitVec.ofNat 32 b) 1#32 = b - a := by
  have h1 : (1#32 : BitVec 32).toInt = 1 := by decide
  unfold Scf.trips
  rw [h1, WordCmp.toInt_ofNat_of_lt (w := 32) ha, WordCmp.toInt_ofNat_of_lt (w := 32) hb]
  omega

/-- Such a loop has a meaning. -/
theorem ok_ofNat {a b : ℕ} (ha : a < 2 ^ 30) (hb : b < 2 ^ 30) : Scf.OK (BitVec.ofNat 32 a) (BitVec.ofNat 32 b) 1#32 := by
  have h1 : (1#32 : BitVec 32).toInt = 1 := by decide
  refine ⟨by decide, ?_⟩
  rw [trips_ofNat (by omega) (by omega), h1, WordCmp.toInt_ofNat_of_lt (w := 32) (by omega)]
  norm_num
  omega

/-- The induction variable is its lower bound plus the trip. -/
theorem iv_ofNat (a k : ℕ) : Scf.iv (BitVec.ofNat 32 a) 1#32 k = BitVec.ofNat 32 (a + k) := by
  unfold Scf.iv
  rw [BitVec.mul_one, BitVec.ofNat_add_ofNat]

/-- The upper bound of the loop over an expert's tiles. -/
theorem t2_ub {a : ℕ} (h : a ≤ 147456) : (k0_t2_loop (BitVec.ofNat 32 a)).ub = BitVec.ofNat 32 (tilesOf a) := by
  show Scalar.addi 0#32 (Scalar.muli (Scalar.divsi (Scalar.subi (tilesW (BitVec.ofNat 32 a)) 0#32) 1#32) 1#32) = _
  rw [addi_zero, tilesW_ofNat h]

/-- Its trip count: the expert's number of tiles. -/
theorem t2_trips {a : ℕ} (h : a ≤ 147456) : (k0_t2_loop (BitVec.ofNat 32 a)).trips = tilesOf a := by
  show Scf.trips (BitVec.ofNat 32 0) (k0_t2_loop (BitVec.ofNat 32 a)).ub 1#32 = _
  rw [t2_ub h, trips_ofNat (by decide) (by unfold tilesOf; omega), Nat.sub_zero]

/-- The offset of its stores: the expert's first step plus the trip. -/
theorem off2_zero {s a : ℕ} (k : Fin (k0_t2_loop (BitVec.ofNat 32 a)).trips) (h : s + k.val < 2 ^ 32) :
    k0_off2 (BitVec.ofNat 32 s) (BitVec.ofNat 32 a) k 0 = s + k.val := by
  show (BitVec.ofNat 32 s + Scf.iv (BitVec.ofNat 32 0) 1#32 k.val).toNat = _
  rw [iv_ofNat, BitVec.ofNat_add_ofNat, BitVec.toNat_ofNat, Nat.zero_add, Nat.mod_eq_of_lt h]

/-- The first side condition: the expert's tiles fit the tables. -/
theorem chk1 {s a : ℕ} (h : a ≤ 147456) (hs : s + tilesOf a ≤ 288) : k0_chk1 (BitVec.ofNat 32 s) (BitVec.ofNat 32 a) := by
  have hn : tilesOf a ≤ 288 := by omega
  refine ⟨?_, ?_, Scf.rem_ok _ _, fun k => (Scf.rem_no_trip _ _ k).elim⟩
  · show Scf.OK (BitVec.ofNat 32 0) (k0_t2_loop (BitVec.ofNat 32 a)).ub 1#32
    rw [t2_ub h]
    exact ok_ofNat (by decide) (by omega)
  · intro k a'
    have hk : k.val < tilesOf a := lt_of_lt_of_eq k.isLt (t2_trips h)
    have : a' = 0 := Subsingleton.elim _ _
    subst this
    rw [off2_zero k (by omega)]
    show s + k.val + 1 ≤ 288
    omega

/-- The upper bound of the loop over the steps past the last tile. -/
theorem t4_ub {T : ℕ} (h : T ≤ 288) : (k0_t4_loop (BitVec.ofNat 32 T)).ub = BitVec.ofNat 32 288 := by
  show Scalar.addi (BitVec.ofNat 32 T) (Scalar.muli (Scalar.divsi (Scalar.subi (BitVec.ofNat 32 288) (BitVec.ofNat 32 T)) 1#32) 1#32) = _
  rw [Scalar.muli_divsi_one]
  show BitVec.ofNat 32 T + (BitVec.ofNat 32 288 - BitVec.ofNat 32 T) = _
  rw [ofNat32_sub h, BitVec.ofNat_add_ofNat]
  congr 1
  omega

/-- Its trip count. -/
theorem t4_trips {T : ℕ} (h : T ≤ 288) : (k0_t4_loop (BitVec.ofNat 32 T)).trips = 288 - T := by
  show Scf.trips (BitVec.ofNat 32 T) (k0_t4_loop (BitVec.ofNat 32 T)).ub 1#32 = _
  rw [t4_ub h, trips_ofNat (by omega) (by decide)]

/-- The offset of its stores. -/
theorem off4_zero {T : ℕ} (k : Fin (k0_t4_loop (BitVec.ofNat 32 T)).trips) (h : T + k.val < 2 ^ 32) :
    k0_off4 (BitVec.ofNat 32 T) k 0 = T + k.val := by
  show (Scf.iv (BitVec.ofNat 32 T) 1#32 k.val).toNat = _
  rw [iv_ofNat, BitVec.toNat_ofNat, Nat.mod_eq_of_lt h]

/-- The offset at which it reads the last tile's expert. -/
theorem off5_zero {T : ℕ} (h0 : 0 < T) (h : T ≤ 288) : k0_off5 (BitVec.ofNat 32 T) 0 = T - 1 := by
  show (BitVec.ofNat 32 T - BitVec.ofNat 32 1).toNat = _
  rw [ofNat32_sub h0, BitVec.toNat_ofNat, Nat.mod_eq_of_lt (by omega)]

/-- The second side condition: at least one tile, and as many as fit. -/
theorem chk2 {T : ℕ} (h0 : 0 < T) (h : T ≤ 288) : k0_chk2 (BitVec.ofNat 32 T) := by
  refine ⟨?_, ?_, ?_, Scf.rem_ok _ _, fun k => (Scf.rem_no_trip _ _ k).elim, fun k => (Scf.rem_no_trip _ _ k).elim⟩
  · show Scf.OK (BitVec.ofNat 32 T) (k0_t4_loop (BitVec.ofNat 32 T)).ub 1#32
    rw [t4_ub h]
    exact ok_ofNat (by omega) (by decide)
  · intro k a
    have hk : k.val < 288 - T := lt_of_lt_of_eq k.isLt (t4_trips h)
    have : a = 0 := Subsingleton.elim _ _
    subst this
    rw [off4_zero k (by omega)]
    show T + k.val + 1 ≤ 288
    omega
  · intro k a
    have : a = 0 := Subsingleton.elim _ _
    subst this
    rw [off5_zero h0 h]
    show T - 1 + 1 ≤ 288
    omega

/-- The word of a step: the expert's first step plus the trip. -/
theorem step_word (s k : ℕ) : Scalar.addi (BitVec.ofNat 32 s) (Scf.iv 0#32 1#32 k) = BitVec.ofNat 32 (s + k) := by
  show BitVec.ofNat 32 s + Scf.iv (BitVec.ofNat 32 0) 1#32 k = _
  rw [iv_ofNat, BitVec.ofNat_add_ofNat, Nat.zero_add]

/-- The word of a tile's rows: what is left of the expert's, at most 512. -/
theorem rows_word {a k : ℕ} (h : a ≤ 147456) (hk : k * 512 ≤ a) :
    Scalar.minsi (Scalar.subi (BitVec.ofNat 32 a) (Scalar.muli (Scf.iv 0#32 1#32 k) 512#32)) 512#32 = BitVec.ofNat 32 (min (a - k * 512) 512) := by
  have e : Scalar.subi (BitVec.ofNat 32 a) (Scalar.muli (Scf.iv 0#32 1#32 k) 512#32) = BitVec.ofNat 32 (a - k * 512) := by
    show BitVec.ofNat 32 a - Scf.iv (BitVec.ofNat 32 0) 1#32 k * BitVec.ofNat 32 512 = _
    rw [iv_ofNat, Nat.zero_add, BitVec.ofNat_mul_ofNat, ofNat32_sub hk]
  rw [e]
  show (if BitVec.slt (BitVec.ofNat 32 (a - k * 512)) (BitVec.ofNat 32 512) then BitVec.ofNat 32 (a - k * 512) else BitVec.ofNat 32 512) = _
  rw [slt_ofNat32 (by omega) (by decide)]
  by_cases hl : a - k * 512 < 512
  · rw [decide_eq_true hl, if_pos rfl, Nat.min_eq_left hl.le]
  · rw [decide_eq_false hl, if_neg Bool.false_ne_true, Nat.min_eq_right (by omega)]

/-- The word of the flag of an expert's first tile. -/
theorem first_word {k : ℕ} (h : k < 2 ^ 32) :
    (Scalar.extui (Scalar.cmpi .eq (Scf.iv 0#32 1#32 k) 0#32) : BitVec 32) = BitVec.ofNat 32 (if k = 0 then 1 else 0) := by
  have e : Scf.iv 0#32 1#32 k = BitVec.ofNat 32 k := by
    show Scf.iv (BitVec.ofNat 32 0) 1#32 k = _
    rw [iv_ofNat, Nat.zero_add]
  rw [e]
  by_cases hk : k = 0
  · subst hk; rfl
  · have : Scalar.cmpi .eq (BitVec.ofNat 32 k) 0#32 = 0#1 := by
      show BitVec.ofBool (BitVec.ofNat 32 k == 0#32) = 0#1
      rw [beq_eq_false_iff_ne.mpr]; rfl
      intro h'
      have := congrArg BitVec.toNat h'
      rw [BitVec.toNat_ofNat, Nat.mod_eq_of_lt h] at this
      exact hk this
    rw [this, if_neg hk]; rfl

end Cert.Kernel2.Words

end
-- ==== Proof.P2.Body.lean ====
/-
  What the plan kernel does: the body, run once over any staging buffers, fills the four tables.
-/
module

public import proofs.«01_k».proof.Proof.Gen.Kernel2
public import proofs.«01_k».proof.Proof.Gen.Kernel2.Skeleton
public import proofs.«01_k».proof.Proof.P2.Words
public import Idealize.ShloMosaic.Lib.Tactic
public import Idealize.ShloMosaic.Lib.Pipeline.Frame
public import Idealize.ShloMosaic.Lib.Pipeline.Value
public import Idealize.ShloMosaic.Lib.CellWrites
public import Idealize.ShloMosaic.Lib.LoopRemainder

@[expose] public section

set_option maxRecDepth 16384

noncomputable section

namespace Cert.Kernel2.Tables

open Cert.Kernel2 Cert.Kernel2.Gen Cert.Kernel2.Words Cert.Tiles
open Idealize.ShloMosaic Idealize.ShloMosaic.TcCoe Idealize.ShloMosaic.Tactic Idealize.ShloMosaic.Routing
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- A memref's buffer on core `c`, whole at contents `f`. -/
abbrev pt (c : Dev nD) {sp : Space} {S : Shape} {e : EltTy} (M : Memref sig .tc sp S e) (f : Buf (Elt F) (M.view.loc (c : Thread nD τ))) : sProp 𝕄 :=
  M.view.loc (c : Thread nD τ) ↦{fullShare} f

/-- A table's contents hold, at every index below `n`, the numbers `N`. -/
def Holds (c : Dev nD) (M : Memref sig .tc .smem S288 .i32) (n : ℕ) (N : ℕ → ℕ) (f : Buf (Elt F) (M.view.loc (c : Thread nD τ))) : Prop :=
  ∀ y : S288.Idx, (y 0).val < n → M.view.read (Elt F) f y = BitVec.ofNat 32 (N (y 0).val)

/-- Storing the next number extends what a table holds by one. -/
theorem Holds.store {c : Dev nD} {M : Memref sig .tc .smem S288 .i32} {n : ℕ} {N : ℕ → ℕ} {f : Buf (Elt F) (M.view.loc (c : Thread nD τ))}
    (h : Holds c M n N f) (off : Fin 1 → ℕ) (inb : ∀ a, off a + S1.size a ≤ S288.size a) (w : BitVec 32)
    (ho : off 0 = n) (hw : w = BitVec.ofNat 32 (N n)) :
    Holds c M (n + 1) N (M.view.writes (Elt F) f [⟨Rect.unit (s := S288) off S1.size inb, fun _ => w⟩]) := by
  intro y hy
  refine (View.read_writes_cons_cell M.view f (Val := Elt F) inb w [] y).trans ?_
  split
  · next e => rw [hw, e, ho]
  · next e => exact h y (by omega)

/-- A load of one word below `n` reads its number. -/
theorem Holds.load {c : Dev nD} {M : Memref sig .tc .smem S288 .i32} {n : ℕ} {N : ℕ → ℕ} {f : Buf (Elt F) (M.view.loc (c : Thread nD τ))}
    (h : Holds c M n N f) (off : Fin 1 → ℕ) (inb : ∀ a, off a + S1.size a ≤ S288.size a) (k : ℕ) (ho : off 0 = k) (hk : k < n) :
    View.readAt (Elt F) M.view (Rect.unit (s := S288) off S1.size inb).toLoadRect f (Shape.Idx.first (numel1_S1.symm ▸ Nat.one_pos))
      = BitVec.ofNat 32 (N k) := by
  have e : (((Rect.unit (s := S288) off S1.size inb).emb (Shape.Idx.first (numel1_S1.symm ▸ Nat.one_pos : 0 < S1.numel))) 0).val = k := by
    rw [Rect.emb_apply]
    show off 0 + 1 * _ = k
    have := (Shape.Idx.first (numel1_S1.symm ▸ Nat.one_pos : 0 < S1.numel) 0).isLt
    have h1 : S1.size 0 = 1 := rfl
    omega
  have := h ((Rect.unit (s := S288) off S1.size inb).emb (Shape.Idx.first (numel1_S1.symm ▸ Nat.one_pos))) (by omega)
  rw [e] at this
  exact this

/-- A table held with the numbers `N` below `n`. -/
def upto (c : Dev nD) (M : Memref sig .tc .smem S288 .i32) (n : ℕ) (N : ℕ → ℕ) : sProp 𝕄 :=
  iprop(∃ f : Buf (Elt F) (M.view.loc (c : Thread nD τ)), ⌜Holds c M n N f⌝ ∗ pt c M f)

/-- The four tables filled below step `n`. -/
def filled (c : Dev nD) (M1 M2 M3 M4 : Memref sig .tc .smem S288 .i32) (C : ℕ → ℕ) (n : ℕ) : sProp 𝕄 :=
  iprop(upto c M1 n (tileN C) ∗ upto c M2 n (expN C) ∗ upto c M3 n (rowsN C) ∗ upto c M4 n (firstN C))

section Body

variable (c : Dev nD) (C : ℕ → ℕ)
    (M0 : Memref sig .tc .smem S32 .i32) (h0 : M0.IsWhole) (M1 : Memref sig .tc .smem S288 .i32) (h1 : M1.IsWhole)
    (M2 : Memref sig .tc .smem S288 .i32) (h2 : M2.IsWhole) (M3 : Memref sig .tc .smem S288 .i32) (h3 : M3.IsWhole)
    (M4 : Memref sig .tc .smem S288 .i32) (h4 : M4.IsWhole)

/-- One tile of an expert: its step's words are stored. -/
theorem tile_step (hC : ∀ e, C e ≤ 147456) (hT : total C ≤ 288) (e : ℕ) (he : e < 32)
    (a6 a5 v : BitVec 32) (e6 : a6 = BitVec.ofNat 32 (start C e)) (e5 : a5 = BitVec.ofNat 32 e) (ev : v = BitVec.ofNat 32 (C e))
    (hw : k0_chk1 a6 v) (k : Fin (k0_t2_loop v).trips) (acc : BitVec 32) :
    filled c M1 M2 M3 M4 C (start C e + k.val)
    ⊢ wp frame (wpE (defs₀ (F := F)) Variants.none c none) Set.univ
        (k0_t2_body M0 h0 M1 h1 M2 h2 M3 h3 M4 h4 a6 a5 v hw k acc) (fun _ => filled c M1 M2 M3 M4 C (start C e + (k.val + 1))) := by
  subst e6 e5 ev
  have hk : k.val < tilesOf (C e) := lt_of_lt_of_eq k.isLt (t2_trips (hC e))
  have hlt := tile_lt_total C he hk
  have hoff : k0_off2 (BitVec.ofNat 32 (start C e)) (BitVec.ofNat 32 (C e)) k 0 = start C e + k.val := off2_zero k (by omega)
  have hex := expN_tile C he hk
  have w1 : Scalar.addi (BitVec.ofNat 32 (start C e)) (Scf.iv 0#32 1#32 k.val) = BitVec.ofNat 32 (tileN C (start C e + k.val)) := by
    rw [step_word, tileN_of_lt C hlt]
  have w2 : BitVec.ofNat 32 e = BitVec.ofNat 32 (expN C (start C e + k.val)) := by rw [hex]
  have w3 : Scalar.minsi (Scalar.subi (BitVec.ofNat 32 (C e)) (Scalar.muli (Scf.iv 0#32 1#32 k.val) 512#32)) 512#32
      = BitVec.ofNat 32 (rowsN C (start C e + k.val)) := by
    rw [rows_word (hC e) (tile_within hk).le]
    unfold rowsN
    rw [if_pos hlt, hex, Nat.add_sub_cancel_left]
  have w4 : (Scalar.extui (Scalar.cmpi .eq (Scf.iv 0#32 1#32 k.val) 0#32) : BitVec 32) = BitVec.ofNat 32 (firstN C (start C e + k.val)) := by
    rw [first_word (k := k.val) (by omega)]
    unfold firstN
    rw [hex]
    by_cases hk0 : k.val = 0
    · have h1 : start C e + k.val < total C ∧ start C e + k.val = start C e := ⟨hlt, by omega⟩
      rw [if_pos hk0, if_pos h1]
    · have h1 : ¬ (start C e + k.val < total C ∧ start C e + k.val = start C e) := fun h => hk0 (by omega)
      rw [if_neg hk0, if_neg h1]
  unfold filled upto k0_t2_body
  iintro ⟨⟨%f1, %g1, H1⟩, ⟨%f2, %g2, H2⟩, ⟨%f3, %g3, H3⟩, ⟨%f4, %g4, H4⟩⟩
  sl_exec
  sl_step
  have ew : start C e + (k.val + 1) = start C e + k.val + 1 := by omega
  rw [ew]
  isplitl [H1]
  · iexists _
    isplitr
    rotate_left
    · iexact H1
    · ipureintro
      exact g1.store _ _ _ hoff w1
  isplitl [H2]
  · iexists _
    isplitr
    rotate_left
    · iexact H2
    · ipureintro
      exact g2.store _ _ _ hoff w2
  isplitl [H3]
  · iexists _
    isplitr
    rotate_left
    · iexact H3
    · ipureintro
      exact g3.store _ _ _ hoff w3
  · iexists _
    isplitr
    rotate_left
    · iexact H4
    · ipureintro
      exact g4.store _ _ _ hoff w4

/-- One expert: its tiles are stored, and the next expert's first step is yielded. -/
theorem expert_step (hC : ∀ e, C e ≤ 147456) (hT : total C ≤ 288) (f0 : Buf (Elt F) (M0.view.loc (c : Thread nD τ)))
    (k : Fin k0_t1_loop.trips)
    (hr : View.readAt (Elt F) M0.view (Rect.unit (s := S32) (k0_off1 k) S1.size (k0_off1_inb k)).toLoadRect f0 (Shape.Idx.first (numel1_S1.symm ▸ Nat.one_pos))
      = BitVec.ofNat 32 (C k.val))
    (acc : BitVec 32) (ha : acc = BitVec.ofNat 32 (start C k.val)) :
    iprop(pt c M0 f0 ∗ filled c M1 M2 M3 M4 C (start C k.val))
    ⊢ wp frame (wpE (defs₀ (F := F)) Variants.none c none) Set.univ
        (k0_t1_body M0 h0 M1 h1 M2 h2 M3 h3 M4 h4 k acc)
        (fun r => iprop(⌜r = BitVec.ofNat 32 (start C (k.val + 1))⌝ ∗ pt c M0 f0 ∗ filled c M1 M2 M3 M4 C (start C (k.val + 1)))) := by
  have hk : k.val < 32 := k.isLt
  have hfit : start C k.val + tilesOf (C k.val) ≤ 288 := le_trans (start_le_total C (show k.val + 1 ≤ 32 by omega)) hT
  have ht := t2_trips (hC k.val)
  subst ha
  have htile := fun (hw : k0_chk1 (BitVec.ofNat 32 (start C k.val)) (BitVec.ofNat 32 (C k.val))) => tile_step (F := F) c C M0 h0 M1 h1 M2 h2 M3 h3 M4 h4 hC hT k.val hk _ (Scf.iv 0#32 1#32 k.val) _ rfl
    (by show Scf.iv (BitVec.ofNat 32 0) 1#32 k.val = _; rw [iv_ofNat, Nat.zero_add]) rfl hw
  unfold k0_t1_body
  iintro ⟨H0, HF⟩
  sl_exec
  have er : expert_step.sl.r c M0 f0 k = BitVec.ofNat 32 (C k.val) := hr
  rw [er]
  have hchk := chk1 (s := start C k.val) (hC k.val) hfit
  sl_exec
  sl_for (fun j (_ : BitVec 32) => filled (F := F) c M1 M2 M3 M4 C (start C k.val + j)) $$ [HF]
  · intro j acc
    exact htile hchk j acc
  · iexact HF
  iintro %r HF
  have et : Scf.trips (k0_t2_loop (BitVec.ofNat 32 (C k.val))).lb (k0_t2_loop (BitVec.ofNat 32 (C k.val))).ub (k0_t2_loop (BitVec.ofNat 32 (C k.val))).st
      = tilesOf (C k.val) := ht
  rw [et]
  sl_exec
  sl_step
  isplitr
  · ipureintro
    show BitVec.ofNat 32 (start C k.val) + tilesW (BitVec.ofNat 32 (C k.val)) = _
    rw [tilesW_ofNat (hC _), BitVec.ofNat_add_ofNat]
    rfl
  isplitl [H0]
  · iexact H0
  · iexact HF

/-- One step past the last tile: its words are stored. -/
theorem pad_step (hT0 : 0 < total C) (hT : total C ≤ 288) (v : BitVec 32) (ev : v = BitVec.ofNat 32 (total C))
    (hw : k0_chk2 v) (k : Fin (k0_t4_loop v).trips) (acc : BitVec 32) :
    filled c M1 M2 M3 M4 C (total C + k.val)
    ⊢ wp frame (wpE (defs₀ (F := F)) Variants.none c none) Set.univ
        (k0_t4_body M0 h0 M1 h1 M2 h2 M3 h3 M4 h4 v hw k acc) (fun _ => filled c M1 M2 M3 M4 C (total C + (k.val + 1))) := by
  subst ev
  have hk : k.val < 288 - total C := lt_of_lt_of_eq k.isLt (t4_trips hT)
  have hoff : k0_off4 (BitVec.ofNat 32 (total C)) k 0 = total C + k.val := off4_zero k (by omega)
  have ht : tileN C (total C + k.val) = total C - 1 := tileN_of_ge C (by omega)
  have hn : ¬ total C + k.val < total C := by omega
  have w1 : Scalar.subi (BitVec.ofNat 32 (total C)) 1#32 = BitVec.ofNat 32 (tileN C (total C + k.val)) := by
    show BitVec.ofNat 32 (total C) - BitVec.ofNat 32 1 = _
    rw [ofNat32_sub hT0, ht]
  have w3 : 0#32 = BitVec.ofNat 32 (rowsN C (total C + k.val)) := by
    unfold rowsN
    rw [if_neg hn]
  have w4 : 0#32 = BitVec.ofNat 32 (firstN C (total C + k.val)) := by
    unfold firstN
    rw [if_neg fun h => hn h.1]
  have he : expN C (total C - 1) = expN C (total C + k.val) := by
    unfold expN
    rw [ht, tileN_of_lt C (by omega)]
  unfold filled upto k0_t4_body
  iintro ⟨⟨%f1, %g1, H1⟩, ⟨%f2, %g2, H2⟩, ⟨%f3, %g3, H3⟩, ⟨%f4, %g4, H4⟩⟩
  have w2 := (g2.load (k0_off5 (BitVec.ofNat 32 (total C))) (k0_off5_inb _ hw k) (total C - 1) (off5_zero hT0 hT) (by omega)).trans
    (congrArg (BitVec.ofNat 32) he)
  sl_exec
  sl_step
  have ew : total C + (k.val + 1) = total C + k.val + 1 := by omega
  rw [ew]
  isplitl [H1]
  · iexists _
    isplitr
    rotate_left
    · iexact H1
    · ipureintro
      exact g1.store _ _ _ hoff w1
  isplitl [H2]
  · iexists _
    isplitr
    rotate_left
    · iexact H2
    · ipureintro
      exact g2.store _ _ _ hoff w2
  isplitl [H3]
  · iexists _
    isplitr
    rotate_left
    · iexact H3
    · ipureintro
      exact g3.store _ _ _ hoff w3
  · iexists _
    isplitr
    rotate_left
    · iexact H4
    · ipureintro
      exact g4.store _ _ _ hoff w4

/-- The body run once over any staging buffers: it leaves the counts as they were, and fills the four tables. -/
theorem body_run (hC : ∀ e, C e ≤ 147456) (hT0 : 0 < total C) (hT : total C ≤ 288) (f0 : Buf (Elt F) (M0.view.loc (c : Thread nD τ)))
    (hr : ∀ k : Fin k0_t1_loop.trips,
      View.readAt (Elt F) M0.view (Rect.unit (s := S32) (k0_off1 k) S1.size (k0_off1_inb k)).toLoadRect f0 (Shape.Idx.first (numel1_S1.symm ▸ Nat.one_pos))
        = BitVec.ofNat 32 (C k.val))
    (Q : PUnit → sProp 𝕄) :
    iprop(pt c M0 f0 ∗ filled c M1 M2 M3 M4 C 0 ∗ (pt c M0 f0 -∗ filled c M1 M2 M3 M4 C 288 -∗ Q ⟨⟩))
    ⊢ wp frame (wpE (defs₀ (F := F)) Variants.none c none) Set.univ
        (cc0_plan M0 h0 M1 h1 M2 h2 M3 h3 M4 h4) Q := by
  have hstep := fun k acc ha => expert_step (F := F) c C M0 h0 M1 h1 M2 h2 M3 h3 M4 h4 hC hT f0 k (hr k) acc ha
  have hpad := fun (hw : k0_chk2 (BitVec.ofNat 32 (total C))) => pad_step (F := F) c C M0 h0 M1 h1 M2 h2 M3 h3 M4 h4 hT0 hT _ rfl hw
  have hchk := chk2 hT0 hT
  rw [cc0_plan_eq_skeleton]
  unfold cc0_plan_skel
  iintro ⟨H0, HF, K⟩
  sl_for (fun k (a : BitVec 32) => iprop(⌜a = BitVec.ofNat 32 (start C k)⌝ ∗ pt c M0 f0 ∗ filled (F := F) c M1 M2 M3 M4 C (start C k))) $$ [H0 HF]
  · intro k acc
    iintro ⟨%ha, H⟩
    iapply hstep k acc ha
    iexact H
  · isplitr
    · ipureintro; rfl
    isplitl [H0]
    · iexact H0
    · iexact HF
  iintro %r ⟨%hr', H0, HF⟩
  have e32 : Scf.trips k0_t1_loop.lb k0_t1_loop.ub k0_t1_loop.st = 32 := by decide
  rw [e32] at hr'
  rw [e32]
  subst hr'
  have hT' : start C 32 = total C := rfl
  rw [hT']
  sl_exec
  sl_for (fun j (_ : BitVec 32) => filled (F := F) c M1 M2 M3 M4 C (total C + j)) $$ [HF]
  · intro j acc
    exact hpad hchk j acc
  · iexact HF
  iintro %r HF
  have et : Scf.trips (k0_t4_loop (BitVec.ofNat 32 (total C))).lb (k0_t4_loop (BitVec.ofNat 32 (total C))).ub (k0_t4_loop (BitVec.ofNat 32 (total C))).st
      = 288 - total C := t4_trips hT
  have e288 : total C + (288 - total C) = 288 := by omega
  rw [et, e288]
  sl_exec
  sl_step
  iapply K $$ H0 HF

end Body

end Cert.Kernel2.Tables

end
-- ==== Proof.P2.Run.lean ====
/-
  The plan's program run whole: it terminates, the counts end unchanged, every counter is zero, and its four results
  are the plan's tables.
-/
module

public import proofs.«01_k».proof.Proof.P2.Body
public import proofs.«01_k».proof.Proof.Gen.Kernel2.Launch
public import Idealize.ShloMosaic.Lib.Pipeline.FrameBody
public import Idealize.ShloMosaic.Lib.Pipeline.TableIdle
public import Idealize.ShloMosaic.Lib.Pipeline.ValueKit.Geometry

@[expose] public section

set_option maxRecDepth 16384

noncomputable section

namespace Cert.Kernel2.Tables

open Cert.Kernel2 Cert.Kernel2.Gen Cert.Kernel2.Words Cert.Tiles
open Idealize.ShloMosaic Idealize.ShloMosaic.TcCoe Idealize.ShloMosaic.Tactic Idealize.ShloMosaic.Routing Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- A table of numbers as words. -/
def table (N : ℕ → ℕ) : Vec F S288 .i32 := fun y => BitVec.ofNat 32 (N (y 0).val)

/-- Owning a whole memref at `X` is holding its buffer at the contents that read `X`. -/
theorem owns_pt (c : Dev nD) {sp : Space} {S : Shape} {e : EltTy} (M : Memref sig .tc sp S e) (hM : M.IsWhole)
    (X : S.Idx → Elt F e) : (owns (c : Thread nD τ) M fullShare X : sProp 𝕄) = pt c M (M.view.rep X) := by
  rw [owns_eq_rep, hM.set_eq_univ]

/-- A whole memref's buffer at contents that read `X` is the memref owned at `X`. -/
theorem pt_owns (c : Dev nD) {sp : Space} {S : Shape} {e : EltTy} (M : Memref sig .tc sp S e) (hM : M.IsWhole)
    (f : Buf (Elt F) (M.view.loc (c : Thread nD τ))) (X : S.Idx → Elt F e) (h : M.view.read (Elt F) f = X) :
    pt c M f ⊢ (owns (c : Thread nD τ) M fullShare X : sProp 𝕄) := by
  subst h
  unfold owns pt
  rw [hM.set_eq_univ]
  iintro H
  iexists f
  isplitr
  · ipureintro; rfl
  · iexact H

/-- A table owned at anything is a table of which nothing is said. -/
theorem owns_upto (c : Dev nD) (M : Memref sig .tc .smem S288 .i32) (hM : M.IsWhole) (N : ℕ → ℕ) (X : Vec F S288 .i32) :
    (owns (c : Thread nD τ) M fullShare X : sProp 𝕄) ⊢ upto c M 0 N := by
  rw [owns_pt c M hM]
  unfold upto
  iintro H
  iexists _
  isplitr
  rotate_left
  · iexact H
  · ipureintro
    intro y hy
    exact absurd hy (Nat.not_lt_zero _)

/-- A table filled to its end is owned at its numbers. -/
theorem upto_owns (c : Dev nD) (M : Memref sig .tc .smem S288 .i32) (hM : M.IsWhole) (N : ℕ → ℕ) :
    (upto c M 288 N : sProp 𝕄) ⊢ owns (c : Thread nD τ) M fullShare (table (F := F) N) := by
  unfold upto
  iintro ⟨%f, %h, H⟩
  iapply pt_owns c M hM f _ (funext fun y => h y (y 0).isLt)
  iexact H

/-- The counts as numbers. -/
def cnt (x : S32.Idx → BitVec 32) (k : ℕ) : ℕ := if h : k < 32 then (x (ix1 ⟨k, h⟩)).toNat else 0

/-- What is asked of the counts: each at most the rows there are, at least one tile in all, and no more than the tables hold. -/
structure Fit (C : ℕ → ℕ) : Prop where
  le : ∀ e, C e ≤ 147456
  pos : 0 < total C
  fits : total C ≤ 288

variable (m : (ℓ : Loc nD τ sig) → Buf (Elt F) ℓ)

/-- The counts at launch. -/
abbrev counts (c : Dev nD) : S32.Idx → BitVec 32 := m ((c : Thread nD τ).loc main_arg0)

/-- The pipeline's proof data on core `c`: the one point leaves the counts, and the four tables. -/
def dats (p : Fin 1) (c : Dev nD) : Pipeline.Dat τ (Elt F) Unit ℕ (UR sig nD τ) ℕ (cfgs p) c where
  A := fun w => m ((c : Thread nD τ).loc (Pipeline.arrRef spec0 w))
  after := fun
    | 0 => fun t => ((win0 0).blk t).view.read (Elt F) (m ((c : Thread nD τ).loc main_arg0))
    | 1 => fun _ => table (tileN (cnt (counts m c)))
    | 2 => fun _ => table (expN (cnt (counts m c)))
    | 3 => fun _ => table (rowsN (cnt (counts m c)))
    | 4 => fun _ => table (firstN (cnt (counts m c)))
    | ⟨_ + 5, h⟩ => absurd h (Nat.not_lt.2 (Nat.le_add_left _ _))
  Φ := fun _ => Pipeline.ΦA spec0 c
  q := fun _ => fullShare
  owed := fun _ => 0

/-- Before the point the counts' buffer holds the counts. -/
theorem before0 (p : Fin 1) (c : Dev nD) (t : Fin grid0.N) (d) :
    (dats m p c).before (0 : Fin 5) t d = ((win0 0).blk t).view.read (Elt F) (m ((c : Thread nD τ).loc main_arg0)) :=
  (dats m p c).before_in_eq_fetched (0 : Fin 5) rfl (fun _ => rfl) (fun _ _ _ => rfl) (fun t => by dsimp only [dats]; rfl) t d

/-- The block of the counts is the counts. -/
theorem block0 (c : Dev nD) (t : Fin grid0.N) (k : Fin 32) :
    ((win0 0).blk t).view.read (Elt F) (m ((c : Thread nD τ).loc main_arg0)) (ix1 k) = counts m c (ix1 k) := by
  have ht := fin_N0 t
  subst ht
  show counts m c _ = _
  congr 1
  funext a
  apply Fin.ext
  match a with
  | ⟨0, _⟩ =>
    show 0 * 32 + 1 * k.val = k.val
    omega

/-- The body's load of an expert's count, from a buffer that holds the counts. -/
theorem load_count (c : Dev nD) (M : Memref sig .tc .smem S32 .i32) (X : Vec F S32 .i32) (x : S32.Idx → BitVec 32)
    (hX : ∀ k : Fin 32, X (ix1 k) = x (ix1 k)) (k : Fin k0_t1_loop.trips) :
    View.readAt (Elt F) M.view (Rect.unit (s := S32) (k0_off1 k) S1.size (k0_off1_inb k)).toLoadRect (M.view.rep X) (Shape.Idx.first (numel1_S1.symm ▸ Nat.one_pos))
      = BitVec.ofNat 32 (cnt x k.val) := by
  have hk : k.val < 32 := k.isLt
  have e : (Rect.unit (s := S32) (k0_off1 k) S1.size (k0_off1_inb k)).emb (Shape.Idx.first (numel1_S1.symm ▸ Nat.one_pos : 0 < S1.numel))
      = ix1 (⟨k.val, hk⟩ : Fin 32) := by
    funext a
    apply Fin.ext
    match a with
    | ⟨0, _⟩ =>
      rw [Rect.emb_apply]
      show k0_off1 k 0 + 1 * _ = k.val
      have h0 := (Shape.Idx.first (numel1_S1.symm ▸ Nat.one_pos : 0 < S1.numel) 0).isLt
      have h1 : S1.size 0 = 1 := rfl
      have h2 : k0_off1 k 0 = k.val := by rw [k0_off1_eq]; rfl
      rw [h2]
      show k.val + 1 * ((Shape.Idx.first (numel1_S1.symm ▸ Nat.one_pos : 0 < S1.numel)) 0).val = k.val
      omega
  refine Eq.trans (b := M.view.read (Elt F) (M.view.rep X) (ix1 (⟨k.val, hk⟩ : Fin 32))) ?_ ?_
  · rw [← e]; rfl
  · rw [View.read_rep, hX]
    unfold cnt
    rw [dif_pos hk, BitVec.ofNat_toNat, BitVec.setWidth_eq]

/-- The body's one run keeps the proof data. -/
theorem body_ok (h : ∀ c, Fit (cnt (counts m c))) (p : Fin 1) (c : Dev nD) :
    Pipeline.BodyObligation (dats m p c) (defs₀ (F := F)) Variants.none () Set.univ := by
  intro t
  rw [Gen.bigSep_W0, Gen.bigSep_W0]
  simp only [before0]
  iintro ⟨HΦ, Ho, ⟨%d0, W0⟩, ⟨%d1, W1⟩, ⟨%d2, W2⟩, ⟨%d3, W3⟩, ⟨%d4, W4⟩⟩
  have hp0 : ∀ X, (owns (c : Thread nD τ) (stage0_0 0) fullShare X : sProp 𝕄) ⊢ pt c (stage0_0 0) ((stage0_0 0).view.rep X) :=
    fun X => by rw [owns_pt c (stage0_0 0) (hstage0_0 0)]
  iapply body_run (F := F) c (cnt (counts m c)) (stage0_0 0) (hstage0_0 0) (stage0_1 0) (hstage0_1 0) (stage0_2 0) (hstage0_2 0)
    (stage0_3 0) (hstage0_3 0) (stage0_4 0) (hstage0_4 0) (h c).le (h c).pos (h c).fits _
    (load_count c (stage0_0 0) _ (counts m c) (block0 m c t))
  isplitl [W0]
  · iapply hp0; iexact W0
  isplitl [W1 W2 W3 W4]
  · unfold filled
    isplitl [W1]
    · iapply owns_upto c (stage0_1 0) (hstage0_1 0); iexact W1
    isplitl [W2]
    · iapply owns_upto c (stage0_2 0) (hstage0_2 0); iexact W2
    isplitl [W3]
    · iapply owns_upto c (stage0_3 0) (hstage0_3 0); iexact W3
    · iapply owns_upto c (stage0_4 0) (hstage0_4 0); iexact W4
  unfold filled
  iintro W0 ⟨W1, W2, W3, W4⟩
  have hΦ : (dats m p c).Φ t.castSucc ⊢ (dats m p c).Φ t.succ := .rfl
  isplitl [HΦ]
  · iapply hΦ; iexact HΦ
  isplitl [Ho]; iexact Ho
  isplitl [W0]
  · iapply pt_owns c (stage0_0 0) (hstage0_0 0) _ _ (View.read_rep _ _)
    iexact W0
  isplitl [W1]
  · iapply upto_owns c (stage0_1 0) (hstage0_1 0); iexact W1
  isplitl [W2]
  · iapply upto_owns c (stage0_2 0) (hstage0_2 0); iexact W2
  isplitl [W3]
  · iapply upto_owns c (stage0_3 0) (hstage0_3 0); iexact W3
  · iapply upto_owns c (stage0_4 0) (hstage0_4 0); iexact W4

/-- The run, its post in the pipeline's own terms. -/
theorem run_frame (g : Dev nD → PrngReg) (h : ∀ c, Fit (cnt (counts m c))) :
    θ_run (defs (F := F)) (onTc (τ := τ) (main (F := F))) ⟨m, fun _ => 0, g⟩
      (fun r => Pipeline.FramePost cfgs (dats m) 0 (fun c b => m ((c : Thread nD τ).loc b)) r ∧ r.2.sem = fun _ => 0) :=
  Pipeline.θ_run_frame cfgs (dats m) 0 launch0 defs₀ Variants.none m g main
    (hbody := fun c => (body_ok m h 0 c).loose)
    (hshare := fun c => (dats m 0 c).share_full fun _ => rfl) (howed := fun _ _ => rfl)
    (V := fun c b => m ((c : Thread nD τ).loc b))
    (hmain := Pipeline.hmain_region cfgs 0 defs₀ Variants.none m main (fun _ => rfl))
    (hA := fun _ _ => rfl) (hΦ := fun _ _ => rfl)
    (Q' := _) (hQ' := fun _ h => h)

/-- A result's array after the run is its table. -/
theorem arr_table (c : Dev nD) :
    (dats m 0 c).arrAt (1 : Fin 5) grid0.N = table (F := F) (tileN (cnt (counts m c)))
    ∧ (dats m 0 c).arrAt (2 : Fin 5) grid0.N = table (F := F) (expN (cnt (counts m c)))
    ∧ (dats m 0 c).arrAt (3 : Fin 5) grid0.N = table (F := F) (rowsN (cnt (counts m c)))
    ∧ (dats m 0 c).arrAt (4 : Fin 5) grid0.N = table (F := F) (firstN (cnt (counts m c))) :=
  ⟨(dats m 0 c).arrAt_eq_of_after_last (1 : Fin 5) t0_0 (by decide +kernel) _ (fun _ => rfl),
    (dats m 0 c).arrAt_eq_of_after_last (2 : Fin 5) t0_0 (by decide +kernel) _ (fun _ => rfl),
    (dats m 0 c).arrAt_eq_of_after_last (3 : Fin 5) t0_0 (by decide +kernel) _ (fun _ => rfl),
    (dats m 0 c).arrAt_eq_of_after_last (4 : Fin 5) t0_0 (by decide +kernel) _ (fun _ => rfl)⟩

/-- The run: the counts end as they started, the results are the tables, every counter is zero. -/
theorem run (g : Dev nD → PrngReg) (h : ∀ c, Fit (cnt (counts m c))) :
    θ_run (defs (F := F)) (onTc (τ := τ) (main (F := F))) ⟨m, fun _ => 0, g⟩ (fun r =>
      (∀ c : Dev nD, r.2.mem ((c : Thread nD τ).loc main_v0_0) = table (F := F) (tileN (cnt (counts m c)))
        ∧ r.2.mem ((c : Thread nD τ).loc main_v0_1) = table (F := F) (expN (cnt (counts m c)))
        ∧ r.2.mem ((c : Thread nD τ).loc main_v0_2) = table (F := F) (rowsN (cnt (counts m c)))
        ∧ r.2.mem ((c : Thread nD τ).loc main_v0_3) = table (F := F) (firstN (cnt (counts m c)))
        ∧ r.2.mem ((c : Thread nD τ).loc main_arg0) = m ((c : Thread nD τ).loc main_arg0))
      ∧ r.2.sem = fun _ => 0) := by
  refine (θ_run _ _ _).mono ?_ (run_frame m g h)
  rintro r ⟨hr, hs⟩
  refine ⟨fun c => ?_, hs⟩
  obtain ⟨a1, a2, a3, a4⟩ := arr_table m c
  exact ⟨((hr c).1 (1 : Fin 5)).trans a1, ((hr c).1 (2 : Fin 5)).trans a2, ((hr c).1 (3 : Fin 5)).trans a3, ((hr c).1 (4 : Fin 5)).trans a4,
    ((hr c).1 (0 : Fin 5)).trans ((dats m 0 c).arrAt_in (0 : Fin 5) rfl _)⟩

end Cert.Kernel2.Tables

end
-- ==== Proof.P2.Ref.lean ====
/-
  The reference's plan, read word by word: its four results hold the numbers of the plan of its counts.
-/
module

public import proofs.«01_k».proof.Proof.P2.Run
public import proofs.«01_k».proof.Proof.Gen.Reference2.Read
public import Idealize.ShloMosaic.Lib.Routing.OpsSearch
public import Idealize.ShloMosaic.Lib.Routing.OpsPair

@[expose] public section

set_option maxRecDepth 16384

noncomputable section

namespace Cert.Reference2.Tables

open Cert.Reference2 Cert.Reference2.Gen Cert.Reference2.Read Cert.Tiles Cert.Kernel2.Tables
open Idealize.ShloMosaic Idealize.ShloMosaic.Routing Idealize.ShloMosaic.ValueIdx

variable {F : FTy → Type} [FloatOps F]

/-- The running total of the experts' tiles is where the next expert's begin. -/
theorem sum_tiles (c : ℕ → ℕ) (k : ℕ) : ((List.range k).map fun e => tilesOf (c e)).sum = start c k := by
  induction k with
  | zero => rfl
  | succ k ih =>
    rw [List.range_succ, List.map_append, List.sum_append, ih]
    simp [start]

/-- The number of experts that end at or before a tile is the tile's expert. -/
theorem count_ends (c : ℕ → ℕ) (t : ℕ) : Nat.count (fun e => start c (e + 1) ≤ t) 32 = expertOf c t := by
  rw [Nat.count_eq_card_filter_range]
  rfl

/-- A word of the counts is the word of its number. -/
theorem word_cnt (x : S32.Idx → BitVec 32) (i : Fin 32) : x (ix1 i) = BitVec.ofNat 32 (cnt x i.val) := by
  unfold cnt
  rw [dif_pos i.isLt, BitVec.ofNat_toNat, BitVec.setWidth_eq]

variable (x : S32.Idx → BitVec 32) (h : Fit (cnt x))

include h

/-- The tiles of each expert. -/
theorem v4_word (i : Fin 32) : val_main_v4 (F := F) x (ix1 i) = BitVec.ofNat 32 (tilesOf (cnt x i.val)) := by
  have hc := h.le i.val
  refine pyDiv_ap bcast_S_S32 (val_main_v3 (F := F) x) (constantI shape0 32 512#32) (ix1 i) (a := cnt x i.val + 511) (b := 512) ?_ rfl (by omega) (by decide) (by decide)
  show x (ix1 i) + BitVec.ofNat 32 512 - BitVec.ofNat 32 1 = _
  rw [word_cnt x i, BitVec.ofNat_add_ofNat, ofNat32_sub (by omega)]
  rfl

/-- Where each expert's tiles end. -/
theorem v5_word (i : Fin 32) : val_main_v5 (F := F) x (ix1 i) = BitVec.ofNat 32 (start (cnt x) (i.val + 1)) := by
  rw [← sum_tiles]
  exact cumsum1 rfl (val_main_v4 (F := F) x) (fun e => tilesOf (cnt x e)) (v4_word x h) _ rfl _ _ i

/-- Where each expert's tiles begin. -/
theorem v6_word (i : Fin 32) : val_main_v6 (F := F) x (ix1 i) = BitVec.ofNat 32 (start (cnt x) i.val) := by
  show val_main_v5 (F := F) x (ix1 i) - val_main_v4 (F := F) x (ix1 i) = _
  rw [v5_word x h, v4_word x h, ofNat32_sub (by show _ ≤ _ + _; omega)]
  congr 1
  show _ + _ - _ = _
  omega

/-- The tiles in all. -/
theorem v8_word (j : S_.Idx) : val_main_v8 (F := F) x j = BitVec.ofNat 32 (total (cnt x)) := by
  have e : ∀ i : S1.Idx, val_main_v7 (F := F) x i = BitVec.ofNat 32 (total (cnt x)) := by
    intro i
    have hi : (i 0).val < 1 := (i 0).isLt
    rw [val_main_v7_apply, show idx_main_v7 i = ix1 (31 : Fin 32) from ?_, v5_word x h]
    · rfl
    funext a
    apply Fin.ext
    match a with
    | ⟨0, _⟩ =>
      show 31 + (i 0).val = 31
      omega
  unfold val_main_v8 shapeCast
  exact e _

/-- A step's tile. -/
theorem v12_word (w : Fin 288) : val_main_v12 (F := F) x (ix1 w) = BitVec.ofNat 32 (tileN (cnt x) w.val) := by
  have h0 := h.pos
  have h1 := h.fits
  have hw := w.isLt
  have e : val_main_v11 (F := F) x (ix1 w) = BitVec.ofNat 32 (total (cnt x) - 1) := by
    rw [val_main_v11_apply]
    show val_main_v8 (F := F) x _ - BitVec.ofNat 32 1 = _
    rw [v8_word x h, ofNat32_sub (by omega)]
  show IntOp.minsi (BitVec.ofNat 32 w.val) (val_main_v11 (F := F) x (ix1 w)) = _
  rw [e]
  unfold IntOp.minsi tileN
  rw [slt_ofNat32 (by omega) (by omega)]
  simp only [decide_eq_true_eq]
  split
  · congr 1; omega
  · congr 1; omega

/-- A step's expert. -/
theorem v19_word (w : Fin 288) : val_main_v19 (F := F) x (ix1 w) = BitVec.ofNat 32 (expN (cnt x) w.val) := by
  have h0 := h.pos
  have h1 := h.fits
  rw [expN, ← count_ends]
  refine reduce_count (by decide) (val_main_v17 (F := F) x) _ _ _ w _ fun q => ?_
  have ht := tileN_lt (cnt x) h0 w.val
  have hs := start_le_total (cnt x) (show q.val + 1 ≤ 32 from q.isLt)
  have e1 : val_main_v15 (F := F) x (ix2 w q) = BitVec.ofNat 32 (start (cnt x) (q.val + 1)) :=
    (bcCols bcast_S32_S1x32_1 bcast_S1x32_S288x32_0_1 (val_main_v5 (F := F) x) w q).trans (v5_word x h q)
  have e2 : val_main_v16 (F := F) x (ix2 w q) = BitVec.ofNat 32 (tileN (cnt x) w.val) :=
    (bcRows bcast_S288_S288x1_0 bcast_S288x1_S288x32_0_1 (val_main_v12 (F := F) x) w q).trans (v12_word x h w)
  show IntOp.cmpi .sle (val_main_v15 (F := F) x (ix2 w q)) (val_main_v16 (F := F) x (ix2 w q)) = 1#1 ↔ _
  rw [e1, e2, IntOp.cmpi_sle, WordCmp.toInt_ofNat_of_lt (w := 32) (by omega), WordCmp.toInt_ofNat_of_lt (w := 32) (by omega)]
  omega

/-- Whether a step is below the total. -/
theorem below_word (w : Fin 288) : IntOp.cmpi .slt (BitVec.ofNat 32 w.val) (BitVec.ofNat 32 (total (cnt x))) = BitVec.ofBool (decide (w.val < total (cnt x))) := by
  have h1 := h.fits
  have hw := w.isLt
  exact WordCmp.cmpi_slt_ofNat (w := 32) (by omega) (by omega)

omit h in
/-- An entry of a table looked up at an index word that is in range. -/
theorem look (y : S32.Idx → BitVec 32) (idx : S288x1.Idx → BitVec 32) (w : Fin 288) {k : ℕ} (hk : k < 32)
    (hi : idx (ix2 w (0 : Fin 1)) = BitVec.ofNat 32 k) :
    Host.gather gather_S32_S288x1_S288_n_0_n_n_0_1_1 y idx (ix1 w) = y (ix1 ⟨k, hk⟩) :=
  take_ap gather_S32_S288x1_S288_n_0_n_n_0_1_1 rfl rfl rfl rfl y idx w hk (by omega) hi

/-- The index word of a step's expert, as the lookups take it. -/
theorem wrap_word (w : Fin 288) (a : BitVec 32) :
    Scalar.select (IntOp.cmpi .slt (val_main_v19 (F := F) x (ix1 w)) 0#32) a (val_main_v19 (F := F) x (ix1 w)) = BitVec.ofNat 32 (expN (cnt x) w.val) := by
  have he := (expN_spec (cnt x) h.pos w.val).1
  rw [v19_word x h]
  exact wrap_of_lt _ _ (by rw [BitVec.toNat_ofNat, Nat.mod_eq_of_lt (by omega)]; omega)

/-- The count of a step's expert. -/
theorem v28_word (w : Fin 288) : val_main_v28 (F := F) x (ix1 w) = BitVec.ofNat 32 (cnt x (expN (cnt x) w.val)) := by
  have he := (expN_spec (cnt x) h.pos w.val).1
  refine (look x (val_main_v27 (F := F) x) w he ?_).trans (word_cnt x _)
  exact (bcCol bcast_S288_S288x1_0 (val_main_v26 (F := F) x) w).trans (wrap_word x h w _)

/-- The start of a step's expert, at the first lookup. -/
theorem v35_word (w : Fin 288) : val_main_v35 (F := F) x (ix1 w) = BitVec.ofNat 32 (start (cnt x) (expN (cnt x) w.val)) := by
  have he := (expN_spec (cnt x) h.pos w.val).1
  refine (look (val_main_v6 (F := F) x) (val_main_v34 (F := F) x) w he ?_).trans (v6_word x h _)
  exact (bcCol bcast_S288_S288x1_0 (val_main_v33 (F := F) x) w).trans (wrap_word x h w _)

/-- The start of a step's expert, at the second. -/
theorem v51_word (w : Fin 288) : val_main_v51 (F := F) x (ix1 w) = BitVec.ofNat 32 (start (cnt x) (expN (cnt x) w.val)) := by
  have he := (expN_spec (cnt x) h.pos w.val).1
  refine (look (val_main_v6 (F := F) x) (val_main_v50 (F := F) x) w he ?_).trans (v6_word x h _)
  exact (bcCol bcast_S288_S288x1_0 (val_main_v49 (F := F) x) w).trans (wrap_word x h w _)

/-- A step's rows. -/
theorem v42_word (w : Fin 288) : val_main_v42 (F := F) x (ix1 w) = BitVec.ofNat 32 (rowsN (cnt x) w.val) := by
  have h21 : val_main_v21 (F := F) x (ix1 w) = BitVec.ofBool (decide (w.val < total (cnt x))) := by
    rw [← below_word x h]
    show IntOp.cmpi .slt (BitVec.ofNat 32 w.val) (val_main_v20 (F := F) x (ix1 w)) = _
    rw [val_main_v20_apply, v8_word x h]
  show Scalar.select (val_main_v21 (F := F) x (ix1 w)) (val_main_v41 (F := F) x (ix1 w)) 0#32 = _
  rw [h21, WordCmp.select_decide]
  unfold rowsN
  by_cases hw : w.val < total (cnt x)
  · rw [if_pos hw, if_pos hw]
    obtain ⟨he, h1, h2⟩ := expN_spec (cnt x) h.pos w.val
    rw [tileN_of_lt _ hw] at h1 h2
    have hj : w.val - start (cnt x) (expN (cnt x) w.val) < tilesOf (cnt x (expN (cnt x) w.val)) := by
      have : start (cnt x) (expN (cnt x) w.val + 1) = start (cnt x) (expN (cnt x) w.val) + tilesOf (cnt x (expN (cnt x) w.val)) := rfl
      omega
    have hr := tile_within hj
    have hc := h.le (expN (cnt x) w.val)
    show IntOp.minsi (val_main_v28 (F := F) x (ix1 w) - (BitVec.ofNat 32 w.val - val_main_v35 (F := F) x (ix1 w)) * BitVec.ofNat 32 512) (BitVec.ofNat 32 512) = _
    rw [v28_word x h, v35_word x h, ofNat32_sub h1, BitVec.ofNat_mul_ofNat, ofNat32_sub hr.le]
    unfold IntOp.minsi
    rw [slt_ofNat32 (by omega) (by decide)]
    simp only [decide_eq_true_eq]
    split
    · congr 1; omega
    · congr 1; omega
  · rw [if_neg hw, if_neg hw]

/-- A step's flag. -/
theorem v54_word (w : Fin 288) : val_main_v54 (F := F) x (ix1 w) = BitVec.ofNat 32 (firstN (cnt x) w.val) := by
  have h1 := h.fits
  have hw := w.isLt
  have he := (expN_spec (cnt x) h.pos w.val).1
  have hs := start_le_total (cnt x) he.le
  have h44 : val_main_v44 (F := F) x (ix1 w) = BitVec.ofBool (decide (w.val < total (cnt x))) := by
    rw [← below_word x h]
    show IntOp.cmpi .slt (BitVec.ofNat 32 w.val) (val_main_v43 (F := F) x (ix1 w)) = _
    rw [val_main_v43_apply, v8_word x h]
  have h52 : val_main_v52 (F := F) x (ix1 w) = BitVec.ofBool (decide (w.val = start (cnt x) (expN (cnt x) w.val))) := by
    show IntOp.cmpi .eq (BitVec.ofNat 32 w.val) (val_main_v51 (F := F) x (ix1 w)) = _
    rw [v51_word x h]
    exact WordCmp.cmpi_eq_ofNat (w := 32) (by omega) (by omega)
  show (IntOp.andi (val_main_v44 (F := F) x (ix1 w)) (val_main_v52 (F := F) x (ix1 w))).setWidth 32 = _
  rw [h44, h52]
  unfold firstN
  rw [← setWidth_ofBool]
  congr 1
  by_cases ha : w.val < total (cnt x)
  · by_cases hb : w.val = start (cnt x) (expN (cnt x) w.val)
    · simp only [ha, ← hb]; rfl
    · simp only [ha, hb]; rfl
  · by_cases hb : w.val = start (cnt x) (expN (cnt x) w.val)
    · simp only [ha, ← hb]; rfl
    · simp only [ha, hb]; rfl

omit h in
/-- Results that agree with a table word by word are the table. -/
theorem table_ext (y : S288.Idx → BitVec 32) (N : ℕ → ℕ) (hy : ∀ w : Fin 288, y (ix1 w) = BitVec.ofNat 32 (N w.val)) : y = table (F := F) N := by
  funext i
  rw [eq_ix1 i]
  exact hy _

/-- The reference's four results are the tables of the plan. -/
theorem tables :
    val_main_v12 (F := F) x = table (F := F) (tileN (cnt x)) ∧ val_main_v19 (F := F) x = table (F := F) (expN (cnt x))
    ∧ val_main_v42 (F := F) x = table (F := F) (rowsN (cnt x)) ∧ val_main_v54 (F := F) x = table (F := F) (firstN (cnt x)) :=
  ⟨table_ext _ _ (v12_word x h), table_ext _ _ (v19_word x h), table_ext _ _ (v42_word x h), table_ext _ _ (v54_word x h)⟩

end Cert.Reference2.Tables

end
-- ==== Proof.P2.Counts.lean ====
/-
  The printed precondition on the counts, decoded: counts of which it holds fit the tables.
-/
module

public import proofs.«01_k».proof.Proof.P2.Ref
public import proofs.«01_k».proof.Pre_counts_ok
public import Idealize.ShloMosaic.Lib.ReduceAll
public import Idealize.ShloMosaic.Lib.PointwiseCore

@[expose] public section

set_option maxRecDepth 16384

noncomputable section

namespace Cert.Reference2.Tables

open Cert.Pre_counts_ok Cert.Pre_counts_ok.Facts Cert.Tiles Cert.Kernel2.Tables
open Idealize.ShloMosaic hiding ix0 ix1
open Idealize.ShloMosaic.Routing Idealize.ShloMosaic.ValueIdx

/-- Counts of at most 147456 rows each start at most 288 tiles apart. -/
theorem start_bound (c : ℕ → ℕ) (h : ∀ e, c e ≤ 147456) (k : ℕ) : start c k ≤ 288 * k := by
  induction k with
  | zero => exact Nat.le_refl _
  | succ k ih =>
    show start c k + (c k + 511) / 512 ≤ _
    have := h k
    omega

variable [Cert.Pre_counts_ok.Facts] {F : FTy → Type} [FloatOps F]

/-- Counts of which the printed precondition holds fit the tables. -/
theorem fit_of_pre (x : IVec S32 32) (h : Cert.Pre_counts_ok.fn (F := F) x = fun _ => 1#1) : Fit (cnt x) := by
  dsimp only [fn, fn_part1] at h
  have h0 := congrFun h (ix1 (0 : Fin 2))
  have h1 := congrFun h (ix1 (1 : Fin 2))
  clear h
  generalize hs : Host.reduce IntOp.addi _ _ _ _ = s at h1
  pointwise at h0
  pointwise at h1
  have g0 := fun (n : Fin 32) => Host.reduce_andi_all _ _ _ _ _ h0 (ix1 n)
  clear h0
  pointwise at g0
  simp only [IntOp.andi_eq_one, IntOp.cmpi_sge, IntOp.cmpi_sgt, IntOp.cmpi_sle] at g0 h1
  have z0 : (0#32 : BitVec 32).toInt = 0 := by decide
  have z1 : (147456#32 : BitVec 32).toInt = 147456 := by decide
  have z2 : (288#32 : BitVec 32).toInt = 288 := by decide
  have le : ∀ e, cnt x e ≤ 147456 := by
    intro e
    unfold cnt
    split
    · rename_i he
      have := g0 ⟨e, he⟩
      rw [z0, z1] at this
      have h2 := BitVec.toInt_eq_toNat_cond (x (ix1 ⟨e, he⟩))
      split at h2 <;> omega
    · omega
  have hsum : s ix0 = BitVec.ofNat 32 (total (cnt x)) := by
    rw [← hs]
    refine (reduce_sum _ (fun e => tilesOf (cnt x e)) (fun i => ?_) _ _).trans (congrArg _ (sum_tiles (cnt x) 32))
    have hc := le i.val
    refine pyDiv_ap bcast_S_S32 _ (constantI shape0 32 512#32) (ix1 i) (a := cnt x i.val + 511) (b := 512) ?_ rfl (by omega) (by decide) (by decide)
    show x (ix1 i) + BitVec.ofNat 32 512 - BitVec.ofNat 32 1 = _
    rw [word_cnt x i, BitVec.ofNat_add_ofNat, ofNat32_sub (by omega)]
    rfl
  have hb : total (cnt x) ≤ 9216 := start_bound (cnt x) le 32
  have e : ∀ j : S_.Idx, (s j).toInt = (total (cnt x) : ℤ) := fun j => by
    rw [show j = ix0 from eq_ix0 j, hsum, WordCmp.toInt_ofNat_of_lt (w := 32) (by omega)]
  rw [z0, z2, e] at h1
  exact ⟨le, by omega, by omega⟩

end Cert.Reference2.Tables

end
-- ==== Proof.P3I.Rows.lean ====
/-
  The rows the first step of the ranks' kernel writes: every expert's first row of the layout, as running sums of padded counts.
-/
module

public import proofs.«01_k».proof.Proof.Gen.Kernel3Ideal
public import proofs.«01_k».proof.Proof.Gen.Kernel3Ideal.Skeleton
public import Idealize.ShloMosaic.Lib.Tactic
public import Idealize.ShloMosaic.Lib.Pipeline.Frame
public import Idealize.ShloMosaic.Lib.Pipeline.Value
public import Idealize.ShloMosaic.Lib.VecWindow

@[expose] public section

set_option maxRecDepth 16384

noncomputable section

namespace Cert.Kernel3Ideal.Rank

open Cert.Kernel3Ideal Cert.Kernel3Ideal.Gen
open Idealize.ShloMosaic Idealize.ShloMosaic.TcCoe Idealize.SL.Sem

variable {F : FTy → Type} [FloatOps F]

/-- The element of a 32 × 128 table at row `n` (modulo the rows) and lane `l`. -/
def cell (n : ℕ) (l : Fin 128) : S32x128.Idx := fun a => match a with
  | ⟨0, _⟩ => ⟨n % 32, Nat.mod_lt _ (by decide)⟩
  | ⟨1, _⟩ => l

/-- The element of a one-row vector in lane `l`. -/
def lane (l : Fin 128) : S1x128.Idx := fun a => match a with
  | ⟨0, _⟩ => ⟨0, Nat.one_pos⟩
  | ⟨1, _⟩ => l

/-- The running sum, in a lane, of the padded counts of the rows before row `n`. -/
def run (X : Vec F S32x128 .i32) : ℕ → Fin 128 → F .f32
  | 0, _ => Scalar.ofBits .f32 0x00000000#32
  | n + 1, l => FloatOps.addf (run X n l) (k0_pay5 X (cell n l))

/-- The table of running sums: row `e` holds the sum of the padded counts of the experts before `e`. -/
def firsts (X : Vec F S32x128 .i32) : Vec F S32x128 .f32 := fun y => run X (y 0).val (y 1)

/-- A one-row vector is row `n` of the running sums. -/
def IsRow (X : Vec F S32x128 .i32) (n : ℕ) (x : FVec F S1x128 .f32) : Prop := ∀ y : S1x128.Idx, x y = run X n (y 1)

/-- Adding row `n` of the padded counts makes row `n + 1` of row `n`. -/
theorem IsRow.next {X : Vec F S32x128 .i32} {n : ℕ} {x : FVec F S1x128 .f32} (h : IsRow X n x) (hn : n < 32) (hs : S32x128.Slices ![n, 0] S1x128) :
    IsRow X (n + 1) (addf x (extractStridedSlice S1x128 ![n, 0] (k0_pay5 X) hs)) := by
  intro y
  have h0 : (y 0).val < 1 := (y 0).isLt
  show FloatOps.addf (x y) (extractStridedSlice S1x128 ![n, 0] (k0_pay5 X) hs y) = FloatOps.addf (run X n (y 1)) (k0_pay5 X (cell n (y 1)))
  rw [h y]
  congr 1
  exact extractStridedSlice_apply ![n, 0] (k0_pay5 X) hs y (cell n (y 1)) (fun a => match a with
    | ⟨0, _⟩ => by show n % 32 = n + (y 0).val; omega
    | ⟨1, _⟩ => by show (y 1).val = 0 + (y 1).val; omega)

/-- A reshape to the same shape keeps a row. -/
theorem IsRow.cast {X : Vec F S32x128 .i32} {n : ℕ} {x : FVec F S1x128 .f32} (h : IsRow X n x) (hs : S1x128.ShapeCasts S1x128) :
    IsRow X n (shapeCast S1x128 x hs) := by
  intro y
  rw [← h y]
  exact shapeCast_apply x hs y y rfl

variable {sp : Space} (M : Memref sig .tc sp S32x128 .f32)

/-- A table's contents hold the first `n` rows of the running sums. -/
def Held (X : Vec F S32x128 .i32) (n : ℕ) (f : M.view.ty.Contents (Elt F)) : Prop :=
  ∀ y : S32x128.Idx, (y 0).val < n → M.view.read (Elt F) f y = firsts X y

variable {M}

/-- Nothing is asked of no rows. -/
theorem Held.none (X : Vec F S32x128 .i32) (f : M.view.ty.Contents (Elt F)) : Held M X 0 f := fun _ h => absurd h (Nat.not_lt_zero _)

/-- Storing the next row holds one row more. -/
theorem Held.store {X : Vec F S32x128 .i32} {n : ℕ} {f : M.view.ty.Contents (Elt F)} {L : List (View.Piece (Elt F) S32x128 .f32)}
    (h : Held M X n (M.view.writes (Elt F) f L)) (inb : ∀ a, (![n, 0] : Fin 2 → ℕ) a + S1x128.size a ≤ S32x128.size a)
    {w : FVec F S1x128 .f32} (hw : IsRow X n w) :
    Held M X (n + 1) (M.view.writes (Elt F) f (⟨Rect.unit (s := S32x128) ![n, 0] S1x128.size inb, w⟩ :: L)) := by
  intro y hy
  by_cases e : (y 0).val = n
  · have hx := hw (lane (y 1))
    refine (View.read_writes_cons_unit_of_mem M.view f inb w L y (lane (y 1)) rfl
      (fun a => match a with
        | ⟨0, _⟩ => by show (y 0).val = n + 0; omega
        | ⟨1, _⟩ => by show (y 1).val = 0 + (y 1).val; omega)).trans ?_
    refine hx.trans ?_
    show run X n (y 1) = run X (y 0).val (y 1)
    rw [e]
  · refine (View.read_writes_cons_unit_of_not_mem M.view f inb w L y rfl 0 (by show (y 0).val < n ∨ n + 1 ≤ (y 0).val; omega)).trans ?_
    exact h y (by omega)

/-- All the rows held, the table reads the running sums. -/
theorem Held.all {X : Vec F S32x128 .i32} {f : M.view.ty.Contents (Elt F)} (h : Held M X 32 f) : M.view.read (Elt F) f = firsts X :=
  funext fun y => h y (y 0).isLt

/-- The pieces the first step stores in the table, the last first: one row each. -/
def pieces (X : Vec F S32x128 .i32) : List (View.Piece (Elt F) S32x128 .f32) :=
  [⟨Rect.unit (s := S32x128) ![31, 0] S1x128.size inb_S32x128_S1x128_31_0, k0_pay68 (k0_pay5 X) (k0_pay62 (k0_pay5 X) (k0_pay46 (k0_pay5 X) (k0_pay32 (k0_pay5 X) (k0_pay16 X))))⟩,
   ⟨Rect.unit (s := S32x128) ![30, 0] S1x128.size inb_S32x128_S1x128_30_0, k0_pay67 (k0_pay5 X) (k0_pay62 (k0_pay5 X) (k0_pay46 (k0_pay5 X) (k0_pay32 (k0_pay5 X) (k0_pay16 X))))⟩,
   ⟨Rect.unit (s := S32x128) ![29, 0] S1x128.size inb_S32x128_S1x128_29_0, k0_pay65 (k0_pay5 X) (k0_pay62 (k0_pay5 X) (k0_pay46 (k0_pay5 X) (k0_pay32 (k0_pay5 X) (k0_pay16 X))))⟩,
   ⟨Rect.unit (s := S32x128) ![28, 0] S1x128.size inb_S32x128_S1x128_28_0, k0_pay63 (k0_pay62 (k0_pay5 X) (k0_pay46 (k0_pay5 X) (k0_pay32 (k0_pay5 X) (k0_pay16 X))))⟩,
   ⟨Rect.unit (s := S32x128) ![27, 0] S1x128.size inb_S32x128_S1x128_27_0, k0_pay61 (k0_pay5 X) (k0_pay46 (k0_pay5 X) (k0_pay32 (k0_pay5 X) (k0_pay16 X)))⟩,
   ⟨Rect.unit (s := S32x128) ![26, 0] S1x128.size inb_S32x128_S1x128_26_0, k0_pay59 (k0_pay5 X) (k0_pay46 (k0_pay5 X) (k0_pay32 (k0_pay5 X) (k0_pay16 X)))⟩,
   ⟨Rect.unit (s := S32x128) ![25, 0] S1x128.size inb_S32x128_S1x128_25_0, k0_pay57 (k0_pay5 X) (k0_pay46 (k0_pay5 X) (k0_pay32 (k0_pay5 X) (k0_pay16 X)))⟩,
   ⟨Rect.unit (s := S32x128) ![24, 0] S1x128.size inb_S32x128_S1x128_24_0, k0_pay55 (k0_pay5 X) (k0_pay46 (k0_pay5 X) (k0_pay32 (k0_pay5 X) (k0_pay16 X)))⟩,
   ⟨Rect.unit (s := S32x128) ![23, 0] S1x128.size inb_S32x128_S1x128_23_0, k0_pay53 (k0_pay5 X) (k0_pay46 (k0_pay5 X) (k0_pay32 (k0_pay5 X) (k0_pay16 X)))⟩,
   ⟨Rect.unit (s := S32x128) ![22, 0] S1x128.size inb_S32x128_S1x128_22_0, k0_pay51 (k0_pay5 X) (k0_pay46 (k0_pay5 X) (k0_pay32 (k0_pay5 X) (k0_pay16 X)))⟩,
   ⟨Rect.unit (s := S32x128) ![21, 0] S1x128.size inb_S32x128_S1x128_21_0, k0_pay49 (k0_pay5 X) (k0_pay46 (k0_pay5 X) (k0_pay32 (k0_pay5 X) (k0_pay16 X)))⟩,
   ⟨Rect.unit (s := S32x128) ![20, 0] S1x128.size inb_S32x128_S1x128_20_0, k0_pay47 (k0_pay46 (k0_pay5 X) (k0_pay32 (k0_pay5 X) (k0_pay16 X)))⟩,
   ⟨Rect.unit (s := S32x128) ![19, 0] S1x128.size inb_S32x128_S1x128_19_0, k0_pay45 (k0_pay5 X) (k0_pay32 (k0_pay5 X) (k0_pay16 X))⟩,
   ⟨Rect.unit (s := S32x128) ![18, 0] S1x128.size inb_S32x128_S1x128_18_0, k0_pay43 (k0_pay5 X) (k0_pay32 (k0_pay5 X) (k0_pay16 X))⟩,
   ⟨Rect.unit (s := S32x128) ![17, 0] S1x128.size inb_S32x128_S1x128_17_0, k0_pay41 (k0_pay5 X) (k0_pay32 (k0_pay5 X) (k0_pay16 X))⟩,
   ⟨Rect.unit (s := S32x128) ![16, 0] S1x128.size inb_S32x128_S1x128_16_0, k0_pay39 (k0_pay5 X) (k0_pay32 (k0_pay5 X) (k0_pay16 X))⟩,
   ⟨Rect.unit (s := S32x128) ![15, 0] S1x128.size inb_S32x128_S1x128_15_0, k0_pay37 (k0_pay5 X) (k0_pay32 (k0_pay5 X) (k0_pay16 X))⟩,
   ⟨Rect.unit (s := S32x128) ![14, 0] S1x128.size inb_S32x128_S1x128_14_0, k0_pay35 (k0_pay5 X) (k0_pay32 (k0_pay5 X) (k0_pay16 X))⟩,
   ⟨Rect.unit (s := S32x128) ![13, 0] S1x128.size inb_S32x128_S1x128_13_0, k0_pay33 (k0_pay32 (k0_pay5 X) (k0_pay16 X))⟩,
   ⟨Rect.unit (s := S32x128) ![12, 0] S1x128.size inb_S32x128_S1x128_12_0, k0_pay31 (k0_pay5 X) (k0_pay16 X)⟩,
   ⟨Rect.unit (s := S32x128) ![11, 0] S1x128.size inb_S32x128_S1x128_11_0, k0_pay29 (k0_pay5 X) (k0_pay16 X)⟩,
   ⟨Rect.unit (s := S32x128) ![10, 0] S1x128.size inb_S32x128_S1x128_10_0, k0_pay27 (k0_pay5 X) (k0_pay16 X)⟩,
   ⟨Rect.unit (s := S32x128) ![9, 0] S1x128.size inb_S32x128_S1x128_9_0, k0_pay25 (k0_pay5 X) (k0_pay16 X)⟩,
   ⟨Rect.unit (s := S32x128) ![8, 0] S1x128.size inb_S32x128_S1x128_8_0, k0_pay23 (k0_pay5 X) (k0_pay16 X)⟩,
   ⟨Rect.unit (s := S32x128) ![7, 0] S1x128.size inb_S32x128_S1x128_7_0, k0_pay21 (k0_pay5 X) (k0_pay16 X)⟩,
   ⟨Rect.unit (s := S32x128) ![6, 0] S1x128.size inb_S32x128_S1x128_6_0, k0_pay19 (k0_pay5 X) (k0_pay16 X)⟩,
   ⟨Rect.unit (s := S32x128) ![5, 0] S1x128.size inb_S32x128_S1x128_5_0, k0_pay17 (k0_pay16 X)⟩,
   ⟨Rect.unit (s := S32x128) ![4, 0] S1x128.size inb_S32x128_S1x128_4_0, k0_pay15 X⟩,
   ⟨Rect.unit (s := S32x128) ![3, 0] S1x128.size inb_S32x128_S1x128_3_0, k0_pay13 X⟩,
   ⟨Rect.unit (s := S32x128) ![2, 0] S1x128.size inb_S32x128_S1x128_2_0, k0_pay11 X⟩,
   ⟨Rect.unit (s := S32x128) ![1, 0] S1x128.size inb_S32x128_S1x128_1_0, k0_pay9 X⟩,
   ⟨Rect.unit (s := S32x128) ![0, 0] S1x128.size inb_S32x128_S1x128_0_0, k0_pay7 (F := F)⟩]

/-- After the first step's stores the table holds all the running sums. -/
theorem held_pieces (X : Vec F S32x128 .i32) (f : M.view.ty.Contents (Elt F)) : Held M X 32 (M.view.writes (Elt F) f (pieces X)) := by
  have r0 : IsRow X 0 (k0_pay6 (F := F)) := fun y => rfl
  have r1 : IsRow X 1 (k0_pay8 X) := r0.next (by decide) slices_S32x128_o0_0_S1x128
  have r2 : IsRow X 2 (k0_pay10 X) := r1.next (by decide) slices_S32x128_o1_0_S1x128
  have r3 : IsRow X 3 (k0_pay12 X) := r2.next (by decide) slices_S32x128_o2_0_S1x128
  have r4 : IsRow X 4 (k0_pay14 X) := r3.next (by decide) slices_S32x128_o3_0_S1x128
  have r5 : IsRow X 5 (k0_pay16 X) := r4.next (by decide) slices_S32x128_o4_0_S1x128
  have r6 : IsRow X 6 (k0_pay18 (k0_pay5 X) (k0_pay16 X)) := r5.next (by decide) slices_S32x128_o5_0_S1x128
  have r7 : IsRow X 7 (k0_pay20 (k0_pay5 X) (k0_pay16 X)) := r6.next (by decide) slices_S32x128_o6_0_S1x128
  have r8 : IsRow X 8 (k0_pay22 (k0_pay5 X) (k0_pay16 X)) := r7.next (by decide) slices_S32x128_o7_0_S1x128
  have r9 : IsRow X 9 (k0_pay24 (k0_pay5 X) (k0_pay16 X)) := r8.next (by decide) slices_S32x128_o8_0_S1x128
  have r10 : IsRow X 10 (k0_pay26 (k0_pay5 X) (k0_pay16 X)) := r9.next (by decide) slices_S32x128_o9_0_S1x128
  have r11 : IsRow X 11 (k0_pay28 (k0_pay5 X) (k0_pay16 X)) := r10.next (by decide) slices_S32x128_o10_0_S1x128
  have r12 : IsRow X 12 (k0_pay30 (k0_pay5 X) (k0_pay16 X)) := r11.next (by decide) slices_S32x128_o11_0_S1x128
  have r13 : IsRow X 13 (k0_pay32 (k0_pay5 X) (k0_pay16 X)) := r12.next (by decide) slices_S32x128_o12_0_S1x128
  have r14 : IsRow X 14 (k0_pay34 (k0_pay5 X) (k0_pay32 (k0_pay5 X) (k0_pay16 X))) := r13.next (by decide) slices_S32x128_o13_0_S1x128
  have r15 : IsRow X 15 (k0_pay36 (k0_pay5 X) (k0_pay32 (k0_pay5 X) (k0_pay16 X))) := r14.next (by decide) slices_S32x128_o14_0_S1x128
  have r16 : IsRow X 16 (k0_pay38 (k0_pay5 X) (k0_pay32 (k0_pay5 X) (k0_pay16 X))) := r15.next (by decide) slices_S32x128_o15_0_S1x128
  have r17 : IsRow X 17 (k0_pay40 (k0_pay5 X) (k0_pay32 (k0_pay5 X) (k0_pay16 X))) := r16.next (by decide) slices_S32x128_o16_0_S1x128
  have r18 : IsRow X 18 (k0_pay42 (k0_pay5 X) (k0_pay32 (k0_pay5 X) (k0_pay16 X))) := r17.next (by decide) slices_S32x128_o17_0_S1x128
  have r19 : IsRow X 19 (k0_pay44 (k0_pay5 X) (k0_pay32 (k0_pay5 X) (k0_pay16 X))) := r18.next (by decide) slices_S32x128_o18_0_S1x128
  have r20 : IsRow X 20 (k0_pay46 (k0_pay5 X) (k0_pay32 (k0_pay5 X) (k0_pay16 X))) := r19.next (by decide) slices_S32x128_o19_0_S1x128
  have r21 : IsRow X 21 (k0_pay48 (k0_pay5 X) (k0_pay46 (k0_pay5 X) (k0_pay32 (k0_pay5 X) (k0_pay16 X)))) := r20.next (by decide) slices_S32x128_o20_0_S1x128
  have r22 : IsRow X 22 (k0_pay50 (k0_pay5 X) (k0_pay46 (k0_pay5 X) (k0_pay32 (k0_pay5 X) (k0_pay16 X)))) := r21.next (by decide) slices_S32x128_o21_0_S1x128
  have r23 : IsRow X 23 (k0_pay52 (k0_pay5 X) (k0_pay46 (k0_pay5 X) (k0_pay32 (k0_pay5 X) (k0_pay16 X)))) := r22.next (by decide) slices_S32x128_o22_0_S1x128
  have r24 : IsRow X 24 (k0_pay54 (k0_pay5 X) (k0_pay46 (k0_pay5 X) (k0_pay32 (k0_pay5 X) (k0_pay16 X)))) := r23.next (by decide) slices_S32x128_o23_0_S1x128
  have r25 : IsRow X 25 (k0_pay56 (k0_pay5 X) (k0_pay46 (k0_pay5 X) (k0_pay32 (k0_pay5 X) (k0_pay16 X)))) := r24.next (by decide) slices_S32x128_o24_0_S1x128
  have r26 : IsRow X 26 (k0_pay58 (k0_pay5 X) (k0_pay46 (k0_pay5 X) (k0_pay32 (k0_pay5 X) (k0_pay16 X)))) := r25.next (by decide) slices_S32x128_o25_0_S1x128
  have r27 : IsRow X 27 (k0_pay60 (k0_pay5 X) (k0_pay46 (k0_pay5 X) (k0_pay32 (k0_pay5 X) (k0_pay16 X)))) := r26.next (by decide) slices_S32x128_o26_0_S1x128
  have r28 : IsRow X 28 (k0_pay62 (k0_pay5 X) (k0_pay46 (k0_pay5 X) (k0_pay32 (k0_pay5 X) (k0_pay16 X)))) := r27.next (by decide) slices_S32x128_o27_0_S1x128
  have r29 : IsRow X 29 (k0_pay64 (k0_pay5 X) (k0_pay62 (k0_pay5 X) (k0_pay46 (k0_pay5 X) (k0_pay32 (k0_pay5 X) (k0_pay16 X))))) := r28.next (by decide) slices_S32x128_o28_0_S1x128
  have r30 : IsRow X 30 (k0_pay66 (k0_pay5 X) (k0_pay62 (k0_pay5 X) (k0_pay46 (k0_pay5 X) (k0_pay32 (k0_pay5 X) (k0_pay16 X))))) := r29.next (by decide) slices_S32x128_o29_0_S1x128
  have t0 : Held M X 0 (M.view.writes (Elt F) f []) := Held.none X _
  have t1 := t0.store inb_S32x128_S1x128_0_0 (w := (k0_pay7 (F := F))) (r0.cast shapeCasts_S1x128_S1x128)
  have t2 := t1.store inb_S32x128_S1x128_1_0 (w := (k0_pay9 X)) (r1.cast shapeCasts_S1x128_S1x128)
  have t3 := t2.store inb_S32x128_S1x128_2_0 (w := (k0_pay11 X)) (r2.cast shapeCasts_S1x128_S1x128)
  have t4 := t3.store inb_S32x128_S1x128_3_0 (w := (k0_pay13 X)) (r3.cast shapeCasts_S1x128_S1x128)
  have t5 := t4.store inb_S32x128_S1x128_4_0 (w := (k0_pay15 X)) (r4.cast shapeCasts_S1x128_S1x128)
  have t6 := t5.store inb_S32x128_S1x128_5_0 (w := (k0_pay17 (k0_pay16 X))) (r5.cast shapeCasts_S1x128_S1x128)
  have t7 := t6.store inb_S32x128_S1x128_6_0 (w := (k0_pay19 (k0_pay5 X) (k0_pay16 X))) (r6.cast shapeCasts_S1x128_S1x128)
  have t8 := t7.store inb_S32x128_S1x128_7_0 (w := (k0_pay21 (k0_pay5 X) (k0_pay16 X))) (r7.cast shapeCasts_S1x128_S1x128)
  have t9 := t8.store inb_S32x128_S1x128_8_0 (w := (k0_pay23 (k0_pay5 X) (k0_pay16 X))) (r8.cast shapeCasts_S1x128_S1x128)
  have t10 := t9.store inb_S32x128_S1x128_9_0 (w := (k0_pay25 (k0_pay5 X) (k0_pay16 X))) (r9.cast shapeCasts_S1x128_S1x128)
  have t11 := t10.store inb_S32x128_S1x128_10_0 (w := (k0_pay27 (k0_pay5 X) (k0_pay16 X))) (r10.cast shapeCasts_S1x128_S1x128)
  have t12 := t11.store inb_S32x128_S1x128_11_0 (w := (k0_pay29 (k0_pay5 X) (k0_pay16 X))) (r11.cast shapeCasts_S1x128_S1x128)
  have t13 := t12.store inb_S32x128_S1x128_12_0 (w := (k0_pay31 (k0_pay5 X) (k0_pay16 X))) (r12.cast shapeCasts_S1x128_S1x128)
  have t14 := t13.store inb_S32x128_S1x128_13_0 (w := (k0_pay33 (k0_pay32 (k0_pay5 X) (k0_pay16 X)))) (r13.cast shapeCasts_S1x128_S1x128)
  have t15 := t14.store inb_S32x128_S1x128_14_0 (w := (k0_pay35 (k0_pay5 X) (k0_pay32 (k0_pay5 X) (k0_pay16 X)))) (r14.cast shapeCasts_S1x128_S1x128)
  have t16 := t15.store inb_S32x128_S1x128_15_0 (w := (k0_pay37 (k0_pay5 X) (k0_pay32 (k0_pay5 X) (k0_pay16 X)))) (r15.cast shapeCasts_S1x128_S1x128)
  have t17 := t16.store inb_S32x128_S1x128_16_0 (w := (k0_pay39 (k0_pay5 X) (k0_pay32 (k0_pay5 X) (k0_pay16 X)))) (r16.cast shapeCasts_S1x128_S1x128)
  have t18 := t17.store inb_S32x128_S1x128_17_0 (w := (k0_pay41 (k0_pay5 X) (k0_pay32 (k0_pay5 X) (k0_pay16 X)))) (r17.cast shapeCasts_S1x128_S1x128)
  have t19 := t18.store inb_S32x128_S1x128_18_0 (w := (k0_pay43 (k0_pay5 X) (k0_pay32 (k0_pay5 X) (k0_pay16 X)))) (r18.cast shapeCasts_S1x128_S1x128)
  have t20 := t19.store inb_S32x128_S1x128_19_0 (w := (k0_pay45 (k0_pay5 X) (k0_pay32 (k0_pay5 X) (k0_pay16 X)))) (r19.cast shapeCasts_S1x128_S1x128)
  have t21 := t20.store inb_S32x128_S1x128_20_0 (w := (k0_pay47 (k0_pay46 (k0_pay5 X) (k0_pay32 (k0_pay5 X) (k0_pay16 X))))) (r20.cast shapeCasts_S1x128_S1x128)
  have t22 := t21.store inb_S32x128_S1x128_21_0 (w := (k0_pay49 (k0_pay5 X) (k0_pay46 (k0_pay5 X) (k0_pay32 (k0_pay5 X) (k0_pay16 X))))) (r21.cast shapeCasts_S1x128_S1x128)
  have t23 := t22.store inb_S32x128_S1x128_22_0 (w := (k0_pay51 (k0_pay5 X) (k0_pay46 (k0_pay5 X) (k0_pay32 (k0_pay5 X) (k0_pay16 X))))) (r22.cast shapeCasts_S1x128_S1x128)
  have t24 := t23.store inb_S32x128_S1x128_23_0 (w := (k0_pay53 (k0_pay5 X) (k0_pay46 (k0_pay5 X) (k0_pay32 (k0_pay5 X) (k0_pay16 X))))) (r23.cast shapeCasts_S1x128_S1x128)
  have t25 := t24.store inb_S32x128_S1x128_24_0 (w := (k0_pay55 (k0_pay5 X) (k0_pay46 (k0_pay5 X) (k0_pay32 (k0_pay5 X) (k0_pay16 X))))) (r24.cast shapeCasts_S1x128_S1x128)
  have t26 := t25.store inb_S32x128_S1x128_25_0 (w := (k0_pay57 (k0_pay5 X) (k0_pay46 (k0_pay5 X) (k0_pay32 (k0_pay5 X) (k0_pay16 X))))) (r25.cast shapeCasts_S1x128_S1x128)
  have t27 := t26.store inb_S32x128_S1x128_26_0 (w := (k0_pay59 (k0_pay5 X) (k0_pay46 (k0_pay5 X) (k0_pay32 (k0_pay5 X) (k0_pay16 X))))) (r26.cast shapeCasts_S1x128_S1x128)
  have t28 := t27.store inb_S32x128_S1x128_27_0 (w := (k0_pay61 (k0_pay5 X) (k0_pay46 (k0_pay5 X) (k0_pay32 (k0_pay5 X) (k0_pay16 X))))) (r27.cast shapeCasts_S1x128_S1x128)
  have t29 := t28.store inb_S32x128_S1x128_28_0 (w := (k0_pay63 (k0_pay62 (k0_pay5 X) (k0_pay46 (k0_pay5 X) (k0_pay32 (k0_pay5 X) (k0_pay16 X)))))) (r28.cast shapeCasts_S1x128_S1x128)
  have t30 := t29.store inb_S32x128_S1x128_29_0 (w := (k0_pay65 (k0_pay5 X) (k0_pay62 (k0_pay5 X) (k0_pay46 (k0_pay5 X) (k0_pay32 (k0_pay5 X) (k0_pay16 X)))))) (r29.cast shapeCasts_S1x128_S1x128)
  have t31 := t30.store inb_S32x128_S1x128_30_0 (w := (k0_pay67 (k0_pay5 X) (k0_pay62 (k0_pay5 X) (k0_pay46 (k0_pay5 X) (k0_pay32 (k0_pay5 X) (k0_pay16 X)))))) (r30.cast shapeCasts_S1x128_S1x128)
  have r31 := r30.next (by decide) slices_S32x128_o30_0_S1x128
  exact t31.store inb_S32x128_S1x128_31_0 (w := (k0_pay68 (k0_pay5 X) (k0_pay62 (k0_pay5 X) (k0_pay46 (k0_pay5 X) (k0_pay32 (k0_pay5 X) (k0_pay16 X)))))) (r31.cast shapeCasts_S1x128_S1x128)

/-- The table reads the running sums after the first step's stores. -/
theorem read_pieces (X : Vec F S32x128 .i32) (f : M.view.ty.Contents (Elt F)) : M.view.read (Elt F) (M.view.writes (Elt F) f (pieces X)) = firsts X :=
  (held_pieces X f).all

end Cert.Kernel3Ideal.Rank

end
-- ==== Proof.P3I.Body.lean ====
/-
  What one grid point of the ranks' kernel does: the body, run once over any staging buffers.
-/
module

public import Idealize.ShloMosaic.Lib.Pipeline.TableIdle
public import proofs.«01_k».proof.Proof.P3I.Rows
public import proofs.«01_k».proof.Proof.Gen.Kernel3Ideal.Launch
public import Idealize.ShloMosaic.Lib.Pipeline.FrameBody

@[expose] public section

set_option maxRecDepth 16384

noncomputable section

namespace Cert.Kernel3Ideal.Rank

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- A memref's buffer on core `c`, whole at contents `f`. -/
abbrev pt (c : Dev nD) {sp : Space} {S : Shape} {e : EltTy} (M : Memref sig .tc sp S e)
    (f : Buf (Elt F) (M.view.loc (c : Thread nD τ))) : sProp 𝕄 :=
  M.view.loc (c : Thread nD τ) ↦{fullShare} f

/-- Owning a whole memref at `X` is holding its buffer at the contents that read `X`. -/
theorem owns_pt (c : Dev nD) {sp : Space} {S : Shape} {e : EltTy} (M : Memref sig .tc sp S e) (hM : M.IsWhole)
    (X : S.Idx → Elt F e) : (owns (c : Thread nD τ) M fullShare X : sProp 𝕄) = pt c M (M.view.rep X) := by
  rw [owns_eq_rep, hM.set_eq_univ]

/-- A whole memref's buffer at contents that read `X` is the memref owned at `X`. -/
theorem pt_owns (c : Dev nD) {sp : Space} {S : Shape} {e : EltTy} (M : Memref sig .tc sp S e) (hM : M.IsWhole)
    (f : Buf (Elt F) (M.view.loc (c : Thread nD τ))) (X : S.Idx → Elt F e) (h : M.view.read (Elt F) f = X) :
    pt c M f ⊢ (owns (c : Thread nD τ) M fullShare X : sProp 𝕄) := by
  subst h
  unfold owns pt
  rw [hM.set_eq_univ]
  iintro H
  iexists f
  isplitr
  · ipureintro; rfl
  · iexact H

/-- The condition on which the body writes the experts' first rows: the step is the first. -/
def isFirst (i : grid0.Coords) : BitVec 1 :=
  Scalar.cmpi .ne (Scalar.extui (Scalar.cmpi .eq (BitVec.ofNat 32 (i 0).val) 0#32) : BitVec 32) 0#32

/-- The bases a step works with: at the first step the experts' first rows, else what the table held. -/
def bases (i : grid0.Coords) (X3 : Vec F S32x128 .i32) (S : Vec F S32x128 .f32) : Vec F S32x128 .f32 :=
  if isFirst i = 1#1 then firsts X3 else S

/-- The first lane of the table of bases. -/
def lane0 (S : Vec F S32x128 .f32) : Vec F S32x1 .f32 := VecWindow.window S ![0, 0] S32x1.size inb_S32x128_S32x1_0_0

/-- The element of a one-row vector of ranks at column `t`. -/
def rowIx (t : Fin 1024) : S1x1024.Idx := fun a => match a with
  | ⟨0, _⟩ => ⟨0, Nat.one_pos⟩
  | ⟨1, _⟩ => t

/-- The four rows of ranks a step writes, from its block of experts, the triangle and the bases. -/
def rows (X1 : Vec F S4x1024 .i32) (X2 : Vec F S1024x1024 .bf16) (S : Vec F S32x128 .f32) : Vec F S4x1024 .i32 := fun y => match y 0 with
  | ⟨0, _⟩ => k0_pay75 X1 X2 (lane0 S) (rowIx (y 1))
  | ⟨1, _⟩ => k0_pay1 (k0_pay76 X1 X2 (lane0 S)) (rowIx (y 1))
  | ⟨2, _⟩ => k0_pay2 (k0_pay71 X1) (k0_pay74 X1 X2 (lane0 S)) (rowIx (y 1))
  | ⟨_ + 3, _⟩ => k0_pay3 (k0_pay72 X1) (k0_pay74 X1 X2 (lane0 S)) (rowIx (y 1))

/-- Four stores of one row each leave the four rows. -/
theorem read_rows {sp : Space} (M : Memref sig .tc sp S4x1024 .i32) (f : M.view.ty.Contents (Elt F)) (w0 w1 w2 w3 : Vec F S1x1024 .i32)
    (x : Vec F S4x1024 .i32) (h : ∀ y : S4x1024.Idx, x y = match y 0 with
      | ⟨0, _⟩ => w0 (rowIx (y 1)) | ⟨1, _⟩ => w1 (rowIx (y 1)) | ⟨2, _⟩ => w2 (rowIx (y 1)) | ⟨_ + 3, _⟩ => w3 (rowIx (y 1))) :
    M.view.read (Elt F) (M.view.writes (Elt F) f
      [⟨Rect.unit (s := S4x1024) ![3, 0] S1x1024.size inb_S4x1024_S1x1024_3_0, w3⟩,
       ⟨Rect.unit (s := S4x1024) ![2, 0] S1x1024.size inb_S4x1024_S1x1024_2_0, w2⟩,
       ⟨Rect.unit (s := S4x1024) ![1, 0] S1x1024.size inb_S4x1024_S1x1024_1_0, w1⟩,
       ⟨Rect.unit (s := S4x1024) ![0, 0] S1x1024.size inb_S4x1024_S1x1024_0_0, w0⟩]) = x := by
  funext y
  rw [h y]
  have hk : ∀ k : Fin 4, y 0 = k → ∀ a : Fin 2, (y a).val = (![k.val, 0] : Fin 2 → ℕ) a + (rowIx (y 1) a).val := by
    intro k hk a
    match a with
    | ⟨0, _⟩ => show (y 0).val = k.val + 0; rw [hk]; rfl
    | ⟨1, _⟩ => show (y 1).val = 0 + (y 1).val; omega
  have hne : ∀ (k : Fin 4) (n : ℕ), y 0 = k → k.val ≠ n → (y 0).val < n ∨ n + 1 ≤ (y 0).val := by
    intro k n e h; rw [e]; omega
  generalize hy : y 0 = k
  match k with
  | ⟨0, _⟩ =>
    rw [View.read_writes_cons_unit_of_not_mem M.view f _ _ _ y rfl 0 (hne _ 3 hy (show 0 ≠ 3 by decide)),
      View.read_writes_cons_unit_of_not_mem M.view f _ _ _ y rfl 0 (hne _ 2 hy (show 0 ≠ 2 by decide)),
      View.read_writes_cons_unit_of_not_mem M.view f _ _ _ y rfl 0 (hne _ 1 hy (show 0 ≠ 1 by decide))]
    exact View.read_writes_cons_unit_of_mem M.view f _ _ _ y (rowIx (y 1)) rfl (hk _ hy)
  | ⟨1, _⟩ =>
    rw [View.read_writes_cons_unit_of_not_mem M.view f _ _ _ y rfl 0 (hne _ 3 hy (show 1 ≠ 3 by decide)),
      View.read_writes_cons_unit_of_not_mem M.view f _ _ _ y rfl 0 (hne _ 2 hy (show 1 ≠ 2 by decide))]
    exact View.read_writes_cons_unit_of_mem M.view f _ _ _ y (rowIx (y 1)) rfl (hk _ hy)
  | ⟨2, _⟩ =>
    rw [View.read_writes_cons_unit_of_not_mem M.view f _ _ _ y rfl 0 (hne _ 3 hy (show 2 ≠ 3 by decide))]
    exact View.read_writes_cons_unit_of_mem M.view f _ _ _ y (rowIx (y 1)) rfl (hk _ hy)
  | ⟨3, _⟩ =>
    exact View.read_writes_cons_unit_of_mem M.view f _ _ _ y (rowIx (y 1)) rfl (hk _ hy)

/-- The body run once over any staging buffers: it leaves the inputs as they were, the result's block at `rows` and the table at the next bases. -/
theorem body_run (c : Dev nD) (i : grid0.Coords)
    (M1 : Memref sig .tc .vmem S4x1024 .i32) (h1 : M1.IsWhole) (M2 : Memref sig .tc .vmem S1024x1024 .bf16) (h2 : M2.IsWhole)
    (M3 : Memref sig .tc .vmem S32x128 .i32) (h3 : M3.IsWhole) (M4 : Memref sig .tc .vmem S4x1024 .i32) (h4 : M4.IsWhole)
    (M5 : Memref sig .tc .vmem S32x128 .f32) (h5 : M5.IsWhole)
    (X1 : Vec F S4x1024 .i32) (X2 : Vec F S1024x1024 .bf16) (X3 : Vec F S32x128 .i32) (X4 : Vec F S4x1024 .i32) (X5 : Vec F S32x128 .f32)
    (Q : PUnit → sProp 𝕄) :
    iprop(owns (c : Thread nD τ) M1 fullShare X1 ∗ owns (c : Thread nD τ) M2 fullShare X2 ∗ owns (c : Thread nD τ) M3 fullShare X3
       ∗ owns (c : Thread nD τ) M4 fullShare X4 ∗ owns (c : Thread nD τ) M5 fullShare X5
       ∗ (owns (c : Thread nD τ) M1 fullShare X1 -∗ owns (c : Thread nD τ) M2 fullShare X2 -∗ owns (c : Thread nD τ) M3 fullShare X3
          -∗ owns (c : Thread nD τ) M4 fullShare (rows X1 X2 (bases i X3 X5))
          -∗ owns (c : Thread nD τ) M5 fullShare (k0_pay4 (k0_pay73 X1) (bases i X3 X5)) -∗ Q ⟨⟩))
    ⊢ wp frame (wpE (defs₀ (F := F)) Variants.none c none) Set.univ
        (cc0_rank i M1 h1 M2 h2 M3 h3 M4 h4 M5 h5) Q := by
  rw [owns_pt c M1 h1, owns_pt c M2 h2, owns_pt c M3 h3, owns_pt c M4 h4 X4, owns_pt c M5 h5 X5]
  iintro ⟨H1, H2, H3, H4, H5, K⟩
  rw [cc0_rank_eq_skeleton]
  unfold cc0_rank_skel
  sl_exec!
  have e1 : M1.view.readAt (Elt F) (Rect.unit ![0, 0] S4x1024.size inb_S4x1024_S4x1024_0_0).toLoadRect (M1.view.rep X1) = X1 := View.readAt_rep_full ..
  have e2 : M2.view.readAt (Elt F) (Rect.unit ![0, 0] S1024x1024.size inb_S1024x1024_S1024x1024_0_0).toLoadRect (M2.view.rep X2) = X2 := View.readAt_rep_full ..
  have e3 : M3.view.readAt (Elt F) (Rect.unit ![0, 0] S32x128.size inb_S32x128_S32x128_0_0).toLoadRect (M3.view.rep X3) = X3 := View.readAt_rep_full ..
  have a0 : body_run.sl.r M3 X3 = k0_pay5 X3 := by unfold body_run.sl.r; rw [e3]
  have a1 : body_run.sl.r_1 M3 X3 = k0_pay16 X3 := by unfold body_run.sl.r_1; rw [e3]
  have a2 : body_run.sl.r_2 M3 X3 = k0_pay32 (k0_pay5 X3) (k0_pay16 X3) := by unfold body_run.sl.r_2; rw [a0, a1]
  have a3 : body_run.sl.r_3 M3 X3 = k0_pay46 (k0_pay5 X3) (k0_pay32 (k0_pay5 X3) (k0_pay16 X3)) := by unfold body_run.sl.r_3; rw [a0, a2]
  have a4 : body_run.sl.r_4 M3 X3 = k0_pay62 (k0_pay5 X3) (k0_pay46 (k0_pay5 X3) (k0_pay32 (k0_pay5 X3) (k0_pay16 X3))) := by unfold body_run.sl.r_4; rw [a0, a3]
  have hr : M5.view.read (Elt F) (if hc : body_run.sl.v2 i = 1#1 then M5.view.writes (Elt F) (M5.view.rep X5) (pieces X3) else M5.view.rep X5) = bases i X3 X5 := by
    unfold bases
    by_cases h : isFirst i = 1#1
    · rw [dif_pos (show body_run.sl.v2 i = 1#1 from h), if_pos h, read_pieces]
    · rw [dif_neg (show ¬ body_run.sl.v2 i = 1#1 from h), if_neg h, View.read_rep]
  have e59 : body_run.sl.v59 i M3 M5 X3 X5 = bases i X3 X5 := by
    unfold body_run.sl.v59
    rw [a0, a1, a2, a3, a4, e3, View.readAt_full, ← hr]
    rfl
  have e32 : body_run.sl.v32 i M3 M5 X3 X5 = lane0 (bases i X3 X5) := by
    unfold body_run.sl.v32
    rw [a0, a1, a2, a3, a4, e3, View.readAt_unit M5.view _ _ rfl inb_S32x128_S32x1_0_0, ← hr]
    rfl
  sl_step
  iapply K $$ [H1] [H2] [H3] [H4] [H5]
  · iexact H1
  · iexact H2
  · iexact H3
  · iapply pt_owns c M4 h4 $$ H4
    unfold body_run.sl.H4_4 body_run.sl.r_5 body_run.sl.r_6 body_run.sl.r_8 body_run.sl.r_9
    rw [e1, e2, e32]
    exact read_rows M4 _ _ _ _ _ _ fun y => rfl
  · iapply pt_owns c M5 h5 $$ H5
    unfold body_run.sl.H5_1 body_run.sl.r_7
    rw [e1, e59, View.read_writes_full]

end Cert.Kernel3Ideal.Rank

end
-- ==== Proof.P3I.Data.lean ====
/-
  The proof data of the ranks' pipeline: what each window's buffer holds after each step, and that the body keeps it.
-/
module

public import proofs.«01_k».proof.Proof.P3I.Body
public import Idealize.ShloMosaic.Lib.Pipeline.FrameBody

@[expose] public section

set_option maxRecDepth 16384

noncomputable section

namespace Cert.Kernel3Ideal.Rank

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The grid is one axis: a step's coordinate is its number. -/
theorem coords_zero (t : Fin grid0.N) : ((grid0.coords t) 0 : ℕ) = t.val := by
  have h : t.val < 32 := lt_of_lt_of_eq t.isLt N_0
  show t.val / grid0.stride 0 % grid0.bound 0 = t.val
  have h1 : grid0.stride 0 = 1 := by decide
  have h2 : grid0.bound 0 = 32 := rfl
  rw [h1, h2, Nat.div_one, Nat.mod_eq_of_lt h]

/-- The condition on the step holds at the first step only. -/
theorem isFirst_iff (t : Fin grid0.N) : isFirst (grid0.coords t) = 1#1 ↔ t.val = 0 := by
  unfold isFirst
  rw [coords_zero t]
  have h : t.val < 32 := lt_of_lt_of_eq t.isLt N_0
  generalize t.val = n at h
  revert h
  revert n
  decide

section Blocks

variable (V : (c : Dev nD) → (b : Ref sig .tc) → Buf (Elt F) ((c : Thread nD τ).loc b))

/-- Step `t`'s experts. -/
def tiB (c : Dev nD) (t : Fin grid0.N) : Vec F S4x1024 .i32 := ((win0 0).blk t).view.read (Elt F) (V c main_arg0)
/-- The triangle, at any step. -/
def upB (c : Dev nD) (t : Fin grid0.N) : Vec F S1024x1024 .bf16 := ((win0 1).blk t).view.read (Elt F) (V c main_v4)
/-- The counts, at any step. -/
def ctB (c : Dev nD) (t : Fin grid0.N) : Vec F S32x128 .i32 := ((win0 2).blk t).view.read (Elt F) (V c main_arg1)

/-- The bases before step `n`. -/
def baseB (c : Dev nD) : ℕ → Vec F S32x128 .f32
  | 0 => firsts (ctB V c ⟨0, by decide⟩)
  | n + 1 => if h : n < grid0.N then k0_pay4 (k0_pay73 (tiB V c ⟨n, h⟩)) (baseB c n) else baseB c n

/-- After a step the bases are the next step's. -/
theorem baseB_succ (c : Dev nD) (t : Fin grid0.N) : baseB V c (t.val + 1) = k0_pay4 (k0_pay73 (tiB V c t)) (baseB V c t.val) :=
  dif_pos t.isLt

/-- What the body carries from step to step: the table of bases, after the first step known, and the generator's register. -/
def Phi (c : Dev nD) (n : ℕ) : sProp 𝕄 :=
  iprop(∃ s : Vec F S32x128 .f32, ⌜n ≠ 0 → s = baseB V c n⌝
    ∗ owns (c : Thread nD τ) (Memref.whole cc0_scratch0) fullShare s ∗ (∃ r, prngReg c r))

/-- The pipeline's proof data on core `c`. -/
def dats (p : Fin 1) (c : Dev nD) : Pipeline.Dat τ (Elt F) Unit ℕ (UR sig nD τ) ℕ (cfgs p) c where
  A := fun w => V c (Pipeline.arrRef spec0 w)
  after := fun
    | 0 => fun t => tiB V c t
    | 1 => fun t => upB V c t
    | 2 => fun t => ctB V c t
    | 3 => fun t => rows (tiB V c t) (upB V c t) (baseB V c t.val)
    | ⟨_ + 4, h⟩ => absurd h (Nat.not_lt.2 (Nat.le_add_left _ _))
  Φ := fun n => Phi V c n.val
  q := fun _ => fullShare
  owed := fun _ => 0

/-- Before a step the experts' buffer holds the step's experts. -/
theorem before0 (p : Fin 1) (c : Dev nD) (t : Fin grid0.N) (d) : (dats V p c).before (0 : Fin 4) t d = tiB V c t :=
  (dats V p c).before_in_eq_fetched (0 : Fin 4) rfl (fun _ => rfl) (fun _ _ _ => rfl) (fun t => by dsimp only [dats]; rfl) t d

/-- Before a step the triangle's buffer holds the triangle. -/
theorem before1 (p : Fin 1) (c : Dev nD) (t : Fin grid0.N) (d) : (dats V p c).before (1 : Fin 4) t d = upB V c t :=
  (dats V p c).before_in_eq_fetched (1 : Fin 4) rfl (fun _ => rfl) (fun _ _ _ => rfl) (fun t => by dsimp only [dats]; rfl) t d

/-- Before a step the counts' buffer holds the counts. -/
theorem before2 (p : Fin 1) (c : Dev nD) (t : Fin grid0.N) (d) : (dats V p c).before (2 : Fin 4) t d = ctB V c t :=
  (dats V p c).before_in_eq_fetched (2 : Fin 4) rfl (fun _ => rfl) (fun _ _ _ => rfl) (fun t => by dsimp only [dats]; rfl) t d

/-- The invariant before step `t`. -/
theorem phi_before (p : Fin 1) (c : Dev nD) (t : Fin grid0.N) : (dats V p c).Φ t.castSucc = Phi V c t.val := rfl

/-- After a step the body carries what the next step is given. -/
theorem phi_after (p : Fin 1) (c : Dev nD) (t : Fin grid0.N) : (dats V p c).Φ t.succ = Phi V c (t.val + 1) := rfl

/-- The bases a step works with are the bases before it. -/
theorem bases_eq (c : Dev nD) (t : Fin grid0.N) (s : Vec F S32x128 .f32) (hs : t.val ≠ 0 → s = baseB V c t.val) :
    bases (grid0.coords t) (ctB V c t) s = baseB V c t.val := by
  unfold bases
  by_cases h : t.val = 0
  · rw [if_pos ((isFirst_iff t).mpr h)]
    have e : t = ⟨0, by decide⟩ := Fin.ext h
    subst e
    rfl
  · rw [if_neg fun e => h ((isFirst_iff t).mp e), hs h]

/-- Every step keeps the proof data. -/
theorem body_ok (p : Fin 1) (c : Dev nD) :
    Pipeline.BodyObligation (dats V p c) (defs₀ (F := F)) Variants.none () Set.univ := by
  intro t
  rw [Gen.bigSep_W0, Gen.bigSep_W0, phi_before, phi_after]
  unfold Phi
  simp only [before0, before1, before2]
  iintro ⟨⟨%s, %hs, Hs, Hp⟩, Ho, ⟨%d0, W0⟩, ⟨%d1, W1⟩, ⟨%d2, W2⟩, ⟨%d3, W3⟩⟩
  have hb := bases_eq V c t s hs
  have e3 : (dats V p c).after (3 : Fin 4) t = rows (tiB V c t) (upB V c t) (bases (grid0.coords t) (ctB V c t) s) := by
    rw [hb]; dsimp only [dats]
  have e5 : k0_pay4 (k0_pay73 (tiB V c t)) (bases (grid0.coords t) (ctB V c t) s) = baseB V c (t.val + 1) := by
    rw [hb]; exact (baseB_succ V c t).symm
  iapply body_run c (grid0.coords t) _ _ _ _ _ _ _ _ (Memref.whole cc0_scratch0) _
    (tiB V c t) (upB V c t) (ctB V c t) ((dats V p c).before (3 : Fin 4) t d3) s
  isplitl [W0]; iexact W0
  isplitl [W1]; iexact W1
  isplitl [W2]; iexact W2
  isplitl [W3]; iexact W3
  isplitl [Hs]; iexact Hs
  iintro W0 W1 W2 W3 Hs
  isplitl [Hs Hp]
  · iexists k0_pay4 (k0_pay73 (tiB V c t)) (bases (grid0.coords t) (ctB V c t) s)
    isplitr
    · ipureintro
      exact fun _ => e5
    isplitl [Hs]; iexact Hs
    iexact Hp
  isplitl [Ho]; iexact Ho
  isplitl [W0]; iexact W0
  isplitl [W1]; iexact W1
  isplitl [W2]; iexact W2
  rw [e3]
  iexact W3

end Blocks

end Cert.Kernel3Ideal.Rank

end
-- ==== Proof.P3I.Run.lean ====
/-
  The ranks' program run whole: it terminates, its arguments end unchanged, every counter is zero, and its result is
  the array the pipeline's write-backs leave.
-/
module

public import proofs.«01_k».proof.Proof.P3I.Data
public import Idealize.ShloMosaic.Lib.StableHlo.RunRead

@[expose] public section

set_option maxRecDepth 16384

noncomputable section

namespace Cert.Kernel3Ideal.Rank

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ)

/-- The buffers' contents when the pipeline starts: the triangle built, the arguments as launched. -/
abbrev atEntry : (c : Dev nD) → (b : Ref sig .tc) → Buf (Elt F) ((c : Thread nD τ).loc b) :=
  fun c b => StableHlo.after (hostOps0 (F := F)) (fun b => m ((c : Dev nD), b)) b

/-- A buffer other than the five of the triangle is as launched. -/
theorem entry_of_ne (c : Dev nD) (b : Ref sig .tc) (h : b ∉ [main_v0, main_v1, main_v2, main_v3, main_v4]) :
    atEntry m c b = m ((c : Thread nD τ).loc b) :=
  StableHlo.after_unwritten [main_v0, main_v1, main_v2, main_v3, main_v4] rfl h _

/-- The strictly upper triangle of ones. -/
def triangle : Vec F S1024x1024 .bf16 :=
  truncf .bf16 (uitofp .f32 (cmpi .slt (iotaInDim S1024x1024 32 0 : Vec F S1024x1024 .i32) (iotaInDim S1024x1024 32 1))) bitsLt_bf16_f32

/-- The triangle as the pipeline reads it. -/
theorem entry_v4 (c : Dev nD) : atEntry m c main_v4 = triangle (F := F) := by
  show StableHlo.after (hostOps0 (F := F)) (fun b => m ((c : Dev nD), b)) (Proc.devRef .tc main_v4) = _
  rw [StableHlo.after_cons, StableHlo.after_cons, StableHlo.after_cons, StableHlo.after_cons, StableHlo.after_cons, StableHlo.after_nil,
    StableHlo.unary_result, StableHlo.unary_result, StableHlo.binary_result, StableHlo.nullary_result,
    StableHlo.nullary_result_ne _ _ _ _ (by decide), StableHlo.nullary_result]
  rfl

/-- The run, its post in the pipeline's own terms. -/
theorem run_frame (g : Dev nD → PrngReg) :
    θ_run (defs (F := F)) (onTc (τ := τ) (main (F := F))) ⟨m, fun _ => 0, g⟩
      (fun r => Pipeline.FramePost cfgs (dats (atEntry m)) 0 (atEntry m) r ∧ r.2.sem = fun _ => 0) :=
  Pipeline.θ_run_frame_track cfgs (dats (atEntry m)) 0 launch0 defs₀ Variants.none m g main
    (hbody := fun c => (body_ok (atEntry m) 0 c).loose)
    (hshare := fun c => (dats (atEntry m) 0 c).share_full fun _ => rfl) (howed := fun _ _ => rfl)
    (V := atEntry m)
    (hmain := Pipeline.hmain_prefix cfgs 0 defs₀ Variants.none m main hostOps0 hostOps0_sub (by exact ⟨rfl, rfl, rfl, rfl, rfl⟩) main_chain)
    (hA := fun _ _ => rfl)
    (hin := fun c => by
      show Pipeline.ΦA spec0 c ⊢ Phi (atEntry m) c 0
      unfold Pipeline.ΦA Phi
      rw [scopedRest0_eq]
      iintro ⟨⟨%f0, H0⟩, Hp⟩
      iexists (Memref.whole cc0_scratch0).view.read (Elt F) f0
      isplitr
      · ipureintro
        exact fun h => absurd rfl h
      isplitl [H0]
      · iapply pt_owns c (Memref.whole cc0_scratch0) (Memref.isWhole_whole _) f0 _ rfl $$ H0
      iexact Hp)
    (hout := fun c => by
      show Phi (atEntry m) c _ ⊢ Pipeline.ΦA spec0 c
      unfold Pipeline.ΦA Phi
      rw [scopedRest0_eq]
      simp only [owns_pt c (Memref.whole cc0_scratch0) (Memref.isWhole_whole _)]
      iintro ⟨%s0, -, H0, Hp⟩
      isplitl [H0]
      · iexists _
        iexact H0
      iexact Hp)
    (Q' := _) (hQ' := fun _ h => h)

/-- The result the run leaves on core `c`. -/
def result (c : Dev nD) : Buf (Elt F) ((c : Thread nD τ).loc main_v5) :=
  (dats (atEntry m) 0 c).arrAt (3 : Fin 4) grid0.N

/-- The run: the arguments end as they started, the result is `result`, every counter is zero. -/
theorem run_whole (g : Dev nD → PrngReg) :
    θ_run (defs (F := F)) (onTc (τ := τ) (main (F := F))) ⟨m, fun _ => 0, g⟩ (fun r =>
      (∀ c : Dev nD, r.2.mem ((c : Thread nD τ).loc main_v5) = result m c
        ∧ ∀ b ∈ [main_arg0, main_arg1], r.2.mem ((c : Thread nD τ).loc b) = m ((c : Thread nD τ).loc b))
      ∧ r.2.sem = fun _ => 0) := by
  refine (θ_run _ _ _).mono ?_ (run_frame m g)
  rintro r ⟨hr, hs⟩
  refine ⟨fun c => ⟨(hr c).1 (3 : Fin 4), ?_⟩, hs⟩
  have hw : ∀ w : Fin 4, (spec0 w).isOut = false → Pipeline.arrRef spec0 w ∉ [main_v0, main_v1, main_v2, main_v3, main_v4] →
      r.2.mem ((c : Thread nD τ).loc (Pipeline.arrRef spec0 w)) = m ((c : Thread nD τ).loc (Pipeline.arrRef spec0 w)) := fun w hi hb =>
    ((hr c).1 w).trans (((dats (atEntry m) 0 c).arrAt_in w hi _).trans (entry_of_ne m c _ hb))
  intro b hb
  simp only [List.mem_cons, List.not_mem_nil, or_false] at hb
  rcases hb with rfl | rfl
  · exact hw 0 rfl (by decide)
  · exact hw 2 rfl (by decide)

end Cert.Kernel3Ideal.Rank

end
-- ==== Proof.P3I.Value.lean ====
/-
  What the ranks' program leaves in its result: in every block of columns, the four rows its step writes.
-/
module

public import proofs.«01_k».proof.Proof.P3I.Run
public import Idealize.ShloMosaic.Lib.Pipeline.ValueKit.Geometry
public import Idealize.ShloMosaic.Lib.Pointwise.Index

@[expose] public section

set_option maxRecDepth 16384

noncomputable section

namespace Cert.Kernel3Ideal.Rank

open Cert.Kernel3Ideal Cert.Kernel3Ideal.Gen
open Idealize.ShloMosaic Idealize.ShloMosaic.TcCoe Idealize.SL Idealize.SL.Sem Idealize.ShloMosaic.Rounds

variable {F : FTy → Type} [FloatOps F]

section Blocks

variable (V : (c : Dev nD) → (b : Ref sig .tc) → Buf (Elt F) ((c : Thread nD τ).loc b))

/-- A step's number as the word the index maps read. -/
theorem word_step (t : Fin grid0.N) : (BitVec.ofNat 32 ((grid0.coords t) 0).val).toNat = t.val := by
  have h : t.val < 32 := lt_of_lt_of_eq t.isLt N_0
  rw [coords_zero t, BitVec.toNat_ofNat]
  exact Nat.mod_eq_of_lt (by omega)

/-- Step `t` reads block `t` of the experts' columns. -/
theorem index_in (t : Fin grid0.N) : (win0 0).index t = ![0, t.val] := by
  show ![0, (BitVec.ofNat 32 ((grid0.coords t) 0).val).toNat] = _
  rw [word_step]

/-- Step `t` writes block `t` of the result's columns. -/
theorem index_out (t : Fin grid0.N) : (win0 3).index t = ![0, t.val] := by
  show ![0, (BitVec.ofNat 32 ((grid0.coords t) 0).val).toNat] = _
  rw [word_step]

/-- The column of the result that is column `j` of step `t`'s block. -/
def col (t : Fin grid0.N) (j : Fin 1024) : Fin 32768 :=
  ⟨t.val * 1024 + j.val, by have h : t.val < 32 := lt_of_lt_of_eq t.isLt N_0; have := j.isLt; omega⟩

/-- Step `t`'s experts are those of its columns. -/
theorem tiB_apply (c : Dev nD) (t : Fin grid0.N) (k : Fin 4) (j : Fin 1024) :
    tiB V c t (ix2 k j) = (V c main_arg0 : Vec F S4x32768 .i32) (ix2 k (col t j)) := by
  have h0 := Pipeline.Window.rect_emb_val (win0 0) t (ix2 k j : S4x1024.Idx) (0 : Fin 2)
  have h1 := Pipeline.Window.rect_emb_val (win0 0) t (ix2 k j : S4x1024.Idx) (1 : Fin 2)
  rw [index_in t] at h0 h1
  show (V c main_arg0 : Vec F S4x32768 .i32) _ = _
  congr 1
  funext a
  apply Fin.ext
  match a with
  | ⟨0, _⟩ => exact h0.trans (by show 0 * 4 + k.val = k.val; omega)
  | ⟨1, _⟩ => exact h1

/-- The triangle's block is the triangle. -/
theorem upB_eq (c : Dev nD) (t : Fin grid0.N) : upB V c t = (V c main_v4 : Vec F S1024x1024 .bf16) := by
  funext y
  have h0 := Pipeline.Window.rect_emb_val (win0 1) t (y : S1024x1024.Idx) (0 : Fin 2)
  have h1 := Pipeline.Window.rect_emb_val (win0 1) t (y : S1024x1024.Idx) (1 : Fin 2)
  show (V c main_v4 : Vec F S1024x1024 .bf16) _ = _
  congr 1
  funext a
  apply Fin.ext
  match a with
  | ⟨0, _⟩ => exact h0.trans (by show 0 * 1024 + (y 0).val = (y 0).val; omega)
  | ⟨1, _⟩ => exact h1.trans (by show 0 * 1024 + (y 1).val = (y 1).val; omega)

/-- The counts' block is the counts. -/
theorem ctB_eq (c : Dev nD) (t : Fin grid0.N) : ctB V c t = (V c main_arg1 : Vec F S32x128 .i32) := by
  funext y
  have h0 := Pipeline.Window.rect_emb_val (win0 2) t (y : S32x128.Idx) (0 : Fin 2)
  have h1 := Pipeline.Window.rect_emb_val (win0 2) t (y : S32x128.Idx) (1 : Fin 2)
  show (V c main_arg1 : Vec F S32x128 .i32) _ = _
  congr 1
  funext a
  apply Fin.ext
  match a with
  | ⟨0, _⟩ => exact h0.trans (by show 0 * 32 + (y 0).val = (y 0).val; omega)
  | ⟨1, _⟩ => exact h1.trans (by show 0 * 128 + (y 1).val = (y 1).val; omega)

/-- Where an element of the result's block lies in the result. -/
theorem out_emb (t : Fin grid0.N) (y : S4x1024.Idx) :
    ((((win0 3).blk t).view.emb y : S4x32768.Idx) 0).val = (y 0).val
    ∧ ((((win0 3).blk t).view.emb y : S4x32768.Idx) 1).val = t.val * 1024 + (y 1).val := by
  have h0 := Pipeline.Window.rect_emb_val (win0 3) t y (0 : Fin 2)
  have h1 := Pipeline.Window.rect_emb_val (win0 3) t y (1 : Fin 2)
  rw [index_out t] at h0 h1
  exact ⟨h0.trans (by show 0 * 4 + (y 0).val = (y 0).val; omega), h1⟩

/-- Every step writes its block back. -/
theorem flush_all (t : Fin grid0.N) : (win0 3).flush t = true := by
  rw [Pipeline.Window.flush_eq_flushF]
  unfold Pipeline.Window.flushF
  rw [Bool.and_eq_true, Bool.or_eq_true]
  refine ⟨rfl, ?_⟩
  by_cases hl : t.val + 1 = grid0.N
  · exact .inl (decide_eq_true hl)
  · right
    have hn : t.val + 1 < grid0.N := by have := t.isLt; omega
    refine decide_eq_true ⟨hn, (1 : Fin 2), fun e => ?_⟩
    have e1 := index_out ⟨t.val + 1, hn⟩
    have e2 := index_out t
    have e3 : t.val + 1 = t.val := (congrFun e1 (1 : Fin 2)).symm.trans (e.trans (congrFun e2 (1 : Fin 2)))
    omega

/-- After the run a column of the result holds what its step writes there. -/
theorem arr_value (c : Dev nD) (t : Fin grid0.N) (k : Fin 4) (j : Fin 1024) :
    ((dats V 0 c).arrAt (3 : Fin 4) grid0.N : Vec F S4x32768 .i32) (ix2 k (col t j))
      = rows (tiB V c t) (upB V c t) (baseB V c t.val) (ix2 k j) := by
  let i : S4x32768.Idx := ix2 k (col t j)
  have hmem : i ∈ ((win0 3).blk t).view.set := by
    refine Finset.mem_map.mpr ⟨(ix2 k j : S4x1024.Idx), Finset.mem_univ _, ?_⟩
    obtain ⟨a0, a1⟩ := out_emb t (ix2 k j)
    funext a
    apply Fin.ext
    match a with
    | ⟨0, _⟩ => exact a0
    | ⟨1, _⟩ => exact a1
  have key := (dats V 0 c).arrAt_forall_of_flushed (3 : Fin 4)
    (fun (i : S4x32768.Idx) (v : Elt F .i32) => ∀ (t : Fin grid0.N) (k : Fin 4) (j : Fin 1024), (i 0).val = k.val → (i 1).val = t.val * 1024 + j.val →
      v = rows (tiB V c t) (upB V c t) (baseB V c t.val) (ix2 k j))
    (fun t _ y t' k' j' hk hj => by
      obtain ⟨a0, a1⟩ := out_emb t y
      have y1 : ((y : S4x1024.Idx) 1).val < 1024 := ((y : S4x1024.Idx) 1).isLt
      have b0 : ((y : S4x1024.Idx) 0).val = k'.val := a0.symm.trans hk
      have b1 : t.val * 1024 + ((y : S4x1024.Idx) 1).val = t'.val * 1024 + j'.val := a1.symm.trans hj
      have et : t' = t := Fin.ext (by have := j'.isLt; omega)
      subst et
      have ey : (ix2 k' j' : S4x1024.Idx) = y := by
        funext a
        apply Fin.ext
        match a with
        | ⟨0, _⟩ => exact b0.symm
        | ⟨1, _⟩ => show j'.val = ((y : S4x1024.Idx) 1).val; omega
      rw [ey]
      refine Eq.trans (b := (dats V 0 c).after (3 : Fin 4) t' y) ?_ (by dsimp only [dats])
      exact Pipeline.Dat.flushed_apply ..)
    grid0.N t i t.isLt (flush_all t) hmem
  exact key t k j rfl rfl

end Blocks

variable (m : (ℓ : Loc nD τ sig) → Buf (Elt F) ℓ)

/-- The experts of the tokens, as the memory holds them at launch. -/
abbrev experts (c : Dev nD) : Vec F S4x32768 .i32 := m ((c : Thread nD τ).loc main_arg0)

/-- The table of counts, as the memory holds it at launch. -/
abbrev countsOf (c : Dev nD) : Vec F S32x128 .i32 := m ((c : Thread nD τ).loc main_arg1)

/-- A block of the experts' columns. -/
def block (E : Vec F S4x32768 .i32) (n : ℕ) : Vec F S4x1024 .i32 := fun y =>
  if h : n < 32 then E (ix2 (y 0) (⟨n * 1024 + (y 1).val, by have h2 : (y 1).val < 1024 := (y 1).isLt; omega⟩ : Fin 32768)) else 0#32

/-- The bases before block `n`, from the counts and the experts. -/
def base (E : Vec F S4x32768 .i32) (C : Vec F S32x128 .i32) : ℕ → Vec F S32x128 .f32
  | 0 => firsts C
  | n + 1 => k0_pay4 (k0_pay73 (block E n)) (base E C n)

/-- A step's experts are its block of the memory's. -/
theorem tiB_eq (c : Dev nD) (t : Fin grid0.N) : tiB (atEntry m) c t = block (experts m c) t.val := by
  have h : t.val < 32 := lt_of_lt_of_eq t.isLt N_0
  funext y
  obtain ⟨k, j, rfl⟩ : ∃ (k : Fin 4) (j : Fin 1024), y = ix2 k j :=
    ⟨y 0, y 1, funext fun a => match a with | ⟨0, _⟩ => rfl | ⟨1, _⟩ => rfl⟩
  rw [tiB_apply, entry_of_ne m c main_arg0 (by decide)]
  unfold block
  rw [dif_pos h]
  rfl

/-- The bases before a step are those of its block. -/
theorem baseB_eq (c : Dev nD) (n : ℕ) (hn : n ≤ 32) : baseB (atEntry m) c n = base (experts m c) (countsOf m c) n := by
  induction n with
  | zero =>
    show firsts (ctB (atEntry m) c _) = firsts _
    rw [ctB_eq, entry_of_ne m c main_arg1 (by decide)]
  | succ n ih =>
    have h : n < grid0.N := lt_of_lt_of_eq (by omega) N_0.symm
    rw [baseB_succ (atEntry m) c ⟨n, h⟩, tiB_eq]
    show k0_pay4 (k0_pay73 (block _ n)) (baseB (atEntry m) c n) = _
    rw [ih (by omega)]
    rfl

/-- The result of the run, column by column. -/
theorem result_apply (c : Dev nD) (n : ℕ) (hn : n < 32) (k : Fin 4) (j : Fin 1024) :
    (result m c : Vec F S4x32768 .i32) (ix2 k (⟨n * 1024 + j.val, by have := j.isLt; omega⟩ : Fin 32768))
      = rows (block (experts m c) n) (triangle (F := F)) (base (experts m c) (countsOf m c) n) (ix2 k j) := by
  have h : n < grid0.N := lt_of_lt_of_eq hn N_0.symm
  refine (arr_value (atEntry m) c ⟨n, h⟩ k j).trans ?_
  rw [tiB_eq, upB_eq, entry_v4, baseB_eq m c n (by omega)]

end Cert.Kernel3Ideal.Rank

end
-- ==== Proof.Ranks.lean ====
/-
  Where the rows of the tokens go, in natural numbers: every expert's rows start on a tile, and within an expert the rows
  follow the tokens.
-/
module

public import Idealize.ShloMosaic.Lib.Pointwise

@[expose] public section

namespace Cert.Ranks

open Finset

/-- How many of token `T`'s four choices are expert `e`. -/
def hit (E : ℕ → ℕ → ℕ) (T e : ℕ) : ℕ := ∑ k ∈ range 4, if E k T = e then 1 else 0

/-- How many choices of the tokens before `T` are expert `e`. -/
def before (E : ℕ → ℕ → ℕ) (T e : ℕ) : ℕ := ∑ i ∈ range T, hit E i e

/-- A count of rows rounded up to tiles of 512 rows. -/
def pad (n : ℕ) : ℕ := (n + 511) / 512 * 512

/-- The first row of expert `e`: the rounded counts of the experts before it. -/
def first (C : ℕ → ℕ) (e : ℕ) : ℕ := ∑ i ∈ range e, pad (C i)

/-- The row of token `T`'s choice `k`. -/
def slot (E : ℕ → ℕ → ℕ) (C : ℕ → ℕ) (k T : ℕ) : ℕ := first C (E k T) + before E T (E k T)

/-- A token makes four choices. -/
theorem hit_le (E : ℕ → ℕ → ℕ) (T e : ℕ) : hit E T e ≤ 4 := by
  refine (sum_le_sum (g := fun _ => 1) fun k _ => ?_).trans (by simp)
  split <;> omega

/-- Four choices a token. -/
theorem before_le (E : ℕ → ℕ → ℕ) (T e : ℕ) : before E T e ≤ T * 4 := by
  refine (sum_le_sum (g := fun _ => 4) fun i _ => hit_le E i e).trans (by simp)

/-- Rounding up adds less than a tile. -/
theorem pad_le (n : ℕ) : pad n ≤ n + 511 := by unfold pad; omega

/-- The first rows are bounded when the counts are. -/
theorem first_le (C : ℕ → ℕ) (h : ∀ e, C e ≤ 131072) (e : ℕ) : first C e ≤ e * 131583 := by
  refine (sum_le_sum (g := fun _ => 131583) fun i _ => (pad_le _).trans (by have := h i; omega)).trans (by simp)

/-- A token's slot is small. -/
theorem slot_lt (E : ℕ → ℕ → ℕ) (C : ℕ → ℕ) (h : ∀ e, C e ≤ 131072) (k T : ℕ) (hE : E k T < 32) (hT : T < 32768) :
    slot E C k T < 2 ^ 23 := by
  have h1 := first_le C h (E k T)
  have h2 := before_le E T (E k T)
  unfold slot
  omega

/-- The tokens before a later token: those before an earlier one and those between. -/
theorem before_add (E : ℕ → ℕ → ℕ) (T n e : ℕ) : before E (T + n) e = before E T e + ∑ i ∈ range n, hit E (T + i) e :=
  sum_range_add _ T n

/-- The next expert's first row. -/
theorem first_succ (C : ℕ → ℕ) (e : ℕ) : first C (e + 1) = first C e + pad (C e) := sum_range_succ _ e

/-- Of a block of tokens those before column `j`. -/
theorem sum_below {N : ℕ} (f : ℕ → ℕ) (j : Fin N) : (∑ x : Fin N, f x.val * (if x < j then 1 else 0)) = ∑ i ∈ range j.val, f i := by
  have e : (∑ x : Fin N, f x.val * (if x < j then 1 else 0)) = ∑ i ∈ range N, f i * (if i < j.val then 1 else 0) :=
    Fin.sum_univ_eq_sum_range (fun i => f i * (if i < j.val then 1 else 0)) N
  rw [e]
  simp only [mul_ite, mul_one, mul_zero]
  rw [← sum_filter]
  congr 1
  ext i
  simp only [mem_filter, mem_range]
  have := j.isLt
  omega

end Cert.Ranks

end
-- ==== Proof.P3I.Pay.lean ====
/-
  What a step of the ranks' kernel computes in exact arithmetic, at one element.
-/
module

public import proofs.«01_k».proof.Proof.P3I.Value
public import proofs.«01_k».proof.Proof.Ranks
public import Idealize.ShloMosaic.Lib.Pointwise

@[expose] public section

set_option maxRecDepth 16384

noncomputable section

namespace Cert.Kernel3Ideal.Rank

open Cert.Kernel3Ideal Cert.Kernel3Ideal.Gen Cert.Ranks
open Idealize.ShloMosaic

/-! ## Natural numbers in exact arithmetic -/

/-- A comparison for equality, widened and converted, is one or zero. -/
theorem flag_nat (a b : BitVec 32) : (FloatOps.sitofp .f32 (BitVec.setWidth 32 (IntOp.cmpi .eq a b)) : Ideal .f32)
    = ((if a = b then 1 else 0 : ℕ) : EReal) := by
  show (((BitVec.setWidth 32 (IntOp.cmpi .eq a b)).toInt : ℝ) : EReal) = _
  by_cases h : a = b
  · rw [if_pos h, show IntOp.cmpi .eq a b = 1#1 by simp [IntOp.cmpi, h]]
    simp
  · rw [if_neg h, show IntOp.cmpi .eq a b = 0#1 by simp [IntOp.cmpi, beq_eq_false_iff_ne.mpr h]]
    simp

/-- A natural number that a word holds, converted to an integer. -/
theorem fptosi_nat (n : ℕ) (h : n < 2 ^ 31) : (FloatOps.fptosi (F := Ideal) (φ := .f32) 32 ((n : ℕ) : EReal) : BitVec 32) = BitVec.ofNat 32 n := by
  show Ideal.fptosi 32 ((n : ℕ) : EReal) = _
  rw [← EReal.coe_natCast, Ideal.fptosi, Ideal.toIntClamped_coe, if_pos (Nat.cast_nonneg n)]
  rw [Int.floor_natCast]
  have e : max (-((2 ^ (32 - 1) : ℕ) : ℤ)) (min (((2 ^ (32 - 1) : ℕ) : ℤ) - 1) (n : ℤ)) = (n : ℤ) := by
    have : (n : ℤ) < 2 ^ 31 := by exact_mod_cast h
    norm_num
    omega
  rw [e]
  exact BitVec.ofInt_natCast 32 n

/-- A count rounded up to tiles, in exact arithmetic. -/
theorem pad_nat (w : BitVec 32) (h : w.toNat ≤ 131072) :
    (Ideal.liftRound Int.floor (((FloatOps.sitofp .f32 w : Ideal .f32) + Ideal.ofBits FTy.f32 1140817920#32) * Ideal.ofBits FTy.f32 989855744#32)
      * Ideal.ofBits FTy.f32 1140850688#32 : EReal) = ((Ranks.pad w.toNat : ℕ) : EReal) := by
  have e1 : Ideal.ofBits FTy.f32 1140817920#32 = ((511 : ℝ) : EReal) := by
    simp [Ideal.ofBits, Ideal.ieee, -EReal.coe_mul]; norm_num
  have e2 : Ideal.ofBits FTy.f32 989855744#32 = ((1 / 512 : ℝ) : EReal) := by
    simp [Ideal.ofBits, Ideal.ieee, -EReal.coe_mul]; norm_num
  have e3 : Ideal.ofBits FTy.f32 1140850688#32 = ((512 : ℝ) : EReal) := by
    simp [Ideal.ofBits, Ideal.ieee, -EReal.coe_mul]; norm_num
  have e0 : (FloatOps.sitofp .f32 w : Ideal .f32) = ((w.toNat : ℝ) : EReal) := by
    show ((w.toInt : ℝ) : EReal) = _
    rw [BitVec.toInt_eq_toNat_of_lt (by omega)]
    rfl
  rw [e0, e1, e2, e3, ← EReal.coe_add, ← EReal.coe_mul, Ideal.liftRound_coe, ← EReal.coe_mul, ← EReal.coe_natCast]
  congr 1
  have : ⌊((w.toNat : ℝ) + 511) * (1 / 512)⌋ = (((w.toNat + 511) / 512 : ℕ) : ℤ) := by
    have h1 : 512 * ((w.toNat + 511) / 512) ≤ w.toNat + 511 := by omega
    have h2 : w.toNat + 511 < 512 * ((w.toNat + 511) / 512 + 1) := by omega
    have h1' : (512 : ℝ) * (((w.toNat + 511) / 512 : ℕ) : ℝ) ≤ (w.toNat : ℝ) + 511 := by exact_mod_cast h1
    have h2' : (w.toNat : ℝ) + 511 < 512 * ((((w.toNat + 511) / 512 : ℕ) : ℝ) + 1) := by exact_mod_cast h2
    rw [Int.floor_eq_iff, Int.cast_natCast]
    constructor <;> linarith
  rw [this]
  unfold Ranks.pad
  push_cast
  rfl

/-- Of a sum of which one term is selected that term is left. -/
theorem sum_select (v : Fin 32 → EReal) (w : BitVec 32) (h : w.toNat < 32) :
    (∑ x : Fin 32, Scalar.select (IntOp.cmpi .eq (BitVec.ofNat 32 x.val) w) (v x) 0 : EReal) = v ⟨w.toNat, h⟩ := by
  have hx : ∀ x : Fin 32, BitVec.ofNat 32 x.val = w ↔ x = ⟨w.toNat, h⟩ := by
    intro x
    have := x.isLt
    constructor
    · intro e
      apply Fin.ext
      have := congrArg BitVec.toNat e
      rw [BitVec.toNat_ofNat] at this
      show x.val = w.toNat
      omega
    · intro e
      rw [e]
      exact BitVec.ofNat_toNat 32 w ▸ by simp
  rw [Finset.sum_eq_single (⟨w.toNat, h⟩ : Fin 32)]
  · have e : BitVec.ofNat 32 (⟨w.toNat, h⟩ : Fin 32).val = w := (hx _).mpr rfl
    rw [show IntOp.cmpi .eq (BitVec.ofNat 32 (⟨w.toNat, h⟩ : Fin 32).val) w = 1#1 by simp only [IntOp.cmpi, e]; simp]
    rfl
  · intro x _ hne
    have e : ¬ BitVec.ofNat 32 x.val = w := fun e => hne ((hx x).mp e)
    rw [show IntOp.cmpi .eq (BitVec.ofNat 32 x.val) w = 0#1 by simp [IntOp.cmpi, beq_eq_false_iff_ne.mpr e]]
    rfl
  · intro h
    exact absurd (Finset.mem_univ _) h

/-- The strictly upper triangle, in exact arithmetic. -/
theorem triangle_apply (i j : Fin 1024) : (triangle (F := Ideal) : S1024x1024.Idx → EReal) (ix2 i j) = ((if i < j then 1 else 0 : ℕ) : EReal) := by
  pointwise [triangle]
  show ((((IntOp.cmpi .slt (BitVec.ofNat 32 i.val) (BitVec.ofNat 32 j.val)).toNat : ℕ) : ℝ) : EReal) = _
  have hi := i.isLt
  have hj := j.isLt
  have e : IntOp.cmpi .slt (BitVec.ofNat 32 i.val) (BitVec.ofNat 32 j.val) = if i < j then 1#1 else 0#1 := by
    have e1 : (BitVec.ofNat 32 i.val).toInt = i.val := by rw [BitVec.toInt_eq_toNat_of_lt] <;> rw [BitVec.toNat_ofNat] <;> omega
    have e2 : (BitVec.ofNat 32 j.val).toInt = j.val := by rw [BitVec.toInt_eq_toNat_of_lt] <;> rw [BitVec.toNat_ofNat] <;> omega
    have e3 : (BitVec.ofNat 32 i.val).slt (BitVec.ofNat 32 j.val) = decide (i < j) := by
      unfold BitVec.slt
      rw [e1, e2]
      simp
    simp only [IntOp.cmpi, e3]
    by_cases h : i < j <;> simp [h]
  rw [e]
  split <;> simp

/-! ## The kernel's numbers -/

/-- The experts of the tokens as natural numbers. -/
def ex (E : S4x32768.Idx → BitVec 32) (k T : ℕ) : ℕ := if h : k < 4 ∧ T < 32768 then (E (ix2 (⟨k, h.1⟩ : Fin 4) (⟨T, h.2⟩ : Fin 32768))).toNat else 0

/-- The counts as natural numbers. -/
def ct (C : S32x128.Idx → BitVec 32) (e : ℕ) : ℕ := if h : e < 32 then (C (ix2 (⟨e, h⟩ : Fin 32) (0 : Fin 128))).toNat else 0

variable (E : Vec Ideal S4x32768 .i32) (C : Vec Ideal S32x128 .i32)

/-- An expert of a block, as a natural number. -/
theorem block_toNat (n : ℕ) (hn : n < 32) (k : Fin 4) (j : Fin 1024) : (block E n (ix2 k j) : BitVec 32).toNat = ex E k.val (n * 1024 + j.val) := by
  have hj := j.isLt
  unfold block ex
  rw [dif_pos hn, dif_pos ⟨k.isLt, by omega⟩]
  rfl

/-- The hits of a block's column. -/
theorem hits_apply (n : ℕ) (hn : n < 32) (e : Fin 32) (j : Fin 1024) :
    (k0_pay73 (block E n) : S32x1024.Idx → EReal) (ix2 e j) = ((hit (ex E) (n * 1024 + j.val) e.val : ℕ) : EReal) := by
  pointwise [k0_pay73, k0_pay69, k0_pay70, k0_pay71, k0_pay72]
  simp only [flag_nat]
  have hw : ∀ k : Fin 4, (BitVec.ofNat 32 e.val = (block E n (ix2 k j) : BitVec 32)) = (ex E k.val (n * 1024 + j.val) = e.val) := by
    intro k
    rw [← block_toNat E n hn]
    have := e.isLt
    refine propext ⟨fun h => ?_, fun h => ?_⟩
    · rw [← h, BitVec.toNat_ofNat]; omega
    · rw [← h]; simp
  simp only [hw]
  unfold hit
  simp only [Finset.sum_range_succ, Finset.sum_range_zero, zero_add]
  push_cast
  rfl

/-- The running sums of the padded counts, in the first lane. -/
theorem run_apply (hC : ∀ e, ct C e ≤ 131072) (n : ℕ) (hn : n ≤ 32) : (run C n 0 : EReal) = ((first (ct C) n : ℕ) : EReal) := by
  induction n with
  | zero =>
    show (Scalar.ofBits .f32 0x00000000#32 : Ideal .f32) = _
    pointwise
    simp [first]
  | succ n ih =>
    have h : n < 32 := by omega
    have ec : cell n (0 : Fin 128) = ix2 (⟨n, h⟩ : Fin 32) (0 : Fin 128) := by
      funext a
      apply Fin.ext
      match a with
      | ⟨0, _⟩ => exact Nat.mod_eq_of_lt h
      | ⟨1, _⟩ => rfl
    show (run C n 0 : EReal) + (k0_pay5 C (cell n 0) : EReal) = _
    rw [ih (by omega), ec]
    have e5 : (k0_pay5 C : S32x128.Idx → EReal) (ix2 (⟨n, h⟩ : Fin 32) (0 : Fin 128)) = ((Ranks.pad (ct C n) : ℕ) : EReal) := by
      have hc := hC n
      unfold ct at hc ⊢
      rw [dif_pos h] at hc ⊢
      pointwise [k0_pay5]
      exact pad_nat _ hc
    rw [e5, first_succ]
    push_cast
    rfl

/-- The bases before a block: the experts' first rows and the hits of the blocks before. -/
theorem base_apply (hC : ∀ e, ct C e ≤ 131072) (n : ℕ) (hn : n ≤ 32) (e : Fin 32) :
    (base E C n : S32x128.Idx → EReal) (ix2 e 0) = ((first (ct C) e.val + before (ex E) (n * 1024) e.val : ℕ) : EReal) := by
  induction n with
  | zero =>
    show (run C e.val 0 : EReal) = _
    rw [run_apply C hC _ e.isLt.le]
    simp [before]
  | succ n ih =>
    show (k0_pay4 (k0_pay73 (block E n)) (base E C n) : S32x128.Idx → EReal) (ix2 e 0) = _
    pointwise [k0_pay4]
    rw [ih (by omega)]
    simp only [hits_apply E n (by omega)]
    rw [← Nat.cast_sum, ← Nat.cast_add, show (n + 1) * 1024 = n * 1024 + 1024 by ring, before_add,
      ← Fin.sum_univ_eq_sum_range (fun i => hit (ex E) (n * 1024 + i) e.val), Nat.add_assoc]

/-- The slots of a block, expert by expert. -/
theorem slots_apply (hC : ∀ e, ct C e ≤ 131072) (n : ℕ) (hn : n < 32) (e : Fin 32) (j : Fin 1024) :
    (k0_pay74 (block E n) (triangle (F := Ideal)) (lane0 (base E C n)) : S32x1024.Idx → EReal) (ix2 e j)
      = ((first (ct C) e.val + before (ex E) (n * 1024 + j.val) e.val : ℕ) : EReal) := by
  pointwise [k0_pay74]
  simp only [hits_apply E n hn, triangle_apply, ← EReal.natCast_mul]
  have eb : (lane0 (base E C n) : S32x1.Idx → EReal) (ix2 e 0) = (base E C n : S32x128.Idx → EReal) (ix2 e 0) := by
    unfold lane0 VecWindow.window
    congr 1
    funext a
    apply Fin.ext
    match a with
    | ⟨0, _⟩ => show 0 + 1 * e.val = e.val; omega
    | ⟨1, _⟩ => rfl
  rw [eb, base_apply E C hC n hn.le, ← Nat.cast_sum, ← Nat.cast_add, sum_below (fun i => hit (ex E) (n * 1024 + i) e.val) j, before_add]
  congr 1
  omega

/-- The rows a step writes hold the slots of its columns. -/
theorem rows_apply (hE : ∀ k T, ex E k T < 32) (hC : ∀ e, ct C e ≤ 131072) (n : ℕ) (hn : n < 32) (k : Fin 4) (j : Fin 1024) :
    (rows (block E n) (triangle (F := Ideal)) (base E C n) (ix2 k j) : BitVec 32) = BitVec.ofNat 32 (slot (ex E) (ct C) k.val (n * 1024 + j.val)) := by
  have hj := j.isLt
  have er : rowIx j = (ix2 (0 : Fin 1) j : S1x1024.Idx) := funext fun a => match a with | ⟨0, _⟩ => rfl | ⟨1, _⟩ => rfl
  have key : ∀ k : Fin 4, (FloatOps.fptosi (F := Ideal) (φ := .f32) 32 (∑ x : Fin 32,
      Scalar.select (IntOp.cmpi .eq (BitVec.ofNat 32 x.val) (block E n (ix2 k j) : BitVec 32))
        ((k0_pay74 (block E n) (triangle (F := Ideal)) (lane0 (base E C n)) : S32x1024.Idx → EReal) (ix2 x j)) 0) : BitVec 32)
      = BitVec.ofNat 32 (slot (ex E) (ct C) k.val (n * 1024 + j.val)) := by
    intro k
    have hb := block_toNat E n hn k j
    have hl : (block E n (ix2 k j) : BitVec 32).toNat < 32 := by rw [hb]; exact hE _ _
    rw [sum_select _ _ hl, slots_apply E C hC n hn]
    show FloatOps.fptosi (F := Ideal) (φ := .f32) 32 ((first (ct C) (block E n (ix2 k j) : BitVec 32).toNat + before (ex E) (n * 1024 + j.val) (block E n (ix2 k j) : BitVec 32).toNat : ℕ) : EReal) = _
    rw [hb]
    exact fptosi_nat _ (by
      have := slot_lt (ex E) (ct C) hC k.val (n * 1024 + j.val) (hE _ _) (by omega)
      unfold slot at this
      omega)
  match k with
  | ⟨0, h⟩ =>
    show k0_pay75 (block E n) (triangle (F := Ideal)) (lane0 (base E C n)) (rowIx j) = _
    rw [er, ← key]
    pointwise [k0_pay75, k0_pay69]
  | ⟨1, h⟩ =>
    show k0_pay1 (k0_pay76 (block E n) (triangle (F := Ideal)) (lane0 (base E C n))) (rowIx j) = _
    rw [er, ← key]
    pointwise [k0_pay1, k0_pay76, k0_pay70]
  | ⟨2, h⟩ =>
    show k0_pay2 (k0_pay71 (block E n)) (k0_pay74 (block E n) (triangle (F := Ideal)) (lane0 (base E C n))) (rowIx j) = _
    rw [er, ← key]
    pointwise [k0_pay2, k0_pay71]
  | ⟨3, h⟩ =>
    show k0_pay3 (k0_pay72 (block E n)) (k0_pay74 (block E n) (triangle (F := Ideal)) (lane0 (base E C n))) (rowIx j) = _
    rw [er, ← key]
    pointwise [k0_pay3, k0_pay72]

end Cert.Kernel3Ideal.Rank

end
-- ==== Proof.P3I.Ref.lean ====
/-
  The reference's ranks, read word by word: its result holds the slots of the tokens' choices.
-/
module

public import proofs.«01_k».proof.Proof.P3I.Pay
public import proofs.«01_k».proof.Proof.Gen.Reference3Ideal
public import proofs.«01_k».proof.Proof.Gen.Reference3Ideal.Run
public import proofs.«01_k».proof.Proof.Gen.Reference3Ideal.Read
public import Idealize.ShloMosaic.Lib.Routing.OpsOne
public import Idealize.ShloMosaic.Lib.Routing.OpsSearch
public import Idealize.ShloMosaic.Lib.Routing.OpsPair

@[expose] public section

set_option maxRecDepth 16384

noncomputable section

namespace Cert.Reference3Ideal.Rank

open Cert.Reference3Ideal Cert.Reference3Ideal.Gen Cert.Reference3Ideal.Read Cert.Ranks
open Cert.Kernel3Ideal.Rank (ex ct)
open Idealize.ShloMosaic hiding ix0 ix1 ix2 ix3
open Idealize.ShloMosaic.Routing Idealize.ShloMosaic.ValueIdx

variable {F : FTy → Type} [FloatOps F]

/-- A list's sum over the first numbers is the sum over their range. -/
theorem sum_list (f : ℕ → ℕ) (n : ℕ) : ((List.range n).map f).sum = ∑ i ∈ Finset.range n, f i := by
  induction n with
  | zero => rfl
  | succ n ih => rw [List.range_succ, List.map_append, List.sum_append, ih, Finset.sum_range_succ]; simp

/-- Counting the choices that hold is adding a one for each. -/
theorem count_hit (E : ℕ → ℕ → ℕ) (T e : ℕ) : Nat.count (fun k => E k T = e) 4 = hit E T e := by
  unfold hit
  rw [Nat.count_eq_card_filter_range, Finset.card_filter]

/-- A word of the counts is the word of its number. -/
theorem word_ct (x1 : S32x128.Idx → BitVec 32) (e : Fin 32) : x1 (ix2 e (0 : Fin 128)) = BitVec.ofNat 32 (ct x1 e.val) := by
  unfold ct
  rw [dif_pos e.isLt, BitVec.ofNat_toNat, BitVec.setWidth_eq]
  rfl

/-- A word of the choices is the word of its number. -/
theorem word_ex (x0 : S4x32768.Idx → BitVec 32) (k : Fin 4) (T : Fin 32768) : x0 (ix2 k T) = BitVec.ofNat 32 (ex x0 k.val T.val) := by
  unfold ex
  rw [dif_pos ⟨k.isLt, T.isLt⟩, BitVec.ofNat_toNat, BitVec.setWidth_eq]
  rfl

section counts

variable (x1 : S32x128.Idx → BitVec 32) (hC : ∀ e, ct x1 e ≤ 131072)

/-- The counts, flattened. -/
theorem v1_word (e : Fin 32) : val_main_v1 (F := F) x1 (ix1 e) = BitVec.ofNat 32 (ct x1 e.val) := by
  rw [val_main_v1_apply, val_main_v0_apply, ← word_ct]
  congr 1
  funext a
  apply Fin.ext
  have := e.isLt
  match a with
  | ⟨0, _⟩ => simp [ix2]
  | ⟨1, _⟩ => simp [ix2]

include hC

/-- The counts rounded up. -/
theorem v8_word (e : Fin 32) : val_main_v8 (F := F) x1 (ix1 e) = BitVec.ofNat 32 (Ranks.pad (ct x1 e.val)) := by
  have hc := hC e.val
  have h6 : val_main_v6 (F := F) x1 (ix1 e) = BitVec.ofNat 32 ((ct x1 e.val + 511) / 512) := by
    refine pyDiv_ap bcast_S_S32 (val_main_v5 (F := F) x1) (constantI shape0 32 512#32) (ix1 e) (a := ct x1 e.val + 511) (b := 512) ?_ rfl (by omega) (by decide) (by decide)
    show val_main_v1 (F := F) x1 (ix1 e) + BitVec.ofNat 32 512 - BitVec.ofNat 32 1 = _
    rw [v1_word x1 e, BitVec.ofNat_add_ofNat, ofNat32_sub (by omega)]
    rfl
  show val_main_v6 (F := F) x1 (ix1 e) * BitVec.ofNat 32 512 = _
  rw [h6, ← BitVec.ofNat_mul]
  rfl

/-- The first row of each expert. -/
theorem v10_word (e : Fin 32) : val_main_v10 (F := F) x1 (ix1 e) = BitVec.ofNat 32 (first (ct x1) e.val) := by
  have h9 : val_main_v9 (F := F) x1 (ix1 e) = BitVec.ofNat 32 (first (ct x1) (e.val + 1)) :=
    (cumsum1 rfl (val_main_v8 (F := F) x1) (fun e => Ranks.pad (ct x1 e)) (v8_word x1 hC) _ rfl _ _ e).trans
      (congrArg _ (sum_list _ _))
  show val_main_v9 (F := F) x1 (ix1 e) - val_main_v8 (F := F) x1 (ix1 e) = _
  rw [h9, v8_word x1 hC, first_succ, ofNat32_sub (by omega), Nat.add_sub_cancel]

end counts

section experts

variable (x0 : S4x32768.Idx → BitVec 32) (hE : ∀ k T, ex x0 k T < 32)

include hE

/-- How often each expert is among a token's choices. -/
theorem v18_word (T : Fin 32768) (e : Fin 32) : val_main_v18 (F := F) x0 (ix2 T e) = BitVec.ofNat 32 (hit (ex x0) T.val e.val) := by
  rw [← count_hit]
  refine reduce_count_slabs (by decide) (val_main_v16 (F := F) x0) _ _ _ T e _ fun k => ?_
  have e1 : val_main_v14 (F := F) x0 (ix3 k T e) = BitVec.ofNat 32 (ex x0 k.val T.val) := by
    rw [val_main_v14_apply, val_main_v11_apply, ← word_ex]
    congr 1
    funext a
    match a with
    | ⟨0, _⟩ => rfl
    | ⟨1, _⟩ => rfl
  have e2 : val_main_v15 (F := F) (ix3 k T e) = BitVec.ofNat 32 e.val := by
    rw [val_main_v15_apply, val_main_v13_apply]
    rfl
  rw [val_main_v16_apply, e1, e2]
  have h1 := hE k.val T.val
  have h2 := e.isLt
  exact WordCmp.cmpi_eq_ofNat_eq_one_iff (by omega) (by omega)

/-- How often each expert is chosen before a token. -/
theorem v20_word (T : Fin 32768) (e : Fin 32) : val_main_v20 (F := F) x0 (ix2 T e) = BitVec.ofNat 32 (before (ex x0) T.val e.val) := by
  have h19 : val_main_v19 (F := F) x0 (ix2 T e) = BitVec.ofNat 32 (before (ex x0) (T.val + 1) e.val) :=
    (cumsum_rows rfl (val_main_v18 (F := F) x0) (fun i c => hit (ex x0) i c) (v18_word x0 hE) _ rfl _ _ T e).trans
      (congrArg _ (sum_list _ _))
  show val_main_v19 (F := F) x0 (ix2 T e) - val_main_v18 (F := F) x0 (ix2 T e) = _
  have hs : before (ex x0) (T.val + 1) e.val = before (ex x0) T.val e.val + hit (ex x0) T.val e.val := Finset.sum_range_succ _ _
  rw [h19, v18_word x0 hE, hs, ofNat32_sub (by omega), Nat.add_sub_cancel]

end experts

variable (x0 : S4x32768.Idx → BitVec 32) (x1 : S32x128.Idx → BitVec 32)
variable (hE : ∀ k T, ex x0 k T < 32) (hC : ∀ e, ct x1 e ≤ 131072)

include hE hC

/-- The row a token takes at each expert. -/
theorem v24_word (e : Fin 32) (T : Fin 32768) : val_main_v24 (F := F) x0 x1 (ix2 e T)
    = BitVec.ofNat 32 (first (ct x1) e.val + before (ex x0) T.val e.val) := by
  have e0 : val_main_v22 (F := F) x1 (ix2 T e) = BitVec.ofNat 32 (first (ct x1) e.val) := by
    rw [val_main_v22_apply, val_main_v21_apply, ← v10_word (F := F) x1 hC]
    congr 1
    funext a
    match a with
    | ⟨0, _⟩ => rfl
  rw [val_main_v24_apply, show idx_main_v24 (ix2 e T) = ix2 T e from funext fun a => match a with | ⟨0, _⟩ => rfl | ⟨1, _⟩ => rfl]
  show val_main_v22 (F := F) x1 (ix2 T e) + val_main_v20 (F := F) x0 (ix2 T e) = _
  rw [e0, v20_word x0 hE, BitVec.ofNat_add_ofNat]

/-- The reference's result holds the slots. -/
theorem value_apply (k : Fin 4) (T : Fin 32768) : val_main_v25 (F := F) x0 x1 (ix2 k T)
    = BitVec.ofNat 32 (slot (ex x0) (ct x1) k.val T.val) := by
  have h := hE k.val T.val
  have e5 : val_main_call3_v5 (F := F) x0 (takeIdx (ix2 k T)) = BitVec.ofNat 32 (ex x0 k.val T.val) := by
    rw [val_main_call3_v5_apply, show idx_main_call3_v5 (takeIdx (ix2 k T)) = ix2 k T from ?_]
    · show Scalar.select (IntOp.cmpi .slt (x0 (ix2 k T)) 0#32) _ (x0 (ix2 k T)) = _
      rw [wrap_of_lt _ _ (by rw [word_ex x0 k T, BitVec.toNat_ofNat]; omega), word_ex x0 k T]
    · funext a
      apply Fin.ext
      have hk := k.isLt
      have hT := T.isLt
      match a with
      | ⟨0, _⟩ =>
        show ((k.val * 32768 + T.val) * 1 + 0) / 32768 = k.val
        omega
      | ⟨1, _⟩ =>
        show ((k.val * 32768 + T.val) * 1 + 0) % 32768 = T.val
        omega
  refine (gather_take_rows_apply (by decide) _ (val_main_v24 (F := F) x0 x1) (val_main_call3_v5 (F := F) x0) (ix2 k T)).trans ?_
  have em : min (val_main_call3_v5 (F := F) x0 (takeIdx (ix2 k T))).toInt.toNat (32 - 1) = ex x0 k.val T.val := by
    rw [e5, WordCmp.toInt_ofNat_of_lt (w := 32) (by omega), Int.toNat_natCast]
    omega
  refine (congrArg (val_main_v24 (F := F) x0 x1) ?_).trans (v24_word x0 x1 hE hC (⟨ex x0 k.val T.val, h⟩ : Fin 32) T)
  funext a
  apply Fin.ext
  match a with
  | ⟨0, _⟩ => exact em
  | ⟨1, _⟩ => rfl

end Cert.Reference3Ideal.Rank

end
-- ==== Proof.P3I.Pre.lean ====
/-
  What the printed precondition of the ranks says: every choice is an expert, and no count is negative or above the number
  of choices.
-/
module

public import proofs.«01_k».proof.Proof.P3I.Pay
public import proofs.«01_k».proof.Pre_rank_ok
public import Idealize.ShloMosaic.Lib.Pointwise

@[expose] public section

set_option maxRecDepth 16384

noncomputable section

namespace Cert.Kernel3Ideal.Rank

open Cert.Pre_rank_ok Cert.Pre_rank_ok.Facts
open Idealize.ShloMosaic

/-- A word that reads as a number between zero and a bound holds that number. -/
theorem toNat_of_toInt (w : BitVec 32) (b : ℕ) (h0 : 0 ≤ w.toInt) (h1 : w.toInt ≤ (b : ℤ)) : w.toNat ≤ b := by
  have h2 := BitVec.toInt_eq_toNat_cond w
  have h3 := w.isLt
  split at h2 <;> omega

/-- A conjunction of bits that is one has every bit one. -/
theorem bits_of_fold {α : Type} (s : Finset α) (f : α → BitVec 1) (h : s.fold IntOp.andi 1#1 f = 1#1) : ∀ i ∈ s, f i = 1#1 := by
  classical
  induction s using Finset.induction_on with
  | empty => simp
  | insert a s ha ih =>
    rw [Finset.fold_insert ha, IntOp.andi_eq_one] at h
    intro i hi
    rcases Finset.mem_insert.1 hi with rfl | hi
    · exact h.1
    · exact ih h.2 i hi

/-- The precondition's side conditions hold. -/
theorem preFacts : Cert.Pre_rank_ok.Facts where
  bcast_S_S4x32768 := by decide
  reducesTo_S4x32768_S_d0_1 := by decide
  h_S_ := by decide
  slices_S32x128_S32x1_0_0 := by decide
  shapeCasts_S32x1_S32 := by decide
  bcast_S_S32 := by decide
  reducesTo_S32_S_d0 := by decide
  bcast_S_S1 := by decide
  concatenates_S1_S1_S2_d0 := by decide

variable [Cert.Pre_rank_ok.Facts] {F : FTy → Type} [FloatOps F]

/-- Choices and counts of which the printed precondition holds are in range. -/
theorem range_of_pre (x0 : IVec S4x32768 32) (x1 : IVec S32x128 32) (h : Cert.Pre_rank_ok.fn (F := F) x0 x1 = fun _ => 1#1) :
    (∀ k T, ex x0 k T < 32) ∧ ∀ e, ct x1 e ≤ 131072 := by
  dsimp only [fn, fn_part1] at h
  have h0 := congrFun h (ix1 (0 : Fin 2))
  have h1 := congrFun h (ix1 (1 : Fin 2))
  clear h
  pointwise at h0
  pointwise at h1
  have g0 := fun (k : Fin 4) (T : Fin 32768) => bits_of_fold _ _ h0 (k, T) (Finset.mem_univ _)
  have g1 := fun (e : Fin 32) => bits_of_fold _ _ h1 e (Finset.mem_univ _)
  clear h0 h1
  simp only [IntOp.andi_eq_one, IntOp.cmpi_sge, IntOp.cmpi_slt, IntOp.cmpi_sle] at g0 g1
  have z0 : (0#32 : BitVec 32).toInt = 0 := by decide
  have z1 : (32#32 : BitVec 32).toInt = 32 := by decide
  have z2 : (131072#32 : BitVec 32).toInt = 131072 := by decide
  constructor
  · intro k T
    unfold ex
    split
    · rename_i hk
      have := g0 ⟨k, hk.1⟩ ⟨T, hk.2⟩
      rw [z0, z1] at this
      have := toNat_of_toInt _ 31 this.1 (by omega)
      omega
    · omega
  · intro e
    unfold ct
    split
    · rename_i he
      have := g1 ⟨e, he⟩
      rw [z0, z2] at this
      exact toNat_of_toInt _ 131072 this.1 this.2
    · omega

end Cert.Kernel3Ideal.Rank

end
-- ==== Proof.P3I.Equal.lean ====
/-
  The idealized ranks' call and its reference leave the same words.
-/
module

public import proofs.«01_k».proof.Proof.P3I.Ref
public import proofs.«01_k».proof.Proof.P3I.Pre

@[expose] public section

set_option maxRecDepth 16384

noncomputable section

namespace Cert.Kernel3Ideal.Rank

open Cert.Kernel3Ideal Cert.Kernel3Ideal.Gen Cert.Ranks
open Idealize.ShloMosaic Idealize.ShloMosaic.TcCoe

/-- A column is one of a step's columns. -/
theorem column (T : Fin 32768) : ∃ (n : ℕ) (j : Fin 1024), n < 32 ∧ n * 1024 + j.val = T.val := by
  have hT := T.isLt
  exact ⟨T.val / 1024, ⟨T.val % 1024, by omega⟩, by omega, by show T.val / 1024 * 1024 + T.val % 1024 = T.val; omega⟩

/-- What the reference computes of the kernel's arguments is what the kernel leaves. -/
theorem result_eq (m : (ℓ : Loc nD τ sig) → Buf (Elt Ideal) ℓ) (c : Dev nD)
    (hE : ∀ k T, ex (experts m c) k T < 32) (hC : ∀ e, ct (countsOf m c) e ≤ 131072) :
    Reference3Ideal.Read.val_main_v25 (F := Ideal) (experts m c) (countsOf m c) = result m c := by
  funext i
  obtain ⟨k, T, rfl⟩ : ∃ (k : Fin 4) (T : Fin 32768), i = ix2 k T :=
    ⟨⟨(i 0).val, (i 0).isLt⟩, ⟨(i 1).val, (i 1).isLt⟩, funext fun a => match a with | ⟨0, _⟩ => rfl | ⟨1, _⟩ => rfl⟩
  obtain ⟨n, j, hn, hj⟩ := column T
  have hT : (⟨n * 1024 + j.val, by have := j.isLt; omega⟩ : Fin 32768) = T := Fin.ext hj
  have h1 := result_apply (F := Ideal) m c n hn k j
  rw [hT] at h1
  refine (Reference3Ideal.Rank.value_apply (F := Ideal) _ _ hE hC k T).trans (Eq.symm (h1.trans ?_))
  rw [← hj]
  exact rows_apply (experts m c) (countsOf m c) hE hC n hn k j

end Cert.Kernel3Ideal.Rank

end
-- ==== Proof.Planned.lean ====
/-
  The plan's tables are an admissible plan: what the experts' call asks of its tables, the plan's call makes true.
-/
module

public import proofs.«01_k».proof.Proof.P2.Run
public import proofs.«01_k».proof.Proof.Plan

@[expose] public section

noncomputable section

namespace Cert.Planned

open Cert.Tiles Cert.Plan
open Cert.Kernel2.Tables (Fit)
open Idealize.ShloMosaic

variable (C : ℕ → ℕ) (hf : Fit C)

include hf in
/-- A step's tile is at most the number of tiles the tables hold. -/
theorem tile_lt (n : ℕ) : tileN C n < 288 := lt_of_lt_of_le (tileN_lt C hf.pos n) hf.fits

include hf in
/-- A step has rows exactly when its number is below the total. -/
theorem rows_pos (n : ℕ) : 0 < rowsN C n ↔ n < total C := by
  unfold rowsN
  by_cases h : n < total C
  · have h1 := (expN_spec C hf.pos n).2.1
    have h2 := (expN_spec C hf.pos n).2.2
    rw [tileN_of_lt C h] at h1 h2
    have h3 : n < start C (expN C n) + tilesOf (C (expN C n)) := h2
    have := tile_within (v := C (expN C n)) (j := n - start C (expN C n)) (by omega)
    rw [if_pos h]
    exact ⟨fun _ => h, fun _ => by omega⟩
  · rw [if_neg h]
    exact ⟨fun h' => absurd h' (Nat.lt_irrefl 0), fun h' => absurd h' h⟩

/-- A step's count of rows is at most a tile. -/
theorem rows_le (n : ℕ) : rowsN C n ≤ 512 := by
  unfold rowsN
  split <;> omega

include hf in
/-- Where the expert changes, a step with rows is the first of its expert. -/
theorem first_change (n : ℕ) (hn : n + 1 < total C) (he : expN C (n + 1) ≠ expN C n) : firstN C (n + 1) = 1 := by
  obtain ⟨e1, e2, e3⟩ := expN_spec C hf.pos (n + 1)
  rw [tileN_of_lt C hn] at e2 e3
  have key : n + 1 = start C (expN C (n + 1)) := ?_
  · exact if_pos ⟨hn, key⟩
  by_contra hs
  apply he
  have hn' : n < total C := by omega
  have : expN C n = expN C (n + 1) := by
    conv_lhs => unfold expN
    rw [tileN_of_lt C hn']
    exact expertOf_eq C e1 (by omega) (by omega)
  exact this.symm

/-- A table's word within its length. -/
theorem word (N : ℕ → ℕ) (T : (⟨1, ![288]⟩ : Shape).Idx → BitVec 32) (hT : ∀ y, T y = BitVec.ofNat 32 (N (y 0).val)) (n : ℕ) (h : n < 288) :
    wordAt T n = BitVec.ofNat 32 (N n) := by
  unfold wordAt
  rw [dif_pos h, hT]

/-- A word of a small number is positive when the number is. -/
theorem used_word (k : ℕ) (h : k ≤ 512) : Used (BitVec.ofNat 32 k) ↔ 0 < k := by
  unfold Used
  rw [BitVec.toInt_eq_toNat_cond, BitVec.toNat_ofNat]
  have : k % 2 ^ 32 = k := Nat.mod_eq_of_lt (by omega)
  rw [this, if_pos (by omega)]
  omega

include hf in
/-- The plan's tables are an admissible plan. -/
theorem ok (t e r f : (⟨1, ![288]⟩ : Shape).Idx → BitVec 32)
    (ht : ∀ y, t y = BitVec.ofNat 32 (tileN C (y 0).val)) (he : ∀ y, e y = BitVec.ofNat 32 (expN C (y 0).val))
    (hr : ∀ y, r y = BitVec.ofNat 32 (rowsN C (y 0).val)) (hfi : ∀ y, f y = BitVec.ofNat 32 (firstN C (y 0).val)) :
    Ok (wordAt t) (wordAt e) (wordAt r) (wordAt f) where
  tile_lt n hn := by
    have := tile_lt C hf n
    rw [word _ t ht n hn, BitVec.toNat_ofNat, Nat.mod_eq_of_lt (by omega)]
    exact this
  ex_lt n hn := by
    have := (expN_spec C hf.pos n).1
    rw [word _ e he n hn, BitVec.toNat_ofNat, Nat.mod_eq_of_lt (by omega)]
    exact this
  used_zero := by
    rw [word _ r hr 0 (by omega), used_word _ (rows_le C 0), rows_pos C hf]
    exact hf.pos
  first_zero := by
    rw [word _ f hfi 0 (by omega)]
    have h := expN_spec C hf.pos 0
    have h0 : tileN C 0 = 0 := tileN_of_lt C hf.pos
    have : firstN C 0 = 1 := if_pos ⟨hf.pos, by omega⟩
    rw [this]
  tile_used n hn hu := by
    rw [word _ r hr n hn, used_word _ (rows_le C n), rows_pos C hf] at hu
    rw [word _ t ht n hn, BitVec.toNat_ofNat, tileN_of_lt C hu, Nat.mod_eq_of_lt (by omega)]
  tile_idle n hn hu := by
    rw [word _ r hr (n + 1) hn, used_word _ (rows_le C _), rows_pos C hf] at hu
    rw [word _ t ht (n + 1) hn, word _ t ht n (by omega)]
    congr 1
    unfold tileN
    omega
  used_before n hn hu := by
    rw [word _ r hr (n + 1) hn, used_word _ (rows_le C _), rows_pos C hf] at hu
    rw [word _ r hr n (by omega), used_word _ (rows_le C _), rows_pos C hf]
    omega
  first_change n hn hu hne := by
    rw [word _ r hr (n + 1) hn, used_word _ (rows_le C _), rows_pos C hf] at hu
    rw [word _ e he (n + 1) hn, word _ e he n (by omega)] at hne
    rw [word _ f hfi (n + 1) hn, first_change C hf n hu fun h => hne (by rw [h])]

end Cert.Planned

end
-- ==== Proof.P4I.Words.lean ====
/-
  The kernel's loop bounds, offsets and side conditions as numbers, for counts whose tiles fit the tables.
-/
module

public import proofs.«01_k».proof.Proof.Gen.Kernel4Ideal
public import proofs.«01_k».proof.Proof.P2.Spec
public import Idealize.ShloMosaic.Lib.Routing.Words
public import Idealize.ShloMosaic.Lib.LoopRemainder

@[expose] public section

set_option maxRecDepth 16384

noncomputable section

namespace Cert.Kernel4Ideal.Words

open Cert.Kernel4Ideal Cert.Tiles
open Idealize.ShloMosaic Idealize.ShloMosaic.Routing

/-- The number of tiles as the kernel computes it of a word: `floor((v + 512 - 1) / 512)`. -/
def tilesW (v : BitVec 32) : BitVec 32 :=
  let v12 : BitVec 32 := Scalar.subi (Scalar.addi v 512#32) 1#32
  let v18 : BitVec 32 := Scalar.subi (Scalar.extui (Scalar.cmpi .sgt v12 0#32)) (Scalar.extui (Scalar.cmpi .slt v12 0#32))
  let v23 : BitVec 32 := Scalar.subi (Scalar.extui (Scalar.cmpi .sgt 512#32 0#32)) (Scalar.extui (Scalar.cmpi .slt 512#32 0#32))
  let v13 : BitVec 32 := Scalar.divsi v12 512#32
  Scalar.select (Scalar.andi (Scalar.cmpi .ne v18 v23) (Scalar.cmpi .ne (Scalar.remsi v12 512#32) 0#32)) (Scalar.subi v13 1#32) v13

/-- The word it computes is the number of tiles. -/
theorem tilesW_ofNat {a : ℕ} (h : a ≤ 147456) : tilesW (BitVec.ofNat 32 a) = BitVec.ofNat 32 (tilesOf a) := by
  have e12 : Scalar.subi (Scalar.addi (BitVec.ofNat 32 a) 512#32) 1#32 = BitVec.ofNat 32 (a + 511) := by
    show BitVec.ofNat 32 a + BitVec.ofNat 32 512 - BitVec.ofNat 32 1 = _
    rw [BitVec.ofNat_add_ofNat, ofNat32_sub (by omega)]; rfl
  have e13 : Scalar.divsi (BitVec.ofNat 32 (a + 511)) 512#32 = BitVec.ofNat 32 (tilesOf a) :=
    divsi_word .scalar (by omega) (by decide) (by decide)
  have g1 : Scalar.cmpi .sgt (BitVec.ofNat 32 (a + 511)) 0#32 = 1#1 := by
    show BitVec.ofBool (BitVec.slt (BitVec.ofNat 32 0) (BitVec.ofNat 32 (a + 511))) = 1#1
    rw [slt_ofNat32 (by decide) (by omega), decide_eq_true (by omega)]; rfl
  have g2 : Scalar.cmpi .slt (BitVec.ofNat 32 (a + 511)) 0#32 = 0#1 := by
    show BitVec.ofBool (BitVec.slt (BitVec.ofNat 32 (a + 511)) (BitVec.ofNat 32 0)) = 0#1
    rw [slt_ofNat32 (by omega) (by decide), decide_eq_false (by omega)]; rfl
  have g3 : Scalar.cmpi .ne (Scalar.subi (Scalar.extui 1#1) (Scalar.extui 0#1))
      (Scalar.subi (Scalar.extui (Scalar.cmpi .sgt 512#32 0#32)) (Scalar.extui (Scalar.cmpi .slt 512#32 0#32))) = 0#1 := by decide
  unfold tilesW
  simp only [e12, e13, g1, g2, g3]
  show Scalar.select (0#1 &&& _) _ _ = _
  rw [BitVec.zero_and]
  rfl

/-- Normalised by its step of one, the loop's upper bound is the word itself. -/
theorem addi_zero (x : BitVec 32) : Scalar.addi 0#32 (Scalar.muli (Scalar.divsi (Scalar.subi x 0#32) 1#32) 1#32) = x := by
  rw [Scalar.muli_divsi_one]
  show 0#32 + (x - 0#32) = x
  rw [BitVec.sub_zero, BitVec.zero_add]

/-- A loop by steps of one between words of numbers has their difference as its trip count. -/
theorem trips_ofNat {a b : ℕ} (ha : a < 2 ^ 31) (hb : b < 2 ^ 31) : Scf.trips (BitVec.ofNat 32 a) (BitVec.ofNat 32 b) 1#32 = b - a := by
  have h1 : (1#32 : BitVec 32).toInt = 1 := by decide
  unfold Scf.trips
  rw [h1, WordCmp.toInt_ofNat_of_lt (w := 32) ha, WordCmp.toInt_ofNat_of_lt (w := 32) hb]
  omega

/-- Such a loop has a meaning. -/
theorem ok_ofNat {a b : ℕ} (ha : a < 2 ^ 30) (hb : b < 2 ^ 30) : Scf.OK (BitVec.ofNat 32 a) (BitVec.ofNat 32 b) 1#32 := by
  have h1 : (1#32 : BitVec 32).toInt = 1 := by decide
  refine ⟨by decide, ?_⟩
  rw [trips_ofNat (by omega) (by omega), h1, WordCmp.toInt_ofNat_of_lt (w := 32) (by omega)]
  norm_num
  omega

/-- The induction variable is its lower bound plus the trip. -/
theorem iv_ofNat (a k : ℕ) : Scf.iv (BitVec.ofNat 32 a) 1#32 k = BitVec.ofNat 32 (a + k) := by
  unfold Scf.iv
  rw [BitVec.mul_one, BitVec.ofNat_add_ofNat]

/-- The upper bound of the loop over an expert's tiles. -/
theorem t2_ub {a : ℕ} (h : a ≤ 147456) : (k0_t2_loop (BitVec.ofNat 32 a)).ub = BitVec.ofNat 32 (tilesOf a) := by
  show Scalar.addi 0#32 (Scalar.muli (Scalar.divsi (Scalar.subi (tilesW (BitVec.ofNat 32 a)) 0#32) 1#32) 1#32) = _
  rw [addi_zero, tilesW_ofNat h]

/-- Its trip count: the expert's number of tiles. -/
theorem t2_trips {a : ℕ} (h : a ≤ 147456) : (k0_t2_loop (BitVec.ofNat 32 a)).trips = tilesOf a := by
  show Scf.trips (BitVec.ofNat 32 0) (k0_t2_loop (BitVec.ofNat 32 a)).ub 1#32 = _
  rw [t2_ub h, trips_ofNat (by decide) (by unfold tilesOf; omega), Nat.sub_zero]

/-- The offset of its stores: the expert's first step plus the trip. -/
theorem off2_zero {s a : ℕ} (k : Fin (k0_t2_loop (BitVec.ofNat 32 a)).trips) (h : s + k.val < 2 ^ 32) :
    k0_off2 (BitVec.ofNat 32 s) (BitVec.ofNat 32 a) k 0 = s + k.val := by
  show (BitVec.ofNat 32 s + Scf.iv (BitVec.ofNat 32 0) 1#32 k.val).toNat = _
  rw [iv_ofNat, BitVec.ofNat_add_ofNat, BitVec.toNat_ofNat, Nat.zero_add, Nat.mod_eq_of_lt h]

/-- The first side condition: the expert's tiles fit the tables. -/
theorem chk1 {s a : ℕ} (h : a ≤ 147456) (hs : s + tilesOf a ≤ 288) : k0_chk1 (BitVec.ofNat 32 s) (BitVec.ofNat 32 a) := by
  have hn : tilesOf a ≤ 288 := by omega
  refine ⟨?_, ?_, Scf.rem_ok _ _, fun k => (Scf.rem_no_trip _ _ k).elim⟩
  · show Scf.OK (BitVec.ofNat 32 0) (k0_t2_loop (BitVec.ofNat 32 a)).ub 1#32
    rw [t2_ub h]
    exact ok_ofNat (by decide) (by omega)
  · intro k a'
    have hk : k.val < tilesOf a := lt_of_lt_of_eq k.isLt (t2_trips h)
    have : a' = 0 := Subsingleton.elim _ _
    subst this
    rw [off2_zero k (by omega)]
    show s + k.val + 1 ≤ 288
    omega

/-- The upper bound of the loop over the steps past the last tile. -/
theorem t4_ub {T : ℕ} (h : T ≤ 288) : (k0_t4_loop (BitVec.ofNat 32 T)).ub = BitVec.ofNat 32 288 := by
  show Scalar.addi (BitVec.ofNat 32 T) (Scalar.muli (Scalar.divsi (Scalar.subi (BitVec.ofNat 32 288) (BitVec.ofNat 32 T)) 1#32) 1#32) = _
  rw [Scalar.muli_divsi_one]
  show BitVec.ofNat 32 T + (BitVec.ofNat 32 288 - BitVec.ofNat 32 T) = _
  rw [ofNat32_sub h, BitVec.ofNat_add_ofNat]
  congr 1
  omega

/-- Its trip count. -/
theorem t4_trips {T : ℕ} (h : T ≤ 288) : (k0_t4_loop (BitVec.ofNat 32 T)).trips = 288 - T := by
  show Scf.trips (BitVec.ofNat 32 T) (k0_t4_loop (BitVec.ofNat 32 T)).ub 1#32 = _
  rw [t4_ub h, trips_ofNat (by omega) (by decide)]

/-- The offset of its stores. -/
theorem off4_zero {T : ℕ} (k : Fin (k0_t4_loop (BitVec.ofNat 32 T)).trips) (h : T + k.val < 2 ^ 32) :
    k0_off4 (BitVec.ofNat 32 T) k 0 = T + k.val := by
  show (Scf.iv (BitVec.ofNat 32 T) 1#32 k.val).toNat = _
  rw [iv_ofNat, BitVec.toNat_ofNat, Nat.mod_eq_of_lt h]

/-- The offset at which it reads the last tile's expert. -/
theorem off5_zero {T : ℕ} (h0 : 0 < T) (h : T ≤ 288) : k0_off5 (BitVec.ofNat 32 T) 0 = T - 1 := by
  show (BitVec.ofNat 32 T - BitVec.ofNat 32 1).toNat = _
  rw [ofNat32_sub h0, BitVec.toNat_ofNat, Nat.mod_eq_of_lt (by omega)]

/-- The second side condition: at least one tile, and as many as fit. -/
theorem chk2 {T : ℕ} (h0 : 0 < T) (h : T ≤ 288) : k0_chk2 (BitVec.ofNat 32 T) := by
  refine ⟨?_, ?_, ?_, Scf.rem_ok _ _, fun k => (Scf.rem_no_trip _ _ k).elim, fun k => (Scf.rem_no_trip _ _ k).elim⟩
  · show Scf.OK (BitVec.ofNat 32 T) (k0_t4_loop (BitVec.ofNat 32 T)).ub 1#32
    rw [t4_ub h]
    exact ok_ofNat (by omega) (by decide)
  · intro k a
    have hk : k.val < 288 - T := lt_of_lt_of_eq k.isLt (t4_trips h)
    have : a = 0 := Subsingleton.elim _ _
    subst this
    rw [off4_zero k (by omega)]
    show T + k.val + 1 ≤ 288
    omega
  · intro k a
    have : a = 0 := Subsingleton.elim _ _
    subst this
    rw [off5_zero h0 h]
    show T - 1 + 1 ≤ 288
    omega

/-- The word of a step: the expert's first step plus the trip. -/
theorem step_word (s k : ℕ) : Scalar.addi (BitVec.ofNat 32 s) (Scf.iv 0#32 1#32 k) = BitVec.ofNat 32 (s + k) := by
  show BitVec.ofNat 32 s + Scf.iv (BitVec.ofNat 32 0) 1#32 k = _
  rw [iv_ofNat, BitVec.ofNat_add_ofNat, Nat.zero_add]

/-- The word of a tile's rows: what is left of the expert's, at most 512. -/
theorem rows_word {a k : ℕ} (h : a ≤ 147456) (hk : k * 512 ≤ a) :
    Scalar.minsi (Scalar.subi (BitVec.ofNat 32 a) (Scalar.muli (Scf.iv 0#32 1#32 k) 512#32)) 512#32 = BitVec.ofNat 32 (min (a - k * 512) 512) := by
  have e : Scalar.subi (BitVec.ofNat 32 a) (Scalar.muli (Scf.iv 0#32 1#32 k) 512#32) = BitVec.ofNat 32 (a - k * 512) := by
    show BitVec.ofNat 32 a - Scf.iv (BitVec.ofNat 32 0) 1#32 k * BitVec.ofNat 32 512 = _
    rw [iv_ofNat, Nat.zero_add, BitVec.ofNat_mul_ofNat, ofNat32_sub hk]
  rw [e]
  show (if BitVec.slt (BitVec.ofNat 32 (a - k * 512)) (BitVec.ofNat 32 512) then BitVec.ofNat 32 (a - k * 512) else BitVec.ofNat 32 512) = _
  rw [slt_ofNat32 (by omega) (by decide)]
  by_cases hl : a - k * 512 < 512
  · rw [decide_eq_true hl, if_pos rfl, Nat.min_eq_left hl.le]
  · rw [decide_eq_false hl, if_neg Bool.false_ne_true, Nat.min_eq_right (by omega)]

/-- The word of the flag of an expert's first tile. -/
theorem first_word {k : ℕ} (h : k < 2 ^ 32) :
    (Scalar.extui (Scalar.cmpi .eq (Scf.iv 0#32 1#32 k) 0#32) : BitVec 32) = BitVec.ofNat 32 (if k = 0 then 1 else 0) := by
  have e : Scf.iv 0#32 1#32 k = BitVec.ofNat 32 k := by
    show Scf.iv (BitVec.ofNat 32 0) 1#32 k = _
    rw [iv_ofNat, Nat.zero_add]
  rw [e]
  by_cases hk : k = 0
  · subst hk; rfl
  · have : Scalar.cmpi .eq (BitVec.ofNat 32 k) 0#32 = 0#1 := by
      show BitVec.ofBool (BitVec.ofNat 32 k == 0#32) = 0#1
      rw [beq_eq_false_iff_ne.mpr]; rfl
      intro h'
      have := congrArg BitVec.toNat h'
      rw [BitVec.toNat_ofNat, Nat.mod_eq_of_lt h] at this
      exact hk this
    rw [this, if_neg hk]; rfl

end Cert.Kernel4Ideal.Words

end
-- ==== Proof.P4I.PlanBody.lean ====
/-
  What the plan kernel does: the body, run once over any staging buffers, fills the four tables.
-/
module

public import proofs.«01_k».proof.Proof.Gen.Kernel4Ideal
public import proofs.«01_k».proof.Proof.Gen.Kernel4Ideal.Skeleton
public import proofs.«01_k».proof.Proof.P4I.Words
public import Idealize.ShloMosaic.Lib.Tactic
public import Idealize.ShloMosaic.Lib.Pipeline.Frame
public import Idealize.ShloMosaic.Lib.Pipeline.Value
public import Idealize.ShloMosaic.Lib.CellWrites
public import Idealize.ShloMosaic.Lib.LoopRemainder

@[expose] public section

set_option maxRecDepth 16384

noncomputable section

namespace Cert.Kernel4Ideal.Tables

open Cert.Kernel4Ideal Cert.Kernel4Ideal.Gen Cert.Kernel4Ideal.Words Cert.Tiles
open Idealize.ShloMosaic Idealize.ShloMosaic.TcCoe Idealize.ShloMosaic.Tactic Idealize.ShloMosaic.Routing
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- A memref's buffer on core `c`, whole at contents `f`. -/
abbrev pt (c : Dev nD) {sp : Space} {S : Shape} {e : EltTy} (M : Memref sig .tc sp S e) (f : Buf (Elt F) (M.view.loc (c : Thread nD τ))) : sProp 𝕄 :=
  M.view.loc (c : Thread nD τ) ↦{fullShare} f

/-- A table's contents hold, at every index below `n`, the numbers `N`. -/
def Holds (c : Dev nD) (M : Memref sig .tc .smem S288 .i32) (n : ℕ) (N : ℕ → ℕ) (f : Buf (Elt F) (M.view.loc (c : Thread nD τ))) : Prop :=
  ∀ y : S288.Idx, (y 0).val < n → M.view.read (Elt F) f y = BitVec.ofNat 32 (N (y 0).val)

/-- Storing the next number extends what a table holds by one. -/
theorem Holds.store {c : Dev nD} {M : Memref sig .tc .smem S288 .i32} {n : ℕ} {N : ℕ → ℕ} {f : Buf (Elt F) (M.view.loc (c : Thread nD τ))}
    (h : Holds c M n N f) (off : Fin 1 → ℕ) (inb : ∀ a, off a + S1.size a ≤ S288.size a) (w : BitVec 32)
    (ho : off 0 = n) (hw : w = BitVec.ofNat 32 (N n)) :
    Holds c M (n + 1) N (M.view.writes (Elt F) f [⟨Rect.unit (s := S288) off S1.size inb, fun _ => w⟩]) := by
  intro y hy
  refine (View.read_writes_cons_cell M.view f (Val := Elt F) inb w [] y).trans ?_
  split
  · next e => rw [hw, e, ho]
  · next e => exact h y (by omega)

/-- A load of one word below `n` reads its number. -/
theorem Holds.load {c : Dev nD} {M : Memref sig .tc .smem S288 .i32} {n : ℕ} {N : ℕ → ℕ} {f : Buf (Elt F) (M.view.loc (c : Thread nD τ))}
    (h : Holds c M n N f) (off : Fin 1 → ℕ) (inb : ∀ a, off a + S1.size a ≤ S288.size a) (k : ℕ) (ho : off 0 = k) (hk : k < n) :
    View.readAt (Elt F) M.view (Rect.unit (s := S288) off S1.size inb).toLoadRect f (Shape.Idx.first (numel1_S1.symm ▸ Nat.one_pos))
      = BitVec.ofNat 32 (N k) := by
  have e : (((Rect.unit (s := S288) off S1.size inb).emb (Shape.Idx.first (numel1_S1.symm ▸ Nat.one_pos : 0 < S1.numel))) 0).val = k := by
    rw [Rect.emb_apply]
    show off 0 + 1 * _ = k
    have := (Shape.Idx.first (numel1_S1.symm ▸ Nat.one_pos : 0 < S1.numel) 0).isLt
    have h1 : S1.size 0 = 1 := rfl
    omega
  have := h ((Rect.unit (s := S288) off S1.size inb).emb (Shape.Idx.first (numel1_S1.symm ▸ Nat.one_pos))) (by omega)
  rw [e] at this
  exact this

/-- A table held with the numbers `N` below `n`. -/
def upto (c : Dev nD) (M : Memref sig .tc .smem S288 .i32) (n : ℕ) (N : ℕ → ℕ) : sProp 𝕄 :=
  iprop(∃ f : Buf (Elt F) (M.view.loc (c : Thread nD τ)), ⌜Holds c M n N f⌝ ∗ pt c M f)

/-- The four tables filled below step `n`. -/
def filled (c : Dev nD) (M1 M2 M3 M4 : Memref sig .tc .smem S288 .i32) (C : ℕ → ℕ) (n : ℕ) : sProp 𝕄 :=
  iprop(upto c M1 n (tileN C) ∗ upto c M2 n (expN C) ∗ upto c M3 n (rowsN C) ∗ upto c M4 n (firstN C))

section Body

variable (c : Dev nD) (C : ℕ → ℕ)
    (M0 : Memref sig .tc .smem S32 .i32) (h0 : M0.IsWhole) (M1 : Memref sig .tc .smem S288 .i32) (h1 : M1.IsWhole)
    (M2 : Memref sig .tc .smem S288 .i32) (h2 : M2.IsWhole) (M3 : Memref sig .tc .smem S288 .i32) (h3 : M3.IsWhole)
    (M4 : Memref sig .tc .smem S288 .i32) (h4 : M4.IsWhole)

/-- One tile of an expert: its step's words are stored. -/
theorem tile_step (hC : ∀ e, C e ≤ 147456) (hT : total C ≤ 288) (e : ℕ) (he : e < 32)
    (a6 a5 v : BitVec 32) (e6 : a6 = BitVec.ofNat 32 (start C e)) (e5 : a5 = BitVec.ofNat 32 e) (ev : v = BitVec.ofNat 32 (C e))
    (hw : k0_chk1 a6 v) (k : Fin (k0_t2_loop v).trips) (acc : BitVec 32) :
    filled c M1 M2 M3 M4 C (start C e + k.val)
    ⊢ wp frame (wpE (defs₀ (F := F)) Variants.none c none) Set.univ
        (k0_t2_body M0 h0 M1 h1 M2 h2 M3 h3 M4 h4 a6 a5 v hw k acc) (fun _ => filled c M1 M2 M3 M4 C (start C e + (k.val + 1))) := by
  subst e6 e5 ev
  have hk : k.val < tilesOf (C e) := lt_of_lt_of_eq k.isLt (t2_trips (hC e))
  have hlt := tile_lt_total C he hk
  have hoff : k0_off2 (BitVec.ofNat 32 (start C e)) (BitVec.ofNat 32 (C e)) k 0 = start C e + k.val := off2_zero k (by omega)
  have hex := expN_tile C he hk
  have w1 : Scalar.addi (BitVec.ofNat 32 (start C e)) (Scf.iv 0#32 1#32 k.val) = BitVec.ofNat 32 (tileN C (start C e + k.val)) := by
    rw [step_word, tileN_of_lt C hlt]
  have w2 : BitVec.ofNat 32 e = BitVec.ofNat 32 (expN C (start C e + k.val)) := by rw [hex]
  have w3 : Scalar.minsi (Scalar.subi (BitVec.ofNat 32 (C e)) (Scalar.muli (Scf.iv 0#32 1#32 k.val) 512#32)) 512#32
      = BitVec.ofNat 32 (rowsN C (start C e + k.val)) := by
    rw [rows_word (hC e) (tile_within hk).le]
    unfold rowsN
    rw [if_pos hlt, hex, Nat.add_sub_cancel_left]
  have w4 : (Scalar.extui (Scalar.cmpi .eq (Scf.iv 0#32 1#32 k.val) 0#32) : BitVec 32) = BitVec.ofNat 32 (firstN C (start C e + k.val)) := by
    rw [first_word (k := k.val) (by omega)]
    unfold firstN
    rw [hex]
    by_cases hk0 : k.val = 0
    · have h1 : start C e + k.val < total C ∧ start C e + k.val = start C e := ⟨hlt, by omega⟩
      rw [if_pos hk0, if_pos h1]
    · have h1 : ¬ (start C e + k.val < total C ∧ start C e + k.val = start C e) := fun h => hk0 (by omega)
      rw [if_neg hk0, if_neg h1]
  unfold filled upto k0_t2_body
  iintro ⟨⟨%f1, %g1, H1⟩, ⟨%f2, %g2, H2⟩, ⟨%f3, %g3, H3⟩, ⟨%f4, %g4, H4⟩⟩
  sl_exec
  sl_step
  have ew : start C e + (k.val + 1) = start C e + k.val + 1 := by omega
  rw [ew]
  isplitl [H1]
  · iexists _
    isplitr
    rotate_left
    · iexact H1
    · ipureintro
      exact g1.store _ _ _ hoff w1
  isplitl [H2]
  · iexists _
    isplitr
    rotate_left
    · iexact H2
    · ipureintro
      exact g2.store _ _ _ hoff w2
  isplitl [H3]
  · iexists _
    isplitr
    rotate_left
    · iexact H3
    · ipureintro
      exact g3.store _ _ _ hoff w3
  · iexists _
    isplitr
    rotate_left
    · iexact H4
    · ipureintro
      exact g4.store _ _ _ hoff w4

/-- One expert: its tiles are stored, and the next expert's first step is yielded. -/
theorem expert_step (hC : ∀ e, C e ≤ 147456) (hT : total C ≤ 288) (f0 : Buf (Elt F) (M0.view.loc (c : Thread nD τ)))
    (k : Fin k0_t1_loop.trips)
    (hr : View.readAt (Elt F) M0.view (Rect.unit (s := S32) (k0_off1 k) S1.size (k0_off1_inb k)).toLoadRect f0 (Shape.Idx.first (numel1_S1.symm ▸ Nat.one_pos))
      = BitVec.ofNat 32 (C k.val))
    (acc : BitVec 32) (ha : acc = BitVec.ofNat 32 (start C k.val)) :
    iprop(pt c M0 f0 ∗ filled c M1 M2 M3 M4 C (start C k.val))
    ⊢ wp frame (wpE (defs₀ (F := F)) Variants.none c none) Set.univ
        (k0_t1_body M0 h0 M1 h1 M2 h2 M3 h3 M4 h4 k acc)
        (fun r => iprop(⌜r = BitVec.ofNat 32 (start C (k.val + 1))⌝ ∗ pt c M0 f0 ∗ filled c M1 M2 M3 M4 C (start C (k.val + 1)))) := by
  have hk : k.val < 32 := k.isLt
  have hfit : start C k.val + tilesOf (C k.val) ≤ 288 := le_trans (start_le_total C (show k.val + 1 ≤ 32 by omega)) hT
  have ht := t2_trips (hC k.val)
  subst ha
  have htile := fun (hw : k0_chk1 (BitVec.ofNat 32 (start C k.val)) (BitVec.ofNat 32 (C k.val))) => tile_step (F := F) c C M0 h0 M1 h1 M2 h2 M3 h3 M4 h4 hC hT k.val hk _ (Scf.iv 0#32 1#32 k.val) _ rfl
    (by show Scf.iv (BitVec.ofNat 32 0) 1#32 k.val = _; rw [iv_ofNat, Nat.zero_add]) rfl hw
  unfold k0_t1_body
  iintro ⟨H0, HF⟩
  sl_exec
  have er : expert_step.sl.r c M0 f0 k = BitVec.ofNat 32 (C k.val) := hr
  rw [er]
  have hchk := chk1 (s := start C k.val) (hC k.val) hfit
  sl_exec
  sl_for (fun j (_ : BitVec 32) => filled (F := F) c M1 M2 M3 M4 C (start C k.val + j)) $$ [HF]
  · intro j acc
    exact htile hchk j acc
  · iexact HF
  iintro %r HF
  have et : Scf.trips (k0_t2_loop (BitVec.ofNat 32 (C k.val))).lb (k0_t2_loop (BitVec.ofNat 32 (C k.val))).ub (k0_t2_loop (BitVec.ofNat 32 (C k.val))).st
      = tilesOf (C k.val) := ht
  rw [et]
  sl_exec
  sl_step
  isplitr
  · ipureintro
    show BitVec.ofNat 32 (start C k.val) + tilesW (BitVec.ofNat 32 (C k.val)) = _
    rw [tilesW_ofNat (hC _), BitVec.ofNat_add_ofNat]
    rfl
  isplitl [H0]
  · iexact H0
  · iexact HF

/-- One step past the last tile: its words are stored. -/
theorem pad_step (hT0 : 0 < total C) (hT : total C ≤ 288) (v : BitVec 32) (ev : v = BitVec.ofNat 32 (total C))
    (hw : k0_chk2 v) (k : Fin (k0_t4_loop v).trips) (acc : BitVec 32) :
    filled c M1 M2 M3 M4 C (total C + k.val)
    ⊢ wp frame (wpE (defs₀ (F := F)) Variants.none c none) Set.univ
        (k0_t4_body M0 h0 M1 h1 M2 h2 M3 h3 M4 h4 v hw k acc) (fun _ => filled c M1 M2 M3 M4 C (total C + (k.val + 1))) := by
  subst ev
  have hk : k.val < 288 - total C := lt_of_lt_of_eq k.isLt (t4_trips hT)
  have hoff : k0_off4 (BitVec.ofNat 32 (total C)) k 0 = total C + k.val := off4_zero k (by omega)
  have ht : tileN C (total C + k.val) = total C - 1 := tileN_of_ge C (by omega)
  have hn : ¬ total C + k.val < total C := by omega
  have w1 : Scalar.subi (BitVec.ofNat 32 (total C)) 1#32 = BitVec.ofNat 32 (tileN C (total C + k.val)) := by
    show BitVec.ofNat 32 (total C) - BitVec.ofNat 32 1 = _
    rw [ofNat32_sub hT0, ht]
  have w3 : 0#32 = BitVec.ofNat 32 (rowsN C (total C + k.val)) := by
    unfold rowsN
    rw [if_neg hn]
  have w4 : 0#32 = BitVec.ofNat 32 (firstN C (total C + k.val)) := by
    unfold firstN
    rw [if_neg fun h => hn h.1]
  have he : expN C (total C - 1) = expN C (total C + k.val) := by
    unfold expN
    rw [ht, tileN_of_lt C (by omega)]
  unfold filled upto k0_t4_body
  iintro ⟨⟨%f1, %g1, H1⟩, ⟨%f2, %g2, H2⟩, ⟨%f3, %g3, H3⟩, ⟨%f4, %g4, H4⟩⟩
  have w2 := (g2.load (k0_off5 (BitVec.ofNat 32 (total C))) (k0_off5_inb _ hw k) (total C - 1) (off5_zero hT0 hT) (by omega)).trans
    (congrArg (BitVec.ofNat 32) he)
  sl_exec
  sl_step
  have ew : total C + (k.val + 1) = total C + k.val + 1 := by omega
  rw [ew]
  isplitl [H1]
  · iexists _
    isplitr
    rotate_left
    · iexact H1
    · ipureintro
      exact g1.store _ _ _ hoff w1
  isplitl [H2]
  · iexists _
    isplitr
    rotate_left
    · iexact H2
    · ipureintro
      exact g2.store _ _ _ hoff w2
  isplitl [H3]
  · iexists _
    isplitr
    rotate_left
    · iexact H3
    · ipureintro
      exact g3.store _ _ _ hoff w3
  · iexists _
    isplitr
    rotate_left
    · iexact H4
    · ipureintro
      exact g4.store _ _ _ hoff w4

/-- The body run once over any staging buffers: it leaves the counts as they were, and fills the four tables. -/
theorem body_run (hC : ∀ e, C e ≤ 147456) (hT0 : 0 < total C) (hT : total C ≤ 288) (f0 : Buf (Elt F) (M0.view.loc (c : Thread nD τ)))
    (hr : ∀ k : Fin k0_t1_loop.trips,
      View.readAt (Elt F) M0.view (Rect.unit (s := S32) (k0_off1 k) S1.size (k0_off1_inb k)).toLoadRect f0 (Shape.Idx.first (numel1_S1.symm ▸ Nat.one_pos))
        = BitVec.ofNat 32 (C k.val))
    (Q : PUnit → sProp 𝕄) :
    iprop(pt c M0 f0 ∗ filled c M1 M2 M3 M4 C 0 ∗ (pt c M0 f0 -∗ filled c M1 M2 M3 M4 C 288 -∗ Q ⟨⟩))
    ⊢ wp frame (wpE (defs₀ (F := F)) Variants.none c none) Set.univ
        (cc0_plan M0 h0 M1 h1 M2 h2 M3 h3 M4 h4) Q := by
  have hstep := fun k acc ha => expert_step (F := F) c C M0 h0 M1 h1 M2 h2 M3 h3 M4 h4 hC hT f0 k (hr k) acc ha
  have hpad := fun (hw : k0_chk2 (BitVec.ofNat 32 (total C))) => pad_step (F := F) c C M0 h0 M1 h1 M2 h2 M3 h3 M4 h4 hT0 hT _ rfl hw
  have hchk := chk2 hT0 hT
  rw [cc0_plan_eq_skeleton]
  unfold cc0_plan_skel
  iintro ⟨H0, HF, K⟩
  sl_for (fun k (a : BitVec 32) => iprop(⌜a = BitVec.ofNat 32 (start C k)⌝ ∗ pt c M0 f0 ∗ filled (F := F) c M1 M2 M3 M4 C (start C k))) $$ [H0 HF]
  · intro k acc
    iintro ⟨%ha, H⟩
    iapply hstep k acc ha
    iexact H
  · isplitr
    · ipureintro; rfl
    isplitl [H0]
    · iexact H0
    · iexact HF
  iintro %r ⟨%hr', H0, HF⟩
  have e32 : Scf.trips k0_t1_loop.lb k0_t1_loop.ub k0_t1_loop.st = 32 := by decide
  rw [e32] at hr'
  rw [e32]
  subst hr'
  have hT' : start C 32 = total C := rfl
  rw [hT']
  sl_exec
  sl_for (fun j (_ : BitVec 32) => filled (F := F) c M1 M2 M3 M4 C (total C + j)) $$ [HF]
  · intro j acc
    exact hpad hchk j acc
  · iexact HF
  iintro %r HF
  have et : Scf.trips (k0_t4_loop (BitVec.ofNat 32 (total C))).lb (k0_t4_loop (BitVec.ofNat 32 (total C))).ub (k0_t4_loop (BitVec.ofNat 32 (total C))).st
      = 288 - total C := t4_trips hT
  have e288 : total C + (288 - total C) = 288 := by omega
  rw [et, e288]
  sl_exec
  sl_step
  iapply K $$ H0 HF

end Body

end Cert.Kernel4Ideal.Tables

end
-- ==== Proof.P4I.PlanRun.lean ====
/-
  The plan's call within the joined program: its one run leaves the plan's tables in its four results.
-/
module

public import proofs.«01_k».proof.Proof.P4I.PlanBody
public import proofs.«01_k».proof.Proof.Gen.Kernel4Ideal.Launch
public import proofs.«01_k».proof.Proof.P2.Run
public import Idealize.ShloMosaic.Lib.Pipeline.FrameBody
public import Idealize.ShloMosaic.Lib.Pipeline.TableIdle
public import Idealize.ShloMosaic.Lib.Pipeline.ValueKit.Geometry

@[expose] public section

set_option maxRecDepth 16384

noncomputable section

namespace Cert.Kernel4Ideal.Tables

open Cert.Kernel2.Tables (cnt Fit table)
open Cert.Kernel4Ideal Cert.Kernel4Ideal.Gen Cert.Kernel4Ideal.Words Cert.Tiles
open Idealize.ShloMosaic Idealize.ShloMosaic.TcCoe Idealize.ShloMosaic.Tactic Idealize.ShloMosaic.Routing Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- Owning a whole memref at `X` is holding its buffer at the contents that read `X`. -/
theorem owns_pt (c : Dev nD) {sp : Space} {S : Shape} {e : EltTy} (M : Memref sig .tc sp S e) (hM : M.IsWhole)
    (X : S.Idx → Elt F e) : (owns (c : Thread nD τ) M fullShare X : sProp 𝕄) = pt c M (M.view.rep X) := by
  rw [owns_eq_rep, hM.set_eq_univ]

/-- A whole memref's buffer at contents that read `X` is the memref owned at `X`. -/
theorem pt_owns (c : Dev nD) {sp : Space} {S : Shape} {e : EltTy} (M : Memref sig .tc sp S e) (hM : M.IsWhole)
    (f : Buf (Elt F) (M.view.loc (c : Thread nD τ))) (X : S.Idx → Elt F e) (h : M.view.read (Elt F) f = X) :
    pt c M f ⊢ (owns (c : Thread nD τ) M fullShare X : sProp 𝕄) := by
  subst h
  unfold owns pt
  rw [hM.set_eq_univ]
  iintro H
  iexists f
  isplitr
  · ipureintro; rfl
  · iexact H

/-- A table owned at anything is a table of which nothing is said. -/
theorem owns_upto (c : Dev nD) (M : Memref sig .tc .smem S288 .i32) (hM : M.IsWhole) (N : ℕ → ℕ) (X : Vec F S288 .i32) :
    (owns (c : Thread nD τ) M fullShare X : sProp 𝕄) ⊢ upto c M 0 N := by
  rw [owns_pt c M hM]
  unfold upto
  iintro H
  iexists _
  isplitr
  rotate_left
  · iexact H
  · ipureintro
    intro y hy
    exact absurd hy (Nat.not_lt_zero _)

/-- A table filled to its end is owned at its numbers. -/
theorem upto_owns (c : Dev nD) (M : Memref sig .tc .smem S288 .i32) (hM : M.IsWhole) (N : ℕ → ℕ) :
    (upto c M 288 N : sProp 𝕄) ⊢ owns (c : Thread nD τ) M fullShare (table (F := F) N) := by
  unfold upto
  iintro ⟨%f, %h, H⟩
  iapply pt_owns c M hM f _ (funext fun y => h y (y 0).isLt)
  iexact H

variable (m : (ℓ : Loc nD τ sig) → Buf (Elt F) ℓ)

/-- The counts at launch. -/
abbrev counts (c : Dev nD) : S32.Idx → BitVec 32 := m ((c : Thread nD τ).loc main_arg1)

/-- The pipeline's proof data on core `c`: the one point leaves the counts, and the four tables. -/
def dat0 (c : Dev nD) : Pipeline.Dat τ (Elt F) Unit ℕ (UR sig nD τ) ℕ (cfg0) c where
  A := fun w => m ((c : Thread nD τ).loc (Pipeline.arrRef spec0 w))
  after := fun
    | 0 => fun t => ((win0 0).blk t).view.read (Elt F) (m ((c : Thread nD τ).loc main_arg1))
    | 1 => fun _ => table (tileN (cnt (counts m c)))
    | 2 => fun _ => table (expN (cnt (counts m c)))
    | 3 => fun _ => table (rowsN (cnt (counts m c)))
    | 4 => fun _ => table (firstN (cnt (counts m c)))
    | ⟨_ + 5, h⟩ => absurd h (Nat.not_lt.2 (Nat.le_add_left _ _))
  Φ := fun _ => Pipeline.ΦA spec0 c
  q := fun _ => fullShare
  owed := fun _ => 0

/-- Before the point the counts' buffer holds the counts. -/
theorem before0 (c : Dev nD) (t : Fin grid0.N) (d) :
    (dat0 m c).before (0 : Fin 5) t d = ((win0 0).blk t).view.read (Elt F) (m ((c : Thread nD τ).loc main_arg1)) :=
  (dat0 m c).before_in_eq_fetched (0 : Fin 5) rfl (fun _ => rfl) (fun _ _ _ => rfl) (fun t => by dsimp only [dat0]; rfl) t d

/-- The block of the counts is the counts. -/
theorem block0 (c : Dev nD) (t : Fin grid0.N) (k : Fin 32) :
    ((win0 0).blk t).view.read (Elt F) (m ((c : Thread nD τ).loc main_arg1)) (ValueIdx.ix1 k) = counts m c (ValueIdx.ix1 k) := by
  have ht := fin_N0 t
  subst ht
  show counts m c _ = _
  congr 1
  funext a
  apply Fin.ext
  match a with
  | ⟨0, _⟩ =>
    show 0 * 32 + 1 * k.val = k.val
    omega

/-- The body's load of an expert's count, from a buffer that holds the counts. -/
theorem load_count (c : Dev nD) (M : Memref sig .tc .smem S32 .i32) (X : Vec F S32 .i32) (x : S32.Idx → BitVec 32)
    (hX : ∀ k : Fin 32, X (ValueIdx.ix1 k) = x (ValueIdx.ix1 k)) (k : Fin k0_t1_loop.trips) :
    View.readAt (Elt F) M.view (Rect.unit (s := S32) (k0_off1 k) S1.size (k0_off1_inb k)).toLoadRect (M.view.rep X) (Shape.Idx.first (numel1_S1.symm ▸ Nat.one_pos))
      = BitVec.ofNat 32 (cnt x k.val) := by
  have hk : k.val < 32 := k.isLt
  have e : (Rect.unit (s := S32) (k0_off1 k) S1.size (k0_off1_inb k)).emb (Shape.Idx.first (numel1_S1.symm ▸ Nat.one_pos : 0 < S1.numel))
      = ValueIdx.ix1 (⟨k.val, hk⟩ : Fin 32) := by
    funext a
    apply Fin.ext
    match a with
    | ⟨0, _⟩ =>
      rw [Rect.emb_apply]
      show k0_off1 k 0 + 1 * _ = k.val
      have h0 := (Shape.Idx.first (numel1_S1.symm ▸ Nat.one_pos : 0 < S1.numel) 0).isLt
      have h1 : S1.size 0 = 1 := rfl
      have h2 : k0_off1 k 0 = k.val := by rw [k0_off1_eq]; rfl
      rw [h2]
      show k.val + 1 * ((Shape.Idx.first (numel1_S1.symm ▸ Nat.one_pos : 0 < S1.numel)) 0).val = k.val
      omega
  refine Eq.trans (b := M.view.read (Elt F) (M.view.rep X) (ValueIdx.ix1 (⟨k.val, hk⟩ : Fin 32))) ?_ ?_
  · rw [← e]; rfl
  · rw [View.read_rep, hX]
    unfold cnt
    rw [dif_pos hk, BitVec.ofNat_toNat, BitVec.setWidth_eq]

/-- The body's one run keeps the proof data. -/
theorem body_ok (h : ∀ c, Fit (cnt (counts m c))) (c : Dev nD) :
    Pipeline.BodyObligation (dat0 m c) (defs₀ (F := F)) Variants.none () Set.univ := by
  intro t
  rw [Gen.bigSep_W0, Gen.bigSep_W0]
  simp only [before0]
  iintro ⟨HΦ, Ho, ⟨%d0, W0⟩, ⟨%d1, W1⟩, ⟨%d2, W2⟩, ⟨%d3, W3⟩, ⟨%d4, W4⟩⟩
  have hp0 : ∀ X, (owns (c : Thread nD τ) (stage0_0 0) fullShare X : sProp 𝕄) ⊢ pt c (stage0_0 0) ((stage0_0 0).view.rep X) :=
    fun X => by rw [owns_pt c (stage0_0 0) (hstage0_0 0)]
  iapply body_run (F := F) c (cnt (counts m c)) (stage0_0 0) (hstage0_0 0) (stage0_1 0) (hstage0_1 0) (stage0_2 0) (hstage0_2 0)
    (stage0_3 0) (hstage0_3 0) (stage0_4 0) (hstage0_4 0) (h c).le (h c).pos (h c).fits _
    (load_count c (stage0_0 0) _ (counts m c) (block0 m c t))
  isplitl [W0]
  · iapply hp0; iexact W0
  isplitl [W1 W2 W3 W4]
  · unfold filled
    isplitl [W1]
    · iapply owns_upto c (stage0_1 0) (hstage0_1 0); iexact W1
    isplitl [W2]
    · iapply owns_upto c (stage0_2 0) (hstage0_2 0); iexact W2
    isplitl [W3]
    · iapply owns_upto c (stage0_3 0) (hstage0_3 0); iexact W3
    · iapply owns_upto c (stage0_4 0) (hstage0_4 0); iexact W4
  unfold filled
  iintro W0 ⟨W1, W2, W3, W4⟩
  have hΦ : (dat0 m c).Φ t.castSucc ⊢ (dat0 m c).Φ t.succ := .rfl
  isplitl [HΦ]
  · iapply hΦ; iexact HΦ
  isplitl [Ho]; iexact Ho
  isplitl [W0]
  · iapply pt_owns c (stage0_0 0) (hstage0_0 0) _ _ (View.read_rep _ _)
    iexact W0
  isplitl [W1]
  · iapply upto_owns c (stage0_1 0) (hstage0_1 0); iexact W1
  isplitl [W2]
  · iapply upto_owns c (stage0_2 0) (hstage0_2 0); iexact W2
  isplitl [W3]
  · iapply upto_owns c (stage0_3 0) (hstage0_3 0); iexact W3
  · iapply upto_owns c (stage0_4 0) (hstage0_4 0); iexact W4

/-- A result's array after the run is its table. -/
theorem arr_table (c : Dev nD) :
    (dat0 m c).arrAt (1 : Fin 5) grid0.N = table (F := F) (tileN (cnt (counts m c)))
    ∧ (dat0 m c).arrAt (2 : Fin 5) grid0.N = table (F := F) (expN (cnt (counts m c)))
    ∧ (dat0 m c).arrAt (3 : Fin 5) grid0.N = table (F := F) (rowsN (cnt (counts m c)))
    ∧ (dat0 m c).arrAt (4 : Fin 5) grid0.N = table (F := F) (firstN (cnt (counts m c))) :=
  ⟨(dat0 m c).arrAt_eq_of_after_last (1 : Fin 5) t0_0 (by decide +kernel) _ (fun _ => rfl),
    (dat0 m c).arrAt_eq_of_after_last (2 : Fin 5) t0_0 (by decide +kernel) _ (fun _ => rfl),
    (dat0 m c).arrAt_eq_of_after_last (3 : Fin 5) t0_0 (by decide +kernel) _ (fun _ => rfl),
    (dat0 m c).arrAt_eq_of_after_last (4 : Fin 5) t0_0 (by decide +kernel) _ (fun _ => rfl)⟩

end Cert.Kernel4Ideal.Tables

end
-- ==== Proof.P4I.Body.lean ====
/-
  What one grid point of the experts kernel does: the body, run once over any staging buffers.
-/
module

public import proofs.«01_k».proof.Proof.Gen.Kernel4Ideal
public import proofs.«01_k».proof.Proof.Gen.Kernel4Ideal.Skeleton
public import proofs.«01_k».proof.Proof.Gen.Kernel4Ideal.Launch
public import Idealize.ShloMosaic.Lib.Tactic
public import Idealize.ShloMosaic.Lib.Pipeline.Frame
public import Idealize.ShloMosaic.Lib.Pipeline.TableIdle
public import Idealize.ShloMosaic.Lib.Pipeline.Value
public import Idealize.ShloMosaic.Lib.VecWindow

@[expose] public section

set_option maxRecDepth 16384

noncomputable section

namespace Cert.Kernel4Ideal.Experts

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- A memref's buffer on core `c`, whole at contents `f`. -/
abbrev pt (c : Dev nD) {sp : Space} {S : Shape} {e : EltTy} (M : Memref sig .tc sp S e) (q : PosShare TreeShare)
    (f : Buf (Elt F) (M.view.loc (c : Thread nD τ))) : sProp 𝕄 :=
  M.view.loc (c : Thread nD τ) ↦{q} f

/-- Owning a whole memref at `X` is holding its buffer at the contents that read `X`. -/
theorem owns_pt (c : Dev nD) {sp : Space} {S : Shape} {e : EltTy} (M : Memref sig .tc sp S e) (hM : M.IsWhole) (q : PosShare TreeShare)
    (X : S.Idx → Elt F e) : (owns (c : Thread nD τ) M q X : sProp 𝕄) = pt c M q (M.view.rep X) := by
  rw [owns_eq_rep, hM.set_eq_univ]

/-- A whole memref's buffer at contents that read `X` is the memref owned at `X`. -/
theorem pt_owns (c : Dev nD) {sp : Space} {S : Shape} {e : EltTy} (M : Memref sig .tc sp S e) (hM : M.IsWhole) (q : PosShare TreeShare)
    (f : Buf (Elt F) (M.view.loc (c : Thread nD τ))) (X : S.Idx → Elt F e) (h : M.view.read (Elt F) f = X) :
    pt c M q f ⊢ (owns (c : Thread nD τ) M q X : sProp 𝕄) := by
  subst h
  unfold owns pt
  rw [hM.set_eq_univ]
  iintro H
  iexists f
  isplitr
  · ipureintro; rfl
  · iexact H

/-- The condition on which the body casts the expert's weights: its word of `w_first` is one. -/
def cond1 (v1 : BitVec 32) : BitVec 1 :=
  Scalar.cmpi .ne (Scalar.extui (Scalar.cmpi .eq v1 1#32) : BitVec 32) 0#32

/-- What the scratch of the up-projection holds after a step: the cast weights where the step is an expert's first, else what it held. -/
def next0 (v1 : BitVec 32) (X6 : Vec F S1x1024x2048 .f32) (X11 : Vec F S1024x2048 .bf16) : Vec F S1024x2048 .bf16 :=
  if cond1 v1 = 1#1 then k1_pay1 X6 else X11

/-- The same for the scratch of the down-projection. -/
def next1 (v1 : BitVec 32) (X8 : Vec F S1x1024x1024 .f32) (X12 : Vec F S1024x1024 .bf16) : Vec F S1024x1024 .bf16 :=
  if cond1 v1 = 1#1 then k1_pay2 X8 else X12

/-- What the output block holds after a step: the expert's rows where the step has any, else what it held. -/
def nextY (v6 : BitVec 32) (X5 : Vec F S512x1024 .bf16) (S0 : Vec F S1024x2048 .bf16) (X7 : Vec F S1x1x2048 .f32) (S1 : Vec F S1024x1024 .bf16)
    (X9 : Vec F S1x1x1024 .f32) (X10 : Vec F S512x1024 .bf16) : Vec F S512x1024 .bf16 :=
  if k1_cond2 v6 = 1#1 then k1_pay3 v6 X5 S0 X7 S1 X9 else X10

/-- The body run once over any staging buffers: it leaves the inputs as they were, the two scratch arrays at `next0`, `next1`, and the output block at `nextY`. -/
theorem body_run (c : Dev nD) (i : grid1.Coords) (q : PosShare TreeShare)
    (M1 : Memref sig .tc .smem S288 .i32) (h1 : M1.IsWhole) (M2 : Memref sig .tc .smem S288 .i32) (h2 : M2.IsWhole)
    (M3 : Memref sig .tc .smem S288 .i32) (h3 : M3.IsWhole) (M4 : Memref sig .tc .smem S288 .i32) (h4 : M4.IsWhole)
    (M5 : Memref sig .tc .vmem S512x1024 .bf16) (h5 : M5.IsWhole) (M6 : Memref sig .tc .vmem S1x1024x2048 .f32) (h6 : M6.IsWhole)
    (M7 : Memref sig .tc .vmem S1x1x2048 .f32) (h7 : M7.IsWhole) (M8 : Memref sig .tc .vmem S1x1024x1024 .f32) (h8 : M8.IsWhole)
    (M9 : Memref sig .tc .vmem S1x1x1024 .f32) (h9 : M9.IsWhole) (M10 : Memref sig .tc .vmem S512x1024 .bf16) (h10 : M10.IsWhole)
    (M11 : Memref sig .tc .vmem S1024x2048 .bf16) (h11 : M11.IsWhole) (M12 : Memref sig .tc .vmem S1024x1024 .bf16) (h12 : M12.IsWhole)
    (f3 : Buf (Elt F) (M3.view.loc (c : Thread nD τ))) (f4 : Buf (Elt F) (M4.view.loc (c : Thread nD τ)))
    (X5 : Vec F S512x1024 .bf16) (X6 : Vec F S1x1024x2048 .f32) (X7 : Vec F S1x1x2048 .f32) (X8 : Vec F S1x1024x1024 .f32)
    (X9 : Vec F S1x1x1024 .f32) (X10 : Vec F S512x1024 .bf16) (X11 : Vec F S1024x2048 .bf16) (X12 : Vec F S1024x1024 .bf16)
    (v1 v6 : BitVec 32)
    (hv1 : View.readAt (Elt F) M4.view (Rect.unit (s := S288) (k1_off1 i) S1.size (k1_off1_inb i)).toLoadRect f4 (Shape.Idx.first (numel1_S1.symm ▸ Nat.one_pos)) = v1)
    (hv6 : View.readAt (Elt F) M3.view (Rect.unit (s := S288) (k1_off2 i) S1.size (k1_off2_inb i)).toLoadRect f3 (Shape.Idx.first (numel1_S1.symm ▸ Nat.one_pos)) = v6)
    (Q : PUnit → sProp 𝕄) :
    iprop(pt c M3 q f3 ∗ pt c M4 q f4 ∗ owns (c : Thread nD τ) M5 fullShare X5 ∗ owns (c : Thread nD τ) M6 fullShare X6 ∗ owns (c : Thread nD τ) M7 fullShare X7
       ∗ owns (c : Thread nD τ) M8 fullShare X8 ∗ owns (c : Thread nD τ) M9 fullShare X9 ∗ owns (c : Thread nD τ) M10 fullShare X10
       ∗ owns (c : Thread nD τ) M11 fullShare X11 ∗ owns (c : Thread nD τ) M12 fullShare X12
       ∗ (pt c M3 q f3 -∗ pt c M4 q f4 -∗ owns (c : Thread nD τ) M5 fullShare X5 -∗ owns (c : Thread nD τ) M6 fullShare X6 -∗ owns (c : Thread nD τ) M7 fullShare X7
          -∗ owns (c : Thread nD τ) M8 fullShare X8 -∗ owns (c : Thread nD τ) M9 fullShare X9
          -∗ owns (c : Thread nD τ) M10 fullShare (nextY v6 X5 (next0 v1 X6 X11) X7 (next1 v1 X8 X12) X9 X10)
          -∗ owns (c : Thread nD τ) M11 fullShare (next0 v1 X6 X11) -∗ owns (c : Thread nD τ) M12 fullShare (next1 v1 X8 X12) -∗ Q ⟨⟩))
    ⊢ wp frame (wpE (defs₀ (F := F)) Variants.none c none) Set.univ
        (cc1_experts i M1 h1 M2 h2 M3 h3 M4 h4 M5 h5 M6 h6 M7 h7 M8 h8 M9 h9 M10 h10 M11 h11 M12 h12) Q := by
  rw [owns_pt c M5 h5, owns_pt c M6 h6, owns_pt c M7 h7, owns_pt c M8 h8, owns_pt c M9 h9, owns_pt c M10 h10 _ X10, owns_pt c M11 h11 _ X11, owns_pt c M12 h12 _ X12]
  iintro ⟨H3, H4, H5, H6, H7, H8, H9, H10, H11, H12, K⟩
  rw [cc1_experts_eq_skeleton]
  unfold cc1_experts_skel
  sl_exec!
  have e1 : body_run.sl.v4 c i M4 f4 = cond1 v1 := by rw [← hv1]; rfl
  have e6 : body_run.sl.r_1 c i M3 f3 = v6 := hv6
  have r11 : M11.view.read (Elt F) (if hc : body_run.sl.v4 c i M4 f4 = 1#1 then
        M11.view.writes (Elt F) (M11.view.rep X11) [⟨Rect.unit ![0, 0] S1024x2048.size inb_S1024x2048_S1024x2048_0_0,
              k1_pay1 (View.readAt (Elt F) M6.view (Rect.unit ![0, 0, 0] S1x1024x2048.size inb_S1x1024x2048_S1x1024x2048_0_0_0).toLoadRect (M6.view.rep X6))⟩]
      else M11.view.rep X11) = next0 v1 X6 X11 := by
    unfold next0
    rw [e1]
    split
    · rw [View.read_writes_full, View.readAt_rep_full]
    · rw [View.read_rep]
  have r12 : M12.view.read (Elt F) (if hc : body_run.sl.v4 c i M4 f4 = 1#1 then
        M12.view.writes (Elt F) (M12.view.rep X12) [⟨Rect.unit ![0, 0] S1024x1024.size inb_S1024x1024_S1024x1024_0_0,
              k1_pay2 (View.readAt (Elt F) M8.view (Rect.unit ![0, 0, 0] S1x1024x1024.size inb_S1x1024x1024_S1x1024x1024_0_0_0).toLoadRect (M8.view.rep X8))⟩]
      else M12.view.rep X12) = next1 v1 X8 X12 := by
    unfold next1
    rw [e1]
    split
    · rw [View.read_writes_full, View.readAt_rep_full]
    · rw [View.read_rep]
  have e17 : body_run.sl.v17 c i M4 M6 M11 f4 X6 X11 = next0 v1 X6 X11 := by
    rw [← r11]; unfold body_run.sl.v17; rw [View.readAt_full]
  have e39 : body_run.sl.v39 c i M4 M8 M12 f4 X8 X12 = next1 v1 X8 X12 := by
    rw [← r12]; unfold body_run.sl.v39; rw [View.readAt_full]
  sl_step
  ispecialize K $$ H3 H4
  iapply K $$ [H5] [H6] [H7] [H8] [H9] [H10] [H11] [H12]
  · iexact H5
  · iexact H6
  · iexact H7
  · iexact H8
  · iexact H9
  · iapply pt_owns c M10 h10 $$ H10
    unfold nextY
    rw [e6, e17, e39]
    split
    · rw [View.read_writes_full]
      rw [View.readAt_rep_full, View.readAt_rep_full, View.readAt_rep_full]
    · rw [View.read_rep]
  · iapply pt_owns c M11 h11 _ _ _ r11
    iexact H11
  · iapply pt_owns c M12 h12 _ _ _ r12
    iexact H12

end Cert.Kernel4Ideal.Experts

end
-- ==== Proof.P4I.Data.lean ====
/-
  The proof data of the experts' pipeline: what each window's buffer holds after each step.
-/
module

public import proofs.«01_k».proof.Proof.P4I.Body
public import proofs.«01_k».proof.Proof.Plan
public import Idealize.ShloMosaic.Lib.Pipeline.FrameBody

@[expose] public section

set_option maxRecDepth 16384

noncomputable section

namespace Cert.Kernel4Ideal.Experts

open Cert.Kernel4Ideal Cert.Kernel4Ideal.Gen Cert.Plan
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## The words of the tables -/

/-- Step `n`'s block of rows. -/
def tileW (pf : pre1.Contents (Elt F)) (n : ℕ) : BitVec 32 := wordAt (pf 0) n
/-- Step `n`'s expert. -/
def exW (pf : pre1.Contents (Elt F)) (n : ℕ) : BitVec 32 := wordAt (pf 1) n
/-- Step `n`'s count of rows. -/
def rowsW (pf : pre1.Contents (Elt F)) (n : ℕ) : BitVec 32 := wordAt (pf 2) n
/-- Step `n`'s flag of an expert's first step. -/
def firstW (pf : pre1.Contents (Elt F)) (n : ℕ) : BitVec 32 := wordAt (pf 3) n

/-- The tables' contents are an admissible plan. -/
abbrev PlanOk (pf : pre1.Contents (Elt F)) : Prop := Plan.Ok (tileW pf) (exW pf) (rowsW pf) (firstW pf)

/-- The grid has one axis, and a step's coordinate on it is its number. -/
theorem coords_zero (t : Fin grid1.N) : ((grid1.coords t) 0 : ℕ) = t.val := by
  have h : t.val < 288 := lt_of_lt_of_eq t.isLt N_1
  show t.val / grid1.stride 0 % grid1.bound 0 = t.val
  have h1 : grid1.stride 0 = 1 := by decide
  have h2 : grid1.bound 0 = 288 := rfl
  rw [h1, h2, Nat.div_one, Nat.mod_eq_of_lt h]

/-- The offset at which the index maps read the tables is the step's number. -/
theorem off1_apply (i : grid1.Coords) (a : Fin 1) : k1_off1 i a = (i 0).val := by
  have h : (i 0).val < 288 := (i 0).isLt
  have : a = 0 := Subsingleton.elim _ _
  subst this
  show (BitVec.ofNat 32 (i 0).val).toNat = _
  rw [BitVec.toNat_ofNat]
  omega

/-- The offset at which the body reads the tables is the step's number. -/
theorem off2_apply (i : grid1.Coords) (a : Fin 1) : k1_off2 i a = (i 0).val := by
  have h : (i 0).val < 288 := (i 0).isLt
  have : a = 0 := Subsingleton.elim _ _
  subst this
  show (BitVec.ofNat 32 (i 0).val).toNat = _
  rw [BitVec.toNat_ofNat]
  omega

/-- The one word a load of a table at step `i` reads. -/
theorem word_emb (T : S288.Idx → BitVec 32) (off : Fin 1 → ℕ) (i : grid1.Coords) (hoff : ∀ a, off a = (i 0).val)
    (inb : ∀ a, off a + S1.size a ≤ S288.size a) (h : 0 < S1.numel) :
    T ((Rect.unit (s := S288) off S1.size inb).emb (Shape.Idx.first h)) = wordAt T (i 0).val := by
  have hi : (i 0).val < 288 := (i 0).isLt
  unfold wordAt
  rw [dif_pos hi]
  congr 1
  funext a
  apply Fin.ext
  rw [Rect.emb_apply]
  show off a + 1 * _ = (i 0).val
  rw [hoff a]
  have := (Shape.Idx.first h a).isLt
  have h1 : S1.size a = 1 := by have : a = 0 := Subsingleton.elim _ _; subst this; rfl
  omega

/-- The same of an element taken where the offset is in range, and a default elsewhere. -/
theorem word_at (T : S288.Idx → BitVec 32) (d : BitVec 32) (off : Fin 1 → ℕ) (i : grid1.Coords) (hoff : ∀ a, off a = (i 0).val) :
    (if h : ∀ a : Fin 1, off a + 1 ≤ S288.size a then T (fun a => ⟨off a, h a⟩) else d) = wordAt T (i 0).val := by
  have hi : (i 0).val < 288 := (i 0).isLt
  have hh : ∀ a : Fin 1, off a + 1 ≤ S288.size a := fun a => by
    have : a = 0 := Subsingleton.elim _ _
    subst this
    rw [hoff]; exact hi
  unfold wordAt
  rw [dif_pos hi, dif_pos hh]
  congr 1
  funext a
  exact Fin.ext (hoff a)

/-- The rows' window takes the block that the step's word of `w_tile` names. -/
theorem index0 (pf : pre1.Contents (Elt F)) (i : grid1.Coords) :
    cc1_transform_0 k1_off1_inb numel1_S1 pf i = ![(tileW pf (i 0).val).toNat, 0] := by
  rw [← show _ = tileW pf (i 0).val from word_emb (pf 0) (k1_off1 i) i (off1_apply i) (k1_off1_inb i) (numel1_S1.symm ▸ Nat.one_pos)]; rfl

/-- The up-projection's window takes the block that the step's word of `w_exp` names. -/
theorem index1 (pf : pre1.Contents (Elt F)) (i : grid1.Coords) :
    cc1_transform_1 k1_off1_inb numel1_S1 pf i = ![(exW pf (i 0).val).toNat, 0, 0] := by
  rw [← show _ = exW pf (i 0).val from word_emb (pf 1) (k1_off1 i) i (off1_apply i) (k1_off1_inb i) (numel1_S1.symm ▸ Nat.one_pos)]; rfl

/-- So does the window of its bias. -/
theorem index2 (pf : pre1.Contents (Elt F)) (i : grid1.Coords) :
    cc1_transform_2 k1_off1_inb numel1_S1 pf i = ![(exW pf (i 0).val).toNat, 0, 0] := index1 pf i

/-- So does the down-projection's window. -/
theorem index3 (pf : pre1.Contents (Elt F)) (i : grid1.Coords) :
    cc1_transform_3 k1_off1_inb numel1_S1 pf i = ![(exW pf (i 0).val).toNat, 0, 0] := index1 pf i

/-- So does the window of its bias. -/
theorem index4 (pf : pre1.Contents (Elt F)) (i : grid1.Coords) :
    cc1_transform_4 k1_off1_inb numel1_S1 pf i = ![(exW pf (i 0).val).toNat, 0, 0] := index1 pf i

/-- The output's window takes the same block as the rows' window. -/
theorem index5 (pf : pre1.Contents (Elt F)) (i : grid1.Coords) :
    cc1_transform_5 k1_off1_inb numel1_S1 pf i = ![(tileW pf (i 0).val).toNat, 0] := index0 pf i

/-- The weights are cast at a step exactly when its flag is one. -/
theorem cond1_iff (v : BitVec 32) : cond1 v = 1#1 ↔ v = 1#32 := by
  unfold cond1
  by_cases h : v = 1#32
  · subst h; exact ⟨fun _ => rfl, fun _ => by decide⟩
  · refine ⟨fun h' => ?_, fun h' => absurd h' h⟩
    exfalso
    have : Scalar.cmpi .eq v 1#32 = 0#1 := by
      show BitVec.ofBool (v == 1#32) = 0#1
      rw [beq_eq_false_iff_ne.mpr h]; rfl
    rw [this] at h'
    exact absurd h' (by decide)

/-- The body computes at a step exactly when the step has rows. -/
theorem cond2_iff (v : BitVec 32) : k1_cond2 v = 1#1 ↔ Used v := by
  unfold k1_cond2 Used
  have e : Scalar.cmpi .sgt v 0#32 = BitVec.ofBool (BitVec.slt 0#32 v) := rfl
  show Scalar.cmpi .ne (Scalar.extui (Scalar.cmpi .sgt v 0#32) : BitVec 32) 0#32 = 1#1 ↔ _
  rw [e]
  have hs : BitVec.slt 0#32 v = decide (0 < v.toInt) := rfl
  rw [hs]
  by_cases h : 0 < v.toInt
  · simp only [h, decide_true, iff_true]; decide
  · simp only [h, decide_false, iff_false]; decide

/-- The output window is idle exactly at the steps without rows. -/
theorem idle5 (pf : pre1.Contents (Elt F)) (i : grid1.Coords) :
    idle1 pf 5 i = true ↔ ¬ Used (rowsW pf (i 0).val) := by
  have e : pf.atD 2 (k1_off2 i) = rowsW pf (i 0).val := word_at (pf 2) _ (k1_off2 i) i (off2_apply i)
  show (!(k1_cond2 (pf.atD 2 (k1_off2 i)) == 1#1)) = true ↔ _
  rw [e, ← cond2_iff]
  simp

/-! ## The tables are admissible -/

/-- A block of 512 rows with a number below 288 lies within the array of rows, and its edges fall between whole words. -/
theorem xs_block (ix : Fin 2 → ℕ) (n : ℕ) (e : ix = ![n, 0]) (hn : n < 288) :
    ∃ h : (∀ a, (ix a + 1) * S512x1024.size a ≤ S147456x1024.size a),
      EltTy.bits .bf16 = 32 ∨ (Rect.block (s := S147456x1024) S512x1024.size ix h).WholeWords (EltTy.packing .bf16) := by
  subst e
  have h : ∀ a : Fin 2, ((![n, 0] : Fin 2 → ℕ) a + 1) * S512x1024.size a ≤ S147456x1024.size a := by
    intro a
    match a with
    | ⟨0, _⟩ => show (n + 1) * 512 ≤ 147456; omega
    | ⟨1, _⟩ => show (0 + 1) * 1024 ≤ 1024; omega
  refine ⟨h, .inr (.inl (.inr ⟨Nat.le_refl 2, rfl, .inl ⟨?_, ?_⟩⟩))⟩
  · show 2 ∣ n * 512
    omega
  · show 2 ∣ 512
    decide

/-- The block of an expert with a number below 32 lies within an array that has one block per expert. -/
theorem ex_block (S A : Fin 3 → ℕ) (hS0 : S 0 = 1) (hA0 : A 0 = 32) (h1 : S 1 = A 1) (h2 : S 2 = A 2) (ix : Fin 3 → ℕ) (n : ℕ)
    (e : ix = ![n, 0, 0]) (hn : n < 32) : ∀ a, (ix a + 1) * S a ≤ A a := by
  subst e
  intro a
  match a with
  | ⟨0, _⟩ => show (n + 1) * S 0 ≤ A 0; rw [hS0, hA0]; omega
  | ⟨1, _⟩ => show (0 + 1) * S 1 ≤ A 1; rw [h1]; omega
  | ⟨2, _⟩ => show (0 + 1) * S 2 ≤ A 2; rw [h2]; omega

/-- Under an admissible plan every block the index maps name is in range. -/
theorem ok_of_plan (pf : pre1.Contents (Elt F)) (h : PlanOk pf) : ok1 pf := by
  have hi : ∀ i : grid1.Coords, (i 0).val < 288 := fun i => (i 0).isLt
  exact ⟨fun i => xs_block _ _ (index0 pf i) (h.tile_lt _ (hi i)),
    fun i => ⟨ex_block S1x1024x2048.size S32x1024x2048.size rfl rfl rfl rfl _ _ (index1 pf i) (h.ex_lt _ (hi i)), .inl rfl⟩,
    fun i => ⟨ex_block S1x1x2048.size S32x1x2048.size rfl rfl rfl rfl _ _ (index2 pf i) (h.ex_lt _ (hi i)), .inl rfl⟩,
    fun i => ⟨ex_block S1x1024x1024.size S32x1024x1024.size rfl rfl rfl rfl _ _ (index3 pf i) (h.ex_lt _ (hi i)), .inl rfl⟩,
    fun i => ⟨ex_block S1x1x1024.size S32x1x1024.size rfl rfl rfl rfl _ _ (index4 pf i) (h.ex_lt _ (hi i)), .inl rfl⟩,
    fun i => xs_block _ _ (index5 pf i) (h.tile_lt _ (hi i))⟩

/-! ## The blocks, and what a step computes -/

section Blocks

variable (V : (c : Dev nD) → (b : Ref sig .tc) → Buf (Elt F) ((c : Thread nD τ).loc b)) (pf : pre1.Contents (Elt F)) (hok : ok1 pf)

/-- Step `t`'s rows. -/
def xB (c : Dev nD) (t : Fin grid1.N) : Vec F S512x1024 .bf16 := ((win1 ⟨pf, hok⟩ 0).blk t).view.read (Elt F) (V c main_arg0)
/-- Step `t`'s expert's up-projection. -/
def wuB (c : Dev nD) (t : Fin grid1.N) : Vec F S1x1024x2048 .f32 := ((win1 ⟨pf, hok⟩ 1).blk t).view.read (Elt F) (V c main_arg2)
/-- Its bias. -/
def buB (c : Dev nD) (t : Fin grid1.N) : Vec F S1x1x2048 .f32 := ((win1 ⟨pf, hok⟩ 2).blk t).view.read (Elt F) (V c main_v5)
/-- Step `t`'s expert's down-projection. -/
def wdB (c : Dev nD) (t : Fin grid1.N) : Vec F S1x1024x1024 .f32 := ((win1 ⟨pf, hok⟩ 3).blk t).view.read (Elt F) (V c main_arg4)
/-- Its bias. -/
def bdB (c : Dev nD) (t : Fin grid1.N) : Vec F S1x1x1024 .f32 := ((win1 ⟨pf, hok⟩ 4).blk t).view.read (Elt F) (V c main_v6)

/-- What step `t`'s expert makes of step `t`'s rows. -/
def yB (c : Dev nD) (t : Fin grid1.N) : Vec F S512x1024 .bf16 :=
  k1_pay3 (rowsW pf t.val) (xB V pf hok c t) (k1_pay1 (wuB V pf hok c t)) (buB V pf hok c t) (k1_pay2 (wdB V pf hok c t)) (bdB V pf hok c t)

/-- What the output's buffer holds after step `t`: what the step of that block computed. -/
def outB (c : Dev nD) (t : Fin grid1.N) : Vec F S512x1024 .bf16 :=
  if h : (tileW pf t.val).toNat < grid1.N then yB V pf hok c ⟨(tileW pf t.val).toNat, h⟩ else yB V pf hok c t

/-- What the body carries untouched: the generator's register, the other half of the tables, and the buffers of the plan's
    own call, of which nothing is said. -/
def Keep (c : Dev nD) : sProp 𝕄 :=
  iprop((∃ r, prngReg c r)
    ∗ Pipeline.prefHeld (Ix := Unit) (Name := ℕ) (U := UR sig nD τ) (Lvl := ℕ) pre1 c (fun _ => fullShare.left) pf
    ∗ (∃ f : Buf (Elt F) ((c : Thread nD τ).loc cc0_stg0_0), ((c : Thread nD τ).loc cc0_stg0_0) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f))

/-- What the body carries from step to step: the two scratch arrays — after a step with rows, its expert's weights cast —, what it
    leaves alone, and the tables. -/
def Phi (c : Dev nD) (n : ℕ) : sProp 𝕄 :=
  iprop(∃ s0 : Vec F S1024x2048 .bf16, ∃ s1 : Vec F S1024x1024 .bf16,
    ⌜∀ t : Fin grid1.N, t.val + 1 = n → Used (rowsW pf t.val) → s0 = k1_pay1 (wuB V pf hok c t) ∧ s1 = k1_pay2 (wdB V pf hok c t)⌝
    ∗ owns (c : Thread nD τ) (Memref.whole cc1_scratch0) fullShare s0 ∗ owns (c : Thread nD τ) (Memref.whole cc1_scratch1) fullShare s1
    ∗ Keep pf c ∗ Pipeline.ΦT pre1 pf c)

/-- The pipeline's proof data on core `c`. -/
def dat1 (c : Dev nD) : Pipeline.Dat τ (Elt F) Unit ℕ (UR sig nD τ) ℕ (cfg1 (F := F) ⟨pf, hok⟩) c where
  A := fun w => V c (Pipeline.arrRef spec1 w)
  after := fun
    | 0 => fun t => xB V pf hok c t
    | 1 => fun t => wuB V pf hok c t
    | 2 => fun t => buB V pf hok c t
    | 3 => fun t => wdB V pf hok c t
    | 4 => fun t => bdB V pf hok c t
    | 5 => fun t => outB V pf hok c t
    | ⟨_ + 6, h⟩ => absurd h (Nat.not_lt.2 (Nat.le_add_left _ _))
  Φ := fun n => Phi V pf hok c n.val
  q := fun _ => fullShare
  owed := fun _ => 0

/-- After a step the output's buffer holds `outB`. -/
theorem after5 (c : Dev nD) (t : Fin grid1.N) : (dat1 V pf hok c).after (5 : Fin 6) t = outB V pf hok c t := by
  dsimp only [dat1]

/-- Before a step the rows' buffer holds the step's rows. -/
theorem before0 (c : Dev nD) (t : Fin grid1.N) (d) : (dat1 V pf hok c).before (0 : Fin 6) t d = xB V pf hok c t :=
  (dat1 V pf hok c).before_in_eq_fetched (0 : Fin 6) rfl (fun _ => rfl) (fun _ _ _ => rfl) (fun t => by dsimp only [dat1]; rfl) t d

/-- Before a step the up-projection's buffer holds the step's expert's up-projection. -/
theorem before1 (c : Dev nD) (t : Fin grid1.N) (d) : (dat1 V pf hok c).before (1 : Fin 6) t d = wuB V pf hok c t :=
  (dat1 V pf hok c).before_in_eq_fetched (1 : Fin 6) rfl (fun _ => rfl) (fun _ _ _ => rfl) (fun t => by dsimp only [dat1]; rfl) t d

/-- Before a step the buffer of its bias holds that expert's bias. -/
theorem before2 (c : Dev nD) (t : Fin grid1.N) (d) : (dat1 V pf hok c).before (2 : Fin 6) t d = buB V pf hok c t :=
  (dat1 V pf hok c).before_in_eq_fetched (2 : Fin 6) rfl (fun _ => rfl) (fun _ _ _ => rfl) (fun t => by dsimp only [dat1]; rfl) t d

/-- Before a step the down-projection's buffer holds the step's expert's down-projection. -/
theorem before3 (c : Dev nD) (t : Fin grid1.N) (d) : (dat1 V pf hok c).before (3 : Fin 6) t d = wdB V pf hok c t :=
  (dat1 V pf hok c).before_in_eq_fetched (3 : Fin 6) rfl (fun _ => rfl) (fun _ _ _ => rfl) (fun t => by dsimp only [dat1]; rfl) t d

/-- Before a step the buffer of its bias holds that expert's bias. -/
theorem before4 (c : Dev nD) (t : Fin grid1.N) (d) : (dat1 V pf hok c).before (4 : Fin 6) t d = bdB V pf hok c t :=
  (dat1 V pf hok c).before_in_eq_fetched (4 : Fin 6) rfl (fun _ => rfl) (fun _ _ _ => rfl) (fun t => by dsimp only [dat1]; rfl) t d

/-! ## The schedule -/

/-- The output's window is idle at a step exactly when the step has no rows. -/
theorem idle_iff (t : Fin grid1.N) : (cfg1 ⟨pf, hok⟩).idle (5 : Fin 6) (grid1.coords t) = true ↔ ¬ Used (rowsW pf t.val) := by
  rw [← coords_zero t]; exact idle5 pf _

/-- The output's block at a step is the one its word of `w_tile` names. -/
theorem index_out (t : Fin grid1.N) : (win1 ⟨pf, hok⟩ 5).index t = ![(tileW pf t.val).toNat, 0] := by
  rw [← coords_zero t]; exact index5 pf _

/-- A step followed by one without rows does not write its block back. -/
theorem flush_before_idle (h : PlanOk pf) (n : ℕ) (hn : n + 1 < grid1.N) (hi : ¬ Used (rowsW pf (n + 1))) :
    (win1 ⟨pf, hok⟩ 5).flush ⟨n, Nat.lt_of_succ_lt hn⟩ = false := by
  rw [Bool.eq_false_iff]
  intro hf
  rw [Pipeline.Window.flush_eq_flushF] at hf
  unfold Pipeline.Window.flushF at hf
  rw [Bool.and_eq_true, Bool.or_eq_true] at hf
  rcases hf.2 with h1 | h1
  · have h1 : n + 1 = grid1.N := of_decide_eq_true h1
    omega
  · obtain ⟨h2, a, ha⟩ := of_decide_eq_true h1
    apply ha
    have e1 := index_out pf hok ⟨n + 1, h2⟩
    have e2 := index_out pf hok ⟨n, Nat.lt_of_succ_lt hn⟩
    have e3 : tileW pf (n + 1) = tileW pf n := h.tile_idle n (lt_of_lt_of_eq hn N_1) hi
    exact congrFun (e1.trans ((congrArg (fun v : BitVec 32 => (![v.toNat, 0] : Fin 2 → ℕ)) e3).trans e2.symm)) a

/-- A step without rows finds in the output's buffer what was computed last, not leavings. -/
theorem fresh_idle (h : PlanOk pf) : ∀ (n : ℕ) (hn : n < grid1.N), ¬ Used (rowsW pf n) → (cfg1 ⟨pf, hok⟩).fresh (5 : Fin 6) n = false
  | 0, _, hi => absurd h.used_zero hi
  | n + 1, hn, hi => by
    have hn' : n < grid1.N := Nat.lt_of_succ_lt hn
    rw [Pipeline.Cfg.fresh_succ _ _ n hn']
    have hf : ((cfg1 (⟨pf, hok⟩ : (pcfg1 (F := F)).Adm)).win (5 : Fin 6)).flush ⟨n, hn'⟩ = false := flush_before_idle pf hok h n hn hi
    rw [hf, Bool.false_or, Bool.and_eq_false_iff]
    by_cases hu : Used (rowsW pf n)
    · left
      rw [Bool.eq_false_iff]
      exact fun h' => (idle_iff pf hok ⟨n, hn'⟩).mp h' hu
    · exact .inr (fresh_idle h n hn' hu)

end Blocks

end Cert.Kernel4Ideal.Experts

end
-- ==== Proof.P4I.Step.lean ====
/-
  One step of the experts' pipeline keeps the proof data: the body's obligation.
-/
module

public import proofs.«01_k».proof.Proof.P4I.Data

@[expose] public section

set_option maxRecDepth 16384

noncomputable section

namespace Cert.Kernel4Ideal.Experts

open Cert.Kernel4Ideal Cert.Kernel4Ideal.Gen Cert.Plan
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (V : (c : Dev nD) → (b : Ref sig .tc) → Buf (Elt F) ((c : Thread nD τ).loc b)) (pf : pre1.Contents (Elt F)) (hok : ok1 pf)

/-- Two steps of one expert fetch one up-projection. -/
theorem wuB_congr (c : Dev nD) (t t' : Fin grid1.N) (h : exW pf t.val = exW pf t'.val) : wuB V pf hok c t = wuB V pf hok c t' := by
  have e : (win1 ⟨pf, hok⟩ 1).index t = (win1 ⟨pf, hok⟩ 1).index t' := by
    have e1 : (win1 ⟨pf, hok⟩ 1).index t = ![(exW pf t.val).toNat, 0, 0] := by rw [← coords_zero t]; exact index1 pf _
    have e2 : (win1 ⟨pf, hok⟩ 1).index t' = ![(exW pf t'.val).toNat, 0, 0] := by rw [← coords_zero t']; exact index1 pf _
    rw [e1, e2, h]
  exact (dat1 V pf hok c).fetched_congr (1 : Fin 6) e rfl (fun _ => Classical.arbitrary _)

/-- Two steps of one expert fetch one down-projection. -/
theorem wdB_congr (c : Dev nD) (t t' : Fin grid1.N) (h : exW pf t.val = exW pf t'.val) : wdB V pf hok c t = wdB V pf hok c t' := by
  have e : (win1 ⟨pf, hok⟩ 3).index t = (win1 ⟨pf, hok⟩ 3).index t' := by
    have e1 : (win1 ⟨pf, hok⟩ 3).index t = ![(exW pf t.val).toNat, 0, 0] := by rw [← coords_zero t]; exact index3 pf _
    have e2 : (win1 ⟨pf, hok⟩ 3).index t' = ![(exW pf t'.val).toNat, 0, 0] := by rw [← coords_zero t']; exact index3 pf _
    rw [e1, e2, h]
  exact (dat1 V pf hok c).fetched_congr (3 : Fin 6) e rfl (fun _ => Classical.arbitrary _)

/-- After a step with rows the scratch arrays hold the step's expert's weights, cast there or held since its first step. -/
theorem scratch_used (h : PlanOk pf) (c : Dev nD) (t : Fin grid1.N) (s0 : Vec F S1024x2048 .bf16) (s1 : Vec F S1024x1024 .bf16)
    (hs : ∀ t' : Fin grid1.N, t'.val + 1 = t.val → Used (rowsW pf t'.val) → s0 = k1_pay1 (wuB V pf hok c t') ∧ s1 = k1_pay2 (wdB V pf hok c t'))
    (hu : Used (rowsW pf t.val)) :
    next0 (firstW pf t.val) (wuB V pf hok c t) s0 = k1_pay1 (wuB V pf hok c t)
      ∧ next1 (firstW pf t.val) (wdB V pf hok c t) s1 = k1_pay2 (wdB V pf hok c t) := by
  by_cases hf : firstW pf t.val = 1#32
  · have : cond1 (firstW pf t.val) = 1#1 := (cond1_iff _).mpr hf
    unfold next0 next1
    rw [if_pos this, if_pos this]
    exact ⟨rfl, rfl⟩
  · have hc : ¬ cond1 (firstW pf t.val) = 1#1 := fun e => hf ((cond1_iff _).mp e)
    unfold next0 next1
    rw [if_neg hc, if_neg hc]
    obtain ⟨n, hn⟩ := t
    cases n with
    | zero => exact absurd h.first_zero hf
    | succ n =>
      have hn' : n + 1 < 288 := lt_of_lt_of_eq hn N_1
      have hup : Used (rowsW pf n) := h.used_before n hn' hu
      have he : exW pf (n + 1) = exW pf n := Classical.byContradiction fun hne => hf (h.first_change n hn' hu hne)
      obtain ⟨a, b⟩ := hs ⟨n, Nat.lt_of_succ_lt hn⟩ rfl hup
      exact ⟨a.trans (congrArg k1_pay1 (wuB_congr V pf hok c _ _ he.symm)), b.trans (congrArg k1_pay2 (wdB_congr V pf hok c _ _ he.symm))⟩

/-- When a step names the block of a given step, the output's buffer holds what that step computed. -/
theorem outB_of_tile (c : Dev nD) (t t' : Fin grid1.N) (h : (tileW pf t.val).toNat = t'.val) : outB V pf hok c t = yB V pf hok c t' := by
  unfold outB
  have hl : (tileW pf t.val).toNat < grid1.N := h ▸ t'.isLt
  rw [dif_pos hl]
  congr 1
  exact Fin.ext h

/-- The output's buffer after a step, as the pipeline asks for it. -/
theorem out_leaves (h : PlanOk pf) (c : Dev nD) (t : Fin grid1.N) (s0 : Vec F S1024x2048 .bf16) (s1 : Vec F S1024x1024 .bf16)
    (d : Vec F S512x1024 .bf16)
    (hs : Used (rowsW pf t.val) → s0 = k1_pay1 (wuB V pf hok c t) ∧ s1 = k1_pay2 (wdB V pf hok c t))
    (M : Memref sig .tc .vmem S512x1024 .bf16) :
    (owns (c : Thread nD τ) M fullShare (nextY (rowsW pf t.val) (xB V pf hok c t) s0 (buB V pf hok c t) s1 (bdB V pf hok c t)
        ((dat1 V pf hok c).before (5 : Fin 6) t d)) : sProp 𝕄)
    ⊢ (match (cfg1 ⟨pf, hok⟩).idle (5 : Fin 6) (grid1.coords t) with
        | true =>
          match (win1 ⟨pf, hok⟩ 5).flush t with
          | false => iprop(∃ d, owns (c : Thread nD τ) M fullShare ((dat1 V pf hok c).before (5 : Fin 6) t d))
          | true => owns (c : Thread nD τ) M fullShare ((dat1 V pf hok c).after (5 : Fin 6) t)
        | false => owns (c : Thread nD τ) M fullShare ((dat1 V pf hok c).after (5 : Fin 6) t)) := by
  have hN : t.val < 288 := lt_of_lt_of_eq t.isLt N_1
  by_cases hu : Used (rowsW pf t.val)
  · have hi : (cfg1 ⟨pf, hok⟩).idle (5 : Fin 6) (grid1.coords t) = false := by
      rw [Bool.eq_false_iff]; exact fun e => (idle_iff pf hok t).mp e hu
    have e : nextY (rowsW pf t.val) (xB V pf hok c t) s0 (buB V pf hok c t) s1 (bdB V pf hok c t) ((dat1 V pf hok c).before (5 : Fin 6) t d)
        = (dat1 V pf hok c).after (5 : Fin 6) t := by
      rw [after5, outB_of_tile V pf hok c t t (h.tile_used _ hN hu)]
      unfold nextY yB
      rw [if_pos ((cond2_iff _).mpr hu), (hs hu).1, (hs hu).2]
    rw [hi, e]
  · have hi : (cfg1 ⟨pf, hok⟩).idle (5 : Fin 6) (grid1.coords t) = true := (idle_iff pf hok t).mpr hu
    have e : nextY (rowsW pf t.val) (xB V pf hok c t) s0 (buB V pf hok c t) s1 (bdB V pf hok c t) ((dat1 V pf hok c).before (5 : Fin 6) t d)
        = (dat1 V pf hok c).before (5 : Fin 6) t d := by
      unfold nextY
      rw [if_neg (fun e => hu ((cond2_iff _).mp e))]
    have hcarry : ∀ (t : Fin grid1.N) (ht : t.val ≠ 0), ¬ Used (rowsW pf t.val) →
        (dat1 V pf hok c).after (5 : Fin 6) t = (dat1 V pf hok c).after (5 : Fin 6) ⟨t.val - 1, Nat.lt_of_le_of_lt (Nat.sub_le _ _) t.isLt⟩ := by
      intro t ht hu
      obtain ⟨n, hn⟩ := t
      cases n with
      | zero => exact absurd rfl ht
      | succ n =>
        have hn' : n + 1 < 288 := lt_of_lt_of_eq hn N_1
        have ht : (tileW pf (n + 1)).toNat < grid1.N := by rw [N_1]; exact h.tile_lt _ hn'
        rw [after5, after5, outB_of_tile V pf hok c ⟨n + 1, hn⟩ ⟨_, ht⟩ rfl,
          outB_of_tile V pf hok c _ ⟨_, ht⟩ (congrArg BitVec.toNat (h.tile_idle n hn' hu).symm)]
    rw [hi, e]
    cases hf : (win1 ⟨pf, hok⟩ 5).flush t
    · show _ ⊢ iprop(∃ d, owns (c : Thread nD τ) M fullShare ((dat1 V pf hok c).before (5 : Fin 6) t d))
      iintro H
      iexists d
      iexact H
    · have ht : t.val ≠ 0 := fun e => hu (by rw [e]; exact h.used_zero)
      have hb := (dat1 V pf hok c).before_out_traj (5 : Fin 6) rfl (fun _ _ => rfl)
        (fun t ht hi _ => hcarry t ht ((idle_iff pf hok t).mp hi)) t.val t rfl d
      have hfr : (cfg1 (F := F) ⟨pf, hok⟩).fresh (5 : Fin 6) t.val = false := fresh_idle pf hok h t.val t.isLt hu
      rw [hfr, if_neg Bool.false_ne_true] at hb
      rw [hb, ← hcarry t ht hu]

/-- The tables held, one by one. -/
theorem tables_eq (c : Dev nD) : (Pipeline.ΦT pre1 pf c : sProp 𝕄)
    = iprop(pt c (Memref.whole main_v1) fullShare.right (pf 0) ∗ pt c (Memref.whole main_v2) fullShare.right (pf 1)
        ∗ pt c (Memref.whole main_v3) fullShare.right (pf 2) ∗ pt c (Memref.whole main_v4) fullShare.right (pf 3)) :=
  bigSep_univ_eq_bigSepL [(0 : Fin 4), (1 : Fin 4), (2 : Fin 4), (3 : Fin 4)] (by decide) (by decide) _

/-- The invariant before step `t` and after it. -/
theorem phi_before (c : Dev nD) (t : Fin grid1.N) : (dat1 V pf hok c).Φ t.castSucc = Phi V pf hok c t.val := rfl

/-- After a step the body carries what the next step is given. -/
theorem phi_after (c : Dev nD) (t : Fin grid1.N) : (dat1 V pf hok c).Φ t.succ = Phi V pf hok c (t.val + 1) := rfl

/-- Every step keeps the proof data. -/
theorem body_ok (h : PlanOk pf) (c : Dev nD) :
    Pipeline.BodyObligation (dat1 V pf hok c) (defs₀ (F := F)) Variants.none () Set.univ := by
  intro t
  rw [Gen.bigSep_W1, Gen.bigSep_W1, phi_before, phi_after]
  unfold Phi
  rw [tables_eq]
  simp only [before0, before1, before2, before3, before4]
  iintro ⟨⟨%s0, %s1, %hs, Hs0, Hs1, Hp, T0, T1, T2, T3⟩, Ho, ⟨%d0, W0⟩, ⟨%d1, W1⟩, ⟨%d2, W2⟩, ⟨%d3, W3⟩, ⟨%d4, W4⟩, ⟨%d5, W5⟩⟩
  have hsc := scratch_used V pf hok h c t s0 s1 hs
  iapply body_run c (grid1.coords t) fullShare.right (Memref.whole main_v1) _ (Memref.whole main_v2) _ (Memref.whole main_v3) _
    (Memref.whole main_v4) _ _ _ _ _ _ _ _ _ _ _ _ _ (Memref.whole cc1_scratch0) _ (Memref.whole cc1_scratch1) _ (pf 2) (pf 3)
    (xB V pf hok c t) (wuB V pf hok c t) (buB V pf hok c t) (wdB V pf hok c t) (bdB V pf hok c t) ((dat1 V pf hok c).before (5 : Fin 6) t d5)
    s0 s1 (firstW pf t.val) (rowsW pf t.val) (by rw [← coords_zero t]; exact word_emb (pf 3) _ (grid1.coords t) (off1_apply _) _ _)
    (by rw [← coords_zero t]; exact word_emb (pf 2) _ (grid1.coords t) (off2_apply _) _ _)
  isplitl [T2]; iexact T2
  isplitl [T3]; iexact T3
  isplitl [W0]; iexact W0
  isplitl [W1]; iexact W1
  isplitl [W2]; iexact W2
  isplitl [W3]; iexact W3
  isplitl [W4]; iexact W4
  isplitl [W5]; iexact W5
  isplitl [Hs0]; iexact Hs0
  isplitl [Hs1]; iexact Hs1
  iintro T2 T3 W0 W1 W2 W3 W4 W5 Hs0 Hs1
  isplitl [Hs0 Hs1 Hp T0 T1 T2 T3]
  · iexists (next0 (firstW pf t.val) (wuB V pf hok c t) s0)
    iexists (next1 (firstW pf t.val) (wdB V pf hok c t) s1)
    isplitr
    · ipureintro
      intro t' ht' hu'
      have e : t' = t := Fin.ext (Nat.succ.inj ht')
      subst e
      exact hsc hu'
    isplitl [Hs0]; iexact Hs0
    isplitl [Hs1]; iexact Hs1
    isplitl [Hp]; iexact Hp
    isplitl [T0]; iexact T0
    isplitl [T1]; iexact T1
    isplitl [T2]; iexact T2
    iexact T3
  isplitl [Ho]; iexact Ho
  isplitl [W0]; iexact W0
  isplitl [W1]; iexact W1
  isplitl [W2]; iexact W2
  isplitl [W3]; iexact W3
  isplitl [W4]; iexact W4
  iapply out_leaves V pf hok h c t _ _ d5 hsc
  iexact W5

end Cert.Kernel4Ideal.Experts

end
-- ==== Proof.P4I.Join.lean ====
/-
  The joined program's two calls, one after the other: what the buffers hold between them, and the run of the whole.
-/
module

public import proofs.«01_k».proof.Proof.P4I.PlanRun
public import proofs.«01_k».proof.Proof.P4I.Step
public import proofs.«01_k».proof.Proof.Gen.Kernel4Ideal.Regions
public import Idealize.ShloMosaic.Lib.Pipeline.RegionArraysS
public import Idealize.ShloMosaic.Lib.Pipeline.RegionArraysTS
public import Idealize.ShloMosaic.Lib.StableHlo.RunRead

@[expose] public section

set_option maxRecDepth 16384

noncomputable section

namespace Cert.Kernel4Ideal.Join

open Cert.Kernel2.Tables (cnt Fit table)
open Cert.Kernel4Ideal Cert.Kernel4Ideal.Gen Cert.Tiles
open Cert.Kernel4Ideal.Tables (counts dat0 arr_table)
open Cert.Kernel4Ideal.Experts (PlanOk Phi Keep dat1 ok_of_plan owns_pt pt_owns)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg afterRegion ucRefs)

variable {F : FTy → Type} [FloatOps F]

local notation "𝕄" => MT nD τ sig Unit (Elt F) ℕ (UR sig nD τ) ℕ

variable (m : (ℓ : Loc nD τ sig) → Buf (Elt F) ℓ)

/-- The buffers at launch. -/
def W0 (c : Dev nD) : Valuation τ sig (Elt F) := fun b => m (c, b)

/-- The buffers after the plan's call. -/
def W1 (c : Dev nD) : Valuation τ sig (Elt F) := afterRegion (dat0 m c) (W0 m c)

/-- The buffers when the experts' call starts. -/
def W2 (c : Dev nD) : Valuation τ sig (Elt F) := StableHlo.after hostOps1 (W1 m c)

/-- The same, read by name. -/
abbrev atEntry : (c : Dev nD) → (b : Ref sig .tc) → Buf (Elt F) ((c : Thread nD τ).loc b) := fun c b => W2 m c (Proc.devRef .tc b)

/-- The tables the experts' call is given. -/
abbrev tab : pre1.Contents (Elt F) := fun k => W2 m (0 : Dev nD) (Proc.devRef .tc (pre1.ref k))

/-- The buffers after the experts' call. -/
def W3 (hok : ok1 (tab m)) (c : Dev nD) : Valuation τ sig (Elt F) := afterRegion (dat1 (atEntry m) (tab m) hok c) (W2 m c)

/-- The tables as the two pipelines take them: the plan's call has none. -/
abbrev adm (hok : ok1 (tab m)) : (p : Fin 2) → (pcfgs (F := F) p).Adm
  | ⟨0, _⟩ => Pipeline.Cfg.toPCfg_adm cfg0
  | ⟨1, _⟩ => ⟨tab m, hok⟩

/-- The two pipelines' proof data. -/
def pdats (hok : ok1 (tab m)) : (p : Fin 2) → (c : Dev nD) → Dat τ (Elt F) Unit ℕ (UR sig nD τ) ℕ (Pipeline.pin (pcfgs (F := F)) (adm m hok) p) c
  | ⟨0, _⟩ => fun c => dat0 m c
  | ⟨1, _⟩ => fun c => dat1 (atEntry m) (tab m) hok c

/-- The staging cells' one index, on the cores that have them. -/
abbrev L : GSem nD τ sig → Finset Unit := fun g => if g.1.2 = .tc then {()} else ∅

/-- Every cell at one level. -/
abbrev lv : GSem nD τ sig → Unit → ℕ := fun _ _ => 0

/-- Nothing is owed, so nothing is waited for above its level. -/
theorem cut (hok : ok1 (tab m)) (p : Fin 2) :
    Pipeline.LevelCut (pcfgs (F := F)) (adm m hok) () L lv p (fun _ : Dev nD => (0 : CellTallies nD τ sig Unit)) fun _ => 0 where
  hι _ _ _ := Finset.mem_singleton_self ()
  hιb _ _ _ := Nat.le_refl 0
  hD _ _ _ h := absurd h (Nat.lt_irrefl 0)

/-- What rides beside the buffers: the core owes nothing, and has its generator's register. -/
abbrev E (c : Dev nD) : sProp 𝕄 :=
  iprop((∃ Wd, owes (c : Thread nD τ) (0 : CellTallies nD τ sig Unit) Wd) ∗ (∃ r, prngReg c r) ∗ emp)

/-- The plan's call. -/
def reg0 (hok : ok1 (tab m)) (h : ∀ c, Fit (cnt (counts m c))) :
    RegionSeg (pcfgs (F := F)) (adm m hok) (pdats m hok) () defs₀ Variants.none L lv 0 :=
  RegionSeg.ofHeldIn (pcfgs (F := F)) (adm m hok) (pdats m hok) () defs₀ Variants.none L lv 0 (fun _ => 0) (ucRefs τ sig)
    (fun c => iprop(∃ r, prngReg c r)) (fun c => iprop(∃ r, prngReg c r)) launch0 rfl
    (fun c => (Tables.body_ok m h c).loose) (fun _ _ => rfl) (fun _ => rfl) (fun c => (dat0 m c).share_full fun _ => rfl)
    (fun _ => .rfl) (fun _ => .rfl) (fun _ => 0) (cut m hok 0) (fun _ => iprop(emp)) (W0 m) (fun _ _ => rfl)

/-- The experts' call. -/
def reg1 (h : PlanOk (tab m)) :
    RegionSeg (pcfgs (F := F)) (adm m (ok_of_plan _ h)) (pdats m (ok_of_plan _ h)) () defs₀ Variants.none L lv 1 :=
  RegionSeg.ofHeldInT (pcfgs (F := F)) (adm m (ok_of_plan _ h)) (pdats m (ok_of_plan _ h)) () defs₀ Variants.none L lv 1 (fun _ => 0) (ucRefs τ sig)
    (fun c => iprop(∃ r, prngReg c r)) (fun c => iprop(∃ r, prngReg c r)) launch1
    (fun c => (Experts.body_ok (atEntry m) (tab m) (ok_of_plan _ h) h c).loose) (fun _ _ => rfl) (fun _ => rfl)
    (fun c => (dat1 (atEntry m) (tab m) (ok_of_plan _ h) c).share_full fun _ => rfl)
    (fun c => by
      show iprop(iprop(Pipeline.scopedRest (Ix := Unit) (Name := ℕ) (U := UR sig nD τ) (Lvl := ℕ) (Val := Elt F) spec1 c ∗ (∃ r, prngReg c r))
        ∗ Pipeline.prefHeld pre1 c (fun _ => fullShare) (tab m)) ⊢ Phi (atEntry m) (tab m) (ok_of_plan _ h) c 0
      unfold Phi Keep
      rw [scopedRest1_eq]
      have hs := (Pipeline.prefHeld_share (nD := nD) (τ := τ) (Ix := Unit) (Name := ℕ) (U := UR sig nD τ) (Lvl := ℕ) pre1 c (PosShare.mem_left_op_right fullShare) (tab m)).1
      iintro ⟨⟨⟨⟨%f0, H0⟩, ⟨%f1, H1⟩, Hr⟩, Hp⟩, HT⟩
      ihave HT2 := hs $$ HT
      icases HT2 with ⟨Hl, Hh⟩
      iexists (Memref.whole cc1_scratch0).view.read (Elt F) f0
      iexists (Memref.whole cc1_scratch1).view.read (Elt F) f1
      isplitr
      · ipureintro
        intro t ht
        exact absurd ht (Nat.succ_ne_zero _)
      isplitl [H0]
      · iapply pt_owns c (Memref.whole cc1_scratch0) (Memref.isWhole_whole _) fullShare f0 _ rfl $$ H0
      isplitl [H1]
      · iapply pt_owns c (Memref.whole cc1_scratch1) (Memref.isWhole_whole _) fullShare f1 _ rfl $$ H1
      isplitl [Hp Hl Hr]
      · isplitl [Hp]; iexact Hp
        isplitl [Hl]; iexact Hl
        iexact Hr
      iexact Hh)
    (fun c => by
      show Phi (atEntry m) (tab m) (ok_of_plan _ h) c _
        ⊢ iprop(iprop(Pipeline.scopedRest (Ix := Unit) (Name := ℕ) (U := UR sig nD τ) (Lvl := ℕ) (Val := Elt F) spec1 c ∗ (∃ r, prngReg c r))
          ∗ Pipeline.prefHeld pre1 c (fun _ => fullShare) (tab m))
      unfold Phi Keep
      rw [scopedRest1_eq]
      have hs := (Pipeline.prefHeld_share (nD := nD) (τ := τ) (Ix := Unit) (Name := ℕ) (U := UR sig nD τ) (Lvl := ℕ) pre1 c (PosShare.mem_left_op_right fullShare) (tab m)).2
      simp only [owns_pt c (Memref.whole cc1_scratch0) (Memref.isWhole_whole _), owns_pt c (Memref.whole cc1_scratch1) (Memref.isWhole_whole _)]
      iintro ⟨%s0, %s1, -, H0, H1, ⟨Hp, Hl, Hr⟩, Hh⟩
      isplitl [H0 H1 Hp Hr]
      · isplitl [H0 H1 Hr]
        · isplitl [H0]
          · iexists _
            iexact H0
          isplitl [H1]
          · iexists _
            iexact H1
          iexact Hr
        iexact Hp
      iapply hs
      isplitl [Hl]; iexact Hl
      iexact Hh)
    (fun _ => 0) (cut m (ok_of_plan _ h) 1) (fun _ => iprop(emp)) (W2 m) (fun _ _ => rfl)
    (fun c k => by have hc : c = 0 := Subsingleton.elim _ _; subst hc; rfl)

/-- What the plan's call leaves, said of either way to name its proof data. -/
theorem after0 (hok : ok1 (tab m)) (c : Dev nD) : afterRegion (pdats m hok 0 c) (W0 m c) = W1 m c := rfl

/-- What the experts' call leaves, likewise. -/
theorem after1 (hok : ok1 (tab m)) (c : Dev nD) : afterRegion (pdats m hok 1 c) (W2 m c) = W3 m hok c := rfl

/-- The plan's call starts from the buffers at launch. -/
theorem enter0 (hok : ok1 (tab m)) (h : ∀ c, Fit (cnt (counts m c))) (c : Dev nD) :
    iprop(StableHlo.held (c : Thread nD τ) (ucRefs τ sig) (W0 m c) ∗ E c) ⊢ (reg0 m hok h).pre c := by
  unfold reg0
  exact RegionSeg.ofHeldIn_pre (pcs := pcfgs (F := F)) (a := adm m hok) (pdats := pdats m hok) (p := 0) (D := fun _ => 0)
    (X := fun c => iprop(∃ r, prngReg c r)) (Y := fun c => iprop(∃ r, prngReg c r)) (R := fun _ => iprop(emp)) (W := W0 m)
    (Pipeline.arrRefs_sub_ucRefs _ launch0.win.arr_unscoped) c

/-- Contents by another name are the same contents. -/
theorem renamed (c : Dev nD) {P : sProp 𝕄} {w w' : Valuation τ sig (Elt F)} (e : w = w')
    (h : P ⊢ iprop(StableHlo.held (c : Thread nD τ) (ucRefs τ sig) w ∗ E c)) :
    P ⊢ iprop(StableHlo.held (c : Thread nD τ) (ucRefs τ sig) w' ∗ E c) := e ▸ h

/-- It leaves what its proof data says. -/
theorem post0 (hok : ok1 (tab m)) (h : ∀ c, Fit (cnt (counts m c))) (c : Dev nD) :
    (reg0 m hok h).post c ⊢ iprop(StableHlo.held (c : Thread nD τ) (ucRefs τ sig) (afterRegion (pdats m hok 0 c) (W0 m c)) ∗ E c) := by
  unfold reg0
  exact RegionSeg.ofHeldIn_post (Pipeline.arrRefs_sub_ucRefs _ launch0.win.arr_unscoped) c

/-- It leaves the buffers as the operations after it find them. -/
theorem leave0 (hok : ok1 (tab m)) (h : ∀ c, Fit (cnt (counts m c))) (c : Dev nD) :
    (reg0 m hok h).post c ⊢ iprop(StableHlo.held (c : Thread nD τ) (ucRefs τ sig) (W1 m c) ∗ E c) :=
  renamed c (after0 m hok c) (post0 m hok h c)

/-- The experts' call starts from what those operations leave. -/
theorem enter1 (h : PlanOk (tab m)) (c : Dev nD) :
    iprop(StableHlo.held (c : Thread nD τ) (ucRefs τ sig) (W2 m c) ∗ E c) ⊢ (reg1 m h).pre c := by
  unfold reg1
  exact RegionSeg.ofHeldInT_pre (pcs := pcfgs (F := F)) (a := adm m (ok_of_plan _ h)) (pdats := pdats m (ok_of_plan _ h)) (p := 1) (D := fun _ => 0)
    (X := fun c => iprop(∃ r, prngReg c r)) (Y := fun c => iprop(∃ r, prngReg c r)) (R := fun _ => iprop(emp)) (W := W2 m)
    (Pipeline.arrRefs_sub_ucRefs _ launch1.win.arr_unscoped) (Pipeline.tblRefs_sub_ucRefs _ launch1.pre.unscoped) c

/-- It leaves what its proof data says. -/
theorem post1 (h : PlanOk (tab m)) (c : Dev nD) :
    (reg1 m h).post c ⊢ iprop(StableHlo.held (c : Thread nD τ) (ucRefs τ sig) (afterRegion (pdats m (ok_of_plan _ h) 1 c) (W2 m c)) ∗ E c) := by
  unfold reg1
  exact RegionSeg.ofHeldInT_post (Pipeline.arrRefs_sub_ucRefs _ launch1.win.arr_unscoped) (Pipeline.tblRefs_sub_ucRefs _ launch1.pre.unscoped) c

/-- It leaves the buffers as they are at the end. -/
theorem leave1 (h : PlanOk (tab m)) (c : Dev nD) :
    (reg1 m h).post c ⊢ iprop(StableHlo.held (c : Thread nD τ) (ucRefs τ sig) (W3 m (ok_of_plan _ h) c) ∗ E c) :=
  renamed c (after1 m (ok_of_plan _ h) c) (post1 m h c)

/-- The operations between the calls. -/
def mid : HostSeg (Ix := Unit) (Name := ℕ) (U := UR sig nD τ) (Lvl := ℕ) (pcfgs (F := F)) defs₀ Variants.none L lv :=
  HostSeg.ofOps _ _ _ _ _ (ucRefs τ sig) hostOps1
    (fun op h => Pipeline.sub_ucRefs op ((List.forall_iff_forall_mem.mp hostOps1_sub) op h))
    (fun op h => (List.forall_iff_forall_mem.mp hostOps1_fresh) op h) (W1 m) (E (F := F))

set_option backward.isDefEq.respectTransparency.types false in
/-- The run of the whole: it terminates, every counter is zero, and every buffer outside the calls' own holds what the two
    calls leave. -/
theorem run_all (g : Dev nD → PrngReg) (hf : ∀ c, Fit (cnt (counts m c))) (h : PlanOk (tab m)) :
    θ_run (defs (F := F)) (onTc (τ := τ) (main (F := F))) ⟨m, fun _ => 0, g⟩
      (fun r => (∀ c : Dev nD, ∀ b ∈ ucRefs τ sig, r.2.mem ((c : Thread nD τ).1, b) = W3 m (ok_of_plan _ h) c b) ∧ r.2.sem = fun _ => 0) := by
  classical
  refine Pipeline.θ_run_regions_kit_dev_sems (pcfgs (F := F)) (adm m (ok_of_plan _ h)) (pdats m (ok_of_plan _ h)) () (cellOf_inj _) emb₁ defs₀ Variants.none L lv
    m g main (fun _ => [.region (reg0 m (ok_of_plan _ h) hf), .host (mid m), .region (reg1 m h)])
    (fun c Q => by
      rw [main_segs (adm m (ok_of_plan _ h)) (pdats m (ok_of_plan _ h)) () Variants.none L lv (mid m) (reg0 m (ok_of_plan _ h) hf) (reg1 m h) rfl c])
    (fun c => by simp only [Seg.pipes_host, Seg.pipes_region, Seg.pipes_nil]; decide)
    (O₀ := 0) (hL := fun g hg => if_neg hg)
    (G := fun _ => iprop(emp)) (u₀ := initOf (Pipeline.cells (Pipeline.pin (pcfgs (F := F)) (adm m (ok_of_plan _ h))) (cellOf_inj _)) (Pipeline.launchToks (Pipeline.pin (pcfgs (F := F)) (adm m (ok_of_plan _ h))) (cellOf_inj _)))
    (hu₀ := by
      iintro Hu; imodintro
      isplitl [Hu]
      · iapply (show (ownU _ : sProp 𝕄) ⊢ BI.own (emb₁ (initOf (Pipeline.cells (Pipeline.pin (pcfgs (F := F)) (adm m (ok_of_plan _ h))) (cellOf_inj _)) (Pipeline.launchToks (Pipeline.pin (pcfgs (F := F)) (adm m (ok_of_plan _ h))) (cellOf_inj _)))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (ucRefs τ sig) (W0 m c) ∗ E c))
    (Tₙ := fun c => StableHlo.held (c : Thread nD τ) (ucRefs τ sig) (W3 m (ok_of_plan _ h) c))
    (hch := fun c => ⟨enter0 m (ok_of_plan _ h) hf c, leave0 m (ok_of_plan _ h) hf c, enter1 m h c, (leave1 m h c).trans (by
        iintro ⟨Hh, HO, -⟩
        isplitl [Hh]; · iexact Hh
        iexact HO)⟩)
    (hinit := by
      refine Pipeline.initEach L lv fun c => ?_
      rw [show unscopedBufs c (fun b => m ((c.tc : Thread nD τ).loc b)) = StableHlo.held (c : Thread nD τ) (ucRefs τ sig) (W0 m c)
          from Pipeline.unscopedBufs_held (Ix := Unit) (Name := ℕ) (U := UR sig nD τ) (Lvl := ℕ) c (W0 m c)]
      iintro ⟨⟨Hh, -, HO, -, Hp, -⟩, -⟩
      imodintro
      isplitl [Hh]; · iexact Hh
      isplitl [HO]
      · iexists _; iexact HO
      isplitl [Hp]
      · iexists _; iexact Hp
      iempintro)
    (QY := fun c s => ∀ b ∈ ucRefs τ sig, s.mem ((c : Thread nD τ).1, b) = W3 m (ok_of_plan _ h) c b)
    (hfin := fun c s' => by
      unfold StableHlo.held
      iintro ⟨Hh, HSI⟩
      ihave Hr := (pointsTo_read_all (ucRefs τ sig) (fun b => ((c.tc : Thread nD τ).1, b)) (W3 m (ok_of_plan _ h) c) s') $$ [Hh HSI]
      · isplitl [Hh] <;> iassumption
      imodintro; iexact Hr)
    (hQ := fun _ h hz => ⟨h, funext fun g => hz g (.inr (regions_no_unscoped g.2))⟩)

end Cert.Kernel4Ideal.Join

end
-- ==== Proof.P4I.Run.lean ====
/-
  The joined program's run: the tables handed on are the plan's, the arguments end unchanged, and the result is the experts'.
-/
module

public import proofs.«01_k».proof.Proof.P4I.Join
public import proofs.«01_k».proof.Proof.Planned

@[expose] public section

set_option maxRecDepth 16384

noncomputable section

namespace Cert.Kernel4Ideal.Join

open Cert.Kernel2.Tables (cnt Fit table)
open Cert.Kernel4Ideal Cert.Kernel4Ideal.Gen Cert.Tiles
open Cert.Kernel4Ideal.Tables (counts dat0 arr_table)
open Cert.Kernel4Ideal.Experts (PlanOk dat1 ok_of_plan)
open Idealize.ShloMosaic Idealize.ShloMosaic.TcCoe
open Idealize.SL Idealize.SL.Sem
open Idealize.ShloMosaic.Rounds
open Idealize.ShloMosaic.Pipeline (afterRegion afterRegion_arr afterRegion_keeps ucRefs)

variable {F : FTy → Type} [FloatOps F]

variable (m : (ℓ : Loc nD τ sig) → Buf (Elt F) ℓ)

/-- The larger of a word and itself is the word. -/
theorem maxsi_self (T : (⟨S288, .i32⟩ : BufTy).Contents (Elt F)) : (maxsi T T : (⟨S288, .i32⟩ : BufTy).Contents (Elt F)) = T := by
  funext y
  show IntOp.maxsi (T y) (T y) = T y
  unfold IntOp.maxsi
  split <;> rfl

/-- A buffer the operations between the calls do not write is as the plan's call leaves it. -/
theorem mid_of_ne (c : Dev nD) (b : Ref sig .tc) (h : b ∉ hostOps1_W) : W2 m c (Proc.devRef .tc b) = W1 m c (Proc.devRef .tc b) :=
  StableHlo.after_of_writes_sub (hostOps1 (F := F)) _ hostOps1_writes h

/-- A buffer other than the plan's results is as launched after its call. -/
theorem plan_keeps (c : Dev nD) (b : Ref sig .tc) (h : ∀ w, Pipeline.arrRef spec0 w = b → (win0 w).isOut = false) :
    W1 m c (Proc.devRef .tc b) = m ((c : Thread nD τ).loc b) :=
  afterRegion_keeps (dat0 m c) (W0 m c) (launch0 (F := F)).win.arr_inj (fun _ => rfl) b h

/-- The tables as the plan's call leaves them. -/
theorem plan_tables (c : Dev nD) :
    W1 m c (Proc.devRef .tc main_v0_0) = table (F := F) (tileN (cnt (counts m c)))
    ∧ W1 m c (Proc.devRef .tc main_v0_1) = table (F := F) (expN (cnt (counts m c)))
    ∧ W1 m c (Proc.devRef .tc main_v0_2) = table (F := F) (rowsN (cnt (counts m c)))
    ∧ W1 m c (Proc.devRef .tc main_v0_3) = table (F := F) (firstN (cnt (counts m c))) := by
  obtain ⟨a1, a2, a3, a4⟩ := arr_table m c
  exact ⟨(afterRegion_arr (dat0 m c) (W0 m c) (launch0 (F := F)).win.arr_inj 1).trans a1, (afterRegion_arr (dat0 m c) (W0 m c) (launch0 (F := F)).win.arr_inj 2).trans a2,
    (afterRegion_arr (dat0 m c) (W0 m c) (launch0 (F := F)).win.arr_inj 3).trans a3, (afterRegion_arr (dat0 m c) (W0 m c) (launch0 (F := F)).win.arr_inj 4).trans a4⟩

/-- The first table handed on is the first the plan's call leaves. -/
theorem mid_v1 (c : Dev nD) : W2 m c (Proc.devRef .tc main_v1) = W1 m c (Proc.devRef .tc main_v0_0) := by
  unfold W2
  after_results
  exact maxsi_self _

/-- So is the second. -/
theorem mid_v2 (c : Dev nD) : W2 m c (Proc.devRef .tc main_v2) = W1 m c (Proc.devRef .tc main_v0_1) := by
  unfold W2
  after_results
  exact maxsi_self _

/-- So is the third. -/
theorem mid_v3 (c : Dev nD) : W2 m c (Proc.devRef .tc main_v3) = W1 m c (Proc.devRef .tc main_v0_2) := by
  unfold W2
  after_results
  exact maxsi_self _

/-- So is the fourth. -/
theorem mid_v4 (c : Dev nD) : W2 m c (Proc.devRef .tc main_v4) = W1 m c (Proc.devRef .tc main_v0_3) := by
  unfold W2
  after_results
  exact maxsi_self _

/-- The tiles the experts' call is given. -/
theorem tab_tile : tab m 0 = table (F := F) (tileN (cnt (counts m 0))) := (mid_v1 m 0).trans (plan_tables m 0).1
/-- The experts it is given. -/
theorem tab_ex : tab m 1 = table (F := F) (expN (cnt (counts m 0))) := (mid_v2 m 0).trans (plan_tables m 0).2.1
/-- The rows it is given. -/
theorem tab_rows : tab m 2 = table (F := F) (rowsN (cnt (counts m 0))) := (mid_v3 m 0).trans (plan_tables m 0).2.2.1
/-- The marks it is given. -/
theorem tab_first : tab m 3 = table (F := F) (firstN (cnt (counts m 0))) := (mid_v4 m 0).trans (plan_tables m 0).2.2.2

/-- The tables handed on are an admissible plan. -/
theorem planOk (hf : Fit (cnt (counts m 0))) : PlanOk (tab m) :=
  Cert.Planned.ok _ hf (tab m 0) (tab m 1) (tab m 2) (tab m 3) (congrFun (tab_tile m)) (congrFun (tab_ex m)) (congrFun (tab_rows m))
    (congrFun (tab_first m))

/-- An argument is as launched when the experts' call starts. -/
theorem entry_arg (c : Dev nD) (b : Ref sig .tc) (hb : b ∈ [main_arg0, main_arg1, main_arg2, main_arg3, main_arg4, main_arg5]) :
    W2 m c (Proc.devRef .tc b) = m ((c : Thread nD τ).loc b) := by
  refine (mid_of_ne m c b ?_).trans (plan_keeps m c b ?_)
  · revert b; decide
  · simp only [List.mem_cons, List.not_mem_nil, or_false] at hb
    rcases hb with rfl | rfl | rfl | rfl | rfl | rfl <;> decide

/-- The up-projection's bias as the experts' call reads it. -/
theorem entry_v5 (c : Dev nD) : atEntry m c main_v5 = shapeCast S32x1x2048 (m ((c : Thread nD τ).loc main_arg3)) shapeCasts_S32x2048_S32x1x2048 := by
  rw [← plan_keeps m c main_arg3 (by decide)]
  show W2 m c (Proc.devRef .tc main_v5) = _
  unfold W2
  after_results
  rfl

/-- The down-projection's bias as the experts' call reads it. -/
theorem entry_v6 (c : Dev nD) : atEntry m c main_v6 = shapeCast S32x1x1024 (m ((c : Thread nD τ).loc main_arg5)) shapeCasts_S32x1024_S32x1x1024 := by
  rw [← plan_keeps m c main_arg5 (by decide)]
  show W2 m c (Proc.devRef .tc main_v6) = _
  unfold W2
  after_results
  rfl

/-- An argument ends as it started. -/
theorem end_arg (hok : ok1 (tab m)) (c : Dev nD) (b : Ref sig .tc) (hb : b ∈ [main_arg0, main_arg1, main_arg2, main_arg3, main_arg4, main_arg5]) :
    W3 m hok c (Proc.devRef .tc b) = m ((c : Thread nD τ).loc b) := by
  refine (afterRegion_keeps (dat1 (atEntry m) (tab m) hok c) (W2 m c) (launch1 (F := F)).win.arr_inj (fun _ => rfl) b ?_).trans (entry_arg m c b hb)
  show ∀ w : Fin 6, Pipeline.arrRef spec1 w = b → (spec1 w).isOut = false
  simp only [List.mem_cons, List.not_mem_nil, or_false] at hb
  rcases hb with rfl | rfl | rfl | rfl | rfl | rfl <;> decide

/-- The result the run leaves on core `c`. -/
def result (h : PlanOk (tab m)) (c : Dev nD) : Buf (Elt F) ((c : Thread nD τ).loc main_v7) :=
  (dat1 (atEntry m) (tab m) (ok_of_plan _ h) c).arrAt (5 : Fin 6) grid1.N

/-- The run: the arguments end as they started, the result is `result`, every counter is zero. -/
theorem run (g : Dev nD → PrngReg) (hf : ∀ c, Fit (cnt (counts m c))) :
    θ_run (defs (F := F)) (onTc (τ := τ) (main (F := F))) ⟨m, fun _ => 0, g⟩ (fun r =>
      (∀ c : Dev nD, r.2.mem ((c : Thread nD τ).loc main_v7) = result m (planOk m (hf 0)) c
        ∧ ∀ b ∈ [main_arg0, main_arg1, main_arg2, main_arg3, main_arg4, main_arg5],
          r.2.mem ((c : Thread nD τ).loc b) = m ((c : Thread nD τ).loc b))
      ∧ r.2.sem = fun _ => 0) := by
  have h := planOk m (hf 0)
  refine (θ_run _ _ _).mono ?_ (run_all m g hf h)
  rintro r ⟨hr, hs⟩
  refine ⟨fun c => ⟨?_, fun b hb => ?_⟩, hs⟩
  · exact (hr c (Proc.devRef .tc main_v7) (by decide)).trans
      (afterRegion_arr (dat1 (atEntry m) (tab m) (ok_of_plan _ h) c) (W2 m c) (launch1 (F := F)).win.arr_inj 5)
  · refine (hr c (Proc.devRef .tc b) ?_).trans (end_arg m (ok_of_plan _ h) c b hb)
    revert b; decide

end Cert.Kernel4Ideal.Join

end
-- ==== Proof.P4I.Value.lean ====
/-
  What the experts' program leaves in its result: on a tile that has rows, what that tile's step computes.
-/
module

public import proofs.«01_k».proof.Proof.P4I.Run
public import Idealize.ShloMosaic.Lib.Pipeline.ValueKit.Geometry
public import Idealize.ShloMosaic.Lib.Pointwise.Index

@[expose] public section

set_option maxRecDepth 16384

noncomputable section

namespace Cert.Kernel4Ideal.Experts

open Cert.Kernel4Ideal Cert.Kernel4Ideal.Gen Cert.Plan
open Cert.Kernel4Ideal.Join (atEntry tab result entry_arg entry_v5 entry_v6)
open Idealize.ShloMosaic Idealize.ShloMosaic.TcCoe Idealize.SL Idealize.SL.Sem Idealize.ShloMosaic.Rounds

variable {F : FTy → Type} [FloatOps F]

section Blocks

variable (V : (c : Dev nD) → (b : Ref sig .tc) → Buf (Elt F) ((c : Thread nD τ).loc b)) (pf : pre1.Contents (Elt F)) (hok : ok1 pf)

/-- Where an element of the output's block lies in the result. -/
theorem out_emb (t : Fin grid1.N) (y : S512x1024.Idx) :
    ((((win1 ⟨pf, hok⟩ 5).blk t).view.emb y : S147456x1024.Idx) 0).val = (tileW pf t.val).toNat * 512 + (y 0).val
    ∧ ((((win1 ⟨pf, hok⟩ 5).blk t).view.emb y : S147456x1024.Idx) 1).val = (y 1).val := by
  have e := index_out pf hok t
  have h0 := Pipeline.Window.rect_emb_val (win1 ⟨pf, hok⟩ 5) t y (0 : Fin 2)
  have h1 := Pipeline.Window.rect_emb_val (win1 ⟨pf, hok⟩ 5) t y (1 : Fin 2)
  rw [e] at h0 h1
  exact ⟨h0, h1.trans (by show 0 * 1024 + _ = _; omega)⟩

/-- Of the steps on a used block the last writes it back. -/
theorem flush_last (h : PlanOk pf) (w : Fin grid1.N) (hu : Used (rowsW pf w.val)) :
    ∃ t : Fin grid1.N, (win1 ⟨pf, hok⟩ 5).flush t = true ∧ (tileW pf t.val).toNat = w.val := by
  classical
  have hw : w.val < 288 := lt_of_lt_of_eq w.isLt N_1
  let S : Finset (Fin grid1.N) := Finset.univ.filter fun t => (tileW pf t.val).toNat = w.val
  have hS : S.Nonempty := ⟨w, Finset.mem_filter.mpr ⟨Finset.mem_univ _, h.tile_used _ hw hu⟩⟩
  let t := S.max' hS
  have ht : (tileW pf t.val).toNat = w.val := (Finset.mem_filter.mp (S.max'_mem hS)).2
  refine ⟨t, ?_, ht⟩
  rw [Pipeline.Window.flush_eq_flushF]
  unfold Pipeline.Window.flushF
  rw [Bool.and_eq_true, Bool.or_eq_true]
  refine ⟨rfl, ?_⟩
  by_cases hl : t.val + 1 = grid1.N
  · exact .inl (decide_eq_true hl)
  · right
    have hn : t.val + 1 < grid1.N := by have := t.isLt; omega
    refine decide_eq_true ⟨hn, (0 : Fin 2), fun e => ?_⟩
    have e1 := index_out pf hok ⟨t.val + 1, hn⟩
    have e2 := index_out pf hok t
    have e3 : (tileW pf (t.val + 1)).toNat = (tileW pf t.val).toNat :=
      (congrFun e1 (0 : Fin 2)).symm.trans (e.trans (congrFun e2 (0 : Fin 2)))
    have : (⟨t.val + 1, hn⟩ : Fin grid1.N) ≤ t := S.le_max' _ (Finset.mem_filter.mpr ⟨Finset.mem_univ _, e3.trans ht⟩)
    have : t.val + 1 ≤ t.val := this
    omega

/-- The element of a block that an element of the result is. -/
def inBlock (i : S147456x1024.Idx) : S512x1024.Idx := ix2 (⟨(i 0).val % 512, Nat.mod_lt _ (by decide)⟩ : Fin 512) (⟨(i 1).val, (i 1).isLt⟩ : Fin 1024)

/-- On a used block, the array after the run is what the block's step computes. -/
theorem arr_used (h : PlanOk pf) (c : Dev nD) (w : Fin grid1.N) (hu : Used (rowsW pf w.val)) (i : S147456x1024.Idx) (hi : (i 0).val / 512 = w.val) :
    ((dat1 V pf hok c).arrAt (5 : Fin 6) grid1.N : S147456x1024.Idx → Elt F .bf16) i = yB V pf hok c w (inBlock i) := by
  obtain ⟨t, hf, ht⟩ := flush_last pf hok h w hu
  let y := inBlock i
  have hmem : i ∈ ((win1 ⟨pf, hok⟩ 5).blk t).view.set := by
    refine Finset.mem_map.mpr ⟨y, Finset.mem_univ y, ?_⟩
    obtain ⟨a0, a1⟩ := out_emb pf hok t y
    funext a
    apply Fin.ext
    match a with
    | ⟨0, _⟩ =>
      refine a0.trans ?_
      rw [ht, ← hi]
      show (i 0).val / 512 * 512 + (i 0).val % 512 = (i 0).val
      omega
    | ⟨1, _⟩ => exact a1
  have key := (dat1 V pf hok c).arrAt_forall_of_flushed (5 : Fin 6)
    (fun (i : S147456x1024.Idx) (v : Elt F .bf16) => ∀ w : Fin grid1.N, (i 0).val / 512 = w.val → v = yB V pf hok c w (inBlock i))
    (fun t _ y w hw => by
      obtain ⟨a0, a1⟩ := out_emb pf hok t y
      have y0 : ((y : S512x1024.Idx) 0).val < 512 := ((y : S512x1024.Idx) 0).isLt
      have ew : (tileW pf t.val).toNat = w.val := by
        rw [← hw]
        refine Eq.symm ?_
        refine (congrArg (· / 512) a0).trans ?_
        show ((tileW pf t.val).toNat * 512 + ((y : S512x1024.Idx) 0).val) / 512 = _
        omega
      have e1 : ((dat1 V pf hok c).flushed (5 : Fin 6) t y : Elt F .bf16) = outB V pf hok c t (y : S512x1024.Idx) := by
        rw [Pipeline.Dat.flushed_apply, after5]
      have e2 : inBlock ((((win1 ⟨pf, hok⟩ 5).blk t).view.emb y : S147456x1024.Idx)) = (y : S512x1024.Idx) := by
        funext a
        apply Fin.ext
        match a with
        | ⟨0, _⟩ =>
          refine (congrArg (· % 512) a0).trans ?_
          show ((tileW pf t.val).toNat * 512 + ((y : S512x1024.Idx) 0).val) % 512 = ((y : S512x1024.Idx) 0).val
          omega
        | ⟨1, _⟩ => exact a1
      refine Eq.trans (b := outB V pf hok c t (y : S512x1024.Idx)) e1 ?_
      rw [outB_of_tile V pf hok c t w ew]
      exact congrArg _ e2.symm)
    grid1.N t i t.isLt hf hmem
  exact key w hi

end Blocks

/-- On a tile with rows, the result of the run is what that tile's step computes. -/
theorem result_used (m : (ℓ : Loc nD τ sig) → Buf (Elt F) ℓ) (h : PlanOk (tab m)) (c : Dev nD) (w : Fin grid1.N)
    (hu : Used (rowsW (tab m) w.val)) (i : S147456x1024.Idx) (hi : (i 0).val / 512 = w.val) :
    (result m h c : S147456x1024.Idx → Elt F .bf16) i = yB (atEntry m) (tab m) (ok_of_plan _ h) c w (inBlock i) :=
  arr_used (atEntry m) (tab m) (ok_of_plan _ h) h c w hu i hi

end Cert.Kernel4Ideal.Experts

end
-- ==== Proof.P4I.Payload.lean ====
/-
  What a step of the kernel computes, at one element of its block: the expert applied to the row.
-/
module

public import proofs.«01_k».proof.Proof.Expert
public import proofs.«01_k».proof.Proof.Gen.Kernel4Ideal.Skeleton

@[expose] public section

set_option maxRecDepth 16384

noncomputable section

namespace Cert.Kernel4Ideal.Experts

open Cert.Kernel4Ideal Cert.Kernel4Ideal.Gen Idealize.ShloMosaic

/-- The row `s` of a block of which the first `n` rows count: zero past them. -/
def rowOf (n : BitVec 32) (x : S512x1024.Idx → EReal) (s : Fin 512) (k : Fin 1024) : EReal :=
  Scalar.select (IntOp.cmpi .slt (BitVec.ofNat 32 s.val) n) (x (ix2 s k)) 0

/-- The block a step computes, at row `s` and column `d`. -/
theorem payload_apply (n : BitVec 32) (x : Vec Ideal S512x1024 .bf16) (wu : Vec Ideal S1x1024x2048 .f32) (bu : Vec Ideal S1x1x2048 .f32)
    (wd : Vec Ideal S1x1024x1024 .f32) (bd : Vec Ideal S1x1x1024 .f32) (s : Fin 512) (d : Fin 1024) :
    (k1_pay3 n x (k1_pay1 wu) bu (k1_pay2 wd) bd : S512x1024.Idx → EReal) (ix2 s d)
      = Expert.out (rowOf n x s) (fun k f => wu (ix3 0 k f)) (fun f => bu (ix3 0 0 f)) (fun f d => wd (ix3 0 f d)) (fun d => bd (ix3 0 0 d)) d := by
  pointwise [k1_pay1, k1_pay2, k1_pay3]
  have z : (((0#32 : BitVec 32).toInt : ℝ) : EReal) = 0 := by simp
  simp only [z]
  unfold Expert.out Expert.hidden Expert.glu rowOf
  rfl

end Cert.Kernel4Ideal.Experts

end
-- ==== Proof.P4I.Element.lean ====
/-
  What the kernel's program leaves in its result, at one element of a tile with rows: the tile's expert applied to the row.
-/
module

public import proofs.«01_k».proof.Proof.P4I.Value
public import proofs.«01_k».proof.Proof.P4I.Payload

@[expose] public section

set_option maxRecDepth 16384

noncomputable section

namespace Cert.Kernel4Ideal.Experts

open Cert.Kernel4Ideal Cert.Kernel4Ideal.Gen Cert.Plan
open Cert.Kernel4Ideal.Join (atEntry tab result entry_arg entry_v5 entry_v6)
open Idealize.ShloMosaic Idealize.ShloMosaic.TcCoe Idealize.SL Idealize.SL.Sem

section Reads

variable {F : FTy → Type} [FloatOps F]
variable (V : (c : Dev nD) → (b : Ref sig .tc) → Buf (Elt F) ((c : Thread nD τ).loc b)) (pf : pre1.Contents (Elt F)) (hok : ok1 pf)
  (c : Dev nD) (t : Fin grid1.N)

/-- Row `s` of step `t`'s block is row `s` of the tile the step names. -/
theorem xB_apply (w : Fin 288) (hw : (tileW pf t.val).toNat = w.val) (s : Fin 512) (k : Fin 1024) :
    (xB V pf hok c t : S512x1024.Idx → Elt F .bf16) (ix2 s k)
      = (V c main_arg0 : S147456x1024.Idx → Elt F .bf16) (ix2 ⟨w.val * 512 + s.val, by omega⟩ k) := by
  have ei : (win1 ⟨pf, hok⟩ 0).index t = ![(tileW pf t.val).toNat, 0] := by rw [← coords_zero t]; exact index0 pf _
  have h0 := Pipeline.Window.rect_emb_val (win1 ⟨pf, hok⟩ 0) t (ix2 s k : S512x1024.Idx) (0 : Fin 2)
  have h1 := Pipeline.Window.rect_emb_val (win1 ⟨pf, hok⟩ 0) t (ix2 s k : S512x1024.Idx) (1 : Fin 2)
  rw [ei] at h0 h1
  refine congrArg (V c main_arg0 : S147456x1024.Idx → Elt F .bf16) (funext fun a => Fin.ext ?_)
  match a with
  | ⟨0, _⟩ => exact h0.trans (by show (tileW pf t.val).toNat * 512 + s.val = w.val * 512 + s.val; rw [hw])
  | ⟨1, _⟩ => exact h1.trans (by show 0 * 1024 + k.val = k.val; omega)

variable (e : Fin 32) (he : (exW pf t.val).toNat = e.val)

include he

/-- The up-projection of step `t` is its expert's. -/
theorem wuB_apply (k : Fin 1024) (f : Fin 2048) :
    (wuB V pf hok c t : S1x1024x2048.Idx → Elt F .f32) (ix3 0 k f) = (V c main_arg2 : S32x1024x2048.Idx → Elt F .f32) (ix3 e k f) := by
  have ei : (win1 ⟨pf, hok⟩ 1).index t = ![(exW pf t.val).toNat, 0, 0] := by rw [← coords_zero t]; exact index1 pf _
  have h0 := Pipeline.Window.rect_emb_val (win1 ⟨pf, hok⟩ 1) t (ix3 0 k f : S1x1024x2048.Idx) (0 : Fin 3)
  have h1 := Pipeline.Window.rect_emb_val (win1 ⟨pf, hok⟩ 1) t (ix3 0 k f : S1x1024x2048.Idx) (1 : Fin 3)
  have h2 := Pipeline.Window.rect_emb_val (win1 ⟨pf, hok⟩ 1) t (ix3 0 k f : S1x1024x2048.Idx) (2 : Fin 3)
  rw [ei] at h0 h1 h2
  refine congrArg (V c main_arg2 : S32x1024x2048.Idx → Elt F .f32) (funext fun a => Fin.ext ?_)
  match a with
  | ⟨0, _⟩ => exact h0.trans (by show (exW pf t.val).toNat * 1 + 0 = e.val; omega)
  | ⟨1, _⟩ => exact h1.trans (by show 0 * 1024 + k.val = k.val; omega)
  | ⟨2, _⟩ => exact h2.trans (by show 0 * 2048 + f.val = f.val; omega)

/-- Its bias is its expert's. -/
theorem buB_apply (f : Fin 2048) :
    (buB V pf hok c t : S1x1x2048.Idx → Elt F .f32) (ix3 0 0 f) = (V c main_v5 : S32x1x2048.Idx → Elt F .f32) (ix3 e 0 f) := by
  have ei : (win1 ⟨pf, hok⟩ 2).index t = ![(exW pf t.val).toNat, 0, 0] := by rw [← coords_zero t]; exact index2 pf _
  have h0 := Pipeline.Window.rect_emb_val (win1 ⟨pf, hok⟩ 2) t (ix3 0 0 f : S1x1x2048.Idx) (0 : Fin 3)
  have h1 := Pipeline.Window.rect_emb_val (win1 ⟨pf, hok⟩ 2) t (ix3 0 0 f : S1x1x2048.Idx) (1 : Fin 3)
  have h2 := Pipeline.Window.rect_emb_val (win1 ⟨pf, hok⟩ 2) t (ix3 0 0 f : S1x1x2048.Idx) (2 : Fin 3)
  rw [ei] at h0 h1 h2
  refine congrArg (V c main_v5 : S32x1x2048.Idx → Elt F .f32) (funext fun a => Fin.ext ?_)
  match a with
  | ⟨0, _⟩ => exact h0.trans (by show (exW pf t.val).toNat * 1 + 0 = e.val; omega)
  | ⟨1, _⟩ => exact h1
  | ⟨2, _⟩ => exact h2.trans (by show 0 * 2048 + f.val = f.val; omega)

/-- The down-projection of step `t` is its expert's. -/
theorem wdB_apply (f d : Fin 1024) :
    (wdB V pf hok c t : S1x1024x1024.Idx → Elt F .f32) (ix3 0 f d) = (V c main_arg4 : S32x1024x1024.Idx → Elt F .f32) (ix3 e f d) := by
  have ei : (win1 ⟨pf, hok⟩ 3).index t = ![(exW pf t.val).toNat, 0, 0] := by rw [← coords_zero t]; exact index3 pf _
  have h0 := Pipeline.Window.rect_emb_val (win1 ⟨pf, hok⟩ 3) t (ix3 0 f d : S1x1024x1024.Idx) (0 : Fin 3)
  have h1 := Pipeline.Window.rect_emb_val (win1 ⟨pf, hok⟩ 3) t (ix3 0 f d : S1x1024x1024.Idx) (1 : Fin 3)
  have h2 := Pipeline.Window.rect_emb_val (win1 ⟨pf, hok⟩ 3) t (ix3 0 f d : S1x1024x1024.Idx) (2 : Fin 3)
  rw [ei] at h0 h1 h2
  refine congrArg (V c main_arg4 : S32x1024x1024.Idx → Elt F .f32) (funext fun a => Fin.ext ?_)
  match a with
  | ⟨0, _⟩ => exact h0.trans (by show (exW pf t.val).toNat * 1 + 0 = e.val; omega)
  | ⟨1, _⟩ => exact h1.trans (by show 0 * 1024 + f.val = f.val; omega)
  | ⟨2, _⟩ => exact h2.trans (by show 0 * 1024 + d.val = d.val; omega)

/-- Its bias is its expert's. -/
theorem bdB_apply (d : Fin 1024) :
    (bdB V pf hok c t : S1x1x1024.Idx → Elt F .f32) (ix3 0 0 d) = (V c main_v6 : S32x1x1024.Idx → Elt F .f32) (ix3 e 0 d) := by
  have ei : (win1 ⟨pf, hok⟩ 4).index t = ![(exW pf t.val).toNat, 0, 0] := by rw [← coords_zero t]; exact index4 pf _
  have h0 := Pipeline.Window.rect_emb_val (win1 ⟨pf, hok⟩ 4) t (ix3 0 0 d : S1x1x1024.Idx) (0 : Fin 3)
  have h1 := Pipeline.Window.rect_emb_val (win1 ⟨pf, hok⟩ 4) t (ix3 0 0 d : S1x1x1024.Idx) (1 : Fin 3)
  have h2 := Pipeline.Window.rect_emb_val (win1 ⟨pf, hok⟩ 4) t (ix3 0 0 d : S1x1x1024.Idx) (2 : Fin 3)
  rw [ei] at h0 h1 h2
  refine congrArg (V c main_v6 : S32x1x1024.Idx → Elt F .f32) (funext fun a => Fin.ext ?_)
  match a with
  | ⟨0, _⟩ => exact h0.trans (by show (exW pf t.val).toNat * 1 + 0 = e.val; omega)
  | ⟨1, _⟩ => exact h1
  | ⟨2, _⟩ => exact h2.trans (by show 0 * 1024 + d.val = d.val; omega)

end Reads

/-- On a tile `w` with rows, row `s` of the result is tile `w`'s expert applied to row `s` of tile `w`. -/
theorem result_apply (m : (ℓ : Loc nD τ sig) → Buf (Elt Ideal) ℓ) (h : PlanOk (tab m)) (c : Dev nD) (w : Fin 288)
    (hu : Used (rowsW (tab m) w.val)) (e : Fin 32) (he : (exW (tab m) w.val).toNat = e.val) (s : Fin 512) (d : Fin 1024) :
    (result m h c : S147456x1024.Idx → EReal) (ix2 ⟨w.val * 512 + s.val, by omega⟩ d)
      = Expert.out
          (fun k => Scalar.select (IntOp.cmpi .slt (BitVec.ofNat 32 s.val) (rowsW (tab m) w.val))
            ((m (c.tc.loc main_arg0) : S147456x1024.Idx → EReal) (ix2 ⟨w.val * 512 + s.val, by omega⟩ k)) 0)
          (fun k f => (m (c.tc.loc main_arg2) : S32x1024x2048.Idx → EReal) (ix3 e k f))
          (fun f => (m (c.tc.loc main_arg3) : S32x2048.Idx → EReal) (ix2 e f))
          (fun f d => (m (c.tc.loc main_arg4) : S32x1024x1024.Idx → EReal) (ix3 e f d))
          (fun d => (m (c.tc.loc main_arg5) : S32x1024.Idx → EReal) (ix2 e d)) d := by
  have hw : w.val < grid1.N := lt_of_lt_of_eq w.isLt N_1.symm
  let t : Fin grid1.N := ⟨w.val, hw⟩
  have hs : s.val < 512 := s.isLt
  have hi : (((ix2 (⟨w.val * 512 + s.val, by omega⟩ : Fin 147456) d : S147456x1024.Idx) 0).val) / 512 = t.val := by
    show (w.val * 512 + s.val) / 512 = w.val
    omega
  have hb : inBlock (ix2 (⟨w.val * 512 + s.val, by omega⟩ : Fin 147456) d) = ix2 s d := by
    refine (ix2_inj _ _ _ _).mpr ⟨Fin.ext ?_, rfl⟩
    show (w.val * 512 + s.val) % 512 = s.val
    omega
  have ht : (tileW (tab m) t.val).toNat = w.val := h.tile_used _ w.isLt hu
  have he' : (exW (tab m) t.val).toNat = e.val := he
  have e0 : atEntry m c main_arg0 = m (c.tc.loc main_arg0) := entry_arg m c _ (by decide)
  have e5 : atEntry m c main_arg2 = m (c.tc.loc main_arg2) := entry_arg m c _ (by decide)
  have e7 : atEntry m c main_arg4 = m (c.tc.loc main_arg4) := entry_arg m c _ (by decide)
  have e6 : ∀ f : Fin 2048, (atEntry m c main_v5 : S32x1x2048.Idx → EReal) (ix3 e 0 f) = (m (c.tc.loc main_arg3) : S32x2048.Idx → EReal) (ix2 e f) := by
    intro f
    rw [entry_v5]
    pointwise
  have e8 : ∀ d : Fin 1024, (atEntry m c main_v6 : S32x1x1024.Idx → EReal) (ix3 e 0 d) = (m (c.tc.loc main_arg5) : S32x1024.Idx → EReal) (ix2 e d) := by
    intro d
    rw [entry_v6]
    pointwise
  refine (result_used m h c t hu _ hi).trans ?_
  rw [hb]
  unfold yB
  refine (payload_apply _ _ _ _ _ _ s d).trans ?_
  unfold rowOf
  have hx : ∀ k : Fin 1024, (xB (atEntry m) (tab m) (ok_of_plan _ h) c t : S512x1024.Idx → EReal) (ix2 s k)
      = (m (c.tc.loc main_arg0) : S147456x1024.Idx → EReal) (ix2 ⟨w.val * 512 + s.val, by omega⟩ k) := by
    intro k
    refine (xB_apply _ _ _ c t w ht s k).trans ?_
    rw [e0]
  refine (congrArg (fun X => Expert.out X _ _ _ _ d) (funext fun k =>
    congrArg (fun v => Scalar.select (IntOp.cmpi .slt (BitVec.ofNat 32 s.val) (rowsW (tab m) w.val)) v (0 : EReal)) (hx k))).trans ?_
  simp only [wuB_apply (t := t) (e := e) (he := he'), buB_apply (t := t) (e := e) (he := he'), wdB_apply (t := t) (e := e) (he := he'), bdB_apply (t := t) (e := e) (he := he'), e6, e8]
  rw [e5, e7]

end Cert.Kernel4Ideal.Experts

end
-- ==== Proof.R4.Link.lean ====
/-
  The joined reference is the two references one after the other: the plan's, then the experts' at the plan's tables.
-/
module

public import proofs.«01_k».proof.Proof.Gen.Reference2.Read
public import proofs.«01_k».proof.Proof.Gen.ReferenceIdeal.Read
public import proofs.«01_k».proof.Proof.Gen.Reference4Ideal.Read

@[expose] public section

set_option maxRecDepth 16384

noncomputable section

namespace Cert.Reference4Ideal.Link

open Idealize.ShloMosaic

variable {F : FTy → Type} [FloatOps F]

/-- The joined reference's experts are the plan's. -/
theorem ex_eq (x : Reference2.S32.Idx → BitVec 32) :
    Reference4Ideal.Read.val_main_v19 (F := F) x = Reference2.Read.val_main_v19 (F := F) x := rfl

/-- Its rows are the plan's. -/
theorem rows_eq (x : Reference2.S32.Idx → BitVec 32) :
    Reference4Ideal.Read.val_main_v42 (F := F) x = Reference2.Read.val_main_v42 (F := F) x := rfl

/-- Its result is the experts' reference at those tables. -/
theorem out_eq (x0 : Reference4Ideal.S147456x1024.Idx → F .bf16) (x : Reference2.S32.Idx → BitVec 32) (wu : Reference4Ideal.S32x1024x2048.Idx → F .f32)
    (bu : Reference4Ideal.S32x2048.Idx → F .f32) (wd : Reference4Ideal.S32x1024x1024.Idx → F .f32) (bd : Reference4Ideal.S32x1024.Idx → F .f32) :
    Reference4Ideal.Read.val_main_v116 (F := F) x0 x wu bu wd bd
      = ReferenceIdeal.Read.val_main_v61 (F := F) x0 (Reference4Ideal.Read.val_main_v19 (F := F) x) (Reference4Ideal.Read.val_main_v42 (F := F) x) wu bu wd bd := rfl

end Cert.Reference4Ideal.Link

end
-- ==== Proof.R4.Equal.lean ====
/-
  On a tile below the counts' total, the joined program and its reference leave the same in their results.
-/
module

public import proofs.«01_k».proof.Proof.P4I.Element
public import proofs.«01_k».proof.Proof.P4I.Run
public import proofs.«01_k».proof.Proof.RI.Element
public import proofs.«01_k».proof.Proof.R4.Link
public import proofs.«01_k».proof.Proof.P2.Ref
public import proofs.«01_k».proof.Proof.Admit

@[expose] public section

set_option maxRecDepth 16384

noncomputable section

namespace Cert.Routed

open Idealize.ShloMosaic Idealize.ShloMosaic.TcCoe Idealize.SL.Sem Cert.Plan Cert.Tiles
open Cert.Kernel2.Tables (cnt Fit table)
open Cert.Kernel4Ideal.Tables (counts)
open Cert.Kernel4Ideal.Join (tab planOk tab_ex tab_rows)
open Cert.Kernel4Ideal.Experts (rowsW exW)

/-- The joined program's memory. -/
abbrev MemJ := (ℓ : Loc Kernel4Ideal.nD Kernel4Ideal.τ Kernel4Ideal.sig) → Buf (Elt Ideal) ℓ

/-- The reference's experts are the ones handed to the experts' call. -/
theorem ref_ex (m : MemJ) (hf : Fit (cnt (counts m 0))) :
    Reference4Ideal.Read.val_main_v19 (F := Ideal) (counts m 0) = tab m 1 :=
  (Reference4Ideal.Link.ex_eq (F := Ideal) _).trans ((Reference2.Tables.tables (F := Ideal) (counts m 0) hf).2.1.trans (tab_ex m).symm)

/-- So are its rows. -/
theorem ref_rows (m : MemJ) (hf : Fit (cnt (counts m 0))) :
    Reference4Ideal.Read.val_main_v42 (F := Ideal) (counts m 0) = tab m 2 :=
  (Reference4Ideal.Link.rows_eq (F := Ideal) _).trans ((Reference2.Tables.tables (F := Ideal) (counts m 0) hf).2.2.1.trans (tab_rows m).symm)

/-- A tile below the total has rows. -/
theorem used_of_below (m : MemJ) (hf : Fit (cnt (counts m 0))) (n : ℕ) (h : n < 288) (hn : n < total (cnt (counts m 0))) :
    Used (rowsW (tab m) n) := by
  have e : rowsW (tab m) n = BitVec.ofNat 32 (rowsN (cnt (counts m 0)) n) :=
    Planned.word (rowsN (cnt (counts m 0))) (tab m 2) (congrFun (tab_rows m)) n h
  rw [e]
  exact (Planned.used_word _ (Planned.rows_le _ n)).2 ((Planned.rows_pos _ hf n).2 hn)

/-- Element by element on the tiles below the total, the two results are equal. -/
theorem result_eq (m : MemJ) (hf : Fit (cnt (counts m 0))) (i : Kernel4Ideal.S147456x1024.Idx)
    (hi : (i 0).val / 512 < total (cnt (counts m 0))) :
    Reference4Ideal.Read.val_main_v116 (F := Ideal) (m ((0 : Dev Kernel4Ideal.nD).tc.loc Kernel4Ideal.main_arg0)) (counts m 0)
        (m ((0 : Dev Kernel4Ideal.nD).tc.loc Kernel4Ideal.main_arg2)) (m ((0 : Dev Kernel4Ideal.nD).tc.loc Kernel4Ideal.main_arg3))
        (m ((0 : Dev Kernel4Ideal.nD).tc.loc Kernel4Ideal.main_arg4)) (m ((0 : Dev Kernel4Ideal.nD).tc.loc Kernel4Ideal.main_arg5)) i
      = (Kernel4Ideal.Join.result m (planOk m hf) 0 : Kernel4Ideal.S147456x1024.Idx → EReal) i := by
  obtain ⟨r, d, rfl⟩ : ∃ (r : Fin 147456) (d : Fin 1024), i = ix2 r d := ⟨i 0, i 1, eq_ix2 i⟩
  obtain ⟨w, s, rfl⟩ : ∃ (w : Fin 288) (s : Fin 512), r = ⟨w.val * 512 + s.val, by clear hi; omega⟩ :=
    ⟨⟨r.val / 512, by omega⟩, ⟨r.val % 512, by omega⟩, Fin.ext (by show r.val = r.val / 512 * 512 + r.val % 512; omega)⟩
  have hs : s.val < 512 := s.isLt
  have hn : w.val < total (cnt (counts m 0)) := by
    have h : (w.val * 512 + s.val) / 512 < total (cnt (counts m 0)) := hi
    omega
  have hx : (exW (tab m) w.val).toNat < 32 := (planOk m hf).ex_lt _ w.isLt
  have we : exW (tab m) w.val = (tab m 1 : Kernel4Ideal.S288.Idx → BitVec 32) (ix1 w) := wordAt_eq (tab m 1) w.val w.isLt
  have wr : rowsW (tab m) w.val = (tab m 2 : Kernel4Ideal.S288.Idx → BitVec 32) (ix1 w) := wordAt_eq (tab m 2) w.val w.isLt
  refine Eq.trans ?_ (Kernel4Ideal.Experts.result_apply m (planOk m hf) 0 w (used_of_below m hf w.val w.isLt hn) ⟨_, hx⟩ rfl s d).symm
  rw [Reference4Ideal.Link.out_eq, ref_ex m hf, ref_rows m hf, wr]
  refine ReferenceIdeal.Element.out_apply _ _ _ _ _ _ _ w ⟨_, hx⟩ ?_ s d
  show ((tab m 1 : Kernel4Ideal.S288.Idx → BitVec 32) (ix1 w)).toInt = _
  rw [← we]
  show _ = (((exW (tab m) w.val).toNat : ℕ) : ℤ)
  have := BitVec.toInt_eq_toNat_cond (exW (tab m) w.val)
  split at this <;> omega

end Cert.Routed

end
-- ==== Proof.R4.Routed.lean ====
/-
  The joined program's printed precondition and mask, decoded: counts of which the first holds fit the plan's tables, and an
  element the second holds is on a tile below the counts' total.
-/
module

public import proofs.«01_k».proof.Proof.P2.Counts
public import proofs.«01_k».proof.Proof.Gen.Pre_counts_ok
public import proofs.«01_k».proof.Pre_routed_ok
public import proofs.«01_k».proof.On_routed_tiles

@[expose] public section

set_option maxRecDepth 16384

noncomputable section

namespace Cert.Routed

open Cert.Tiles Cert.Kernel2.Tables Cert.Reference2.Tables
open Idealize.ShloMosaic hiding ix0 ix1
open Idealize.ShloMosaic.Routing Idealize.ShloMosaic.ValueIdx

variable {F : FTy → Type} [FloatOps F]

/-- Counts of which the printed precondition holds fit the tables. -/
theorem fit_of_pre [Cert.Pre_routed_ok.Facts] (x0 : FVec F Pre_routed_ok.S147456x1024 .bf16) (x : IVec Pre_routed_ok.S32 32)
    (wu : FVec F Pre_routed_ok.S32x1024x2048 .f32) (bu : FVec F Pre_routed_ok.S32x2048 .f32) (wd : FVec F Pre_routed_ok.S32x1024x1024 .f32)
    (bd : FVec F Pre_routed_ok.S32x1024 .f32) (h : Cert.Pre_routed_ok.fn x0 x wu bu wd bd = fun _ => 1#1) : Fit (cnt x) :=
  @Cert.Reference2.Tables.fit_of_pre Cert.Pre_counts_ok.Gen.facts F _ x h

open Cert.On_routed_tiles Cert.On_routed_tiles.Facts

/-- An element the mask holds is on a tile below the total. -/
theorem below_of_mask [Cert.On_routed_tiles.Facts] (x0 : FVec F S147456x1024 .bf16) (x : IVec S32 32)
    (wu : FVec F S32x1024x2048 .f32) (bu : FVec F S32x2048 .f32) (wd : FVec F S32x1024x1024 .f32) (bd : FVec F S32x1024 .f32) (hf : Fit (cnt x))
    (i : S147456x1024.Idx) (h : Cert.On_routed_tiles.fn x0 x wu bu wd bd i = 1#1) : (i 0).val / 512 < total (cnt x) := by
  have hi : (i 0).val < 147456 := (i 0).isLt
  dsimp only [Cert.On_routed_tiles.fn] at h
  generalize hs : Host.reduce IntOp.addi _ _ _ _ = s at h
  have hsum : s ix0 = BitVec.ofNat 32 (total (cnt x)) := by
    rw [← hs]
    refine (reduce_sum _ (fun e => tilesOf (cnt x e)) (fun i => ?_) _ _).trans (congrArg _ (sum_tiles (cnt x) 32))
    have hc := hf.le i.val
    refine pyDiv_ap bcast_S_S32 _ (constantI shape0 32 512#32) (ix1 i) (a := cnt x i.val + 511) (b := 512) ?_ rfl (by omega) (by decide) (by decide)
    show x (ix1 i) + BitVec.ofNat 32 512 - BitVec.ofNat 32 1 = _
    rw [word_cnt x i, BitVec.ofNat_add_ofNat, ofNat32_sub (by omega)]
    rfl
  clear hs
  pointwise at h
  have e : ∀ j : S_.Idx, (s j).toInt = (total (cnt x) : ℤ) := fun j => by
    rw [show j = ix0 from eq_ix0 j, hsum, WordCmp.toInt_ofNat_of_lt (w := 32) (by have := hf.fits; omega)]
  rw [IntOp.cmpi_slt, e, WordCmp.toInt_ofNat_of_lt (w := 32) (by omega)] at h
  omega

end Cert.Routed

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Loops
public import proofs.«01_k».proof.Proof.Gen.Reference2
public import proofs.«01_k».proof.Proof.Gen.Reference2.Run
public import proofs.«01_k».proof.Proof.Gen.Reference2.Read
public import proofs.«01_k».proof.Proof.Gen.Pre_counts_ok
public import proofs.«01_k».proof.Proof.Gen.Kernel3
public import proofs.«01_k».proof.Proof.Gen.Kernel3.Skeleton
public import proofs.«01_k».proof.Proof.Gen.Kernel3.Launch
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Loops
public import proofs.«01_k».proof.Proof.Gen.Kernel4.Regions
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Loops
public import proofs.«01_k».proof.Proof.Gen.Kernel4Ideal.Regions
public import proofs.«01_k».proof.Proof.Gen.Reference4Ideal
public import proofs.«01_k».proof.Proof.Gen.Reference4Ideal.Run
public import proofs.«01_k».proof.Proof.Gen.Reference4Ideal.Read
public import proofs.«01_k».proof.Proof.Gen.Pre_routed_ok
public import proofs.«01_k».proof.Proof.Gen.On_routed_tiles
public import proofs.«01_k».proof.Proof.Gen.Pre_plan_ok
public import proofs.«01_k».proof.Proof.Gen.On_used_tiles
public import proofs.«01_k».proof.Proof.K.Run
public import proofs.«01_k».proof.Proof.Equal
public import proofs.«01_k».proof.Proof.P2.Counts
public import proofs.«01_k».proof.Proof.P3.Run
public import proofs.«01_k».proof.Proof.P3I.Equal
public import proofs.«01_k».proof.Proof.P4.Run
public import proofs.«01_k».proof.Proof.R4.Equal
public import proofs.«01_k».proof.Proof.R4.Routed
public import Idealize.ShloMosaic.Adequacy
public import Idealize.ShloMosaic.Init

@[expose] public section

set_option maxRecDepth 16384

noncomputable section

namespace Cert.Proof

open Idealize.ShloMosaic Idealize.ShloMosaic.TcCoe Idealize.SL.Sem

/-- The kernel's program runs, its arguments end unchanged, its counters at zero. -/
theorem frame_kernel : Cert.quiescent_Kernel := by
  intro m g hp
  have h : Kernel.Experts.PlanOk (Kernel.Experts.tables m) := Plan.ok_of_pre _ _ _ _ _ _ _ _ _ (hp 0)
  refine (θ_run _ _ _).mono ?_ (Kernel.Experts.run m g h)
  rintro r ⟨hr, hs⟩
  refine ⟨fun c => ?_, hs⟩
  have ha := (hr c).2
  exact ⟨ha _ (by decide), ha _ (by decide), ha _ (by decide), ha _ (by decide), ha _ (by decide), ha _ (by decide), ha _ (by decide),
    ha _ (by decide), ha _ (by decide)⟩

/-- So does the idealized kernel's. -/
theorem frame_ideal : Cert.quiescent_KernelIdeal := by
  intro m g hp
  refine (θ_run _ _ _).mono ?_ (KernelIdeal.Experts.run m g (Equal.planOk m hp))
  rintro r ⟨hr, hs⟩
  refine ⟨fun c => ?_, hs⟩
  have ha := (hr c).2
  exact ⟨ha _ (by decide), ha _ (by decide), ha _ (by decide), ha _ (by decide), ha _ (by decide), ha _ (by decide), ha _ (by decide),
    ha _ (by decide), ha _ (by decide)⟩

/-- So does the reference's. -/
theorem frame_reference : Cert.quiescent_ReferenceIdeal := by
  intro m g _
  refine (θ_run _ _ _).mono ?_ (ReferenceIdeal.Value.run m g)
  intro r hr
  exact ⟨fun c => (hr c).2, sem_eq_zero_of_no_sems (by decide) r.2⟩

/-- On the tiles with rows the idealized kernel and the reference leave equal results. -/
theorem value : Cert.algebraic_KernelIdeal_ReferenceIdeal_on_used_tiles := by
  intro m g m' g' hp he
  have h := Equal.planOk m hp
  refine ⟨fun c => KernelIdeal.Experts.result m h c, ?_, ?_⟩
  · refine (θ_run _ _ _).mono ?_ (KernelIdeal.Experts.run m g h)
    rintro r ⟨hr, -⟩ c
    have ha := (hr c).2
    exact ⟨fun i _ => congrFun (hr c).1 i, ha _ (by decide), ha _ (by decide), ha _ (by decide), ha _ (by decide), ha _ (by decide),
      ha _ (by decide), ha _ (by decide), ha _ (by decide), ha _ (by decide)⟩
  · refine (θ_run _ _ _).mono ?_ (ReferenceIdeal.Value.run m' g')
    intro r hr c
    obtain ⟨e0, -, e2, e3, -, e5, e6, e7, e8⟩ := he c
    exact ⟨fun i hi => (congrFun (hr c).1 i).trans (Equal.result_eq m m' h c e0 e2 e3 e5 e6 e7 e8 i (Plan.used_of_mask _ _ _ _ _ _ _ _ _ i hi)), (hr c).2⟩

/-- Counts that satisfy the precondition fit the plan's tables. -/
theorem fits (m : (ℓ : Loc Kernel2.nD Kernel2.τ Kernel2.sig) → Buf (Elt Bits) ℓ) (hp : Cert.Pre_Kernel2 m) (c : Dev Kernel2.nD) :
    Kernel2.Tables.Fit (Kernel2.Tables.cnt (Kernel2.Tables.counts m c)) :=
  Reference2.Tables.fit_of_pre (F := Bits) _ (hp c)

/-- The plan's call runs, its counts end unchanged, its counters at zero. -/
theorem frame_plan : Cert.quiescent_Kernel2 := by
  intro m g hp
  refine (θ_run _ _ _).mono ?_ (Kernel2.Tables.run m g (fits m hp))
  rintro r ⟨hr, hs⟩
  exact ⟨fun c => (hr c).2.2.2.2, hs⟩

/-- So does its reference. -/
theorem frame_plan_reference : Cert.quiescent_Reference2 := by
  intro m g _
  refine (θ_run _ _ _).mono ?_ (Reference2.Value.run m g)
  intro r hr
  exact ⟨fun c => (hr c).2.2.2.2, sem_eq_zero_of_no_sems (by decide) r.2⟩

/-- The plan's call and its reference leave the same four tables. -/
theorem value_plan : Cert.bitexact_Kernel2_Reference2 := by
  intro m g m' g' hp he
  refine ⟨fun c => Kernel2.Tables.table (Tiles.tileN (Kernel2.Tables.cnt (Kernel2.Tables.counts m c))),
    fun c => Kernel2.Tables.table (Tiles.expN (Kernel2.Tables.cnt (Kernel2.Tables.counts m c))),
    fun c => Kernel2.Tables.table (Tiles.rowsN (Kernel2.Tables.cnt (Kernel2.Tables.counts m c))),
    fun c => Kernel2.Tables.table (Tiles.firstN (Kernel2.Tables.cnt (Kernel2.Tables.counts m c))), ?_, ?_⟩
  · refine (θ_run _ _ _).mono ?_ (Kernel2.Tables.run m g (fits m hp))
    rintro r ⟨hr, -⟩
    exact hr
  · refine (θ_run _ _ _).mono ?_ (Reference2.Value.run m' g')
    intro r hr c
    obtain ⟨r0, r1, r2, r3, ra⟩ := hr c
    have e : m' ((c : Thread Reference2.nD Reference2.τ).loc Reference2.main_arg0) = Kernel2.Tables.counts m c := he c
    obtain ⟨t0, t1, t2, t3⟩ := Reference2.Tables.tables (F := Bits) (Kernel2.Tables.counts m c) (fits m hp c)
    refine ⟨?_, ?_, ?_, ?_, ra⟩
    · rw [r0, Reference2.Read.val_main_v12_eq, e]; exact t0
    · rw [r1, Reference2.Read.val_main_v19_eq, e]; exact t1
    · rw [r2, Reference2.Read.val_main_v42_eq, e]; exact t2
    · rw [r3, Reference2.Read.val_main_v54_eq, e]; exact t3

/-- The ranks' call runs, its choices and counts end unchanged, its counters at zero. -/
theorem frame_ranks : Cert.quiescent_Kernel3 := by
  intro m g _
  refine (θ_run _ _ _).mono ?_ (Kernel3.Rank.run_whole m g)
  rintro r ⟨hr, hs⟩
  exact ⟨fun c => ⟨(hr c).2 _ (by decide), (hr c).2 _ (by decide)⟩, hs⟩

/-- So does the idealized ranks' call. -/
theorem frame_ranks_ideal : Cert.quiescent_Kernel3Ideal := by
  intro m g _
  refine (θ_run _ _ _).mono ?_ (Kernel3Ideal.Rank.run_whole m g)
  rintro r ⟨hr, hs⟩
  exact ⟨fun c => ⟨(hr c).2 _ (by decide), (hr c).2 _ (by decide)⟩, hs⟩

/-- So does its reference. -/
theorem frame_ranks_reference : Cert.quiescent_Reference3Ideal := by
  intro m g _
  refine (θ_run _ _ _).mono ?_ (Reference3Ideal.Value.run m g)
  intro r hr
  exact ⟨fun c => (hr c).2, sem_eq_zero_of_no_sems (by decide) r.2⟩

/-- The idealized ranks' call and its reference leave the same words. -/
theorem value_ranks : Cert.algebraic_Kernel3Ideal_Reference3Ideal_pre_rank_ok (hPre_rank_ok := Kernel3Ideal.Rank.preFacts) := by
  intro m g m' g' hp he
  refine ⟨fun c => Kernel3Ideal.Rank.result m c, ?_, ?_⟩
  · refine (θ_run _ _ _).mono ?_ (Kernel3Ideal.Rank.run_whole m g)
    rintro r ⟨hr, -⟩ c
    exact ⟨(hr c).1, (hr c).2 _ (by decide), (hr c).2 _ (by decide)⟩
  · refine (θ_run _ _ _).mono ?_ (Reference3Ideal.Value.run m' g')
    intro r hr c
    obtain ⟨r0, ra⟩ := hr c
    obtain ⟨e0, e1⟩ := he c
    have h := @Kernel3Ideal.Rank.range_of_pre Kernel3Ideal.Rank.preFacts Ideal _ _ _ (hp c)
    refine ⟨?_, ra⟩
    rw [r0, Reference3Ideal.Read.val_main_v25_eq, e0, e1]
    exact Kernel3Ideal.Rank.result_eq m c h.1 h.2

/-- The joined program runs, its arguments end unchanged, its counters at zero. -/
theorem frame_joined : Cert.quiescent_Kernel4 := by
  intro m g hp
  have hf : ∀ c, Kernel2.Tables.Fit (Kernel2.Tables.cnt (Kernel4.Tables.counts m c)) := fun c =>
    Routed.fit_of_pre (F := Bits) _ _ _ _ _ _ (hp c)
  refine (θ_run _ _ _).mono ?_ (Kernel4.Join.run m g hf)
  rintro r ⟨hr, hs⟩
  refine ⟨fun c => ?_, hs⟩
  have ha := (hr c).2
  exact ⟨ha _ (by decide), ha _ (by decide), ha _ (by decide), ha _ (by decide), ha _ (by decide), ha _ (by decide)⟩

/-- Counts that satisfy the joined program's precondition fit the plan's tables. -/
theorem fits_joined (m : (ℓ : Loc Kernel4Ideal.nD Kernel4Ideal.τ Kernel4Ideal.sig) → Buf (Elt Ideal) ℓ) (hp : Cert.Pre_Kernel4Ideal m)
    (c : Dev Kernel4Ideal.nD) : Kernel2.Tables.Fit (Kernel2.Tables.cnt (Kernel4Ideal.Tables.counts m c)) :=
  Routed.fit_of_pre (F := Ideal) _ _ _ _ _ _ (hp c)

/-- So does the idealized joined program. -/
theorem frame_joined_ideal : Cert.quiescent_Kernel4Ideal := by
  intro m g hp
  refine (θ_run _ _ _).mono ?_ (Kernel4Ideal.Join.run m g (fits_joined m hp))
  rintro r ⟨hr, hs⟩
  refine ⟨fun c => ?_, hs⟩
  have ha := (hr c).2
  exact ⟨ha _ (by decide), ha _ (by decide), ha _ (by decide), ha _ (by decide), ha _ (by decide), ha _ (by decide)⟩

/-- So does its reference. -/
theorem frame_joined_reference : Cert.quiescent_Reference4Ideal := by
  intro m g _
  refine (θ_run _ _ _).mono ?_ (Reference4Ideal.Value.run m g)
  intro r hr
  exact ⟨fun c => (hr c).2, sem_eq_zero_of_no_sems (by decide) r.2⟩

/-- On the tiles that the counts fill, the idealized joined program and its reference leave equal results. -/
theorem value_joined : Cert.algebraic_Kernel4Ideal_Reference4Ideal_on_routed_tiles := by
  intro m g m' g' hp he
  have hf := fits_joined m hp
  refine ⟨fun c => Kernel4Ideal.Join.result m (Kernel4Ideal.Join.planOk m (hf 0)) c, ?_, ?_⟩
  · refine (θ_run _ _ _).mono ?_ (Kernel4Ideal.Join.run m g hf)
    rintro r ⟨hr, -⟩ c
    have ha := (hr c).2
    exact ⟨fun i _ => congrFun (hr c).1 i, ha _ (by decide), ha _ (by decide), ha _ (by decide), ha _ (by decide), ha _ (by decide),
      ha _ (by decide)⟩
  · refine (θ_run _ _ _).mono ?_ (Reference4Ideal.Value.run m' g')
    intro r hr c
    obtain ⟨r0, ra⟩ := hr c
    refine ⟨fun i hi => ?_, ra⟩
    have hb := Routed.below_of_mask (F := Ideal) _ _ _ _ _ _ (hf c) i hi
    have hc : c = 0 := Subsingleton.elim _ _
    subst hc
    obtain ⟨e0, e1, e2, e3, e4, e5⟩ := he 0
    refine (congrFun (r0.trans (Reference4Ideal.Read.val_main_v116_eq (StableHlo.launchContents m' 0))) i).trans ?_
    refine Eq.trans ?_ (Routed.result_eq m (hf 0) i hb)
    show Reference4Ideal.Read.val_main_v116 (F := Ideal) (m' ((0 : Dev Reference4Ideal.nD).tc.loc Reference4Ideal.main_arg0))
      (m' ((0 : Dev Reference4Ideal.nD).tc.loc Reference4Ideal.main_arg1)) (m' ((0 : Dev Reference4Ideal.nD).tc.loc Reference4Ideal.main_arg2))
      (m' ((0 : Dev Reference4Ideal.nD).tc.loc Reference4Ideal.main_arg3)) (m' ((0 : Dev Reference4Ideal.nD).tc.loc Reference4Ideal.main_arg4))
      (m' ((0 : Dev Reference4Ideal.nD).tc.loc Reference4Ideal.main_arg5)) i = _
    rw [e0, e1, e2, e3, e4, e5]

/-- All that is claimed of the programs, together. -/
theorem claim : Cert.Claim := ⟨Cert.Kernel.Gen.facts, Cert.KernelIdeal.Gen.facts, Cert.ReferenceIdeal.Gen.facts, Cert.Kernel2.Gen.facts, Cert.Reference2.Gen.facts,
  Cert.Kernel3.Gen.facts, Cert.Kernel3Ideal.Gen.facts, Cert.Reference3Ideal.Gen.facts, Cert.Kernel4.Gen.facts, Cert.Kernel4Ideal.Gen.facts, Cert.Reference4Ideal.Gen.facts,
  Cert.Pre_plan_ok.Gen.facts, Cert.Pre_counts_ok.Gen.facts, Kernel3Ideal.Rank.preFacts, Cert.Pre_routed_ok.Gen.facts, Cert.On_used_tiles.Gen.facts,
  Cert.On_routed_tiles.Gen.facts,
  frame_kernel, frame_ideal, frame_reference, fun m g _ => frame_reference m g trivial,
  frame_plan, frame_plan_reference, fun m g _ => frame_plan_reference m g trivial,
  frame_ranks, frame_ranks_ideal, fun m g _ => frame_ranks_ideal m g trivial,
  frame_ranks_reference, fun m g _ => frame_ranks_reference m g trivial,
  frame_joined, frame_joined_ideal, frame_joined_reference, fun m g _ => frame_joined_reference m g trivial,
  trivial, value, value_plan, trivial, value_ranks, trivial, value_joined⟩

end Cert.Proof

end
